-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)) (v6 : (c : Dev Cert.Kernel4Ideal.nD) → Buf (Elt Ideal) ((c.tc : Thread Cert.Kernel4Ideal.nD Cert.Kernel4Ideal.τ).loc Cert.Kernel4Ideal.main_v2_6)) (v7 : (c : Dev Cert.Kernel4Ideal.nD) → Buf (Elt Ideal) ((c.tc : Thread Cert.Kernel4Ideal.nD Cert.Kernel4Ideal.τ).loc Cert.Kernel4Ideal.main_v2_7)) (v8 : (c : Dev Cert.Kernel4Ideal.nD) → Buf (Elt Ideal) ((c.tc : Thread Cert.Kernel4Ideal.nD Cert.Kernel4Ideal.τ).loc Cert.Kernel4Ideal.main_v2_8)) (v9 : (c : Dev Cert.Kernel4Ideal.nD) → Buf (Elt Ideal) ((c.tc : Thread Cert.Kernel4Ideal.nD Cert.Kernel4Ideal.τ).loc Cert.Kernel4Ideal.main_v2_9)) (v10 : (c : Dev Cert.Kernel4Ideal.nD) → Buf (Elt Ideal) ((c.tc : Thread Cert.Kernel4Ideal.nD Cert.Kernel4Ideal.τ).loc Cert.Kernel4Ideal.main_v2_10)) (v11 : (c : Dev Cert.Kernel4Ideal.nD) → Buf (Elt Ideal) ((c.tc : Thread Cert.Kernel4Ideal.nD Cert.Kernel4Ideal.τ).loc Cert.Kernel4Ideal.main_v2_11)) (v12 : (c : Dev Cert.Kernel4Ideal.nD) → Buf (Elt Ideal) ((c.tc : Thread Cert.Kernel4Ideal.nD Cert.Kernel4Ideal.τ).loc Cert.Kernel4Ideal.main_v2_12)) (v13 : (c : Dev Cert.Kernel4Ideal.nD) → Buf (Elt Ideal) ((c.tc : Thread Cert.Kernel4Ideal.nD Cert.Kernel4Ideal.τ).loc Cert.Kernel4Ideal.main_v2_13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_v2_6) = v6 c
          ∧ r.2.mem ((c.tc : Thread Cert.Kernel4Ideal.nD Cert.Kernel4Ideal.τ).loc Cert.Kernel4Ideal.main_v2_7) = v7 c
          ∧ r.2.mem ((c.tc : Thread Cert.Kernel4Ideal.nD Cert.Kernel4Ideal.τ).loc Cert.Kernel4Ideal.main_v2_8) = v8 c
          ∧ r.2.mem ((c.tc : Thread Cert.Kernel4Ideal.nD Cert.Kernel4Ideal.τ).loc Cert.Kernel4Ideal.main_v2_9) = v9 c
          ∧ r.2.mem ((c.tc : Thread Cert.Kernel4Ideal.nD Cert.Kernel4Ideal.τ).loc Cert.Kernel4Ideal.main_v2_10) = v10 c
          ∧ r.2.mem ((c.tc : Thread Cert.Kernel4Ideal.nD Cert.Kernel4Ideal.τ).loc Cert.Kernel4Ideal.main_v2_11) = v11 c
          ∧ r.2.mem ((c.tc : Thread Cert.Kernel4Ideal.nD Cert.Kernel4Ideal.τ).loc Cert.Kernel4Ideal.main_v2_12) = v12 c
          ∧ r.2.mem ((c.tc : Thread Cert.Kernel4Ideal.nD Cert.Kernel4Ideal.τ).loc Cert.Kernel4Ideal.main_v2_13) = v13 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_v73) = v2 c
          ∧ r.2.mem ((c.tc : Thread Cert.Reference4Ideal.nD Cert.Reference4Ideal.τ).loc Cert.Reference4Ideal.main_v74) = v3 c
          ∧ r.2.mem ((c.tc : Thread Cert.Reference4Ideal.nD Cert.Reference4Ideal.τ).loc Cert.Reference4Ideal.main_v75) = v4 c
          ∧ r.2.mem ((c.tc : Thread Cert.Reference4Ideal.nD Cert.Reference4Ideal.τ).loc Cert.Reference4Ideal.main_v76) = v5 c
          ∧ r.2.mem ((c.tc : Thread Cert.Reference4Ideal.nD Cert.Reference4Ideal.τ).loc Cert.Reference4Ideal.main_v77) = v6 c
          ∧ r.2.mem ((c.tc : Thread Cert.Reference4Ideal.nD Cert.Reference4Ideal.τ).loc Cert.Reference4Ideal.main_v78) = v7 c
          ∧ r.2.mem ((c.tc : Thread Cert.Reference4Ideal.nD Cert.Reference4Ideal.τ).loc Cert.Reference4Ideal.main_v79) = v8 c
          ∧ r.2.mem ((c.tc : Thread Cert.Reference4Ideal.nD Cert.Reference4Ideal.τ).loc Cert.Reference4Ideal.main_v80) = v9 c
          ∧ r.2.mem ((c.tc : Thread Cert.Reference4Ideal.nD Cert.Reference4Ideal.τ).loc Cert.Reference4Ideal.main_v81) = v10 c
          ∧ r.2.mem ((c.tc : Thread Cert.Reference4Ideal.nD Cert.Reference4Ideal.τ).loc Cert.Reference4Ideal.main_v82) = v11 c
          ∧ r.2.mem ((c.tc : Thread Cert.Reference4Ideal.nD Cert.Reference4Ideal.τ).loc Cert.Reference4Ideal.main_v83) = v12 c
          ∧ r.2.mem ((c.tc : Thread Cert.Reference4Ideal.nD Cert.Reference4Ideal.τ).loc Cert.Reference4Ideal.main_v84) = v13 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v69) = v0 c
          ∧ r.2.mem ((c.tc : Thread Cert.Reference7Ideal.nD Cert.Reference7Ideal.τ).loc Cert.Reference7Ideal.main_v70) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_queries_keys.lean ====
abbrev S16x8x4096x96 : Shape := ⟨4, ![16, 8, 4096, 96]⟩
abbrev S16x8x4096x64 : Shape := ⟨4, ![16, 8, 4096, 64]⟩
abbrev S_ : Shape := ⟨0, ![]⟩

class Facts : Prop where
  bcast_S_S16x8x4096x96 : S_.BroadcastsInDim S16x8x4096x96 (![] : Fin 0 → Fin S16x8x4096x96.rank)

variable [Facts]

def fn {F : FTy → Type} [FloatOps F] (main_arg0 : FVec F S16x8x4096x96 .f32) (main_arg1 : FVec F S16x8x4096x96 .f32) (main_arg2 : FVec F S16x8x4096x64 .f32) : IVec S16x8x4096x96 1 :=
  let main_v0 : FVec F S16x8x4096x96 .f32 := Host.absf main_arg0
  let main_cst : FVec F S_ .f32 := constant S_ .f32 0x7F800000#32
  let main_v1 : FVec F S16x8x4096x96 .f32 := broadcastInDim S16x8x4096x96 ![] bcast_S_S16x8x4096x96 main_cst
  let main_v2 : IVec S16x8x4096x96 1 := cmpf .olt main_v0 main_v1
  let main_v3 : FVec F S16x8x4096x96 .f32 := Host.absf main_arg1
  let main_cst_0 : FVec F S_ .f32 := constant S_ .f32 0x7F800000#32
  let main_v4 : FVec F S16x8x4096x96 .f32 := broadcastInDim S16x8x4096x96 ![] bcast_S_S16x8x4096x96 main_cst_0
  let main_v5 : IVec S16x8x4096x96 1 := cmpf .olt main_v3 main_v4
  let main_v6 : IVec S16x8x4096x96 1 := andi main_v2 main_v5
  main_v6
-- ==== Kernel.lean ====
abbrev S16x8x4096x96 : Shape := ⟨4, ![16, 8, 4096, 96]⟩
abbrev S16x8x4096x64 : Shape := ⟨4, ![16, 8, 4096, 64]⟩
abbrev S4096x64 : Shape := ⟨2, ![4096, 64]⟩
abbrev S_ : Shape := ⟨0, ![]⟩
abbrev S16x8x4096x128 : Shape := ⟨4, ![16, 8, 4096, 128]⟩
abbrev S16x8x1x4096x96 : Shape := ⟨5, ![16, 8, 1, 4096, 96]⟩
abbrev S512 : Shape := ⟨1, ![512]⟩
abbrev S1x512 : Shape := ⟨2, ![1, 512]⟩
abbrev S1x512x1 : Shape := ⟨3, ![1, 512, 1]⟩
abbrev S1 : Shape := ⟨1, ![1]⟩
abbrev S1x1x1 : Shape := ⟨3, ![1, 1, 1]⟩
abbrev S1x1x512 : Shape := ⟨3, ![1, 1, 512]⟩
abbrev S1x512x512 : Shape := ⟨3, ![1, 512, 512]⟩
abbrev S16x8x1x4096x64 : Shape := ⟨5, ![16, 8, 1, 4096, 64]⟩
abbrev S1x1x1x512x96 : Shape := ⟨5, ![1, 1, 1, 512, 96]⟩
abbrev S1x1x4096x96 : Shape := ⟨4, ![1, 1, 4096, 96]⟩
abbrev S1x1x4096x128 : Shape := ⟨4, ![1, 1, 4096, 128]⟩
abbrev S1x1x1x512x64 : Shape := ⟨5, ![1, 1, 1, 512, 64]⟩
abbrev S512x128 : Shape := ⟨2, ![512, 128]⟩
abbrev S512x512 : Shape := ⟨2, ![512, 512]⟩
abbrev S1x512x96 : Shape := ⟨3, ![1, 512, 96]⟩
abbrev S512x96 : Shape := ⟨2, ![512, 96]⟩
abbrev S1x1x512x96 : Shape := ⟨4, ![1, 1, 512, 96]⟩
abbrev S512x1 : Shape := ⟨2, ![512, 1]⟩
abbrev S1x1x512x128 : Shape := ⟨4, ![1, 1, 512, 128]⟩
abbrev S512x64 : Shape := ⟨2, ![512, 64]⟩
abbrev S1x512x64 : Shape := ⟨3, ![1, 512, 64]⟩

abbrev nBuf : Space → Nat
  | .hbm => 46
  | .vmem => 13
  | .smem => 0
  | _ => 0

abbrev bufTy : (tb : Table) → Fin (tcTables nBuf tb) → BufTy
  | .hbm, ⟨0, _⟩ => ⟨S16x8x4096x96, .f32⟩
  | .hbm, ⟨1, _⟩ => ⟨S16x8x4096x96, .f32⟩
  | .hbm, ⟨2, _⟩ => ⟨S16x8x4096x64, .f32⟩
  | .hbm, ⟨3, _⟩ => ⟨S4096x64, .i32⟩
  | .hbm, ⟨4, _⟩ => ⟨S_, .i32⟩
  | .hbm, ⟨5, _⟩ => ⟨S4096x64, .i32⟩
  | .hbm, ⟨6, _⟩ => ⟨S4096x64, .i1⟩
  | .hbm, ⟨7, _⟩ => ⟨S_, .f32⟩
  | .hbm, ⟨8, _⟩ => ⟨S_, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S16x8x4096x64, .f32⟩
  | .hbm, ⟨13, _⟩ => ⟨S16x8x4096x64, .f32⟩
  | .hbm, ⟨14, _⟩ => ⟨S16x8x4096x128, .f32⟩
  | .hbm, ⟨15, _⟩ => ⟨S16x8x4096x128, .bf16⟩
  | .hbm, ⟨16, _⟩ => ⟨S_, .f32⟩
  | .hbm, ⟨17, _⟩ => ⟨S16x8x4096x96, .f32⟩
  | .hbm, ⟨18, _⟩ => ⟨S16x8x4096x96, .f32⟩
  | .hbm, ⟨19, _⟩ => ⟨S16x8x4096x96, .bf16⟩
  | .hbm, ⟨20, _⟩ => ⟨S16x8x1x4096x96, .bf16⟩
  | .hbm, ⟨21, _⟩ => ⟨S16x8x4096x96, .bf16⟩
  | .hbm, ⟨22, _⟩ => ⟨S512, .i32⟩
  | .hbm, ⟨23, _⟩ => ⟨S1x512, .i32⟩
  | .hbm, ⟨24, _⟩ => ⟨S1x512, .i32⟩
  | .hbm, ⟨25, _⟩ => ⟨S512, .i32⟩
  | .hbm, ⟨26, _⟩ => ⟨S1x512x1, .i32⟩
  | .hbm, ⟨27, _⟩ => ⟨S1, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S1, .i32⟩
  | .hbm, ⟨32, _⟩ => ⟨S1x1x1, .i32⟩
  | .hbm, ⟨33, _⟩ => ⟨S512, .i32⟩
  | .hbm, ⟨34, _⟩ => ⟨S1x1x512, .i32⟩
  | .hbm, ⟨35, _⟩ => ⟨S1x512x1, .i32⟩
  | .hbm, ⟨36, _⟩ => ⟨S1x512x1, .i32⟩
  | .hbm, ⟨37, _⟩ => ⟨S1x512x512, .i32⟩
  | .hbm, ⟨38, _⟩ => ⟨S1x512x512, .i32⟩
  | .hbm, ⟨39, _⟩ => ⟨S1x512x512, .i1⟩
  | .hbm, ⟨40, _⟩ => ⟨S_, .f32⟩
  | .hbm, ⟨41, _⟩ => ⟨S_, .f32⟩
  | .hbm, ⟨42, _⟩ => ⟨S1x512x512, .f32⟩
  | .hbm, ⟨43, _⟩ => ⟨S1x512x512, .f32⟩
  | .hbm, ⟨44, _⟩ => ⟨S1x512x512, .f32⟩
  | .hbm, ⟨45, _⟩ => ⟨S16x8x1x4096x64, .bf16⟩
  | .local _ .vmem, ⟨0, _⟩ => ⟨S1x1x1x512x96, .bf16⟩
  | .local _ .vmem, ⟨1, _⟩ => ⟨S1x1x1x512x96, .bf16⟩
  | .local _ .vmem, ⟨2, _⟩ => ⟨S1x1x4096x96, .bf16⟩
  | .local _ .vmem, ⟨3, _⟩ => ⟨S1x1x4096x96, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x512x512, .f32⟩
  | .local _ .vmem, ⟨7, _⟩ => ⟨S1x1x1x512x64, .bf16⟩
  | .local _ .vmem, ⟨8, _⟩ => ⟨S1x1x1x512x64, .bf16⟩
  | .local _ .vmem, ⟨9, _⟩ => ⟨S512x128, .f32⟩
  | .local _ .vmem, ⟨10, _⟩ => ⟨S512x128, .f32⟩
  | .local _ .vmem, ⟨11, _⟩ => ⟨S512x512, .f32⟩
  | .local _ .vmem, ⟨12, _⟩ => ⟨S512x512, .f32⟩
  | _, _ => ⟨S16x8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 8, 8], ![false, false, false]⟩

def k0_mult1 : BitVec 32 :=
  let c0_i32_14 : BitVec 32 := 0#32
  c0_i32_14
@[reducible] def k0_t1_loop (i : grid0.Coords) : Scf.Loop 32 :=
  let c0_i32_28 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_21 : BitVec 32 := 0#32
  let v38 : BitVec 1 := Scalar.cmpi .sgt v28 c0_i32_21
  let v39 : BitVec 32 := Scalar.extui v38
  let c0_i32_22 : BitVec 32 := 0#32
  let v40 : BitVec 1 := Scalar.cmpi .slt v28 c0_i32_22
  let v41 : BitVec 32 := Scalar.extui v40
  let v42 : BitVec 32 := Scalar.subi v39 v41
  let c2_i32 : BitVec 32 := 2#32
  let c0_i32_23 : BitVec 32 := 0#32
  let v43 : BitVec 1 := Scalar.cmpi .sgt c2_i32 c0_i32_23
  let v44 : BitVec 32 := Scalar.extui v43
  let c0_i32_24 : BitVec 32 := 0#32
  let v45 : BitVec 1 := Scalar.cmpi .slt c2_i32 c0_i32_24
  let v46 : BitVec 32 := Scalar.extui v45
  let v47 : BitVec 32 := Scalar.subi v44 v46
  let v48 : BitVec 1 := Scalar.cmpi .ne v42 v47
  let v49 : BitVec 32 := Scalar.remsi v28 c2_i32
  let c0_i32_25 : BitVec 32 := 0#32
  let v50 : BitVec 1 := Scalar.cmpi .ne v49 c0_i32_25
  let v51 : BitVec 1 := Scalar.andi v48 v50
  let v37 : BitVec 32 := Scalar.divsi v28 c2_i32
  let c1_i32_26 : BitVec 32 := 1#32
  let v52 : BitVec 32 := Scalar.subi v37 c1_i32_26
  let v53 : BitVec 32 := Scalar.select v51 v52 v37
  let v54 : BitVec 32 := Scalar.subi v53 c0_i32_28
  let c1_i32_29 : BitVec 32 := 1#32
  let v56 : BitVec 32 := Scalar.divsi v54 c1_i32_29
  let v57 : BitVec 32 := Scalar.muli v56 c1_i32_29
  let v58 : BitVec 32 := Scalar.addi c0_i32_28 v57
  let c1_i32_30 : BitVec 32 := 1#32
  ⟨c0_i32_28, v58, c1_i32_30⟩
def k0_mult2 (i : grid0.Coords) (k0_t1 : Fin (k0_t1_loop i).trips) : BitVec 32 :=
  let c2_i32_55 : BitVec 32 := 2#32
  let c0_i32_28 : BitVec 32 := 0#32
  let c1_i32_30 : BitVec 32 := 1#32
  let arg12 : BitVec 32 := Scf.iv c0_i32_28 c1_i32_30 k0_t1
  let v95 : BitVec 32 := Scalar.muli c2_i32_55 arg12
  let c1_i32_56 : BitVec 32 := 1#32
  let v96 : BitVec 32 := Scalar.addi v95 c1_i32_56
  let c512_i32_57 : BitVec 32 := 512#32
  let v97 : BitVec 32 := Scalar.muli v96 c512_i32_57
  v97
def k0_off1 (i : grid0.Coords) (k0_t1 : Fin (k0_t1_loop i).trips) (c1_i32_56 : BitVec 32) : Fin 4 → Nat :=
  let c0_58 : Index := 0#32
  let c0_59 : Index := 0#32
  let c2_i32_55 : BitVec 32 := 2#32
  let c0_i32_28 : BitVec 32 := 0#32
  let c1_i32_30 : BitVec 32 := 1#32
  let arg12 : BitVec 32 := Scf.iv c0_i32_28 c1_i32_30 k0_t1
  let v95 : BitVec 32 := Scalar.muli c2_i32_55 arg12
  let v96 : BitVec 32 := Scalar.addi v95 c1_i32_56
  let c512_i32_57 : BitVec 32 := 512#32
  let v97 : BitVec 32 := Scalar.muli v96 c512_i32_57
  let v98 : BitVec 32 := v97
  let v99 : Index := Scalar.indexCast v98
  let c0_60 : Index := 0#32
  ![0, 0, v99.toNat, 0]
def k0_mult3 (i : grid0.Coords) (k0_t1 : Fin (k0_t1_loop i).trips) : BitVec 32 :=
  let c2_i32_55 : BitVec 32 := 2#32
  let c0_i32_28 : BitVec 32 := 0#32
  let c1_i32_30 : BitVec 32 := 1#32
  let arg12 : BitVec 32 := Scf.iv c0_i32_28 c1_i32_30 k0_t1
  let v95 : BitVec 32 := Scalar.muli c2_i32_55 arg12
  let c512_i32_69 : BitVec 32 := 512#32
  let v118 : BitVec 32 := Scalar.muli v95 c512_i32_69
  v118
def k0_off2 (i : grid0.Coords) (k0_t1 : Fin (k0_t1_loop i).trips) : Fin 4 → Nat :=
  let c0_72 : Index := 0#32
  let c0_73 : Index := 0#32
  let c2_i32_55 : BitVec 32 := 2#32
  let c0_i32_28 : BitVec 32 := 0#32
  let c1_i32_30 : BitVec 32 := 1#32
  let arg12 : BitVec 32 := Scf.iv c0_i32_28 c1_i32_30 k0_t1
  let v95 : BitVec 32 := Scalar.muli c2_i32_55 arg12
  let c512_i32_69 : BitVec 32 := 512#32
  let v118 : BitVec 32 := Scalar.muli v95 c512_i32_69
  let v119 : BitVec 32 := v118
  let v122 : Index := Scalar.indexCast v119
  let c0_74 : Index := 0#32
  ![0, 0, v122.toNat, 0]
def k0_mult4 (i : grid0.Coords) (k0_t1 : Fin (k0_t1_loop i).trips) : BitVec 32 :=
  let c2_i32_55 : BitVec 32 := 2#32
  let c0_i32_28 : BitVec 32 := 0#32
  let c1_i32_30 : BitVec 32 := 1#32
  let arg12 : BitVec 32 := Scf.iv c0_i32_28 c1_i32_30 k0_t1
  let v95 : BitVec 32 := Scalar.muli c2_i32_55 arg12
  let c2_i32_80 : BitVec 32 := 2#32
  let v133 : BitVec 32 := Scalar.addi v95 c2_i32_80
  let c512_i32_81 : BitVec 32 := 512#32
  let v134 : BitVec 32 := Scalar.muli v133 c512_i32_81
  v134
def k0_mult5 (i : grid0.Coords) (k0_t1 : Fin (k0_t1_loop i).trips) : BitVec 32 :=
  let c2_i32_55 : BitVec 32 := 2#32
  let c0_i32_28 : BitVec 32 := 0#32
  let c1_i32_30 : BitVec 32 := 1#32
  let arg12 : BitVec 32 := Scf.iv c0_i32_28 c1_i32_30 k0_t1
  let v95 : BitVec 32 := Scalar.muli c2_i32_55 arg12
  let c1_i32_88 : BitVec 32 := 1#32
  let v143 : BitVec 32 := Scalar.addi v95 c1_i32_88
  let c512_i32_94 : BitVec 32 := 512#32
  let v156 : BitVec 32 := Scalar.muli v143 c512_i32_94
  v156
def k0_off3 (i : grid0.Coords) (k0_t1 : Fin (k0_t1_loop i).trips) : Fin 4 → Nat :=
  let c0_97 : Index := 0#32
  let c0_98 : Index := 0#32
  let c2_i32_55 : BitVec 32 := 2#32
  let c0_i32_28 : BitVec 32 := 0#32
  let c1_i32_30 : BitVec 32 := 1#32
  let arg12 : BitVec 32 := Scf.iv c0_i32_28 c1_i32_30 k0_t1
  let v95 : BitVec 32 := Scalar.muli c2_i32_55 arg12
  let c1_i32_88 : BitVec 32 := 1#32
  let v143 : BitVec 32 := Scalar.addi v95 c1_i32_88
  let c512_i32_94 : BitVec 32 := 512#32
  let v156 : BitVec 32 := Scalar.muli v143 c512_i32_94
  let v157 : BitVec 32 := v156
  let v160 : Index := Scalar.indexCast v157
  let c0_99 : Index := 0#32
  ![0, 0, v160.toNat, 0]
@[reducible] def k0_t2_loop (i : grid0.Coords) : Scf.Loop 32 :=
  let c0_i32_28 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_21 : BitVec 32 := 0#32
  let v38 : BitVec 1 := Scalar.cmpi .sgt v28 c0_i32_21
  let v39 : BitVec 32 := Scalar.extui v38
  let c0_i32_22 : BitVec 32 := 0#32
  let v40 : BitVec 1 := Scalar.cmpi .slt v28 c0_i32_22
  let v41 : BitVec 32 := Scalar.extui v40
  let v42 : BitVec 32 := Scalar.subi v39 v41
  let c2_i32 : BitVec 32 := 2#32
  let c0_i32_23 : BitVec 32 := 0#32
  let v43 : BitVec 1 := Scalar.cmpi .sgt c2_i32 c0_i32_23
  let v44 : BitVec 32 := Scalar.extui v43
  let c0_i32_24 : BitVec 32 := 0#32
  let v45 : BitVec 1 := Scalar.cmpi .slt c2_i32 c0_i32_24
  let v46 : BitVec 32 := Scalar.extui v45
  let v47 : BitVec 32 := Scalar.subi v44 v46
  let v48 : BitVec 1 := Scalar.cmpi .ne v42 v47
  let v49 : BitVec 32 := Scalar.remsi v28 c2_i32
  let c0_i32_25 : BitVec 32 := 0#32
  let v50 : BitVec 1 := Scalar.cmpi .ne v49 c0_i32_25
  let v51 : BitVec 1 := Scalar.andi v48 v50
  let v37 : BitVec 32 := Scalar.divsi v28 c2_i32
  let c1_i32_26 : BitVec 32 := 1#32
  let v52 : BitVec 32 := Scalar.subi v37 c1_i32_26
  let v53 : BitVec 32 := Scalar.select v51 v52 v37
  let v54 : BitVec 32 := Scalar.subi v53 c0_i32_28
  let c1_i32_29 : BitVec 32 := 1#32
  let v56 : BitVec 32 := Scalar.divsi v54 c1_i32_29
  let v57 : BitVec 32 := Scalar.muli v56 c1_i32_29
  let v58 : BitVec 32 := Scalar.addi c0_i32_28 v57
  let v55 : BitVec 32 := Scalar.addi c0_i32_28 v54
  let c1_i32_31 : BitVec 32 := 1#32
  ⟨v58, v55, c1_i32_31⟩
def k0_mult6 (i : grid0.Coords) (k0_t2 : Fin (k0_t2_loop i).trips) : BitVec 32 :=
  let c2_i32_55 : BitVec 32 := 2#32
  let c0_i32_28 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_21 : BitVec 32 := 0#32
  let v38 : BitVec 1 := Scalar.cmpi .sgt v28 c0_i32_21
  let v39 : BitVec 32 := Scalar.extui v38
  let c0_i32_22 : BitVec 32 := 0#32
  let v40 : BitVec 1 := Scalar.cmpi .slt v28 c0_i32_22
  let v41 : BitVec 32 := Scalar.extui v40
  let v42 : BitVec 32 := Scalar.subi v39 v41
  let c2_i32 : BitVec 32 := 2#32
  let c0_i32_23 : BitVec 32 := 0#32
  let v43 : BitVec 1 := Scalar.cmpi .sgt c2_i32 c0_i32_23
  let v44 : BitVec 32 := Scalar.extui v43
  let c0_i32_24 : BitVec 32 := 0#32
  let v45 : BitVec 1 := Scalar.cmpi .slt c2_i32 c0_i32_24
  let v46 : BitVec 32 := Scalar.extui v45
  let v47 : BitVec 32 := Scalar.subi v44 v46
  let v48 : BitVec 1 := Scalar.cmpi .ne v42 v47
  let v49 : BitVec 32 := Scalar.remsi v28 c2_i32
  let c0_i32_25 : BitVec 32 := 0#32
  let v50 : BitVec 1 := Scalar.cmpi .ne v49 c0_i32_25
  let v51 : BitVec 1 := Scalar.andi v48 v50
  let v37 : BitVec 32 := Scalar.divsi v28 c2_i32
  let c1_i32_26 : BitVec 32 := 1#32
  let v52 : BitVec 32 := Scalar.subi v37 c1_i32_26
  let v53 : BitVec 32 := Scalar.select v51 v52 v37
  let v54 : BitVec 32 := Scalar.subi v53 c0_i32_28
  let c1_i32_29 : BitVec 32 := 1#32
  let v56 : BitVec 32 := Scalar.divsi v54 c1_i32_29
  let v57 : BitVec 32 := Scalar.muli v56 c1_i32_29
  let v58 : BitVec 32 := Scalar.addi c0_i32_28 v57
  let c1_i32_31 : BitVec 32 := 1#32
  let arg12 : BitVec 32 := Scf.iv v58 c1_i32_31 k0_t2
  let v95 : BitVec 32 := Scalar.muli c2_i32_55 arg12
  let c1_i32_56 : BitVec 32 := 1#32
  let v96 : BitVec 32 := Scalar.addi v95 c1_i32_56
  let c512_i32_57 : BitVec 32 := 512#32
  let v97 : BitVec 32 := Scalar.muli v96 c512_i32_57
  v97
def k0_off4 (i : grid0.Coords) (k0_t2 : Fin (k0_t2_loop i).trips) (c1_i32_56 : BitVec 32) : Fin 4 → Nat :=
  let c0_58 : Index := 0#32
  let c0_59 : Index := 0#32
  let c2_i32_55 : BitVec 32 := 2#32
  let c0_i32_28 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_21 : BitVec 32 := 0#32
  let v38 : BitVec 1 := Scalar.cmpi .sgt v28 c0_i32_21
  let v39 : BitVec 32 := Scalar.extui v38
  let c0_i32_22 : BitVec 32 := 0#32
  let v40 : BitVec 1 := Scalar.cmpi .slt v28 c0_i32_22
  let v41 : BitVec 32 := Scalar.extui v40
  let v42 : BitVec 32 := Scalar.subi v39 v41
  let c2_i32 : BitVec 32 := 2#32
  let c0_i32_23 : BitVec 32 := 0#32
  let v43 : BitVec 1 := Scalar.cmpi .sgt c2_i32 c0_i32_23
  let v44 : BitVec 32 := Scalar.extui v43
  let c0_i32_24 : BitVec 32 := 0#32
  let v45 : BitVec 1 := Scalar.cmpi .slt c2_i32 c0_i32_24
  let v46 : BitVec 32 := Scalar.extui v45
  let v47 : BitVec 32 := Scalar.subi v44 v46
  let v48 : BitVec 1 := Scalar.cmpi .ne v42 v47
  let v49 : BitVec 32 := Scalar.remsi v28 c2_i32
  let c0_i32_25 : BitVec 32 := 0#32
  let v50 : BitVec 1 := Scalar.cmpi .ne v49 c0_i32_25
  let v51 : BitVec 1 := Scalar.andi v48 v50
  let v37 : BitVec 32 := Scalar.divsi v28 c2_i32
  let c1_i32_26 : BitVec 32 := 1#32
  let v52 : BitVec 32 := Scalar.subi v37 c1_i32_26
  let v53 : BitVec 32 := Scalar.select v51 v52 v37
  let v54 : BitVec 32 := Scalar.subi v53 c0_i32_28
  let c1_i32_29 : BitVec 32 := 1#32
  let v56 : BitVec 32 := Scalar.divsi v54 c1_i32_29
  let v57 : BitVec 32 := Scalar.muli v56 c1_i32_29
  let v58 : BitVec 32 := Scalar.addi c0_i32_28 v57
  let c1_i32_31 : BitVec 32 := 1#32
  let arg12 : BitVec 32 := Scf.iv v58 c1_i32_31 k0_t2
  let v95 : BitVec 32 := Scalar.muli c2_i32_55 arg12
  let v96 : BitVec 32 := Scalar.addi v95 c1_i32_56
  let c512_i32_57 : BitVec 32 := 512#32
  let v97 : BitVec 32 := Scalar.muli v96 c512_i32_57
  let v98 : BitVec 32 := v97
  let v99 : Index := Scalar.indexCast v98
  let c0_60 : Index := 0#32
  ![0, 0, v99.toNat, 0]
def k0_mult7 (i : grid0.Coords) (k0_t2 : Fin (k0_t2_loop i).trips) : BitVec 32 :=
  let c2_i32_55 : BitVec 32 := 2#32
  let c0_i32_28 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_21 : BitVec 32 := 0#32
  let v38 : BitVec 1 := Scalar.cmpi .sgt v28 c0_i32_21
  let v39 : BitVec 32 := Scalar.extui v38
  let c0_i32_22 : BitVec 32 := 0#32
  let v40 : BitVec 1 := Scalar.cmpi .slt v28 c0_i32_22
  let v41 : BitVec 32 := Scalar.extui v40
  let v42 : BitVec 32 := Scalar.subi v39 v41
  let c2_i32 : BitVec 32 := 2#32
  let c0_i32_23 : BitVec 32 := 0#32
  let v43 : BitVec 1 := Scalar.cmpi .sgt c2_i32 c0_i32_23
  let v44 : BitVec 32 := Scalar.extui v43
  let c0_i32_24 : BitVec 32 := 0#32
  let v45 : BitVec 1 := Scalar.cmpi .slt c2_i32 c0_i32_24
  let v46 : BitVec 32 := Scalar.extui v45
  let v47 : BitVec 32 := Scalar.subi v44 v46
  let v48 : BitVec 1 := Scalar.cmpi .ne v42 v47
  let v49 : BitVec 32 := Scalar.remsi v28 c2_i32
  let c0_i32_25 : BitVec 32 := 0#32
  let v50 : BitVec 1 := Scalar.cmpi .ne v49 c0_i32_25
  let v51 : BitVec 1 := Scalar.andi v48 v50
  let v37 : BitVec 32 := Scalar.divsi v28 c2_i32
  let c1_i32_26 : BitVec 32 := 1#32
  let v52 : BitVec 32 := Scalar.subi v37 c1_i32_26
  let v53 : BitVec 32 := Scalar.select v51 v52 v37
  let v54 : BitVec 32 := Scalar.subi v53 c0_i32_28
  let c1_i32_29 : BitVec 32 := 1#32
  let v56 : BitVec 32 := Scalar.divsi v54 c1_i32_29
  let v57 : BitVec 32 := Scalar.muli v56 c1_i32_29
  let v58 : BitVec 32 := Scalar.addi c0_i32_28 v57
  let c1_i32_31 : BitVec 32 := 1#32
  let arg12 : BitVec 32 := Scf.iv v58 c1_i32_31 k0_t2
  let v95 : BitVec 32 := Scalar.muli c2_i32_55 arg12
  let c512_i32_69 : BitVec 32 := 512#32
  let v118 : BitVec 32 := Scalar.muli v95 c512_i32_69
  v118
def k0_off5 (i : grid0.Coords) (k0_t2 : Fin (k0_t2_loop i).trips) : Fin 4 → Nat :=
  let c0_72 : Index := 0#32
  let c0_73 : Index := 0#32
  let c2_i32_55 : BitVec 32 := 2#32
  let c0_i32_28 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_21 : BitVec 32 := 0#32
  let v38 : BitVec 1 := Scalar.cmpi .sgt v28 c0_i32_21
  let v39 : BitVec 32 := Scalar.extui v38
  let c0_i32_22 : BitVec 32 := 0#32
  let v40 : BitVec 1 := Scalar.cmpi .slt v28 c0_i32_22
  let v41 : BitVec 32 := Scalar.extui v40
  let v42 : BitVec 32 := Scalar.subi v39 v41
  let c2_i32 : BitVec 32 := 2#32
  let c0_i32_23 : BitVec 32 := 0#32
  let v43 : BitVec 1 := Scalar.cmpi .sgt c2_i32 c0_i32_23
  let v44 : BitVec 32 := Scalar.extui v43
  let c0_i32_24 : BitVec 32 := 0#32
  let v45 : BitVec 1 := Scalar.cmpi .slt c2_i32 c0_i32_24
  let v46 : BitVec 32 := Scalar.extui v45
  let v47 : BitVec 32 := Scalar.subi v44 v46
  let v48 : BitVec 1 := Scalar.cmpi .ne v42 v47
  let v49 : BitVec 32 := Scalar.remsi v28 c2_i32
  let c0_i32_25 : BitVec 32 := 0#32
  let v50 : BitVec 1 := Scalar.cmpi .ne v49 c0_i32_25
  let v51 : BitVec 1 := Scalar.andi v48 v50
  let v37 : BitVec 32 := Scalar.divsi v28 c2_i32
  let c1_i32_26 : BitVec 32 := 1#32
  let v52 : BitVec 32 := Scalar.subi v37 c1_i32_26
  let v53 : BitVec 32 := Scalar.select v51 v52 v37
  let v54 : BitVec 32 := Scalar.subi v53 c0_i32_28
  let c1_i32_29 : BitVec 32 := 1#32
  let v56 : BitVec 32 := Scalar.divsi v54 c1_i32_29
  let v57 : BitVec 32 := Scalar.muli v56 c1_i32_29
  let v58 : BitVec 32 := Scalar.addi c0_i32_28 v57
  let c1_i32_31 : BitVec 32 := 1#32
  let arg12 : BitVec 32 := Scf.iv v58 c1_i32_31 k0_t2
  let v95 : BitVec 32 := Scalar.muli c2_i32_55 arg12
  let c512_i32_69 : BitVec 32 := 512#32
  let v118 : BitVec 32 := Scalar.muli v95 c512_i32_69
  let v119 : BitVec 32 := v118
  let v122 : Index := Scalar.indexCast v119
  let c0_74 : Index := 0#32
  ![0, 0, v122.toNat, 0]
def k0_mult8 (i : grid0.Coords) (k0_t2 : Fin (k0_t2_loop i).trips) : BitVec 32 :=
  let c2_i32_55 : BitVec 32 := 2#32
  let c0_i32_28 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_21 : BitVec 32 := 0#32
  let v38 : BitVec 1 := Scalar.cmpi .sgt v28 c0_i32_21
  let v39 : BitVec 32 := Scalar.extui v38
  let c0_i32_22 : BitVec 32 := 0#32
  let v40 : BitVec 1 := Scalar.cmpi .slt v28 c0_i32_22
  let v41 : BitVec 32 := Scalar.extui v40
  let v42 : BitVec 32 := Scalar.subi v39 v41
  let c2_i32 : BitVec 32 := 2#32
  let c0_i32_23 : BitVec 32 := 0#32
  let v43 : BitVec 1 := Scalar.cmpi .sgt c2_i32 c0_i32_23
  let v44 : BitVec 32 := Scalar.extui v43
  let c0_i32_24 : BitVec 32 := 0#32
  let v45 : BitVec 1 := Scalar.cmpi .slt c2_i32 c0_i32_24
  let v46 : BitVec 32 := Scalar.extui v45
  let v47 : BitVec 32 := Scalar.subi v44 v46
  let v48 : BitVec 1 := Scalar.cmpi .ne v42 v47
  let v49 : BitVec 32 := Scalar.remsi v28 c2_i32
  let c0_i32_25 : BitVec 32 := 0#32
  let v50 : BitVec 1 := Scalar.cmpi .ne v49 c0_i32_25
  let v51 : BitVec 1 := Scalar.andi v48 v50
  let v37 : BitVec 32 := Scalar.divsi v28 c2_i32
  let c1_i32_26 : BitVec 32 := 1#32
  let v52 : BitVec 32 := Scalar.subi v37 c1_i32_26
  let v53 : BitVec 32 := Scalar.select v51 v52 v37
  let v54 : BitVec 32 := Scalar.subi v53 c0_i32_28
  let c1_i32_29 : BitVec 32 := 1#32
  let v56 : BitVec 32 := Scalar.divsi v54 c1_i32_29
  let v57 : BitVec 32 := Scalar.muli v56 c1_i32_29
  let v58 : BitVec 32 := Scalar.addi c0_i32_28 v57
  let c1_i32_31 : BitVec 32 := 1#32
  let arg12 : BitVec 32 := Scf.iv v58 c1_i32_31 k0_t2
  let v95 : BitVec 32 := Scalar.muli c2_i32_55 arg12
  let c2_i32_80 : BitVec 32 := 2#32
  let v133 : BitVec 32 := Scalar.addi v95 c2_i32_80
  let c512_i32_81 : BitVec 32 := 512#32
  let v134 : BitVec 32 := Scalar.muli v133 c512_i32_81
  v134
def k0_mult9 (i : grid0.Coords) (k0_t2 : Fin (k0_t2_loop i).trips) : BitVec 32 :=
  let c2_i32_55 : BitVec 32 := 2#32
  let c0_i32_28 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_21 : BitVec 32 := 0#32
  let v38 : BitVec 1 := Scalar.cmpi .sgt v28 c0_i32_21
  let v39 : BitVec 32 := Scalar.extui v38
  let c0_i32_22 : BitVec 32 := 0#32
  let v40 : BitVec 1 := Scalar.cmpi .slt v28 c0_i32_22
  let v41 : BitVec 32 := Scalar.extui v40
  let v42 : BitVec 32 := Scalar.subi v39 v41
  let c2_i32 : BitVec 32 := 2#32
  let c0_i32_23 : BitVec 32 := 0#32
  let v43 : BitVec 1 := Scalar.cmpi .sgt c2_i32 c0_i32_23
  let v44 : BitVec 32 := Scalar.extui v43
  let c0_i32_24 : BitVec 32 := 0#32
  let v45 : BitVec 1 := Scalar.cmpi .slt c2_i32 c0_i32_24
  let v46 : BitVec 32 := Scalar.extui v45
  let v47 : BitVec 32 := Scalar.subi v44 v46
  let v48 : BitVec 1 := Scalar.cmpi .ne v42 v47
  let v49 : BitVec 32 := Scalar.remsi v28 c2_i32
  let c0_i32_25 : BitVec 32 := 0#32
  let v50 : BitVec 1 := Scalar.cmpi .ne v49 c0_i32_25
  let v51 : BitVec 1 := Scalar.andi v48 v50
  let v37 : BitVec 32 := Scalar.divsi v28 c2_i32
  let c1_i32_26 : BitVec 32 := 1#32
  let v52 : BitVec 32 := Scalar.subi v37 c1_i32_26
  let v53 : BitVec 32 := Scalar.select v51 v52 v37
  let v54 : BitVec 32 := Scalar.subi v53 c0_i32_28
  let c1_i32_29 : BitVec 32 := 1#32
  let v56 : BitVec 32 := Scalar.divsi v54 c1_i32_29
  let v57 : BitVec 32 := Scalar.muli v56 c1_i32_29
  let v58 : BitVec 32 := Scalar.addi c0_i32_28 v57
  let c1_i32_31 : BitVec 32 := 1#32
  let arg12 : BitVec 32 := Scf.iv v58 c1_i32_31 k0_t2
  let v95 : BitVec 32 := Scalar.muli c2_i32_55 arg12
  let c1_i32_88 : BitVec 32 := 1#32
  let v143 : BitVec 32 := Scalar.addi v95 c1_i32_88
  let c512_i32_94 : BitVec 32 := 512#32
  let v156 : BitVec 32 := Scalar.muli v143 c512_i32_94
  v156
def k0_off6 (i : grid0.Coords) (k0_t2 : Fin (k0_t2_loop i).trips) : Fin 4 → Nat :=
  let c0_97 : Index := 0#32
  let c0_98 : Index := 0#32
  let c2_i32_55 : BitVec 32 := 2#32
  let c0_i32_28 : BitVec 32 := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_21 : BitVec 32 := 0#32
  let v38 : BitVec 1 := Scalar.cmpi .sgt v28 c0_i32_21
  let v39 : BitVec 32 := Scalar.extui v38
  let c0_i32_22 : BitVec 32 := 0#32
  let v40 : BitVec 1 := Scalar.cmpi .slt v28 c0_i32_22
  let v41 : BitVec 32 := Scalar.extui v40
  let v42 : BitVec 32 := Scalar.subi v39 v41
  let c2_i32 : BitVec 32 := 2#32
  let c0_i32_23 : BitVec 32 := 0#32
  let v43 : BitVec 1 := Scalar.cmpi .sgt c2_i32 c0_i32_23
  let v44 : BitVec 32 := Scalar.extui v43
  let c0_i32_24 : BitVec 32 := 0#32
  let v45 : BitVec 1 := Scalar.cmpi .slt c2_i32 c0_i32_24
  let v46 : BitVec 32 := Scalar.extui v45
  let v47 : BitVec 32 := Scalar.subi v44 v46
  let v48 : BitVec 1 := Scalar.cmpi .ne v42 v47
  let v49 : BitVec 32 := Scalar.remsi v28 c2_i32
  let c0_i32_25 : BitVec 32 := 0#32
  let v50 : BitVec 1 := Scalar.cmpi .ne v49 c0_i32_25
  let v51 : BitVec 1 := Scalar.andi v48 v50
  let v37 : BitVec 32 := Scalar.divsi v28 c2_i32
  let c1_i32_26 : BitVec 32 := 1#32
  let v52 : BitVec 32 := Scalar.subi v37 c1_i32_26
  let v53 : BitVec 32 := Scalar.select v51 v52 v37
  let v54 : BitVec 32 := Scalar.subi v53 c0_i32_28
  let c1_i32_29 : BitVec 32 := 1#32
  let v56 : BitVec 32 := Scalar.divsi v54 c1_i32_29
  let v57 : BitVec 32 := Scalar.muli v56 c1_i32_29
  let v58 : BitVec 32 := Scalar.addi c0_i32_28 v57
  let c1_i32_31 : BitVec 32 := 1#32
  let arg12 : BitVec 32 := Scf.iv v58 c1_i32_31 k0_t2
  let v95 : BitVec 32 := Scalar.muli c2_i32_55 arg12
  let c1_i32_88 : BitVec 32 := 1#32
  let v143 : BitVec 32 := Scalar.addi v95 c1_i32_88
  let c512_i32_94 : BitVec 32 := 512#32
  let v156 : BitVec 32 := Scalar.muli v143 c512_i32_94
  let v157 : BitVec 32 := v156
  let v160 : Index := Scalar.indexCast v157
  let c0_99 : Index := 0#32
  ![0, 0, v160.toNat, 0]
def k0_cond1 (i : grid0.Coords) : BitVec 1 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c2_i32_32 : BitVec 32 := 2#32
  let c0_i32_33 : BitVec 32 := 0#32
  let v59 : BitVec 1 := Scalar.cmpi .eq c2_i32_32 c0_i32_33
  let c1_i32_34 : BitVec 32 := 1#32
  let v60 : BitVec 32 := Scalar.select v59 c1_i32_34 c2_i32_32
  let v61 : BitVec 32 := Scalar.remsi v28 v60
  let c0_i32_36 : BitVec 32 := 0#32
  let v63 : BitVec 1 := Scalar.cmpi .slt v61 c0_i32_36
  let c0_i32_37 : BitVec 32 := 0#32
  let v64 : BitVec 1 := Scalar.cmpi .slt v60 c0_i32_37
  let v65 : BitVec 1 := Scalar.xori v63 v64
  let c0_i32_35 : BitVec 32 := 0#32
  let v62 : BitVec 1 := Scalar.cmpi .ne v61 c0_i32_35
  let v66 : BitVec 1 := Scalar.andi v65 v62
  let v67 : BitVec 32 := Scalar.addi v61 v60
  let v68 : BitVec 32 := Scalar.select v66 v67 v61
  let c1_i32_38 : BitVec 32 := 1#32
  let v69 : BitVec 1 := Scalar.cmpi .eq v68 c1_i32_38
  let v70 : BitVec 32 := Scalar.extui v69
  let c0_i32_39 : BitVec 32 := 0#32
  let v71 : BitVec 1 := Scalar.cmpi .ne v70 c0_i32_39
  v71

def k0_mult10 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_56 : BitVec 32 := 0#32
  let v96 : BitVec 32 := Scalar.addi v28 c0_i32_56
  let c512_i32_57 : BitVec 32 := 512#32
  let v97 : BitVec 32 := Scalar.muli v96 c512_i32_57
  v97
def k0_off7 (i : grid0.Coords) : Fin 4 → Nat :=
  let c0_58 : Index := 0#32
  let c0_59 : Index := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_56 : BitVec 32 := 0#32
  let v96 : BitVec 32 := Scalar.addi v28 c0_i32_56
  let c512_i32_57 : BitVec 32 := 512#32
  let v97 : BitVec 32 := Scalar.muli v96 c512_i32_57
  let v98 : BitVec 32 := v97
  let v99 : Index := Scalar.indexCast v98
  let c0_60 : Index := 0#32
  ![0, 0, v99.toNat, 0]
def k0_mult11 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c1_i32_55 : BitVec 32 := 1#32
  let v95 : BitVec 32 := Scalar.subi v28 c1_i32_55
  let c512_i32_69 : BitVec 32 := 512#32
  let v118 : BitVec 32 := Scalar.muli v95 c512_i32_69
  v118
def k0_off8 (i : grid0.Coords) : Fin 4 → Nat :=
  let c0_72 : Index := 0#32
  let c0_73 : Index := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c1_i32_55 : BitVec 32 := 1#32
  let v95 : BitVec 32 := Scalar.subi v28 c1_i32_55
  let c512_i32_69 : BitVec 32 := 512#32
  let v118 : BitVec 32 := Scalar.muli v95 c512_i32_69
  let v119 : BitVec 32 := v118
  let v122 : Index := Scalar.indexCast v119
  let c0_74 : Index := 0#32
  ![0, 0, v122.toNat, 0]
def k0_mult12 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_56 : BitVec 32 := 0#32
  let v96 : BitVec 32 := Scalar.addi v28 c0_i32_56
  let c512_i32_88 : BitVec 32 := 512#32
  let v148 : BitVec 32 := Scalar.muli v96 c512_i32_88
  v148
def k0_off9 (i : grid0.Coords) : Fin 4 → Nat :=
  let c0_91 : Index := 0#32
  let c0_92 : Index := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_56 : BitVec 32 := 0#32
  let v96 : BitVec 32 := Scalar.addi v28 c0_i32_56
  let c512_i32_88 : BitVec 32 := 512#32
  let v148 : BitVec 32 := Scalar.muli v96 c512_i32_88
  let v149 : BitVec 32 := v148
  let v152 : Index := Scalar.indexCast v149
  let c0_93 : Index := 0#32
  ![0, 0, v152.toNat, 0]
def k0_cond2 (i : grid0.Coords) : BitVec 1 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c2_i32_40 : BitVec 32 := 2#32
  let c0_i32_41 : BitVec 32 := 0#32
  let v72 : BitVec 1 := Scalar.cmpi .eq c2_i32_40 c0_i32_41
  let c1_i32_42 : BitVec 32 := 1#32
  let v73 : BitVec 32 := Scalar.select v72 c1_i32_42 c2_i32_40
  let v74 : BitVec 32 := Scalar.remsi v28 v73
  let c0_i32_44 : BitVec 32 := 0#32
  let v76 : BitVec 1 := Scalar.cmpi .slt v74 c0_i32_44
  let c0_i32_45 : BitVec 32 := 0#32
  let v77 : BitVec 1 := Scalar.cmpi .slt v73 c0_i32_45
  let v78 : BitVec 1 := Scalar.xori v76 v77
  let c0_i32_43 : BitVec 32 := 0#32
  let v75 : BitVec 1 := Scalar.cmpi .ne v74 c0_i32_43
  let v79 : BitVec 1 := Scalar.andi v78 v75
  let v80 : BitVec 32 := Scalar.addi v74 v73
  let v81 : BitVec 32 := Scalar.select v79 v80 v74
  let c0_i32_46 : BitVec 32 := 0#32
  let v82 : BitVec 1 := Scalar.cmpi .eq v81 c0_i32_46
  let v83 : BitVec 32 := Scalar.extui v82
  let c0_i32_47 : BitVec 32 := 0#32
  let v84 : BitVec 1 := Scalar.cmpi .ne v83 c0_i32_47
  v84

def k0_mult13 (i : grid0.Coords) : BitVec 32 :=
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_55 : BitVec 32 := 0#32
  let v95 : BitVec 32 := Scalar.addi v28 c0_i32_55
  let c512_i32_64 : BitVec 32 := 512#32
  let v111 : BitVec 32 := Scalar.muli v95 c512_i32_64
  v111
def k0_off10 (i : grid0.Coords) : Fin 4 → Nat :=
  let c0_67 : Index := 0#32
  let c0_68 : Index := 0#32
  let arg2 : BitVec 32 := BitVec.ofNat 32 (i 2).val
  let c512_i32 : BitVec 32 := 512#32
  let v11 : BitVec 32 := Scalar.muli arg2 c512_i32
  let c0_i32 : BitVec 32 := 0#32
  let v13 : BitVec 1 := Scalar.cmpi .sgt v11 c0_i32
  let v14 : BitVec 32 := Scalar.extui v13
  let c0_i32_10 : BitVec 32 := 0#32
  let v15 : BitVec 1 := Scalar.cmpi .slt v11 c0_i32_10
  let v16 : BitVec 32 := Scalar.extui v15
  let v17 : BitVec 32 := Scalar.subi v14 v16
  let c512_i32_9 : BitVec 32 := 512#32
  let c0_i32_11 : BitVec 32 := 0#32
  let v18 : BitVec 1 := Scalar.cmpi .sgt c512_i32_9 c0_i32_11
  let v19 : BitVec 32 := Scalar.extui v18
  let c0_i32_12 : BitVec 32 := 0#32
  let v20 : BitVec 1 := Scalar.cmpi .slt c512_i32_9 c0_i32_12
  let v21 : BitVec 32 := Scalar.extui v20
  let v22 : BitVec 32 := Scalar.subi v19 v21
  let v23 : BitVec 1 := Scalar.cmpi .ne v17 v22
  let v24 : BitVec 32 := Scalar.remsi v11 c512_i32_9
  let c0_i32_13 : BitVec 32 := 0#32
  let v25 : BitVec 1 := Scalar.cmpi .ne v24 c0_i32_13
  let v26 : BitVec 1 := Scalar.andi v23 v25
  let v12 : BitVec 32 := Scalar.divsi v11 c512_i32_9
  let c1_i32 : BitVec 32 := 1#32
  let v27 : BitVec 32 := Scalar.subi v12 c1_i32
  let v28 : BitVec 32 := Scalar.select v26 v27 v12
  let c0_i32_55 : BitVec 32 := 0#32
  let v95 : BitVec 32 := Scalar.addi v28 c0_i32_55
  let c512_i32_64 : BitVec 32 := 512#32
  let v111 : BitVec 32 := Scalar.muli v95 c512_i32_64
  let v112 : BitVec 32 := v111
  let v115 : Index := Scalar.indexCast v112
  let c0_69 : Index := 0#32
  ![0, 0, v115.toNat, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage0_0 : Fin 2 → Memref sig .tc .vmem S1x1x1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x8x4096x96 : Shape := ⟨4, ![16, 8, 4096, 96]⟩
abbrev S16x8x4096x64 : Shape := ⟨4, ![16, 8, 4096, 64]⟩
abbrev S16x8x4096x4096 : Shape := ⟨4, ![16, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x8x4096 : Shape := ⟨3, ![16, 8, 4096]⟩
abbrev S16x8x4096x1 : Shape := ⟨4, ![16, 8, 4096, 1]⟩
abbrev S16x8x1x4096x64 : Shape := ⟨5, ![16, 8, 1, 4096, 64]⟩

abbrev nBuf : Space → Nat
  | .hbm => 35
  | .vmem => 0
  | .smem => 0
  | _ => 0

abbrev bufTy : (tb : Table) → Fin (tcTables nBuf tb) → BufTy
  | .hbm, ⟨0, _⟩ => ⟨S16x8x4096x96, .f32⟩
  | .hbm, ⟨1, _⟩ => ⟨S16x8x4096x96, .f32⟩
  | .hbm, ⟨2, _⟩ => ⟨S16x8x4096x64, .f32⟩
  | .hbm, ⟨3, _⟩ => ⟨S16x8x4096x4096, .f32⟩
  | .hbm, ⟨4, _⟩ => ⟨S_, .f32⟩
  | .hbm, ⟨5, _⟩ => ⟨S16x8x4096x4096, .f32⟩
  | .hbm, ⟨6, _⟩ => ⟨S16x8x4096x4096, .f32⟩
  | .hbm, ⟨7, _⟩ => ⟨S4096, .i32⟩
  | .hbm, ⟨8, _⟩ => ⟨S4096x1, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S16x8x4096x4096, .i1⟩
  | .hbm, ⟨16, _⟩ => ⟨S16x8x4096x4096, .f32⟩
  | .hbm, ⟨17, _⟩ => ⟨S16x8x4096x4096, .f32⟩
  | .hbm, ⟨18, _⟩ => ⟨S_, .f32⟩
  | .hbm, ⟨19, _⟩ => ⟨S16x8x4096, .f32⟩
  | .hbm, ⟨20, _⟩ => ⟨S_, .f32⟩
  | .hbm, ⟨21, _⟩ => ⟨S16x8x4096, .f32⟩
  | .hbm, ⟨22, _⟩ => ⟨S16x8x4096, .f32⟩
  | .hbm, ⟨23, _⟩ => ⟨S16x8x4096x1, .f32⟩
  | .hbm, ⟨24, _⟩ => ⟨S16x8x4096x4096, .f32⟩
  | .hbm, ⟨25, _⟩ => ⟨S16x8x4096x4096, .f32⟩
  | .hbm, ⟨26, _⟩ => ⟨S16x8x4096x4096, .f32⟩
  | .hbm, ⟨27, _⟩ => ⟨S_, .f32⟩
  | .hbm, ⟨28, _⟩ => ⟨S16x8x4096, .f32⟩
  | .hbm, ⟨29, _⟩ => ⟨S16x8x4096x1, .f32⟩
  | .hbm, ⟨30, _⟩ => ⟨S16x8x4096x4096, .f32⟩
  | .hbm, ⟨31, _⟩ => ⟨S16x8x4096x4096, .f32⟩
  | .hbm, ⟨32, _⟩ => ⟨S16x8x4096x64, .f32⟩
  | .hbm, ⟨33, _⟩ => ⟨S16x8x1x4096x64, .f32⟩
  | .hbm, ⟨34, _⟩ => ⟨S16x8x1x4096x64, .bf16⟩
  | _, _ => ⟨S16x8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

def κ : String → Option EReal := fun
  | "mask" => some ⊥
  | _ => none
-- ==== Kernel2.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S1x1024, .f32⟩
  | .hbm, ⟨10, _⟩ => ⟨S2816x1024, .bf16⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x8x4096x64 : Shape := ⟨4, ![16, 8, 4096, 64]⟩
abbrev S1024 : Shape := ⟨1, ![1024]⟩
abbrev S4x1024x1024 : Shape := ⟨3, ![4, 1024, 1024]⟩
abbrev S4x512x1024 : Shape := ⟨3, ![4, 512, 1024]⟩
abbrev S1024x1024 : Shape := ⟨2, ![1024, 1024]⟩
abbrev S1x1024 : Shape := ⟨2, ![1, 1024]⟩
abbrev S1x512x1024 : Shape := ⟨3, ![1, 512, 1024]⟩
abbrev S1x8x512x64 : Shape := ⟨4, ![1, 8, 512, 64]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1x1x512x64 : Shape := ⟨4, ![1, 1, 512, 64]⟩
abbrev S512x64 : Shape := ⟨2, ![512, 64]⟩
abbrev S512x512 : Shape := ⟨2, ![512, 512]⟩

abbrev nBuf : Space → Nat
  | .hbm => 16
  | .vmem => 17
  | .smem => 0
  | _ => 0

abbrev bufTy : (tb : Table) → Fin (tcTables nBuf tb) → BufTy
  | .hbm, ⟨0, _⟩ => ⟨S16x4096x1024, .f32⟩
  | .hbm, ⟨1, _⟩ => ⟨S16x8x4096x64, .bf16⟩
  | .hbm, ⟨2, _⟩ => ⟨S16x8x4096x64, .bf16⟩
  | .hbm, ⟨3, _⟩ => ⟨S16x8x4096x64, .bf16⟩
  | .hbm, ⟨4, _⟩ => ⟨S16x8x4096x64, .bf16⟩
  | .hbm, ⟨5, _⟩ => ⟨S1024, .f32⟩
  | .hbm, ⟨6, _⟩ => ⟨S4x1024x1024, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S1x1024, .f32⟩
  | .hbm, ⟨11, _⟩ => ⟨S4x1024x1024, .bf16⟩
  | .hbm, ⟨12, _⟩ => ⟨S4x512x1024, .bf16⟩
  | .hbm, ⟨13, _⟩ => ⟨S1024x1024, .bf16⟩
  | .hbm, ⟨14, _⟩ => ⟨S1x1024, .f32⟩
  | .hbm, ⟨15, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x512x64, .bf16⟩
  | .local _ .vmem, ⟨3, _⟩ => ⟨S1x8x512x64, .bf16⟩
  | .local _ .vmem, ⟨4, _⟩ => ⟨S1x8x512x64, .bf16⟩
  | .local _ .vmem, ⟨5, _⟩ => ⟨S1x8x512x64, .bf16⟩
  | .local _ .vmem, ⟨6, _⟩ => ⟨S1x8x512x64, .bf16⟩
  | .local _ .vmem, ⟨7, _⟩ => ⟨S1x8x512x64, .bf16⟩
  | .local _ .vmem, ⟨8, _⟩ => ⟨S1x8x512x64, .bf16⟩
  | .local _ .vmem, ⟨9, _⟩ => ⟨S1x8x512x64, .bf16⟩
  | .local _ .vmem, ⟨10, _⟩ => ⟨S1x1024, .f32⟩
  | .local _ .vmem, ⟨11, _⟩ => ⟨S4x1024x1024, .bf16⟩
  | .local _ .vmem, ⟨12, _⟩ => ⟨S4x512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x4096x1024 : Shape := ⟨3, ![16, 4096, 1024]⟩
abbrev S16x8x4096x64 : Shape := ⟨4, ![16, 8, 4096, 64]⟩
abbrev S1024 : Shape := ⟨1, ![1024]⟩
abbrev S4x1024x1024 : Shape := ⟨3, ![4, 1024, 1024]⟩
abbrev S4x512x1024 : Shape := ⟨3, ![4, 512, 1024]⟩
abbrev S1024x1024 : Shape := ⟨2, ![1024, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x8x64 : Shape := ⟨4, ![16, 4096, 8, 64]⟩
abbrev S16x4096x512 : Shape := ⟨3, ![16, 4096, 512]⟩
abbrev S1x1024x1024 : Shape := ⟨3, ![1, 1024, 1024]⟩
abbrev S1x512x1024 : Shape := ⟨3, ![1, 512, 1024]⟩
abbrev S512x1024 : Shape := ⟨2, ![512, 1024]⟩

abbrev nBuf : Space → Nat
  | .hbm => 122
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x8x4096x64, .bf16⟩
  | .hbm, ⟨2, _⟩ => ⟨S16x8x4096x64, .bf16⟩
  | .hbm, ⟨3, _⟩ => ⟨S16x8x4096x64, .bf16⟩
  | .hbm, ⟨4, _⟩ => ⟨S16x8x4096x64, .bf16⟩
  | .hbm, ⟨5, _⟩ => ⟨S1024, .f32⟩
  | .hbm, ⟨6, _⟩ => ⟨S4x1024x1024, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S16x4096x1024, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1, .f32⟩
  | .hbm, ⟨21, _⟩ => ⟨S16x4096x1024, .f32⟩
  | .hbm, ⟨22, _⟩ => ⟨S16x4096x1024, .f32⟩
  | .hbm, ⟨23, _⟩ => ⟨S1x1x1024, .f32⟩
  | .hbm, ⟨24, _⟩ => ⟨S16x4096x1024, .f32⟩
  | .hbm, ⟨25, _⟩ => ⟨S16x4096x1024, .f32⟩
  | .hbm, ⟨26, _⟩ => ⟨S16x4096x8x64, .bf16⟩
  | .hbm, ⟨27, _⟩ => ⟨S16x4096x512, .bf16⟩
  | .hbm, ⟨28, _⟩ => ⟨S16x4096x512, .f32⟩
  | .hbm, ⟨29, _⟩ => ⟨S16x4096x8x64, .bf16⟩
  | .hbm, ⟨30, _⟩ => ⟨S16x4096x512, .bf16⟩
  | .hbm, ⟨31, _⟩ => ⟨S16x4096x512, .f32⟩
  | .hbm, ⟨32, _⟩ => ⟨S16x4096x8x64, .bf16⟩
  | .hbm, ⟨33, _⟩ => ⟨S16x4096x512, .bf16⟩
  | .hbm, ⟨34, _⟩ => ⟨S16x4096x512, .f32⟩
  | .hbm, ⟨35, _⟩ => ⟨S16x4096x8x64, .bf16⟩
  | .hbm, ⟨36, _⟩ => ⟨S16x4096x512, .bf16⟩
  | .hbm, ⟨37, _⟩ => ⟨S16x4096x512, .f32⟩
  | .hbm, ⟨38, _⟩ => ⟨S1x1024x1024, .f32⟩
  | .hbm, ⟨39, _⟩ => ⟨S1024x1024, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S_, .f32⟩
  | .hbm, ⟨44, _⟩ => ⟨S16x4096x1024, .f32⟩
  | .hbm, ⟨45, _⟩ => ⟨S16x4096x1024, .f32⟩
  | .hbm, ⟨46, _⟩ => ⟨S_, .f32⟩
  | .hbm, ⟨47, _⟩ => ⟨S16x4096x1024, .f32⟩
  | .hbm, ⟨48, _⟩ => ⟨S16x4096x1024, .f32⟩
  | .hbm, ⟨49, _⟩ => ⟨S1x512x1024, .f32⟩
  | .hbm, ⟨50, _⟩ => ⟨S512x1024, .f32⟩
  | .hbm, ⟨51, _⟩ => ⟨S16x4096x1024, .f32⟩
  | .hbm, ⟨52, _⟩ => ⟨S16x4096x1024, .f32⟩
  | .hbm, ⟨53, _⟩ => ⟨S_, .f32⟩
  | .hbm, ⟨54, _⟩ => ⟨S16x4096x1024, .f32⟩
  | .hbm, ⟨55, _⟩ => ⟨S16x4096x1024, .f32⟩
  | .hbm, ⟨56, _⟩ => ⟨S1x1024x1024, .f32⟩
  | .hbm, ⟨57, _⟩ => ⟨S1024x1024, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | .hbm, ⟨61, _⟩ => ⟨S_, .f32⟩
  | .hbm, ⟨62, _⟩ => ⟨S16x4096x1024, .f32⟩
  | .hbm, ⟨63, _⟩ => ⟨S16x4096x1024, .f32⟩
  | .hbm, ⟨64, _⟩ => ⟨S_, .f32⟩
  | .hbm, ⟨65, _⟩ => ⟨S16x4096x1024, .f32⟩
  | .hbm, ⟨66, _⟩ => ⟨S16x4096x1024, .f32⟩
  | .hbm, ⟨67, _⟩ => ⟨S1x512x1024, .f32⟩
  | .hbm, ⟨68, _⟩ => ⟨S512x1024, .f32⟩
  | .hbm, ⟨69, _⟩ => ⟨S16x4096x1024, .f32⟩
  | .hbm, ⟨70, _⟩ => ⟨S16x4096x1024, .f32⟩
  | .hbm, ⟨71, _⟩ => ⟨S16x4096x1024, .f32⟩
  | .hbm, ⟨72, _⟩ => ⟨S1x1024x1024, .f32⟩
  | .hbm, ⟨73, _⟩ => ⟨S1024x1024, .f32⟩
  | .hbm, ⟨74, _⟩ => ⟨S16x4096x1024, .f32⟩
  | .hbm, ⟨75, _⟩ => ⟨S16x4096x1024, .f32⟩
  | .hbm, ⟨76, _⟩ => ⟨S16x4096x1024, .f32⟩
  | .hbm, ⟨77, _⟩ => ⟨S_, .f32⟩
  | .hbm, ⟨78, _⟩ => ⟨S16x4096x1024, .f32⟩
  | .hbm, ⟨79, _⟩ => ⟨S16x4096x1024, .f32⟩
  | .hbm, ⟨80, _⟩ => ⟨S_, .f32⟩
  | .hbm, ⟨81, _⟩ => ⟨S16x4096x1024, .f32⟩
  | .hbm, ⟨82, _⟩ => ⟨S16x4096x1024, .f32⟩
  | .hbm, ⟨83, _⟩ => ⟨S1x512x1024, .f32⟩
  | .hbm, ⟨84, _⟩ => ⟨S512x1024, .f32⟩
  | .hbm, ⟨85, _⟩ => ⟨S16x4096x1024, .f32⟩
  | .hbm, ⟨86, _⟩ => ⟨S16x4096x1024, .f32⟩
  | .hbm, ⟨87, _⟩ => ⟨S16x4096x1024, .f32⟩
  | .hbm, ⟨88, _⟩ => ⟨S1x1024x1024, .f32⟩
  | .hbm, ⟨89, _⟩ => ⟨S1024x1024, .f32⟩
  | .hbm, ⟨90, _⟩ => ⟨S16x4096x1024, .f32⟩
  | .hbm, ⟨91, _⟩ => ⟨S16x4096x1024, .f32⟩
  | .hbm, ⟨92, _⟩ => ⟨S16x4096x1024, .f32⟩
  | .hbm, ⟨93, _⟩ => ⟨S_, .f32⟩
  | .hbm, ⟨94, _⟩ => ⟨S16x4096x1024, .f32⟩
  | .hbm, ⟨95, _⟩ => ⟨S16x4096x1024, .f32⟩
  | .hbm, ⟨96, _⟩ => ⟨S_, .f32⟩
  | .hbm, ⟨97, _⟩ => ⟨S16x4096x1024, .f32⟩
  | .hbm, ⟨98, _⟩ => ⟨S16x4096x1024, .f32⟩
  | .hbm, ⟨99, _⟩ => ⟨S1x512x1024, .f32⟩
  | .hbm, ⟨100, _⟩ => ⟨S512x1024, .f32⟩
  | .hbm, ⟨101, _⟩ => ⟨S16x4096x1024, .f32⟩
  | .hbm, ⟨102, _⟩ => ⟨S16x4096x1024, .f32⟩
  | .hbm, ⟨103, _⟩ => ⟨S16x4096x1024, .f32⟩
  | .hbm, ⟨104, _⟩ => ⟨S16x4096x1024, .f32⟩
  | .hbm, ⟨105, _⟩ => ⟨S16x4096x1024, .f32⟩
  | .hbm, ⟨106, _⟩ => ⟨S_, .f32⟩
  | .hbm, ⟨107, _⟩ => ⟨S16x4096, .f32⟩
  | .hbm, ⟨108, _⟩ => ⟨S16x4096x1, .f32⟩
  | .hbm, ⟨109, _⟩ => ⟨S_, .f32⟩
  | .hbm, ⟨110, _⟩ => ⟨S16x4096x1, .f32⟩
  | .hbm, ⟨111, _⟩ => ⟨S16x4096x1, .f32⟩
  | .hbm, ⟨112, _⟩ => ⟨S_, .f32⟩
  | .hbm, ⟨113, _⟩ => ⟨S16x4096x1, .f32⟩
  | .hbm, ⟨114, _⟩ => ⟨S16x4096x1, .f32⟩
  | .hbm, ⟨115, _⟩ => ⟨S16x4096x1, .f32⟩
  | .hbm, ⟨116, _⟩ => ⟨S16x4096x1024, .f32⟩
  | .hbm, ⟨117, _⟩ => ⟨S16x4096x1024, .f32⟩
  | .hbm, ⟨118, _⟩ => ⟨S1x1x1024, .f32⟩
  | .hbm, ⟨119, _⟩ => ⟨S16x4096x1024, .f32⟩
  | .hbm, ⟨120, _⟩ => ⟨S16x4096x1024, .f32⟩
  | .hbm, ⟨121, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_11 : Ref sig .tc := ⟨.hbm, 106, rfl⟩
abbrev main_v84 : Ref sig .tc := ⟨.hbm, 107, rfl⟩
abbrev main_v85 : Ref sig .tc := ⟨.hbm, 108, rfl⟩
abbrev main_cst_12 : Ref sig .tc := ⟨.hbm, 109, rfl⟩
abbrev main_v86 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]
-- ==== Kernel4.lean ====
abbrev S16x4096x1024 : Shape := ⟨3, ![16, 4096, 1024]⟩
abbrev S1024 : Shape := ⟨1, ![1024]⟩
abbrev S1024x4096 : Shape := ⟨2, ![1024, 4096]⟩
abbrev S1x1024 : Shape := ⟨2, ![1, 1024]⟩
abbrev S16x4096x384 : Shape := ⟨3, ![16, 4096, 384]⟩
abbrev S16x4096x128 : Shape := ⟨3, ![16, 4096, 128]⟩
abbrev S16x4x4096x64 : Shape := ⟨4, ![16, 4, 4096, 64]⟩
abbrev S16x8x4096x64 : Shape := ⟨4, ![16, 8, 4096, 64]⟩
abbrev S16x2x4096x128 : Shape := ⟨4, ![16, 2, 4096, 128]⟩
abbrev S16x2x4096x64 : Shape := ⟨4, ![16, 2, 4096, 64]⟩
abbrev S16x8x4096x128 : Shape := ⟨4, ![16, 8, 4096, 128]⟩
abbrev S1x512x1024 : Shape := ⟨3, ![1, 512, 1024]⟩
abbrev S1x512x384 : Shape := ⟨3, ![1, 512, 384]⟩
abbrev S1x512x128 : Shape := ⟨3, ![1, 512, 128]⟩
abbrev S1x4x512x64 : Shape := ⟨4, ![1, 4, 512, 64]⟩
abbrev S1x8x512x64 : Shape := ⟨4, ![1, 8, 512, 64]⟩
abbrev S1x2x512x128 : Shape := ⟨4, ![1, 2, 512, 128]⟩
abbrev S1x2x512x64 : Shape := ⟨4, ![1, 2, 512, 64]⟩
abbrev S1x8x512x128 : Shape := ⟨4, ![1, 8, 512, 128]⟩
abbrev S512x1024 : Shape := ⟨2, ![512, 1024]⟩
abbrev S512 : Shape := ⟨1, ![512]⟩
abbrev S512x1 : Shape := ⟨2, ![512, 1]⟩
abbrev S1024x384 : Shape := ⟨2, ![1024, 384]⟩
abbrev S512x384 : Shape := ⟨2, ![512, 384]⟩
abbrev S512x64 : Shape := ⟨2, ![512, 64]⟩
abbrev S1x1x512x64 : Shape := ⟨4, ![1, 1, 512, 64]⟩
abbrev S512x128 : Shape := ⟨2, ![512, 128]⟩
abbrev S1024x512 : Shape := ⟨2, ![1024, 512]⟩
abbrev S512x512 : Shape := ⟨2, ![512, 512]⟩
abbrev S1x1x512x128 : Shape := ⟨4, ![1, 1, 512, 128]⟩
abbrev S1024x256 : Shape := ⟨2, ![1024, 256]⟩
abbrev S512x256 : Shape := ⟨2, ![512, 256]⟩

abbrev nBuf : Space → Nat
  | .hbm => 19
  | .vmem => 32
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S16x4096x384, .f32⟩
  | .hbm, ⟨6, _⟩ => ⟨S16x4096x128, .f32⟩
  | .hbm, ⟨7, _⟩ => ⟨S16x4x4096x64, .f32⟩
  | .hbm, ⟨8, _⟩ => ⟨S16x8x4096x64, .bf16⟩
  | .hbm, ⟨9, _⟩ => ⟨S16x2x4096x128, .bf16⟩
  | .hbm, ⟨10, _⟩ => ⟨S16x2x4096x128, .bf16⟩
  | .hbm, ⟨11, _⟩ => ⟨S16x2x4096x64, .bf16⟩
  | .hbm, ⟨12, _⟩ => ⟨S16x2x4096x64, .bf16⟩
  | .hbm, ⟨13, _⟩ => ⟨S16x8x4096x64, .bf16⟩
  | .hbm, ⟨14, _⟩ => ⟨S16x2x4096x64, .bf16⟩
  | .hbm, ⟨15, _⟩ => ⟨S16x2x4096x64, .bf16⟩
  | .hbm, ⟨16, _⟩ => ⟨S16x8x4096x64, .bf16⟩
  | .hbm, ⟨17, _⟩ => ⟨S16x8x4096x64, .bf16⟩
  | .hbm, ⟨18, _⟩ => ⟨S16x8x4096x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4096, .bf16⟩
  | .local _ .vmem, ⟨4, _⟩ => ⟨S1x512x384, .f32⟩
  | .local _ .vmem, ⟨5, _⟩ => ⟨S1x512x384, .f32⟩
  | .local _ .vmem, ⟨6, _⟩ => ⟨S1x512x128, .f32⟩
  | .local _ .vmem, ⟨7, _⟩ => ⟨S1x512x128, .f32⟩
  | .local _ .vmem, ⟨8, _⟩ => ⟨S1x4x512x64, .f32⟩
  | .local _ .vmem, ⟨9, _⟩ => ⟨S1x4x512x64, .f32⟩
  | .local _ .vmem, ⟨10, _⟩ => ⟨S1x8x512x64, .bf16⟩
  | .local _ .vmem, ⟨11, _⟩ => ⟨S1x8x512x64, .bf16⟩
  | .local _ .vmem, ⟨12, _⟩ => ⟨S1x2x512x128, .bf16⟩
  | .local _ .vmem, ⟨13, _⟩ => ⟨S1x2x512x128, .bf16⟩
  | .local _ .vmem, ⟨14, _⟩ => ⟨S1x2x512x128, .bf16⟩
  | .local _ .vmem, ⟨15, _⟩ => ⟨S1x2x512x128, .bf16⟩
  | .local _ .vmem, ⟨16, _⟩ => ⟨S1x2x512x64, .bf16⟩
  | .local _ .vmem, ⟨17, _⟩ => ⟨S1x2x512x64, .bf16⟩
  | .local _ .vmem, ⟨18, _⟩ => ⟨S1x2x512x64, .bf16⟩
  | .local _ .vmem, ⟨19, _⟩ => ⟨S1x2x512x64, .bf16⟩
  | .local _ .vmem, ⟨20, _⟩ => ⟨S1x8x512x64, .bf16⟩
  | .local _ .vmem, ⟨21, _⟩ => ⟨S1x8x512x64, .bf16⟩
  | .local _ .vmem, ⟨22, _⟩ => ⟨S1x2x512x64, .bf16⟩
  | .local _ .vmem, ⟨23, _⟩ => ⟨S1x2x512x64, .bf16⟩
  | .local _ .vmem, ⟨24, _⟩ => ⟨S1x2x512x64, .bf16⟩
  | .local _ .vmem, ⟨25, _⟩ => ⟨S1x2x512x64, .bf16⟩
  | .local _ .vmem, ⟨26, _⟩ => ⟨S1x8x512x64, .bf16⟩
  | .local _ .vmem, ⟨27, _⟩ => ⟨S1x8x512x64, .bf16⟩
  | .local _ .vmem, ⟨28, _⟩ => ⟨S1x8x512x64, .bf16⟩
  | .local _ .vmem, ⟨29, _⟩ => ⟨S1x8x512x64, .bf16⟩
  | .local _ .vmem, ⟨30, _⟩ => ⟨S1x8x512x128, .bf16⟩
  | .local _ .vmem, ⟨31, _⟩ => ⟨S1x8x512x128, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev main_v2_9 : Ref sig .tc := ⟨.hbm, 14, rfl⟩
abbrev main_v2_10 : Ref sig .tc := ⟨.hbm, 15, rfl⟩
abbrev main_v2_11 : Ref sig .tc := ⟨.hbm, 16, rfl⟩
abbrev main_v2_12 : Ref sig .tc := ⟨.hbm, 17, rfl⟩
abbrev main_v2_13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S16x4096x1024 : Shape := ⟨3, ![16, 4096, 1024]⟩
abbrev S1024 : Shape := ⟨1, ![1024]⟩
abbrev S1024x4096 : Shape := ⟨2, ![1024, 4096]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩
abbrev S16x4096x384 : Shape := ⟨3, ![16, 4096, 384]⟩
abbrev S16x4096x256 : Shape := ⟨3, ![16, 4096, 256]⟩
abbrev S16x4096x128 : Shape := ⟨3, ![16, 4096, 128]⟩
abbrev S16x4096x512 : Shape := ⟨3, ![16, 4096, 512]⟩
abbrev S64x64 : Shape := ⟨2, ![64, 64]⟩
abbrev S64x64x64 : Shape := ⟨3, ![64, 64, 64]⟩
abbrev S4096x64 : Shape := ⟨2, ![4096, 64]⟩
abbrev S1x64 : Shape := ⟨2, ![1, 64]⟩
abbrev S64 : Shape := ⟨1, ![64]⟩
abbrev S16x4096x8x64 : Shape := ⟨4, ![16, 4096, 8, 64]⟩
abbrev S16x8x4096x64 : Shape := ⟨4, ![16, 8, 4096, 64]⟩
abbrev S16x4096x2x64 : Shape := ⟨4, ![16, 4096, 2, 64]⟩
abbrev S16x2x4096x64 : Shape := ⟨4, ![16, 2, 4096, 64]⟩
abbrev S16x2x4096x128 : Shape := ⟨4, ![16, 2, 4096, 128]⟩
abbrev S16x8x4096x128 : Shape := ⟨4, ![16, 8, 4096, 128]⟩
abbrev S16x4096x4x64 : Shape := ⟨4, ![16, 4096, 4, 64]⟩
abbrev S16x4x4096x64 : Shape := ⟨4, ![16, 4, 4096, 64]⟩

abbrev nBuf : Space → Nat
  | .hbm => 93
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x4096, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x4096, .f32⟩
  | .hbm, ⟨20, _⟩ => ⟨S16x4096x384, .f32⟩
  | .hbm, ⟨21, _⟩ => ⟨S16x4096x256, .f32⟩
  | .hbm, ⟨22, _⟩ => ⟨S16x4096x128, .f32⟩
  | .hbm, ⟨23, _⟩ => ⟨S16x4096x512, .f32⟩
  | .hbm, ⟨24, _⟩ => ⟨S16x4096x128, .f32⟩
  | .hbm, ⟨25, _⟩ => ⟨S16x4096x128, .f32⟩
  | .hbm, ⟨26, _⟩ => ⟨S16x4096x128, .f32⟩
  | .hbm, ⟨27, _⟩ => ⟨S16x4096x128, .f32⟩
  | .hbm, ⟨28, _⟩ => ⟨S16x4096x512, .f32⟩
  | .hbm, ⟨29, _⟩ => ⟨S16x4096x128, .f32⟩
  | .hbm, ⟨30, _⟩ => ⟨S16x4096x128, .f32⟩
  | .hbm, ⟨31, _⟩ => ⟨S16x4096x512, .f32⟩
  | .hbm, ⟨32, _⟩ => ⟨S16x4096x512, .f32⟩
  | .hbm, ⟨33, _⟩ => ⟨S16x4096x512, .f32⟩
  | .hbm, ⟨34, _⟩ => ⟨S64x64, .i32⟩
  | .hbm, ⟨35, _⟩ => ⟨S64x64, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S64x64, .i1⟩
  | .hbm, ⟨40, _⟩ => ⟨S64x64, .f32⟩
  | .hbm, ⟨41, _⟩ => ⟨S64x64x64, .f32⟩
  | .hbm, ⟨42, _⟩ => ⟨S4096x64, .f32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S64x64, .i1⟩
  | .hbm, ⟨49, _⟩ => ⟨S64x64, .f32⟩
  | .hbm, ⟨50, _⟩ => ⟨S1x64, .f32⟩
  | .hbm, ⟨51, _⟩ => ⟨S64, .f32⟩
  | .hbm, ⟨52, _⟩ => ⟨S16x4096x8x64, .f32⟩
  | .hbm, ⟨53, _⟩ => ⟨S16x8x4096x64, .f32⟩
  | .hbm, ⟨54, _⟩ => ⟨S16x4096x2x64, .f32⟩
  | .hbm, ⟨55, _⟩ => ⟨S16x2x4096x64, .f32⟩
  | .hbm, ⟨56, _⟩ => ⟨S16x2x4096x64, .f32⟩
  | .hbm, ⟨57, _⟩ => ⟨S16x2x4096x128, .f32⟩
  | .hbm, ⟨58, _⟩ => ⟨S16x4096x2x64, .f32⟩
  | .hbm, ⟨59, _⟩ => ⟨S16x2x4096x64, .f32⟩
  | .hbm, ⟨60, _⟩ => ⟨S16x2x4096x64, .f32⟩
  | .hbm, ⟨61, _⟩ => ⟨S16x2x4096x128, .f32⟩
  | .hbm, ⟨62, _⟩ => ⟨S16x4096x2x64, .f32⟩
  | .hbm, ⟨63, _⟩ => ⟨S16x2x4096x64, .f32⟩
  | .hbm, ⟨64, _⟩ => ⟨S16x4096x2x64, .f32⟩
  | .hbm, ⟨65, _⟩ => ⟨S16x2x4096x64, .f32⟩
  | .hbm, ⟨66, _⟩ => ⟨S16x4096x8x64, .f32⟩
  | .hbm, ⟨67, _⟩ => ⟨S16x8x4096x64, .f32⟩
  | .hbm, ⟨68, _⟩ => ⟨S16x4096x2x64, .f32⟩
  | .hbm, ⟨69, _⟩ => ⟨S16x2x4096x64, .f32⟩
  | .hbm, ⟨70, _⟩ => ⟨S16x4096x2x64, .f32⟩
  | .hbm, ⟨71, _⟩ => ⟨S16x2x4096x64, .f32⟩
  | .hbm, ⟨72, _⟩ => ⟨S16x4096x8x64, .f32⟩
  | .hbm, ⟨73, _⟩ => ⟨S16x8x4096x64, .f32⟩
  | .hbm, ⟨74, _⟩ => ⟨S16x4096x8x64, .f32⟩
  | .hbm, ⟨75, _⟩ => ⟨S16x8x4096x64, .f32⟩
  | .hbm, ⟨76, _⟩ => ⟨S16x4096x8x64, .f32⟩
  | .hbm, ⟨77, _⟩ => ⟨S16x8x4096x64, .f32⟩
  | .hbm, ⟨78, _⟩ => ⟨S16x8x4096x64, .f32⟩
  | .hbm, ⟨79, _⟩ => ⟨S16x8x4096x128, .f32⟩
  | .hbm, ⟨80, _⟩ => ⟨S16x4096x4x64, .f32⟩
  | .hbm, ⟨81, _⟩ => ⟨S16x4x4096x64, .f32⟩
  | .hbm, ⟨82, _⟩ => ⟨S16x8x4096x64, .bf16⟩
  | .hbm, ⟨83, _⟩ => ⟨S16x2x4096x128, .bf16⟩
  | .hbm, ⟨84, _⟩ => ⟨S16x2x4096x128, .bf16⟩
  | .hbm, ⟨85, _⟩ => ⟨S16x2x4096x64, .bf16⟩
  | .hbm, ⟨86, _⟩ => ⟨S16x2x4096x64, .bf16⟩
  | .hbm, ⟨87, _⟩ => ⟨S16x8x4096x64, .bf16⟩
  | .hbm, ⟨88, _⟩ => ⟨S16x2x4096x64, .bf16⟩
  | .hbm, ⟨89, _⟩ => ⟨S16x2x4096x64, .bf16⟩
  | .hbm, ⟨90, _⟩ => ⟨S16x8x4096x64, .bf16⟩
  | .hbm, ⟨91, _⟩ => ⟨S16x8x4096x64, .bf16⟩
  | .hbm, ⟨92, _⟩ => ⟨S16x8x4096x128, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩

abbrev nD : Nat := 1
abbrev τ : Topo := Topo.v7x

variable {F : FTy → Type} [FloatOps F]
-- ==== Kernel5.lean ====
abbrev S16x4096x1024 : Shape := ⟨3, ![16, 4096, 1024]⟩
abbrev S16x256x512 : Shape := ⟨3, ![16, 256, 512]⟩
abbrev S1024 : Shape := ⟨1, ![1024]⟩
abbrev S1024x256 : Shape := ⟨2, ![1024, 256]⟩
abbrev S256x1024 : Shape := ⟨2, ![256, 1024]⟩
abbrev S16x256x8x64 : Shape := ⟨4, ![16, 256, 8, 64]⟩
abbrev S16x8x256x64 : Shape := ⟨4, ![16, 8, 256, 64]⟩
abbrev S1x1024 : Shape := ⟨2, ![1, 1024]⟩
abbrev S_ : Shape := ⟨0, ![]⟩
abbrev S1x1024x1024 : Shape := ⟨3, ![1, 1024, 1024]⟩
abbrev S1x8x256x64 : Shape := ⟨4, ![1, 8, 256, 64]⟩
abbrev S1024x1024 : Shape := ⟨2, ![1024, 1024]⟩
abbrev S1024x1 : Shape := ⟨2, ![1024, 1]⟩
abbrev S1024x64 : Shape := ⟨2, ![1024, 64]⟩
abbrev S1x1x256x64 : Shape := ⟨4, ![1, 1, 256, 64]⟩
abbrev S256x64 : Shape := ⟨2, ![256, 64]⟩

abbrev nBuf : Space → Nat
  | .hbm => 16
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S16x256x512, .bf16⟩
  | .hbm, ⟨2, _⟩ => ⟨S1024, .f32⟩
  | .hbm, ⟨3, _⟩ => ⟨S1024x256, .f32⟩
  | .hbm, ⟨4, _⟩ => ⟨S256x1024, .f32⟩
  | .hbm, ⟨5, _⟩ => ⟨S1024, .f32⟩
  | .hbm, ⟨6, _⟩ => ⟨S16x256x8x64, .bf16⟩
  | .hbm, ⟨7, _⟩ => ⟨S16x8x256x64, .bf16⟩
  | .hbm, ⟨8, _⟩ => ⟨S1x1024, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x256, .bf16⟩
  | .hbm, ⟨13, _⟩ => ⟨S256x1024, .bf16⟩
  | .hbm, ⟨14, _⟩ => ⟨S1x1024, .f32⟩
  | .hbm, ⟨15, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x256x64, .bf16⟩
  | .local _ .vmem, ⟨3, _⟩ => ⟨S1x8x256x64, .bf16⟩
  | .local _ .vmem, ⟨4, _⟩ => ⟨S1x1024, .f32⟩
  | .local _ .vmem, ⟨5, _⟩ => ⟨S1024x256, .bf16⟩
  | .local _ .vmem, ⟨6, _⟩ => ⟨S256x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16x4096x1024 : Shape := ⟨3, ![16, 4096, 1024]⟩
abbrev S16x256x512 : Shape := ⟨3, ![16, 256, 512]⟩
abbrev S1024 : Shape := ⟨1, ![1024]⟩
abbrev S1024x256 : Shape := ⟨2, ![1024, 256]⟩
abbrev S256x1024 : Shape := ⟨2, ![256, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x256 : Shape := ⟨3, ![16, 4096, 256]⟩
abbrev S16x4096x4x64 : Shape := ⟨4, ![16, 4096, 4, 64]⟩
abbrev S16x256x2x4x64 : Shape := ⟨5, ![16, 256, 2, 4, 64]⟩
abbrev S16x256x1x4x64 : Shape := ⟨5, ![16, 256, 1, 4, 64]⟩
abbrev S16x256x4x64 : Shape := ⟨4, ![16, 256, 4, 64]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x64x4096 : Shape := ⟨4, ![16, 4, 64, 4096]⟩

abbrev nBuf : Space → Nat
  | .hbm => 69
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x256x512, .bf16⟩
  | .hbm, ⟨2, _⟩ => ⟨S1024, .f32⟩
  | .hbm, ⟨3, _⟩ => ⟨S1024x256, .f32⟩
  | .hbm, ⟨4, _⟩ => ⟨S256x1024, .f32⟩
  | .hbm, ⟨5, _⟩ => ⟨S1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S16x4096x256, .f32⟩
  | .hbm, ⟨23, _⟩ => ⟨S16x4096x4x64, .f32⟩
  | .hbm, ⟨24, _⟩ => ⟨S16x256x512, .f32⟩
  | .hbm, ⟨25, _⟩ => ⟨S16x256x2x4x64, .f32⟩
  | .hbm, ⟨26, _⟩ => ⟨S16x256x1x4x64, .f32⟩
  | .hbm, ⟨27, _⟩ => ⟨S16x256x4x64, .f32⟩
  | .hbm, ⟨28, _⟩ => ⟨S16x4x4096x256, .f32⟩
  | .hbm, ⟨29, _⟩ => ⟨S_, .f32⟩
  | .hbm, ⟨30, _⟩ => ⟨S16x4x4096x256, .f32⟩
  | .hbm, ⟨31, _⟩ => ⟨S16x4x4096x256, .f32⟩
  | .hbm, ⟨32, _⟩ => ⟨S_, .f32⟩
  | .hbm, ⟨33, _⟩ => ⟨S16x4x4096, .f32⟩
  | .hbm, ⟨34, _⟩ => ⟨S_, .f32⟩
  | .hbm, ⟨35, _⟩ => ⟨S16x4x4096, .f32⟩
  | .hbm, ⟨36, _⟩ => ⟨S16x4x4096, .f32⟩
  | .hbm, ⟨37, _⟩ => ⟨S16x4x4096x1, .f32⟩
  | .hbm, ⟨38, _⟩ => ⟨S16x4x4096x256, .f32⟩
  | .hbm, ⟨39, _⟩ => ⟨S16x4x4096x256, .f32⟩
  | .hbm, ⟨40, _⟩ => ⟨S16x4x4096x256, .f32⟩
  | .hbm, ⟨41, _⟩ => ⟨S_, .f32⟩
  | .hbm, ⟨42, _⟩ => ⟨S16x4x4096, .f32⟩
  | .hbm, ⟨43, _⟩ => ⟨S16x4x4096x1, .f32⟩
  | .hbm, ⟨44, _⟩ => ⟨S16x4x4096x256, .f32⟩
  | .hbm, ⟨45, _⟩ => ⟨S16x4x4096x256, .f32⟩
  | .hbm, ⟨46, _⟩ => ⟨S16x256x1x4x64, .f32⟩
  | .hbm, ⟨47, _⟩ => ⟨S16x256x4x64, .f32⟩
  | .hbm, ⟨48, _⟩ => ⟨S16x4x64x4096, .f32⟩
  | .hbm, ⟨49, _⟩ => ⟨S16x4096x4x64, .f32⟩
  | .hbm, ⟨50, _⟩ => ⟨S16x4096x256, .f32⟩
  | .hbm, ⟨51, _⟩ => ⟨S16x4096x1024, .f32⟩
  | .hbm, ⟨52, _⟩ => ⟨S16x4096x1024, .f32⟩
  | .hbm, ⟨53, _⟩ => ⟨S_, .f32⟩
  | .hbm, ⟨54, _⟩ => ⟨S16x4096, .f32⟩
  | .hbm, ⟨55, _⟩ => ⟨S16x4096x1, .f32⟩
  | .hbm, ⟨56, _⟩ => ⟨S_, .f32⟩
  | .hbm, ⟨57, _⟩ => ⟨S16x4096x1, .f32⟩
  | .hbm, ⟨58, _⟩ => ⟨S16x4096x1, .f32⟩
  | .hbm, ⟨59, _⟩ => ⟨S_, .f32⟩
  | .hbm, ⟨60, _⟩ => ⟨S16x4096x1, .f32⟩
  | .hbm, ⟨61, _⟩ => ⟨S16x4096x1, .f32⟩
  | .hbm, ⟨62, _⟩ => ⟨S16x4096x1, .f32⟩
  | .hbm, ⟨63, _⟩ => ⟨S16x4096x1024, .f32⟩
  | .hbm, ⟨64, _⟩ => ⟨S16x4096x1024, .f32⟩
  | .hbm, ⟨65, _⟩ => ⟨S1x1x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel6.lean ====
abbrev S16x256x1024 : Shape := ⟨3, ![16, 256, 1024]⟩
abbrev S1024 : Shape := ⟨1, ![1024]⟩
abbrev S1024x512 : Shape := ⟨2, ![1024, 512]⟩
abbrev S1x1024 : Shape := ⟨2, ![1, 1024]⟩
abbrev S16x256x512 : Shape := ⟨3, ![16, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x512, .f32⟩
  | .hbm, ⟨3, _⟩ => ⟨S1x1024, .f32⟩
  | .hbm, ⟨4, _⟩ => ⟨S1024x512, .bf16⟩
  | .hbm, ⟨5, _⟩ => ⟨S16x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256x512, .bf16⟩
  | .local _ .vmem, ⟨5, _⟩ => ⟨S1x256x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16x256x1024 : Shape := ⟨3, ![16, 256, 1024]⟩
abbrev S1024 : Shape := ⟨1, ![1024]⟩
abbrev S1024x512 : Shape := ⟨2, ![1024, 512]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x512 : Shape := ⟨3, ![16, 256, 512]⟩

abbrev nBuf : Space → Nat
  | .hbm => 21
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x512, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x512, .f32⟩
  | .hbm, ⟨20, _⟩ => ⟨S16x256x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S16x4096x384 : Shape := ⟨3, ![16, 4096, 384]⟩
abbrev S16x4096x128 : Shape := ⟨3, ![16, 4096, 128]⟩
abbrev S16x4096x256 : Shape := ⟨3, ![16, 4096, 256]⟩
abbrev S256 : Shape := ⟨1, ![256]⟩
abbrev S128 : Shape := ⟨1, ![128]⟩
abbrev S256x1024 : Shape := ⟨2, ![256, 1024]⟩
abbrev S128x1024 : Shape := ⟨2, ![128, 1024]⟩
abbrev S1x256 : Shape := ⟨2, ![1, 256]⟩
abbrev S1x128 : Shape := ⟨2, ![1, 128]⟩
abbrev S16x8x4096x96 : Shape := ⟨4, ![16, 8, 4096, 96]⟩
abbrev S16x8x4096x128 : Shape := ⟨4, ![16, 8, 4096, 128]⟩
abbrev S1x512x384 : Shape := ⟨3, ![1, 512, 384]⟩
abbrev S1x512x128 : Shape := ⟨3, ![1, 512, 128]⟩
abbrev S1x512x256 : Shape := ⟨3, ![1, 512, 256]⟩
abbrev S1x8x512x96 : Shape := ⟨4, ![1, 8, 512, 96]⟩
abbrev S1x8x512x128 : Shape := ⟨4, ![1, 8, 512, 128]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S256x512 : Shape := ⟨2, ![256, 512]⟩
abbrev S512x512 : Shape := ⟨2, ![512, 512]⟩
abbrev S256x256 : Shape := ⟨2, ![256, 256]⟩
abbrev S128x512 : Shape := ⟨2, ![128, 512]⟩
abbrev S512x32 : Shape := ⟨2, ![512, 32]⟩
abbrev S512x64 : Shape := ⟨2, ![512, 64]⟩
abbrev S512x96 : Shape := ⟨2, ![512, 96]⟩
abbrev S1x1x512x96 : Shape := ⟨4, ![1, 1, 512, 96]⟩
abbrev S1x1x512x128 : Shape := ⟨4, ![1, 1, 512, 128]⟩

abbrev nBuf : Space → Nat
  | .hbm => 15
  | .vmem => 18
  | .smem => 0
  | _ => 0

abbrev bufTy : (tb : Table) → Fin (tcTables nBuf tb) → BufTy
  | .hbm, ⟨0, _⟩ => ⟨S16x4096x384, .f32⟩
  | .hbm, ⟨1, _⟩ => ⟨S16x4096x128, .f32⟩
  | .hbm, ⟨2, _⟩ => ⟨S16x4096x256, .f32⟩
  | .hbm, ⟨3, _⟩ => ⟨S16x4096x256, .f32⟩
  | .hbm, ⟨4, _⟩ => ⟨S256, .f32⟩
  | .hbm, ⟨5, _⟩ => ⟨S128, .f32⟩
  | .hbm, ⟨6, _⟩ => ⟨S256x1024, .f32⟩
  | .hbm, ⟨7, _⟩ => ⟨S128x1024, .f32⟩
  | .hbm, ⟨8, _⟩ => ⟨S1x256, .f32⟩
  | .hbm, ⟨9, _⟩ => ⟨S1x128, .f32⟩
  | .hbm, ⟨10, _⟩ => ⟨S256x1024, .bf16⟩
  | .hbm, ⟨11, _⟩ => ⟨S128x1024, .bf16⟩
  | .hbm, ⟨12, _⟩ => ⟨S16x8x4096x96, .bf16⟩
  | .hbm, ⟨13, _⟩ => ⟨S16x8x4096x96, .bf16⟩
  | .hbm, ⟨14, _⟩ => ⟨S16x8x4096x128, .bf16⟩
  | .local _ .vmem, ⟨0, _⟩ => ⟨S1x512x384, .f32⟩
  | .local _ .vmem, ⟨1, _⟩ => ⟨S1x512x384, .f32⟩
  | .local _ .vmem, ⟨2, _⟩ => ⟨S1x512x128, .f32⟩
  | .local _ .vmem, ⟨3, _⟩ => ⟨S1x512x128, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x256, .f32⟩
  | .local _ .vmem, ⟨9, _⟩ => ⟨S1x128, .f32⟩
  | .local _ .vmem, ⟨10, _⟩ => ⟨S256x1024, .bf16⟩
  | .local _ .vmem, ⟨11, _⟩ => ⟨S128x1024, .bf16⟩
  | .local _ .vmem, ⟨12, _⟩ => ⟨S1x8x512x96, .bf16⟩
  | .local _ .vmem, ⟨13, _⟩ => ⟨S1x8x512x96, .bf16⟩
  | .local _ .vmem, ⟨14, _⟩ => ⟨S1x8x512x96, .bf16⟩
  | .local _ .vmem, ⟨15, _⟩ => ⟨S1x8x512x96, .bf16⟩
  | .local _ .vmem, ⟨16, _⟩ => ⟨S1x8x512x128, .bf16⟩
  | .local _ .vmem, ⟨17, _⟩ => ⟨S1x8x512x128, .bf16⟩
  | _, _ => ⟨S16x4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x512x96 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x96 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S16x4096x384 : Shape := ⟨3, ![16, 4096, 384]⟩
abbrev S16x4096x128 : Shape := ⟨3, ![16, 4096, 128]⟩
abbrev S16x4096x256 : Shape := ⟨3, ![16, 4096, 256]⟩
abbrev S256 : Shape := ⟨1, ![256]⟩
abbrev S128 : Shape := ⟨1, ![128]⟩
abbrev S256x1024 : Shape := ⟨2, ![256, 1024]⟩
abbrev S128x1024 : Shape := ⟨2, ![128, 1024]⟩
abbrev S_ : Shape := ⟨0, ![]⟩
abbrev S16x4096 : Shape := ⟨2, ![16, 4096]⟩
abbrev S16x4096x1 : Shape := ⟨3, ![16, 4096, 1]⟩
abbrev S1x1x256 : Shape := ⟨3, ![1, 1, 256]⟩
abbrev S16x4096x1024 : Shape := ⟨3, ![16, 4096, 1024]⟩
abbrev S16x4096x512 : Shape := ⟨3, ![16, 4096, 512]⟩
abbrev S1x1x128 : Shape := ⟨3, ![1, 1, 128]⟩
abbrev S16x4096x32 : Shape := ⟨3, ![16, 4096, 32]⟩
abbrev S16x4096x8x64 : Shape := ⟨4, ![16, 4096, 8, 64]⟩
abbrev S16x8x4096x64 : Shape := ⟨4, ![16, 8, 4096, 64]⟩
abbrev S16x4096x8x32 : Shape := ⟨4, ![16, 4096, 8, 32]⟩
abbrev S16x8x4096x32 : Shape := ⟨4, ![16, 8, 4096, 32]⟩
abbrev S16x8x4096x96 : Shape := ⟨4, ![16, 8, 4096, 96]⟩
abbrev S16x1x4096x32 : Shape := ⟨4, ![16, 1, 4096, 32]⟩
abbrev S64x64 : Shape := ⟨2, ![64, 64]⟩
abbrev S1x64 : Shape := ⟨2, ![1, 64]⟩
abbrev S64 : Shape := ⟨1, ![64]⟩
abbrev S16x8x4096x128 : Shape := ⟨4, ![16, 8, 4096, 128]⟩

abbrev nBuf : Space → Nat
  | .hbm => 88
  | .vmem => 0
  | .smem => 0
  | _ => 0

abbrev bufTy : (tb : Table) → Fin (tcTables nBuf tb) → BufTy
  | .hbm, ⟨0, _⟩ => ⟨S16x4096x384, .f32⟩
  | .hbm, ⟨1, _⟩ => ⟨S16x4096x128, .f32⟩
  | .hbm, ⟨2, _⟩ => ⟨S16x4096x256, .f32⟩
  | .hbm, ⟨3, _⟩ => ⟨S16x4096x256, .f32⟩
  | .hbm, ⟨4, _⟩ => ⟨S256, .f32⟩
  | .hbm, ⟨5, _⟩ => ⟨S128, .f32⟩
  | .hbm, ⟨6, _⟩ => ⟨S256x1024, .f32⟩
  | .hbm, ⟨7, _⟩ => ⟨S128x1024, .f32⟩
  | .hbm, ⟨8, _⟩ => ⟨S16x4096x256, .f32⟩
  | .hbm, ⟨9, _⟩ => ⟨S16x4096x128, .f32⟩
  | .hbm, ⟨10, _⟩ => ⟨S16x4096x256, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1, .f32⟩
  | .hbm, ⟨21, _⟩ => ⟨S16x4096x256, .f32⟩
  | .hbm, ⟨22, _⟩ => ⟨S16x4096x256, .f32⟩
  | .hbm, ⟨23, _⟩ => ⟨S1x1x256, .f32⟩
  | .hbm, ⟨24, _⟩ => ⟨S16x4096x256, .f32⟩
  | .hbm, ⟨25, _⟩ => ⟨S16x4096x256, .f32⟩
  | .hbm, ⟨26, _⟩ => ⟨S16x4096x1024, .f32⟩
  | .hbm, ⟨27, _⟩ => ⟨S16x4096x512, .f32⟩
  | .hbm, ⟨28, _⟩ => ⟨S16x4096x256, .f32⟩
  | .hbm, ⟨29, _⟩ => ⟨S16x4096x256, .f32⟩
  | .hbm, ⟨30, _⟩ => ⟨S16x4096x128, .f32⟩
  | .hbm, ⟨31, _⟩ => ⟨S_, .f32⟩
  | .hbm, ⟨32, _⟩ => ⟨S16x4096, .f32⟩
  | .hbm, ⟨33, _⟩ => ⟨S16x4096x1, .f32⟩
  | .hbm, ⟨34, _⟩ => ⟨S_, .f32⟩
  | .hbm, ⟨35, _⟩ => ⟨S16x4096x1, .f32⟩
  | .hbm, ⟨36, _⟩ => ⟨S16x4096x1, .f32⟩
  | .hbm, ⟨37, _⟩ => ⟨S_, .f32⟩
  | .hbm, ⟨38, _⟩ => ⟨S16x4096x1, .f32⟩
  | .hbm, ⟨39, _⟩ => ⟨S16x4096x1, .f32⟩
  | .hbm, ⟨40, _⟩ => ⟨S16x4096x1, .f32⟩
  | .hbm, ⟨41, _⟩ => ⟨S16x4096x128, .f32⟩
  | .hbm, ⟨42, _⟩ => ⟨S16x4096x128, .f32⟩
  | .hbm, ⟨43, _⟩ => ⟨S1x1x128, .f32⟩
  | .hbm, ⟨44, _⟩ => ⟨S16x4096x128, .f32⟩
  | .hbm, ⟨45, _⟩ => ⟨S16x4096x128, .f32⟩
  | .hbm, ⟨46, _⟩ => ⟨S16x4096x1024, .f32⟩
  | .hbm, ⟨47, _⟩ => ⟨S16x4096x512, .f32⟩
  | .hbm, ⟨48, _⟩ => ⟨S16x4096x512, .f32⟩
  | .hbm, ⟨49, _⟩ => ⟨S16x4096x256, .f32⟩
  | .hbm, ⟨50, _⟩ => ⟨S16x4096x256, .f32⟩
  | .hbm, ⟨51, _⟩ => ⟨S16x4096x256, .f32⟩
  | .hbm, ⟨52, _⟩ => ⟨S16x4096x32, .f32⟩
  | .hbm, ⟨53, _⟩ => ⟨S16x4096x32, .f32⟩
  | .hbm, ⟨54, _⟩ => ⟨S16x4096x32, .f32⟩
  | .hbm, ⟨55, _⟩ => ⟨S16x4096x32, .f32⟩
  | .hbm, ⟨56, _⟩ => ⟨S16x4096x32, .f32⟩
  | .hbm, ⟨57, _⟩ => ⟨S16x4096x32, .f32⟩
  | .hbm, ⟨58, _⟩ => ⟨S16x4096x32, .f32⟩
  | .hbm, ⟨59, _⟩ => ⟨S16x4096x8x64, .f32⟩
  | .hbm, ⟨60, _⟩ => ⟨S16x8x4096x64, .f32⟩
  | .hbm, ⟨61, _⟩ => ⟨S16x4096x8x32, .f32⟩
  | .hbm, ⟨62, _⟩ => ⟨S16x8x4096x32, .f32⟩
  | .hbm, ⟨63, _⟩ => ⟨S16x8x4096x96, .f32⟩
  | .hbm, ⟨64, _⟩ => ⟨S_, .f32⟩
  | .hbm, ⟨65, _⟩ => ⟨S16x8x4096x96, .f32⟩
  | .hbm, ⟨66, _⟩ => ⟨S16x8x4096x96, .f32⟩
  | .hbm, ⟨67, _⟩ => ⟨S16x4096x8x64, .f32⟩
  | .hbm, ⟨68, _⟩ => ⟨S16x8x4096x64, .f32⟩
  | .hbm, ⟨69, _⟩ => ⟨S16x1x4096x32, .f32⟩
  | .hbm, ⟨70, _⟩ => ⟨S16x8x4096x32, .f32⟩
  | .hbm, ⟨71, _⟩ => ⟨S16x8x4096x96, .f32⟩
  | .hbm, ⟨72, _⟩ => ⟨S64x64, .i32⟩
  | .hbm, ⟨73, _⟩ => ⟨S64x64, .i32⟩
  | .hbm, ⟨74, _⟩ => ⟨S_, .i32⟩
  | .hbm, ⟨75, _⟩ => ⟨S64x64, .i32⟩
  | .hbm, ⟨76, _⟩ => ⟨S64x64, .i32⟩
  | .hbm, ⟨77, _⟩ => ⟨S64x64, .i1⟩
  | .hbm, ⟨78, _⟩ => ⟨S64x64, .f32⟩
  | .hbm, ⟨79, _⟩ => ⟨S1x64, .f32⟩
  | .hbm, ⟨80, _⟩ => ⟨S64, .f32⟩
  | .hbm, ⟨81, _⟩ => ⟨S16x4096x8x64, .f32⟩
  | .hbm, ⟨82, _⟩ => ⟨S16x8x4096x64, .f32⟩
  | .hbm, ⟨83, _⟩ => ⟨S16x8x4096x64, .f32⟩
  | .hbm, ⟨84, _⟩ => ⟨S16x8x4096x128, .f32⟩
  | .hbm, ⟨85, _⟩ => ⟨S16x8x4096x96, .bf16⟩
  | .hbm, ⟨86, _⟩ => ⟨S16x8x4096x96, .bf16⟩
  | .hbm, ⟨87, _⟩ => ⟨S16x8x4096x128, .bf16⟩
  | _, _ => ⟨S16x4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]
-- ==== Proof.FloatPay.lean ====
/-
  The several spellings of one step of the kernel's body are one function, for any floats.
-/
module

public import proofs.«01_k».proof.Proof.Gen.Kernel.Skeleton
public import Idealize.ShloMosaic.Lib.Pointwise

@[expose] public section

set_option maxRecDepth 16384

noncomputable section

namespace Cert.Kernel.Attn

open Idealize.ShloMosaic Cert.Kernel Cert.Kernel.Gen

section
variable {F : FTy → Type} [FloatOps F]

theorem store_max (x : FVec F S512x128 .f32) : k0_pay1 x = x := shapeCast_self ..
theorem pay14_eq (x : FVec F S512x128 .f32) : k0_pay14 x = x := shapeCast_self ..
theorem pay35_eq (x : FVec F S512x128 .f32) : k0_pay35 x = x := shapeCast_self ..
theorem pay15_eq : k0_pay15 (F := F) = k0_pay11 (F := F) := rfl
theorem pay33_eq : k0_pay33 (F := F) = k0_pay11 (F := F) := rfl
theorem pay27_eq : k0_pay27 (F := F) = k0_pay11 (F := F) := rfl
theorem pay16_eq : k0_pay16 (F := F) = k0_pay12 (F := F) := rfl
theorem pay28_eq : k0_pay28 (F := F) = k0_pay12 (F := F) := rfl
theorem pay29_eq : k0_pay29 (F := F) = k0_pay13 (F := F) := rfl
theorem pay34_eq (s : Vec F S512x512 .f32) (m a : Vec F S512x128 .f32) (v : Vec F S1x1x512x128 .bf16) :
    k0_pay34 (k0_pay17 s m a) (k0_pay18 s m v) = k0_pay13 s m a v := rfl
theorem pay36_eq (s : Vec F S512x512 .f32) (m a : Vec F S512x128 .f32) (v : Vec F S1x1x512x128 .bf16) :
    k0_pay36 (k0_pay17 s m a) (k0_pay18 s m v) = k0_pay13 s m a v := rfl
theorem pay6_eq : k0_pay6 (F := F) = k0_pay2 (F := F) := rfl
theorem pay3_eq (s : Vec F S512x512 .f32) (b : Vec F S1x512x512 .f32) (m : Vec F S512x128 .f32) :
    k0_pay3 s b m = k0_pay12 (k0_pay2 s b) m := rfl
theorem pay7_eq (s : Vec F S512x512 .f32) (b : Vec F S1x512x512 .f32) (m : Vec F S512x128 .f32) :
    k0_pay7 s b m = k0_pay12 (k0_pay2 s b) m := rfl
theorem pay4_eq (s : Vec F S512x512 .f32) (b : Vec F S1x512x512 .f32) (m a : Vec F S512x128 .f32)
    (v : Vec F S1x1x512x128 .bf16) : k0_pay4 s b m a v = k0_pay13 (k0_pay2 s b) m a v := rfl
theorem pay8_eq (s : Vec F S512x512 .f32) (b : Vec F S1x512x512 .f32) (m a : Vec F S512x128 .f32)
    (v : Vec F S1x1x512x128 .bf16) : k0_pay8 s b m a v = k0_pay13 (k0_pay2 s b) m a v := rfl
theorem pay5_eq (s : Vec F S512x512 .f32) (b : Vec F S1x512x512 .f32) (m : Vec F S512x128 .f32) :
    k0_pay5 s b m = k0_pay12 (k0_pay2 s b) m := shapeCast_self ..
theorem pay9_eq (s : Vec F S512x512 .f32) (b : Vec F S1x512x512 .f32) (m : Vec F S512x128 .f32) :
    k0_pay9 s b m = k0_pay12 (k0_pay2 s b) m := shapeCast_self ..
end

end Cert.Kernel.Attn

end
-- ==== Proof.Pay.lean ====
/-
  What one step of the attention kernel's body computes, element by element over the extended reals: the scores of a
  key tile, the new running maximum, the rescaled running sum, the masked scores and the final quotient. The body
  states each of them several times (in the main loop, after it, and for the diagonal tile); they are one function.
-/
module

public import proofs.«01_k».proof.Proof.Gen.KernelIdeal.Skeleton
public import Idealize.ShloMosaic.Lib.Pointwise

@[expose] public section

set_option maxRecDepth 16384

noncomputable section

namespace Cert.KernelIdeal.Attn

open Idealize.ShloMosaic Cert.KernelIdeal Cert.KernelIdeal.Gen

/-- The bit pattern of f32's negative infinity denotes the least extended real. -/
theorem neg_inf : Ideal.ofBits .f32 0xFF800000#32 = ⊥ := by
  simp [Ideal.ofBits, Ideal.ieee]

/-- A maximum folded from the least element is the supremum. -/
theorem fold_max_bot {ι : Type} (T : Finset ι) (f : ι → EReal) : T.fold max ⊥ f = T.sup f := rfl

/-- The scores of a key tile: each query row against each key row. -/
theorem scores_apply (q : FVec Ideal S512x96 .bf16) (k : Vec Ideal S1x1x512x96 .bf16) (r c : Fin 512) :
    k0_pay11 (F := Ideal) q k (ix2 r c) = ∑ d : Fin 96, q (ix2 r d) * k (ix4 0 0 c d) := by
  unfold k0_pay11
  pointwise [dot_S512x96_S512x96_S512x512_1_1_0_0_n_n]

/-- The new running maximum of a row. -/
theorem rowmax_apply (s : Vec Ideal S512x512 .f32) (m : Vec Ideal S512x128 .f32) (r : Fin 512) (l : Fin 128) :
    k0_pay12 (F := Ideal) s m (ix2 r l) = max (m (ix2 r l)) (Finset.univ.sup fun c : Fin 512 => s (ix2 r c)) := by
  unfold k0_pay12
  pointwise [neg_inf]
  rfl

/-- The new running sum of a row whose running maximum is `M` in every lane. -/
theorem acc_apply (s : Vec Ideal S512x512 .f32) (m a : Vec Ideal S512x128 .f32) (v : Vec Ideal S1x1x512x128 .bf16)
    (r : Fin 512) (l : Fin 128) (M : EReal) (hm : ∀ l, m (ix2 r l) = M) :
    k0_pay13 (F := Ideal) s m a v (ix2 r l)
      = Ideal.exp (M - max M (Finset.univ.sup fun c : Fin 512 => s (ix2 r c))) * a (ix2 r l)
        + ∑ c : Fin 512, Ideal.exp (s (ix2 r c) - max M (Finset.univ.sup fun c : Fin 512 => s (ix2 r c)))
            * v (ix4 0 0 c l) := by
  unfold k0_pay13
  pointwise [dot_S512x512_S512x128_S512x128_1_0_0_1_n_n, rowmax_apply, hm]
  simp only [dite_eq_ite, ite_self]

/-- The result block: each value column of the running sum over the sum of the weights, which is column 64. -/
theorem out_apply (a : Vec Ideal S512x128 .f32) (r : Fin 512) (e : Fin 64) :
    k0_pay10 (F := Ideal) a (ix5 0 0 0 r e) = Ideal.div (a (ix2 r ⟨e.val, by omega⟩)) (a (ix2 r 64)) := by
  unfold k0_pay10
  pointwise

/-- The query block as the body reads it. -/
theorem query_apply (q : Vec Ideal S1x1x1x512x96 .bf16) (r : Fin 512) (d : Fin 96) :
    k0_pay30 (F := Ideal) q (ix2 r d) = q (ix5 0 0 0 r d) := by
  unfold k0_pay30
  pointwise

/-- The running maximum starts at the least element, by the name given to the kernel's mask constant. -/
theorem init_max (j : S512x128.Idx) : k0_pay31 (F := Ideal) j = ⊥ := by
  unfold k0_pay31
  pointwise
  exact IdealRules.named_const.ideal_named_scalar _ _ _ _ rfl

/-- The running sum starts at zero. -/
theorem init_acc (j : S512x128.Idx) : k0_pay32 (F := Ideal) j = 0 := by
  unfold k0_pay32
  pointwise

/-- The diagonal tile's scores with the mask's table added. -/
theorem masked_apply (s : Vec Ideal S512x512 .f32) (b : Vec Ideal S1x512x512 .f32) (r c : Fin 512) :
    k0_pay2 (F := Ideal) s b (ix2 r c) = s (ix2 r c) + b (ix3 0 r c) := by
  unfold k0_pay2
  pointwise

/-! The other spellings of the same steps. -/

section
variable {F : FTy → Type} [FloatOps F] [Named F]

theorem store_max (x : FVec F S512x128 .f32) : k0_pay1 x = x := shapeCast_self ..
theorem pay14_eq (x : FVec F S512x128 .f32) : k0_pay14 x = x := shapeCast_self ..
theorem pay35_eq (x : FVec F S512x128 .f32) : k0_pay35 x = x := shapeCast_self ..
theorem pay15_eq : k0_pay15 (F := F) = k0_pay11 (F := F) := rfl
theorem pay33_eq : k0_pay33 (F := F) = k0_pay11 (F := F) := rfl
theorem pay27_eq : k0_pay27 (F := F) = k0_pay11 (F := F) := rfl
theorem pay16_eq : k0_pay16 (F := F) = k0_pay12 (F := F) := rfl
theorem pay28_eq : k0_pay28 (F := F) = k0_pay12 (F := F) := rfl
theorem pay29_eq : k0_pay29 (F := F) = k0_pay13 (F := F) := rfl
theorem pay34_eq (s : Vec F S512x512 .f32) (m a : Vec F S512x128 .f32) (v : Vec F S1x1x512x128 .bf16) :
    k0_pay34 (k0_pay17 s m a) (k0_pay18 s m v) = k0_pay13 s m a v := rfl
theorem pay36_eq (s : Vec F S512x512 .f32) (m a : Vec F S512x128 .f32) (v : Vec F S1x1x512x128 .bf16) :
    k0_pay36 (k0_pay17 s m a) (k0_pay18 s m v) = k0_pay13 s m a v := rfl
theorem pay6_eq : k0_pay6 (F := F) = k0_pay2 (F := F) := rfl
theorem pay3_eq (s : Vec F S512x512 .f32) (b : Vec F S1x512x512 .f32) (m : Vec F S512x128 .f32) :
    k0_pay3 s b m = k0_pay12 (k0_pay2 s b) m := rfl
theorem pay7_eq (s : Vec F S512x512 .f32) (b : Vec F S1x512x512 .f32) (m : Vec F S512x128 .f32) :
    k0_pay7 s b m = k0_pay12 (k0_pay2 s b) m := rfl
theorem pay4_eq (s : Vec F S512x512 .f32) (b : Vec F S1x512x512 .f32) (m a : Vec F S512x128 .f32)
    (v : Vec F S1x1x512x128 .bf16) : k0_pay4 s b m a v = k0_pay13 (k0_pay2 s b) m a v := rfl
theorem pay8_eq (s : Vec F S512x512 .f32) (b : Vec F S1x512x512 .f32) (m a : Vec F S512x128 .f32)
    (v : Vec F S1x1x512x128 .bf16) : k0_pay8 s b m a v = k0_pay13 (k0_pay2 s b) m a v := rfl
theorem pay5_eq (s : Vec F S512x512 .f32) (b : Vec F S1x512x512 .f32) (m : Vec F S512x128 .f32) :
    k0_pay5 s b m = k0_pay12 (k0_pay2 s b) m := shapeCast_self ..
theorem pay9_eq (s : Vec F S512x512 .f32) (b : Vec F S1x512x512 .f32) (m : Vec F S512x128 .f32) :
    k0_pay9 s b m = k0_pay12 (k0_pay2 s b) m := shapeCast_self ..
end

end Cert.KernelIdeal.Attn

end
-- ==== Proof.Trip.lean ====
/-
  What one trip of the attention kernel's main loop leaves in its four scratch buffers, as functions of what they held:
  two key tiles absorbed into the running maximum and the running sum, and the next two tiles' scores.
-/
module

public import proofs.«01_k».proof.Proof.Pay
public import proofs.«01_k».proof.Proof.Gen.KernelIdeal.Loops
public import Idealize.ShloMosaic.Lib.Pipeline.Value

@[expose] public section

set_option maxRecDepth 16384

noncomputable section

namespace Cert.KernelIdeal.Attn

open Idealize.ShloMosaic Idealize.ShloMosaic.TcCoe Cert.KernelIdeal Cert.KernelIdeal.Gen Idealize.SL.Sem

variable {F : FTy → Type} [FloatOps F] [Named F]

theorem zero2 : (![0, 0] : Fin 2 → Nat) = fun _ => 0 := funext fun a => by fin_cases a <;> rfl

/-- Key tile `n`: rows `512 n, …, 512 n + 511` of the head's keys. -/
def keyTile (x : Vec F S1x1x4096x96 .bf16) (n : ℕ) : Vec F S1x1x512x96 .bf16 :=
  fun y => x (ix4 (y 0) (y 1) ⟨(512 * n + (y 2).val) % 4096, Nat.mod_lt _ (by decide)⟩ (y 3))

/-- Value tile `n`: rows `512 n, …, 512 n + 511` of the head's values. -/
def valTile (x : Vec F S1x1x4096x128 .bf16) (n : ℕ) : Vec F S1x1x512x128 .bf16 :=
  fun y => x (ix4 (y 0) (y 1) ⟨(512 * n + (y 2).val) % 4096, Nat.mod_lt _ (by decide)⟩ (y 3))

theorem ld_keyTile (x : Vec F S1x1x4096x96 .bf16) (n : ℕ) (hn : n < 8) (off : Fin 4 → ℕ) (hoff : off = ![0, 0, 512 * n, 0])
    (inb : ∀ a, off a + S1x1x512x96.size a ≤ S1x1x4096x96.size a) :
    View.ld x (Rect.unit (s := S1x1x4096x96) off S1x1x512x96.size inb) = keyTile x n := by
  subst hoff
  funext y
  show x _ = x _
  congr 1
  funext a
  apply Fin.ext
  have h2 : (y 2).val < 512 := (y 2).isLt
  match a with
  | ⟨0, _⟩ => show 0 + 1 * (y 0).val = (y 0).val; omega
  | ⟨1, _⟩ => show 0 + 1 * (y 1).val = (y 1).val; omega
  | ⟨2, _⟩ => show 512 * n + 1 * (y 2).val = (512 * n + (y 2).val) % 4096; omega
  | ⟨3, _⟩ => show 0 + 1 * (y 3).val = (y 3).val; omega

theorem ld_valTile (x : Vec F S1x1x4096x128 .bf16) (n : ℕ) (hn : n < 8) (off : Fin 4 → ℕ) (hoff : off = ![0, 0, 512 * n, 0])
    (inb : ∀ a, off a + S1x1x512x128.size a ≤ S1x1x4096x128.size a) :
    View.ld x (Rect.unit (s := S1x1x4096x128) off S1x1x512x128.size inb) = valTile x n := by
  subst hoff
  funext y
  show x _ = x _
  congr 1
  funext a
  apply Fin.ext
  have h2 : (y 2).val < 512 := (y 2).isLt
  match a with
  | ⟨0, _⟩ => show 0 + 1 * (y 0).val = (y 0).val; omega
  | ⟨1, _⟩ => show 0 + 1 * (y 1).val = (y 1).val; omega
  | ⟨2, _⟩ => show 512 * n + 1 * (y 2).val = (512 * n + (y 2).val) % 4096; omega
  | ⟨3, _⟩ => show 0 + 1 * (y 3).val = (y 3).val; omega

/-- After a store over a whole buffer, the buffer reads the stored value. -/
theorem read_stored {S : Shape} {e : EltTy} {sp : Space} (v : View sig .tc sp S e) {off : Fin S.rank → Nat}
    (h : off = fun _ => 0) (f : BufTy.Contents (Elt F) v.ty) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  have hc : ∀ y, ∃ p ∈ ((⟨Rect.unit off S.size inb, w⟩ : View.Piece (Elt F) S e) :: L), y ∈ p.1.set := fun y =>
    ⟨_, List.mem_cons_self .., by
      show y ∈ (Rect.unit off S.size inb).set
      rw [Rect.mem_set_unit]
      intro a
      have h1 := (y a).isLt
      subst h
      exact ⟨Nat.zero_le _, by omega⟩⟩
  rw [View.read_writes_eq_canon v f _ hc]
  exact View.canon_cons_unit_zero h inb w L

/-- A load of a whole `[512, 128]` buffer. -/
abbrev rdA (v : View sig .tc .vmem S512x128 .f32) (f : BufTy.Contents (Elt F) v.ty) : Vec F S512x128 .f32 :=
  View.readAt (Elt F) v (Rect.unit (s := S512x128) ![0, 0] S512x128.size inb_S512x128_S512x128_0_0).toLoadRect f

/-- A load of a whole `[512, 512]` buffer. -/
abbrev rdS (v : View sig .tc .vmem S512x512 .f32) (f : BufTy.Contents (Elt F) v.ty) : Vec F S512x512 .f32 :=
  View.readAt (Elt F) v (Rect.unit (s := S512x512) ![0, 0] S512x512.size inb_S512x512_S512x512_0_0).toLoadRect f

/-- A load of a whole `[512, 128]` buffer after a store of `w` over it. -/
abbrev rcA (v : View sig .tc .vmem S512x128 .f32) (w : Vec F S512x128 .f32) : Vec F S512x128 .f32 :=
  v.readCov [(⟨Rect.unit (s := S512x128) ![0, 0] S512x128.size inb_S512x128_S512x128_0_0, w⟩ : View.Piece (Elt F) S512x128 .f32)]
    (Rect.unit (s := S512x128) ![0, 0] S512x128.size inb_S512x128_S512x128_0_0).toLoadRect

/-- A load of a whole `[512, 512]` buffer after a store of `w` over it. -/
abbrev rcS (v : View sig .tc .vmem S512x512 .f32) (w : Vec F S512x512 .f32) : Vec F S512x512 .f32 :=
  v.readCov [(⟨Rect.unit (s := S512x512) ![0, 0] S512x512.size inb_S512x512_S512x512_0_0, w⟩ : View.Piece (Elt F) S512x512 .f32)]
    (Rect.unit (s := S512x512) ![0, 0] S512x512.size inb_S512x512_S512x512_0_0).toLoadRect

theorem rdA_eq (v : View sig .tc .vmem S512x128 .f32) (f : BufTy.Contents (Elt F) v.ty) : rdA v f = v.read (Elt F) f :=
  (View.readAt_eq_ld ..).trans (View.ld_unit_zero (S := S512x128) zero2 _ _)
theorem rdS_eq (v : View sig .tc .vmem S512x512 .f32) (f : BufTy.Contents (Elt F) v.ty) : rdS v f = v.read (Elt F) f :=
  (View.readAt_eq_ld ..).trans (View.ld_unit_zero (S := S512x512) zero2 _ _)
theorem rcA_eq (v : View sig .tc .vmem S512x128 .f32) (w : Vec F S512x128 .f32) : rcA v w = w :=
  View.readCov_unit_zero (S := S512x128) v zero2 _ w
theorem rcS_eq (v : View sig .tc .vmem S512x512 .f32) (w : Vec F S512x512 .f32) : rcS v w = w :=
  View.readCov_unit_zero (S := S512x512) v zero2 _ w

/-- A load of 512 of the head's key rows. -/
abbrev rdK (v : View sig .tc .vmem S1x1x4096x96 .bf16) (f : BufTy.Contents (Elt F) v.ty) (off : Fin 4 → ℕ)
    (inb : ∀ a, off a + S1x1x512x96.size a ≤ S1x1x4096x96.size a) : Vec F S1x1x512x96 .bf16 :=
  View.readAt (Elt F) v (Rect.unit (s := S1x1x4096x96) off S1x1x512x96.size inb).toLoadRect f

/-- A load of 512 of the head's value rows. -/
abbrev rdV (v : View sig .tc .vmem S1x1x4096x128 .bf16) (f : BufTy.Contents (Elt F) v.ty) (off : Fin 4 → ℕ)
    (inb : ∀ a, off a + S1x1x512x128.size a ≤ S1x1x4096x128.size a) : Vec F S1x1x512x128 .bf16 :=
  View.readAt (Elt F) v (Rect.unit (s := S1x1x4096x128) off S1x1x512x128.size inb).toLoadRect f

theorem rdK_eq (v : View sig .tc .vmem S1x1x4096x96 .bf16) (f : BufTy.Contents (Elt F) v.ty) (n : ℕ) (hn : n < 8)
    (off : Fin 4 → ℕ) (hoff : off = ![0, 0, 512 * n, 0]) (inb : ∀ a, off a + S1x1x512x96.size a ≤ S1x1x4096x96.size a) :
    rdK v f off inb = keyTile (v.read (Elt F) f) n :=
  (View.readAt_eq_ld ..).trans (ld_keyTile _ n hn off hoff inb)
theorem rdV_eq (v : View sig .tc .vmem S1x1x4096x128 .bf16) (f : BufTy.Contents (Elt F) v.ty) (n : ℕ) (hn : n < 8)
    (off : Fin 4 → ℕ) (hoff : off = ![0, 0, 512 * n, 0]) (inb : ∀ a, off a + S1x1x512x128.size a ≤ S1x1x4096x128.size a) :
    rdV v f off inb = valTile (v.read (Elt F) f) n :=
  (View.readAt_eq_ld ..).trans (ld_valTile _ n hn off hoff inb)

/-! ## The loop bounds and the tiles' offsets, from the grid coordinates -/

/-- The grid point with query tile `n`. -/
def pt (n : Fin 8) : grid0.Coords := fun a => match a with
  | ⟨0, _⟩ => (⟨0, by decide⟩ : Fin 16)
  | ⟨1, _⟩ => (⟨0, by decide⟩ : Fin 8)
  | ⟨2, _⟩ => n

theorem trips1 (i : grid0.Coords) : (k0_t1_loop i).trips = (i 2).val / 2 :=
  (by decide +kernel : ∀ n : Fin 8, (k0_t1_loop (pt n)).trips = n.val / 2) (i 2)

theorem trips2 (i : grid0.Coords) : (k0_t2_loop i).trips = 0 :=
  (by decide +kernel : ∀ n : Fin 8, (k0_t2_loop (pt n)).trips = 0) (i 2)

theorem cond1_iff (i : grid0.Coords) : k0_cond1 i = 1#1 ↔ (i 2).val % 2 = 1 :=
  (by decide +kernel : ∀ n : Fin 8, k0_cond1 (pt n) = 1#1 ↔ n.val % 2 = 1) (i 2)

theorem cond2_iff (i : grid0.Coords) : k0_cond2 i = 1#1 ↔ (i 2).val % 2 = 0 :=
  (by decide +kernel : ∀ n : Fin 8, k0_cond2 (pt n) = 1#1 ↔ n.val % 2 = 0) (i 2)

theorem off1_one (i : grid0.Coords) (k : Fin (k0_t1_loop i).trips) :
    k0_off1 i k 1#32 = ![0, 0, 512 * (2 * k.val + 1), 0] :=
  (by decide +kernel : ∀ n : Fin 8, ∀ k : Fin (k0_t1_loop (pt n)).trips,
    k0_off1 (pt n) k 1#32 = ![0, 0, 512 * (2 * k.val + 1), 0]) (i 2) k

theorem off1_two (i : grid0.Coords) (k : Fin (k0_t1_loop i).trips) :
    k0_off1 i k 2#32 = ![0, 0, 512 * (2 * k.val + 2), 0] :=
  (by decide +kernel : ∀ n : Fin 8, ∀ k : Fin (k0_t1_loop (pt n)).trips,
    k0_off1 (pt n) k 2#32 = ![0, 0, 512 * (2 * k.val + 2), 0]) (i 2) k

theorem off2_eq (i : grid0.Coords) (k : Fin (k0_t1_loop i).trips) :
    k0_off2 i k = ![0, 0, 512 * (2 * k.val), 0] :=
  (by decide +kernel : ∀ n : Fin 8, ∀ k : Fin (k0_t1_loop (pt n)).trips,
    k0_off2 (pt n) k = ![0, 0, 512 * (2 * k.val), 0]) (i 2) k

theorem off3_eq (i : grid0.Coords) (k : Fin (k0_t1_loop i).trips) :
    k0_off3 i k = ![0, 0, 512 * (2 * k.val + 1), 0] :=
  (by decide +kernel : ∀ n : Fin 8, ∀ k : Fin (k0_t1_loop (pt n)).trips,
    k0_off3 (pt n) k = ![0, 0, 512 * (2 * k.val + 1), 0]) (i 2) k

theorem off7_eq (i : grid0.Coords) : k0_off7 i = ![0, 0, 512 * (i 2).val, 0] :=
  (by decide +kernel : ∀ n : Fin 8, k0_off7 (pt n) = ![0, 0, 512 * n.val, 0]) (i 2)

theorem off8_eq (i : grid0.Coords) (h : (i 2).val % 2 = 1) : k0_off8 i = ![0, 0, 512 * ((i 2).val - 1), 0] :=
  (by decide +kernel : ∀ n : Fin 8, n.val % 2 = 1 → k0_off8 (pt n) = ![0, 0, 512 * (n.val - 1), 0]) (i 2) h

theorem off9_eq (i : grid0.Coords) : k0_off9 i = ![0, 0, 512 * (i 2).val, 0] :=
  (by decide +kernel : ∀ n : Fin 8, k0_off9 (pt n) = ![0, 0, 512 * n.val, 0]) (i 2)

theorem off10_eq (i : grid0.Coords) : k0_off10 i = ![0, 0, 512 * (i 2).val, 0] :=
  (by decide +kernel : ∀ n : Fin 8, k0_off10 (pt n) = ![0, 0, 512 * n.val, 0]) (i 2)

/-! ## The tile-by-tile recursion -/

/-- The scores of the query block against key tile `n`. -/
def tileScores (q : FVec F S512x96 .bf16) (x1 : Vec F S1x1x4096x96 .bf16) (n : ℕ) : FVec F S512x512 .f32 :=
  k0_pay11 q (keyTile x1 n)

/-- The running maximum after the first `n` key tiles. -/
def runMax (q : FVec F S512x96 .bf16) (x1 : Vec F S1x1x4096x96 .bf16) : ℕ → FVec F S512x128 .f32
  | 0 => k0_pay31
  | n + 1 => k0_pay12 (tileScores q x1 n) (runMax q x1 n)

/-- The running sum after the first `n` key tiles. -/
def runSum (q : FVec F S512x96 .bf16) (x1 : Vec F S1x1x4096x96 .bf16) (x2 : Vec F S1x1x4096x128 .bf16) : ℕ → FVec F S512x128 .f32
  | 0 => k0_pay32
  | n + 1 => k0_pay13 (tileScores q x1 n) (runMax q x1 n) (runSum q x1 x2 n) (valTile x2 n)

section
variable (𝒱 : Variants) (c : Dev nD) (bd : Option 𝒱.V) (i : grid0.Coords) (arg3 : Memref sig .tc .vmem S1x1x1x512x96 .bf16) (harg3 : arg3.IsWhole) (arg4 : Memref sig .tc .vmem S1x1x4096x96 .bf16) (harg4 : arg4.IsWhole) (arg5 : Memref sig .tc .vmem S1x1x4096x128 .bf16) (harg5 : arg5.IsWhole) (arg6 : Memref sig .tc .vmem S1x512x512 .f32) (harg6 : arg6.IsWhole) (arg7 : Memref sig .tc .vmem S1x1x1x512x64 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole) (v2 : FVec F S512x96 .bf16) (v28 : BitVec 32) (v31 : Vec F S1x1x512x96 .bf16) (X_arg4 : BufTy.Contents (Elt F) arg4.view.ty) (X_arg5 : BufTy.Contents (Elt F) arg5.view.ty)

set_option maxHeartbeats 4000000 in
/-- A trip of the main loop absorbs two key tiles and leaves the scores of the next. -/
theorem trip_reads (k : Fin (k0_t1_loop i).trips) (f8 : BufTy.Contents (Elt F) arg8.view.ty)
    (f9 : BufTy.Contents (Elt F) arg9.view.ty) (f10 : BufTy.Contents (Elt F) arg10.view.ty)
    (f11 : BufTy.Contents (Elt F) arg11.view.ty)
    (h8 : arg8.view.read (Elt F) f8 = runMax v2 (arg4.view.read (Elt F) X_arg4) (2 * k.val))
    (h9 : arg9.view.read (Elt F) f9 = runSum v2 (arg4.view.read (Elt F) X_arg4) (arg5.view.read (Elt F) X_arg5) (2 * k.val))
    (h10 : arg10.view.read (Elt F) f10 = tileScores v2 (arg4.view.read (Elt F) X_arg4) (2 * k.val)) :
    let L := tripL_k0_t1 (F := F) 𝒱 c bd i arg3 harg3 arg4 harg4 arg5 harg5 arg6 harg6 arg7 harg7 arg8 harg8 arg9 harg9 arg10 harg10 arg11 harg11 v2 v28 v31 X_arg4 X_arg5 k f8 f9 f10 f11
    arg8.view.read (Elt F) (arg8.view.writes (Elt F) f8 L.1) = runMax v2 (arg4.view.read (Elt F) X_arg4) (2 * (k.val + 1))
    ∧ arg9.view.read (Elt F) (arg9.view.writes (Elt F) f9 L.2.1)
        = runSum v2 (arg4.view.read (Elt F) X_arg4) (arg5.view.read (Elt F) X_arg5) (2 * (k.val + 1))
    ∧ arg10.view.read (Elt F) (arg10.view.writes (Elt F) f10 L.2.2.1) = tileScores v2 (arg4.view.read (Elt F) X_arg4) (2 * (k.val + 1)) := by
  have hk : 2 * k.val + 2 < 8 := by
    have h1 := k.isLt; have h2 := trips1 i; have h3 : (i 2).val < 8 := (i 2).isLt; omega
  unfold tripL_k0_t1
  unfold trip_k0_t1
  dsimp only
  sl_unfold_words
  refine ⟨?_, ?_, ?_⟩
  · refine (read_stored arg8.view zero2 f8 _ _ _).trans ?_
    show k0_pay35 (k0_pay12 (rcS arg11.view (k0_pay11 v2 (rdK arg4.view X_arg4 (k0_off1 i k 1#32) (k0_off1_inb i k 0))))
      (rcA arg8.view (k0_pay14 (k0_pay12 (rdS arg10.view f10) (rdA arg8.view f8))))) = _
    rw [rdK_eq _ _ (2 * k.val + 1) (by omega) _ (off1_one i k), pay35_eq, pay14_eq, rcA_eq, rcS_eq, rdS_eq, rdA_eq, h8, h10]
    rfl
  · refine (read_stored arg9.view zero2 f9 _ _ _).trans ?_
    show k0_pay13 (rcS arg11.view (k0_pay11 v2 (rdK arg4.view X_arg4 (k0_off1 i k 1#32) (k0_off1_inb i k 0))))
      (rcA arg8.view (k0_pay14 (k0_pay12 (rdS arg10.view f10) (rdA arg8.view f8))))
      (rcA arg9.view (k0_pay13 (rdS arg10.view f10) (rdA arg8.view f8) (rdA arg9.view f9) (rdV arg5.view X_arg5 (k0_off2 i k) (k0_off2_inb i k))))
      (rdV arg5.view X_arg5 (k0_off3 i k) (k0_off3_inb i k)) = _
    rw [rdK_eq _ _ (2 * k.val + 1) (by omega) _ (off1_one i k), rdV_eq _ _ (2 * k.val) (by omega) _ (off2_eq i k), rdV_eq _ _ (2 * k.val + 1) (by omega) _ (off3_eq i k), pay14_eq,
      rcA_eq, rcA_eq, rcS_eq, rdS_eq, rdA_eq, rdA_eq, h8, h9, h10]
    rfl
  · refine (read_stored arg10.view zero2 f10 _ _ _).trans ?_
    show k0_pay11 v2 (rdK arg4.view X_arg4 (k0_off1 i k 2#32) (k0_off1_inb i k 1)) = _
    rw [rdK_eq _ _ (2 * k.val + 2) (by omega) _ (off1_two i k)]
    rfl

/-- After `k` trips the scratch buffers hold the recursion's values at `2 k` key tiles. -/
theorem loop_reads (G8 : BufTy.Contents (Elt F) arg8.view.ty)
    (G9 : BufTy.Contents (Elt F) arg9.view.ty) (G10 : BufTy.Contents (Elt F) arg10.view.ty)
    (G11 : BufTy.Contents (Elt F) arg11.view.ty)
    (h8 : arg8.view.read (Elt F) G8 = k0_pay31) (h9 : arg9.view.read (Elt F) G9 = k0_pay32)
    (h10 : arg10.view.read (Elt F) G10 = tileScores v2 (arg4.view.read (Elt F) X_arg4) 0) :
    ∀ k : ℕ, k ≤ (k0_t1_loop i).trips →
    arg8.view.read (Elt F) (arg8.view.writes (Elt F) G8 (pb_k0_t1 (F := F) 𝒱 c bd i arg3 harg3 arg4 harg4 arg5 harg5 arg6 harg6 arg7 harg7 arg8 harg8 arg9 harg9 arg10 harg10 arg11 harg11 v2 v28 v31 X_arg4 X_arg5 G8 G9 G10 G11 k).1) = runMax v2 (arg4.view.read (Elt F) X_arg4) (2 * k)
    ∧ arg9.view.read (Elt F) (arg9.view.writes (Elt F) G9 (pb_k0_t1 (F := F) 𝒱 c bd i arg3 harg3 arg4 harg4 arg5 harg5 arg6 harg6 arg7 harg7 arg8 harg8 arg9 harg9 arg10 harg10 arg11 harg11 v2 v28 v31 X_arg4 X_arg5 G8 G9 G10 G11 k).2.1)
        = runSum v2 (arg4.view.read (Elt F) X_arg4) (arg5.view.read (Elt F) X_arg5) (2 * k)
    ∧ arg10.view.read (Elt F) (arg10.view.writes (Elt F) G10 (pb_k0_t1 (F := F) 𝒱 c bd i arg3 harg3 arg4 harg4 arg5 harg5 arg6 harg6 arg7 harg7 arg8 harg8 arg9 harg9 arg10 harg10 arg11 harg11 v2 v28 v31 X_arg4 X_arg5 G8 G9 G10 G11 k).2.2.1)
        = tileScores v2 (arg4.view.read (Elt F) X_arg4) (2 * k)
  | 0, _ => ⟨h8, h9, h10⟩
  | k + 1, hk => by
    obtain ⟨i8, i9, i10⟩ := loop_reads G8 G9 G10 G11 h8 h9 h10 k (by omega)
    have e := pb_k0_t1_succ (F := F) 𝒱 c bd i arg3 harg3 arg4 harg4 arg5 harg5 arg6 harg6 arg7 harg7 arg8 harg8 arg9 harg9 arg10 harg10 arg11 harg11 v2 v28 v31 X_arg4 X_arg5 G8 G9 G10 G11 ⟨k, hk⟩
    have t := trip_reads 𝒱 c bd i arg3 harg3 arg4 harg4 arg5 harg5 arg6 harg6 arg7 harg7 arg8 harg8 arg9 harg9 arg10 harg10 arg11 harg11 v2 v28 v31 X_arg4 X_arg5 ⟨k, hk⟩ _ _ _
      (arg11.view.writes (Elt F) G11 (pb_k0_t1 (F := F) 𝒱 c bd i arg3 harg3 arg4 harg4 arg5 harg5 arg6 harg6 arg7 harg7 arg8 harg8 arg9 harg9 arg10 harg10 arg11 harg11 v2 v28 v31 X_arg4 X_arg5 G8 G9 G10 G11 k).2.2.2) i8 i9 i10
    dsimp only at e t
    rw [e]
    dsimp only
    rw [View.writes_append, View.writes_append, View.writes_append]
    exact t
end

end Cert.KernelIdeal.Attn

end
-- ==== Proof.Body.lean ====
/-
  The attention kernel's body at a grid point: with the staged blocks in place, it leaves the result block that the
  tile-by-tile recursion gives. The second scores buffer holds anything when the loop starts; every trip stores it
  before reading it, so the result does not depend on it.
-/
module

public import proofs.«01_k».proof.Proof.Trip
public import proofs.«01_k».proof.Proof.Gen.KernelIdeal.Frame.Runs

@[expose] public section

set_option maxRecDepth 16384

noncomputable section

namespace Cert.KernelIdeal.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The result block at a grid point: the recursion over the tiles below the diagonal, then the masked diagonal tile. -/
def flashOut (i : grid0.Coords) (x0 : Vec F S1x1x1x512x96 .bf16) (x1 : Vec F S1x1x4096x96 .bf16)
    (x2 : Vec F S1x1x4096x128 .bf16) (x3 : Vec F S1x512x512 .f32) : Vec F S1x1x1x512x64 .bf16 :=
  k0_pay10 (k0_pay13 (k0_pay2 (tileScores (k0_pay30 x0) x1 (i 2).val) x3) (runMax (k0_pay30 x0) x1 (i 2).val)
    (runSum (k0_pay30 x0) x1 x2 (i 2).val) (valTile x2 (i 2).val))

theorem zero5 : (![0, 0, 0, 0, 0] : Fin 5 → Nat) = fun _ => 0 := funext fun a => by fin_cases a <;> rfl

theorem zero3 : (![0, 0, 0] : Fin 3 → Nat) = fun _ => 0 := funext fun a => by fin_cases a <;> rfl

/-- A load of a whole `[512, 128]` buffer after the stores `L`. -/
abbrev rwA (v : View sig .tc .vmem S512x128 .f32) (L : List (View.Piece (Elt F) S512x128 .f32)) : Vec F S512x128 .f32 :=
  v.readCov L (Rect.unit (s := S512x128) ![0, 0] S512x128.size inb_S512x128_S512x128_0_0).toLoadRect

/-- A load of a whole `[512, 512]` buffer after the stores `L`. -/
abbrev rwS (v : View sig .tc .vmem S512x512 .f32) (L : List (View.Piece (Elt F) S512x512 .f32)) : Vec F S512x512 .f32 :=
  v.readCov L (Rect.unit (s := S512x512) ![0, 0] S512x512.size inb_S512x512_S512x512_0_0).toLoadRect

theorem rwA_eq (v : View sig .tc .vmem S512x128 .f32) (L : List (View.Piece (Elt F) S512x128 .f32)) :
    rwA v L = v.read (Elt F) (v.writes (Elt F) v.junk L) := rdA_eq v _
theorem rwS_eq (v : View sig .tc .vmem S512x512 .f32) (L : List (View.Piece (Elt F) S512x512 .f32)) :
    rwS v L = v.read (Elt F) (v.writes (Elt F) v.junk L) := rdS_eq v _

/-- A store over a whole `[512, 128]` buffer. -/
abbrev pcA (w : Vec F S512x128 .f32) : View.Piece (Elt F) S512x128 .f32 :=
  ⟨Rect.unit (s := S512x128) ![0, 0] S512x128.size inb_S512x128_S512x128_0_0, w⟩

/-- A store over a whole `[512, 512]` buffer. -/
abbrev pcS (w : Vec F S512x512 .f32) : View.Piece (Elt F) S512x512 .f32 :=
  ⟨Rect.unit (s := S512x512) ![0, 0] S512x512.size inb_S512x512_S512x512_0_0, w⟩

theorem rwA_cons (v : View sig .tc .vmem S512x128 .f32) (w : Vec F S512x128 .f32) (L : List (View.Piece (Elt F) S512x128 .f32)) :
    rwA v (pcA w :: L) = w := (rwA_eq v _).trans (read_stored v zero2 _ _ w L)
theorem rwS_cons (v : View sig .tc .vmem S512x512 .f32) (w : Vec F S512x512 .f32) (L : List (View.Piece (Elt F) S512x512 .f32)) :
    rwS v (pcS w :: L) = w := (rwS_eq v _).trans (read_stored v zero2 _ _ w L)

/-- A load of the whole mask block. -/
abbrev rdM (v : View sig .tc .vmem S1x512x512 .f32) (f : BufTy.Contents (Elt F) v.ty) : Vec F S1x512x512 .f32 :=
  View.readAt (Elt F) v (Rect.unit (s := S1x512x512) ![0, 0, 0] S1x512x512.size inb_S1x512x512_S1x512x512_0_0_0).toLoadRect f

theorem rdM_eq (v : View sig .tc .vmem S1x512x512 .f32) (f : BufTy.Contents (Elt F) v.ty) : rdM v f = v.read (Elt F) f :=
  (View.readAt_eq_ld ..).trans (View.ld_unit_zero (S := S1x512x512) zero3 _ _)

/-- A load of the whole query block. -/
abbrev rdQ (v : View sig .tc .vmem S1x1x1x512x96 .bf16) (f : BufTy.Contents (Elt F) v.ty) : Vec F S1x1x1x512x96 .bf16 :=
  View.readAt (Elt F) v (Rect.unit (s := S1x1x1x512x96) ![0, 0, 0, 0, 0] S1x1x1x512x96.size inb_S1x1x1x512x96_S1x1x1x512x96_0_0_0_0_0).toLoadRect f

theorem rdQ_eq (v : View sig .tc .vmem S1x1x1x512x96 .bf16) (f : BufTy.Contents (Elt F) v.ty) : rdQ v f = v.read (Elt F) f :=
  (View.readAt_eq_ld ..).trans (View.ld_unit_zero (S := S1x1x1x512x96) zero5 _ _)

section
variable (c : Dev nD) (i : grid0.Coords) (arg3 : Memref sig .tc .vmem S1x1x1x512x96 .bf16) (harg3 : arg3.IsWhole) (arg4 : Memref sig .tc .vmem S1x1x4096x96 .bf16) (harg4 : arg4.IsWhole) (arg5 : Memref sig .tc .vmem S1x1x4096x128 .bf16) (harg5 : arg5.IsWhole) (arg6 : Memref sig .tc .vmem S1x512x512 .f32) (harg6 : arg6.IsWhole) (arg7 : Memref sig .tc .vmem S1x1x1x512x64 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole)
  (X3 : BufTy.Contents (Elt F) arg3.view.ty) (X4 : BufTy.Contents (Elt F) arg4.view.ty) (X5 : BufTy.Contents (Elt F) arg5.view.ty) (X6 : BufTy.Contents (Elt F) arg6.view.ty)
  (P8 P9 L8 L9 T : List (View.Piece (Elt F) S512x128 .f32)) (P10 L10 T11 : List (View.Piece (Elt F) S512x512 .f32))

/-- What the main loop leaves in the running maximum, the running sums and the first scores buffer. -/
theorem loop_end (v2 : FVec F S512x96 .bf16) (v28 : BitVec 32) (v31 : Vec F S1x1x512x96 .bf16) (G11 : BufTy.Contents (Elt F) arg11.view.ty)
    (w : Vec F S512x512 .f32) (hw : w = tileScores v2 (arg4.view.read (Elt F) X4) 0) :
    let P := pb_k0_t1 (F := F) Variants.none c none i arg3 harg3 arg4 harg4 arg5 harg5 arg6 harg6 arg7 harg7 arg8 harg8 arg9 harg9 arg10 harg10 arg11 harg11 v2 v28 v31 X4 X5 (arg8.view.writes (Elt F) arg8.view.junk [pcA k0_pay31]) (arg9.view.writes (Elt F) arg9.view.junk [pcA k0_pay32]) (arg10.view.writes (Elt F) arg10.view.junk [pcS w]) G11 (k0_t1_loop i).trips
    rwA arg8.view (P.1 ++ [pcA k0_pay31]) = runMax v2 (arg4.view.read (Elt F) X4) (2 * ((i 2).val / 2))
    ∧ rwA arg9.view (P.2.1 ++ [pcA k0_pay32]) = runSum v2 (arg4.view.read (Elt F) X4) (arg5.view.read (Elt F) X5) (2 * ((i 2).val / 2))
    ∧ rwS arg10.view (P.2.2.1 ++ [pcS w]) = tileScores v2 (arg4.view.read (Elt F) X4) (2 * ((i 2).val / 2)) := by
  intro P
  have h := loop_reads (F := F) Variants.none c none i arg3 harg3 arg4 harg4 arg5 harg5 arg6 harg6 arg7 harg7 arg8 harg8 arg9 harg9 arg10 harg10 arg11 harg11 v2 v28 v31 X4 X5 (arg8.view.writes (Elt F) arg8.view.junk [pcA k0_pay31]) (arg9.view.writes (Elt F) arg9.view.junk [pcA k0_pay32]) (arg10.view.writes (Elt F) arg10.view.junk [pcS w]) G11
    (read_stored arg8.view zero2 _ _ _ _) (read_stored arg9.view zero2 _ _ _ _) ((read_stored arg10.view zero2 _ _ w _).trans hw) (k0_t1_loop i).trips le_rfl
  rw [← View.writes_append, ← View.writes_append, ← View.writes_append] at h
  rw [rwA_eq, rwA_eq, rwS_eq]
  have ht := trips1 i
  rw [ht] at h
  have hP : P = pb_k0_t1 (F := F) Variants.none c none i arg3 harg3 arg4 harg4 arg5 harg5 arg6 harg6 arg7 harg7 arg8 harg8 arg9 harg9 arg10 harg10 arg11 harg11 v2 v28 v31 X4 X5 (arg8.view.writes (Elt F) arg8.view.junk [pcA k0_pay31]) (arg9.view.writes (Elt F) arg9.view.junk [pcA k0_pay32]) (arg10.view.writes (Elt F) arg10.view.junk [pcS w]) G11 ((i 2).val / 2) := by
    rw [← ht]
  rw [hP]
  exact h

/-- The result where no tile is left over: the masked diagonal tile is the one in the first scores buffer. -/
theorem final_A (q : FVec F S512x96 .bf16) (h8 : rwA arg8.view L8 = runMax q (arg4.view.read (Elt F) X4) (2 * ((i 2).val / 2)))
    (h9 : rwA arg9.view L9 = runSum q (arg4.view.read (Elt F) X4) (arg5.view.read (Elt F) X5) (2 * ((i 2).val / 2)))
    (h10 : rwS arg10.view L10 = tileScores q (arg4.view.read (Elt F) X4) (2 * ((i 2).val / 2)))
    (he : (i 2).val % 2 = 0) (e8 : P8 = []) (e9 : P9 = []) (e10 : P10 = [])
    (inb : ∀ a, (k0_off10 i) a + S1x1x512x128.size a ≤ S1x1x4096x128.size a) :
    k0_pay10 (rwA arg9.view (pcA (k0_pay8 (rwS arg10.view (P10 ++ L10)) (rdM arg6.view X6) (rwA arg8.view (P8 ++ L8)) (rwA arg9.view (P9 ++ L9))
      (rdV arg5.view X5 (k0_off10 i) inb)) :: T)) =
    k0_pay10 (k0_pay13 (k0_pay2 (tileScores q (arg4.view.read (Elt F) X4) (i 2).val) (arg6.view.read (Elt F) X6)) (runMax q (arg4.view.read (Elt F) X4) (i 2).val)
      (runSum q (arg4.view.read (Elt F) X4) (arg5.view.read (Elt F) X5) (i 2).val) (valTile (arg5.view.read (Elt F) X5) (i 2).val)) := by
  have h2 : 2 * ((i 2).val / 2) = (i 2).val := by omega
  rw [h2] at h8 h9 h10
  rw [rwA_cons, e8, e9, e10, List.nil_append, List.nil_append, List.nil_append, h8, h9, h10, rdM_eq, rdV_eq _ _ (i 2).val (i 2).isLt _ (off10_eq i), pay8_eq]

/-- The result where one tile below the diagonal is left over: it is absorbed from the first scores buffer, and the masked
    diagonal tile is the one in the second. -/
theorem final_B (q : FVec F S512x96 .bf16) (h8 : rwA arg8.view L8 = runMax q (arg4.view.read (Elt F) X4) (2 * ((i 2).val / 2)))
    (h9 : rwA arg9.view L9 = runSum q (arg4.view.read (Elt F) X4) (arg5.view.read (Elt F) X5) (2 * ((i 2).val / 2)))
    (h10 : rwS arg10.view L10 = tileScores q (arg4.view.read (Elt F) X4) (2 * ((i 2).val / 2)))
    (ho : (i 2).val % 2 = 1) (e8 : P8 = []) (e9 : P9 = []) (e10 : P10 = [])
    (inb7 : ∀ a, (k0_off7 i) a + S1x1x512x96.size a ≤ S1x1x4096x96.size a)
    (inb8 : ∀ a, (k0_off8 i) a + S1x1x512x128.size a ≤ S1x1x4096x128.size a)
    (inb9 : ∀ a, (k0_off9 i) a + S1x1x512x128.size a ≤ S1x1x4096x128.size a) (T8 T9 : List (View.Piece (Elt F) S512x128 .f32)) :
    k0_pay10 (rwA arg9.view (pcA (k0_pay4 (rwS arg11.view (pcS (k0_pay27 q (rdK arg4.view X4 (k0_off7 i) inb7)) :: T11)) (rdM arg6.view X6)
      (rwA arg8.view (pcA (k0_pay1 (k0_pay28 (rwS arg10.view (P10 ++ L10)) (rwA arg8.view (P8 ++ L8)))) :: T8))
      (rwA arg9.view (pcA (k0_pay29 (rwS arg10.view (P10 ++ L10)) (rwA arg8.view (P8 ++ L8)) (rwA arg9.view (P9 ++ L9)) (rdV arg5.view X5 (k0_off8 i) inb8)) :: T9))
      (rdV arg5.view X5 (k0_off9 i) inb9)) :: T)) =
    k0_pay10 (k0_pay13 (k0_pay2 (tileScores q (arg4.view.read (Elt F) X4) (i 2).val) (arg6.view.read (Elt F) X6)) (runMax q (arg4.view.read (Elt F) X4) (i 2).val)
      (runSum q (arg4.view.read (Elt F) X4) (arg5.view.read (Elt F) X5) (i 2).val) (valTile (arg5.view.read (Elt F) X5) (i 2).val)) := by
  have h7 : (i 2).val < 8 := (i 2).isLt
  have h2 : 2 * ((i 2).val / 2) = (i 2).val - 1 := by omega
  rw [h2] at h8 h9 h10
  rw [rwA_cons, rwS_cons, rwA_cons, rwA_cons, e8, e9, e10, List.nil_append, List.nil_append, List.nil_append, h8, h9, h10, rdM_eq,
    rdV_eq _ _ ((i 2).val - 1) (by omega) _ (off8_eq i ho), rdV_eq _ _ (i 2).val h7 _ (off9_eq i), rdK_eq _ _ (i 2).val h7 _ (off7_eq i), store_max, pay27_eq, pay28_eq, pay29_eq, pay4_eq]
  have h3 : (i 2).val = (i 2).val - 1 + 1 := by omega
  generalize (i 2).val - 1 = n at h3 ⊢
  rw [h3]
  rfl
end

set_option maxHeartbeats 4000000 in
/-- The body where the number of tiles below the diagonal is even. -/
theorem body_A (c : Dev nD) (i : grid0.Coords) (arg3 : Memref sig .tc .vmem S1x1x1x512x96 .bf16) (harg3 : arg3.IsWhole) (arg4 : Memref sig .tc .vmem S1x1x4096x96 .bf16) (harg4 : arg4.IsWhole) (arg5 : Memref sig .tc .vmem S1x1x4096x128 .bf16) (harg5 : arg5.IsWhole) (arg6 : Memref sig .tc .vmem S1x512x512 .f32) (harg6 : arg6.IsWhole) (arg7 : Memref sig .tc .vmem S1x1x1x512x64 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole) (hc0 : ¬cond0_0 i) (hc1 : cond0_1 i)
    (x0 : Vec F S1x1x1x512x96 .bf16) (x1 : Vec F S1x1x4096x96 .bf16) (x2 : Vec F S1x1x4096x128 .bf16) (x3 : Vec F S1x512x512 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (flashOut i x0 x1 x2 x3) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_flash i arg3 harg3 arg4 harg4 arg5 harg5 arg6 harg6 arg7 harg7 arg8 harg8 arg9 harg9 arg10 harg10 arg11 harg11) K := by
  simp only [cc0_flash_eq_skeleton]; unfold cc0_flash_skel
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    refine (read_stored arg7.view zero5 f4 _ _ _).trans ?_
    sl_unfold_words
    have hK : k0_pay33 (k0_pay30 (rdQ arg3.view (harg3.unread x0))) (rdK arg4.view (harg4.unread x1) ![0, 0, 0, 0] inb_S1x1x4096x96_S1x1x512x96_0_0_0_0)
        = tileScores (k0_pay30 (rdQ arg3.view (harg3.unread x0))) (arg4.view.read (Elt F) (harg4.unread x1)) 0 := by
      rw [pay33_eq, rdK_eq _ _ 0 (by omega) _ rfl]; rfl
    have ht2 : Scf.trips (k0_t2_loop i).lb (k0_t2_loop i).ub (k0_t2_loop i).st = 0 := trips2 i
    refine (final_A i arg4 arg5 arg6 arg8 arg9 arg10 (harg4.unread x1) (harg5.unread x2) (harg6.unread x3) _ _ _ _ _ _ _ (k0_pay30 (rdQ arg3.view (harg3.unread x0)))
      (loop_end c i arg3 harg3 arg4 harg4 arg5 harg5 arg6 harg6 arg7 harg7 arg8 harg8 arg9 harg9 arg10 harg10 arg11 harg11 (harg4.unread x1) (harg5.unread x2) (k0_pay30 (rdQ arg3.view (harg3.unread x0))) _ _ fs3 _ hK).1
      (loop_end c i arg3 harg3 arg4 harg4 arg5 harg5 arg6 harg6 arg7 harg7 arg8 harg8 arg9 harg9 arg10 harg10 arg11 harg11 (harg4.unread x1) (harg5.unread x2) (k0_pay30 (rdQ arg3.view (harg3.unread x0))) _ _ fs3 _ hK).2.1
      (loop_end c i arg3 harg3 arg4 harg4 arg5 harg5 arg6 harg6 arg7 harg7 arg8 harg8 arg9 harg9 arg10 harg10 arg11 harg11 (harg4.unread x1) (harg5.unread x2) (k0_pay30 (rdQ arg3.view (harg3.unread x0))) _ _ fs3 _ hK).2.2
      (show (i 2).val % 2 = 0 from (cond2_iff i).mp hc1) (by rw [ht2]; rfl) (by rw [ht2]; rfl) (by rw [ht2]; rfl) _).trans ?_
    rw [rdQ_eq, harg3.read_unread, harg4.read_unread, harg5.read_unread, harg6.read_unread]
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

set_option maxHeartbeats 4000000 in
/-- The body where the number of tiles below the diagonal is odd. -/
theorem body_B (c : Dev nD) (i : grid0.Coords) (arg3 : Memref sig .tc .vmem S1x1x1x512x96 .bf16) (harg3 : arg3.IsWhole) (arg4 : Memref sig .tc .vmem S1x1x4096x96 .bf16) (harg4 : arg4.IsWhole) (arg5 : Memref sig .tc .vmem S1x1x4096x128 .bf16) (harg5 : arg5.IsWhole) (arg6 : Memref sig .tc .vmem S1x512x512 .f32) (harg6 : arg6.IsWhole) (arg7 : Memref sig .tc .vmem S1x1x1x512x64 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole) (hc0 : cond0_0 i) (hc1 : ¬cond0_1 i)
    (x0 : Vec F S1x1x1x512x96 .bf16) (x1 : Vec F S1x1x4096x96 .bf16) (x2 : Vec F S1x1x4096x128 .bf16) (x3 : Vec F S1x512x512 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (flashOut i x0 x1 x2 x3) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_flash i arg3 harg3 arg4 harg4 arg5 harg5 arg6 harg6 arg7 harg7 arg8 harg8 arg9 harg9 arg10 harg10 arg11 harg11) K := by
  simp only [cc0_flash_eq_skeleton]; unfold cc0_flash_skel
  simp only [k0_part6_eq_skeleton, k0_part7_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    refine (read_stored arg7.view zero5 f4 _ _ _).trans ?_
    sl_unfold_words
    have hK : k0_pay33 (k0_pay30 (rdQ arg3.view (harg3.unread x0))) (rdK arg4.view (harg4.unread x1) ![0, 0, 0, 0] inb_S1x1x4096x96_S1x1x512x96_0_0_0_0)
        = tileScores (k0_pay30 (rdQ arg3.view (harg3.unread x0))) (arg4.view.read (Elt F) (harg4.unread x1)) 0 := by
      rw [pay33_eq, rdK_eq _ _ 0 (by omega) _ rfl]; rfl
    have ht2 : Scf.trips (k0_t2_loop i).lb (k0_t2_loop i).ub (k0_t2_loop i).st = 0 := trips2 i
    refine (final_B i arg4 arg5 arg6 arg8 arg9 arg10 arg11 (harg4.unread x1) (harg5.unread x2) (harg6.unread x3) _ _ _ _ _ _ _ _ (k0_pay30 (rdQ arg3.view (harg3.unread x0)))
      (loop_end c i arg3 harg3 arg4 harg4 arg5 harg5 arg6 harg6 arg7 harg7 arg8 harg8 arg9 harg9 arg10 harg10 arg11 harg11 (harg4.unread x1) (harg5.unread x2) (k0_pay30 (rdQ arg3.view (harg3.unread x0))) _ _ fs3 _ hK).1
      (loop_end c i arg3 harg3 arg4 harg4 arg5 harg5 arg6 harg6 arg7 harg7 arg8 harg8 arg9 harg9 arg10 harg10 arg11 harg11 (harg4.unread x1) (harg5.unread x2) (k0_pay30 (rdQ arg3.view (harg3.unread x0))) _ _ fs3 _ hK).2.1
      (loop_end c i arg3 harg3 arg4 harg4 arg5 harg5 arg6 harg6 arg7 harg7 arg8 harg8 arg9 harg9 arg10 harg10 arg11 harg11 (harg4.unread x1) (harg5.unread x2) (k0_pay30 (rdQ arg3.view (harg3.unread x0))) _ _ fs3 _ hK).2.2
      (show (i 2).val % 2 = 1 from (cond1_iff i).mp hc0) (by rw [ht2]; rfl) (by rw [ht2]; rfl) (by rw [ht2]; rfl) _ _ _ _ _).trans ?_
    rw [rdQ_eq, harg3.read_unread, harg4.read_unread, harg5.read_unread, harg6.read_unread]
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Attn

end
-- ==== Proof.Launched.lean ====
/-
  The attention kernel's launch: what each staging buffer holds after the body at a grid point, the body's triple at
  every point, the run of the whole program, and the result array it leaves.
-/
module

public import proofs.«01_k».proof.Proof.Body
public import Idealize.ShloMosaic.Lib.Claim
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body at any grid point: one result block, whichever branch the point takes. -/
theorem body_run (c : Dev nD) (t : Fin cfg0.N) (arg3 : Memref sig .tc .vmem S1x1x1x512x96 .bf16) (harg3 : arg3.IsWhole) (arg4 : Memref sig .tc .vmem S1x1x4096x96 .bf16) (harg4 : arg4.IsWhole) (arg5 : Memref sig .tc .vmem S1x1x4096x128 .bf16) (harg5 : arg5.IsWhole) (arg6 : Memref sig .tc .vmem S1x512x512 .f32) (harg6 : arg6.IsWhole) (arg7 : Memref sig .tc .vmem S1x1x1x512x64 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole)
    (x0 : Vec F S1x1x1x512x96 .bf16) (x1 : Vec F S1x1x4096x96 .bf16) (x2 : Vec F S1x1x4096x128 .bf16) (x3 : Vec F S1x512x512 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (flashOut (grid0.coords t) x0 x1 x2 x3) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_flash (grid0.coords t) arg3 harg3 arg4 harg4 arg5 harg5 arg6 harg6 arg7 harg7 arg8 harg8 arg9 harg9 arg10 harg10 arg11 harg11) K := by
  have h0 := hcond0_0 t
  have h1 := hcond0_1 t
  by_cases h : t.val % 2 = 0
  · exact body_A c (grid0.coords t) arg3 harg3 arg4 harg4 arg5 harg5 arg6 harg6 arg7 harg7 arg8 harg8 arg9 harg9 arg10 harg10 arg11 harg11 (fun e => by have := h0.mp e; omega) (h1.mpr h) x0 x1 x2 x3 E K
  · exact body_B c (grid0.coords t) arg3 harg3 arg4 harg4 arg5 harg5 arg6 harg6 arg7 harg7 arg8 harg8 arg9 harg9 arg10 harg10 arg11 harg11 (h0.mpr (by omega)) (fun e => h (h1.mp e)) x0 x1 x2 x3 E K

variable (m : (ℓ : Loc nD τ sig) → Buf (Elt F) ℓ) (ρ : Dev nD → PrngReg)

/-- What the body leaves in the result's buffer at point `t`. -/
def block (c : Dev nD) (t : Fin cfg0.N) : Vec F S1x1x1x512x64 .bf16 :=
  flashOut (grid0.coords t) (iblk m c 0 t) (iblk m c 1 t) (iblk m c 2 t) (iblk m c 3 t)

/-- The proof data: the arrays as the launch finds them, the inputs' buffers at their blocks, the result's at `block`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = block m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩⟩
  iapply (body_run c t _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  unfold block
  iexact H4

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: the arrays at what the pipeline writes back, every semaphore counter at zero. -/
theorem launch_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem launch_run : θ_run defs (onTc (τ := τ) (main (F := F))) (s₀ m ρ) (Pipeline.FramePost cfgs (dats m) 0 (V m)) :=
  (θ_run defs _ _).mono (fun _ h => h.1) (launch_quiescent m ρ)

/-- The frame: every run ends, with the arguments unchanged and every semaphore counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (launch_run m ρ)) ((θ_run defs _ _).mono (fun _ h => h.2) (launch_quiescent m ρ))

/-- The run with the result array named. -/
theorem result_run : θ_run defs (onTc (τ := τ) (main (F := F))) ⟨m, fun _ => 0, ρ⟩ fun r => ∀ c : Dev nD,
      r.2.mem ((c : Thread nD τ).loc main_v31) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (launch_run m ρ)

end Cert.KernelIdeal.Attn

end
-- ==== Proof.Softmax.lean ====
/-
  The mathematics of a softmax computed piece by piece over the extended reals: the running maximum of the
  scores and the running sum of weighted values, both rescaled as the maximum grows.
-/
module

public import Idealize.ShloMosaic.PureOps.Ideal

@[expose] public section

noncomputable section

namespace Cert.Softmax

open Idealize.ShloMosaic

variable {ι : Type}

/-- The weighted sum of the values at the keys in `T`, each weight taken relative to the largest score in `T`. -/
def acc (s v : ι → EReal) (T : Finset ι) : EReal := ∑ t ∈ T, Ideal.exp (s t - T.sup s) * v t

/-- An exponential is never negative. -/
theorem exp_nonneg (x : EReal) : 0 ≤ Ideal.exp x := by
  induction x using EReal.rec with
  | bot => exact le_refl _
  | coe r => rw [Ideal.exp_coe]; exact_mod_cast (Real.exp_pos r).le
  | top => exact le_top

/-- The exponential of a nonpositive difference is finite. -/
theorem exp_sub_ne_top {a b : EReal} (h : a ≤ b) : Ideal.exp (a - b) ≠ ⊤ := by
  induction a using EReal.rec with
  | bot => rw [EReal.bot_sub, Ideal.exp_bot]; exact EReal.zero_ne_top
  | coe r =>
    induction b using EReal.rec with
    | bot => exact absurd (le_bot_iff.1 h) (EReal.coe_ne_bot r)
    | coe u => rw [← EReal.coe_sub, Ideal.exp_coe]; exact EReal.coe_ne_top _
    | top => rw [EReal.sub_top, Ideal.exp_bot]; exact EReal.zero_ne_top
  | top => rw [top_le_iff.1 h, EReal.sub_top, Ideal.exp_bot]; exact EReal.zero_ne_top

/-- Taking a weight relative to `b` and then rescaling from `b` to `c` is taking it relative to `c`. -/
theorem exp_rebase {a b c : EReal} (h₁ : a ≤ b) (h₂ : b ≤ c) :
    Ideal.exp (b - c) * Ideal.exp (a - b) = Ideal.exp (a - c) := by
  induction a using EReal.rec with
  | bot => rw [EReal.bot_sub, EReal.bot_sub, Ideal.exp_bot, mul_zero]
  | coe r =>
    induction b using EReal.rec with
    | bot => exact absurd (le_bot_iff.1 h₁) (EReal.coe_ne_bot r)
    | coe u =>
      induction c using EReal.rec with
      | bot => exact absurd (le_bot_iff.1 h₂) (EReal.coe_ne_bot u)
      | coe w =>
        rw [← EReal.coe_sub, ← EReal.coe_sub, ← EReal.coe_sub, Ideal.exp_coe, Ideal.exp_coe, Ideal.exp_coe,
          ← EReal.coe_mul, ← Real.exp_add, show u - w + (r - u) = r - w by ring]
      | top => rw [EReal.sub_top, EReal.sub_top, Ideal.exp_bot, zero_mul]
    | top => rw [top_le_iff.1 h₂, EReal.sub_top, EReal.sub_top, Ideal.exp_bot, mul_zero]
  | top =>
    have hb := top_le_iff.1 h₁
    subst hb
    rw [top_le_iff.1 h₂, EReal.sub_top, Ideal.exp_bot, mul_zero]

/-- A finite nonnegative factor distributes over a finite sum. -/
theorem mul_sum {c : EReal} (h0 : 0 ≤ c) (ht : c ≠ ⊤) (T : Finset ι) (f : ι → EReal) :
    c * ∑ t ∈ T, f t = ∑ t ∈ T, c * f t := by
  classical
  induction T using Finset.induction_on with
  | empty => simp
  | insert a T ha ih =>
    rw [Finset.sum_insert ha, Finset.sum_insert ha, EReal.left_distrib_of_nonneg_of_ne_top h0 ht, ih]

/-- Over no keys the sum is zero. -/
theorem acc_empty (s v : ι → EReal) : acc s v ∅ = 0 := by simp [acc]

/-- One step of the running softmax: the sum over the keys seen so far is rescaled to the new maximum and the
    new keys' weighted values are added. -/
theorem acc_union [DecidableEq ι] (s v : ι → EReal) {T U : Finset ι} (h : Disjoint T U) :
    acc s v (T ∪ U)
      = Ideal.exp (T.sup s - max (T.sup s) (U.sup s)) * acc s v T
        + ∑ u ∈ U, Ideal.exp (s u - max (T.sup s) (U.sup s)) * v u := by
  have hsup : (T ∪ U).sup s = max (T.sup s) (U.sup s) := Finset.sup_union
  unfold acc
  rw [hsup, Finset.sum_union h, mul_sum (exp_nonneg _) (exp_sub_ne_top (le_max_left _ _))]
  congr 1
  refine Finset.sum_congr rfl fun t ht => ?_
  rw [← mul_assoc, exp_rebase (Finset.le_sup ht) (le_max_left _ _)]

/-- Keys of score `⊥` (the masked ones) change neither the maximum nor the sum. -/
theorem sup_of_bot [DecidableEq ι] (s : ι → EReal) {T U : Finset ι} (hTU : T ⊆ U)
    (h : ∀ u ∈ U, u ∉ T → s u = ⊥) : U.sup s = T.sup s := by
  apply le_antisymm
  · refine Finset.sup_le fun u hu => ?_
    by_cases hT : u ∈ T
    · exact Finset.le_sup hT
    · rw [h u hu hT]; exact bot_le
  · exact Finset.sup_mono hTU

theorem acc_of_bot [DecidableEq ι] (s v : ι → EReal) {T U : Finset ι} (hTU : T ⊆ U)
    (h : ∀ u ∈ U, u ∉ T → s u = ⊥) : acc s v U = acc s v T := by
  unfold acc
  rw [sup_of_bot s hTU h]
  refine (Finset.sum_subset hTU fun u hu hT => ?_).symm
  rw [h u hu hT, EReal.bot_sub, Ideal.exp_bot, zero_mul]

/-- When the largest score is finite the weights' sum is a positive finite number. -/
theorem acc_one_pos (s : ι → EReal) {T : Finset ι} (hb : T.sup s ≠ ⊥) (ht : T.sup s ≠ ⊤) :
    ∃ r : ℝ, 0 < r ∧ acc s (fun _ => 1) T = (r : EReal) := by
  have hne : T.Nonempty := by
    rcases T.eq_empty_or_nonempty with h | h
    · subst h; simp at hb
    · exact h
  obtain ⟨m, hm, hmax⟩ := Finset.exists_mem_eq_sup T hne s
  have hval : ∀ t ∈ T, ∃ r : ℝ, 0 ≤ r ∧ Ideal.exp (s t - T.sup s) * (fun _ : ι => (1 : EReal)) t = (r : EReal) := by
    intro t ht'
    have h1 := exp_sub_ne_top (Finset.le_sup (f := s) ht')
    have h0 := exp_nonneg (s t - T.sup s)
    refine ⟨(Ideal.exp (s t - T.sup s)).toReal, EReal.toReal_nonneg h0, ?_⟩
    rw [mul_one, EReal.coe_toReal h1 (ne_of_gt (lt_of_lt_of_le EReal.bot_lt_zero h0))]
  choose! f hf0 hf using hval
  refine ⟨∑ t ∈ T, f t, ?_, ?_⟩
  · refine Finset.sum_pos' hf0 ⟨m, hm, ?_⟩
    have h1 := hf m hm
    rw [hmax, mul_one] at h1
    have hsm : s m - s m = 0 := by
      rw [hmax] at hb ht
      exact EReal.sub_self ht hb
    rw [hsm] at h1
    have : Ideal.exp 0 = ((1 : ℝ) : EReal) := by
      rw [show (0 : EReal) = ((0 : ℝ) : EReal) from rfl, Ideal.exp_coe, Real.exp_zero]
    rw [this] at h1
    rw [← EReal.coe_eq_coe_iff.1 h1]; exact one_pos
  · unfold acc
    rw [Finset.sum_congr rfl hf]
    classical
    clear hf hf0 hm hmax hne hb ht
    induction T using Finset.induction_on with
    | empty => simp
    | insert a T ha ih => rw [Finset.sum_insert ha, Finset.sum_insert ha, EReal.coe_add, ih]

/-- Normalising the weights before the values are summed gives the sum divided by the weights' sum. -/
theorem sum_normalised (s v : ι → EReal) {T : Finset ι} (hb : T.sup s ≠ ⊥) (ht : T.sup s ≠ ⊤) :
    ∑ t ∈ T, Ideal.div (Ideal.exp (s t - T.sup s)) (acc s (fun _ => 1) T) * v t
      = Ideal.div (acc s v T) (acc s (fun _ => 1) T) := by
  obtain ⟨r, hr, h⟩ := acc_one_pos s hb ht
  rw [h, Ideal.div_coe hr.ne', mul_comm, acc, mul_sum (by exact_mod_cast (one_div_pos.2 hr).le) (EReal.coe_ne_top _)]
  refine Finset.sum_congr rfl fun t _ => ?_
  rw [Ideal.div_coe hr.ne', mul_comm (Ideal.exp _) (_ : EReal), mul_assoc]

end Cert.Softmax

end
-- ==== Proof.Rows.lean ====
/-
  A row of the attention kernel's result over the extended reals: the recursion over key tiles is the softmax sum over
  all the keys at or before the row, the keys after it having score minus infinity.
-/
module

public import proofs.«01_k».proof.Proof.Softmax
public import proofs.«01_k».proof.Proof.Pay
public import proofs.«01_k».proof.Proof.Body

@[expose] public section

set_option maxRecDepth 16384

noncomputable section

namespace Cert.KernelIdeal.Attn

open Idealize.ShloMosaic Cert.KernelIdeal Cert.KernelIdeal.Gen

/-- Two score rows that agree on the keys of `T` give the same softmax sum over `T`. -/
theorem acc_congr {ι : Type} {s s' : ι → EReal} (v : ι → EReal) {T : Finset ι} (h : ∀ t ∈ T, s t = s' t) :
    Softmax.acc s v T = Softmax.acc s' v T := by
  unfold Softmax.acc
  have hs : T.sup s = T.sup s' := Finset.sup_congr rfl h
  rw [hs]
  exact Finset.sum_congr rfl fun t ht => by rw [h t ht]

/-- The keys before tile `n`. -/
def below (n : ℕ) : Finset (Fin 4096) := Finset.univ.filter fun t => t.val < 512 * n

/-- Key `c` of tile `n`. -/
def key (n : ℕ) (hn : n < 8) : Fin 512 ↪ Fin 4096 where
  toFun c := ⟨512 * n + c.val, by have := c.isLt; omega⟩
  inj' a b h := Fin.ext (by have := congrArg Fin.val h; dsimp only at this; omega)

/-- The keys of tile `n`. -/
def inTile (n : ℕ) (hn : n < 8) : Finset (Fin 4096) := Finset.univ.map (key n hn)

theorem mem_inTile (n : ℕ) (hn : n < 8) (t : Fin 4096) : t ∈ inTile n hn ↔ 512 * n ≤ t.val ∧ t.val < 512 * (n + 1) := by
  unfold inTile
  rw [Finset.mem_map]
  constructor
  · rintro ⟨c, -, rfl⟩
    have := c.isLt
    show 512 * n ≤ 512 * n + c.val ∧ 512 * n + c.val < _
    omega
  · rintro ⟨h1, h2⟩
    exact ⟨⟨t.val - 512 * n, by omega⟩, Finset.mem_univ _, Fin.ext (by show 512 * n + (t.val - 512 * n) = t.val; omega)⟩

theorem mem_below (n : ℕ) (t : Fin 4096) : t ∈ below n ↔ t.val < 512 * n := by simp [below]

theorem below_zero : below 0 = ∅ := by ext t; simp [mem_below]

theorem below_succ (n : ℕ) (hn : n < 8) : below (n + 1) = below n ∪ inTile n hn := by
  ext t; rw [Finset.mem_union, mem_below, mem_below, mem_inTile]; omega

theorem below_disjoint (n : ℕ) (hn : n < 8) : Disjoint (below n) (inTile n hn) := by
  rw [Finset.disjoint_left]; intro t h1 h2; rw [mem_below] at h1; rw [mem_inTile] at h2; omega

theorem sup_tile (n : ℕ) (hn : n < 8) (f : Fin 4096 → EReal) :
    (Finset.univ.sup fun c : Fin 512 => f (key n hn c)) = (inTile n hn).sup f := by
  unfold inTile; rw [Finset.sup_map]; rfl

theorem sum_tile (n : ℕ) (hn : n < 8) (f : Fin 4096 → EReal) :
    (∑ c : Fin 512, f (key n hn c)) = ∑ t ∈ inTile n hn, f t := by
  unfold inTile; rw [Finset.sum_map]

theorem keyTile_apply (x : Vec Ideal S1x1x4096x96 .bf16) (n : ℕ) (hn : n < 8) (c : Fin 512) (d : Fin 96) :
    keyTile x n (ix4 0 0 c d) = x (ix4 0 0 (key n hn c) d) := by
  show x _ = x _
  congr 1
  funext a
  apply Fin.ext
  have := c.isLt
  match a with
  | ⟨0, _⟩ => rfl
  | ⟨1, _⟩ => rfl
  | ⟨2, _⟩ => show (512 * n + c.val) % 4096 = 512 * n + c.val; omega
  | ⟨3, _⟩ => rfl

theorem valTile_apply (x : Vec Ideal S1x1x4096x128 .bf16) (n : ℕ) (hn : n < 8) (c : Fin 512) (d : Fin 128) :
    valTile x n (ix4 0 0 c d) = x (ix4 0 0 (key n hn c) d) := by
  show x _ = x _
  congr 1
  funext a
  apply Fin.ext
  have := c.isLt
  match a with
  | ⟨0, _⟩ => rfl
  | ⟨1, _⟩ => rfl
  | ⟨2, _⟩ => show (512 * n + c.val) % 4096 = 512 * n + c.val; omega
  | ⟨3, _⟩ => rfl

section
variable (x0 : Vec Ideal S1x1x1x512x96 .bf16) (x1 : Vec Ideal S1x1x4096x96 .bf16) (x2 : Vec Ideal S1x1x4096x128 .bf16)
  (x3 : Vec Ideal S1x512x512 .f32)

/-- The score of key `t` for row `r` of the query block. -/
def score (r : Fin 512) (t : Fin 4096) : EReal := ∑ d : Fin 96, x0 (ix5 0 0 0 r d) * x1 (ix4 0 0 t d)

theorem tileScores_apply (n : ℕ) (hn : n < 8) (r c : Fin 512) :
    tileScores (k0_pay30 x0) x1 n (ix2 r c) = score x0 x1 r (key n hn c) := by
  unfold tileScores score
  rw [scores_apply]
  exact Finset.sum_congr rfl fun d _ => by rw [query_apply, keyTile_apply _ n hn]

theorem runMax_apply : ∀ (n : ℕ) (_ : n ≤ 8) (r : Fin 512) (l : Fin 128),
    runMax (k0_pay30 x0) x1 n (ix2 r l) = (below n).sup (score x0 x1 r)
  | 0, _, r, l => by
    rw [below_zero, Finset.sup_empty]
    exact init_max _
  | n + 1, h, r, l => by
    have hn : n < 8 := by omega
    show k0_pay12 _ _ _ = _
    rw [rowmax_apply, runMax_apply n (by omega) r l, below_succ n hn, Finset.sup_union, ← sup_tile]
    simp only [tileScores_apply x0 x1 n hn]

theorem runSum_apply : ∀ (n : ℕ) (_ : n ≤ 8) (r : Fin 512) (l : Fin 128),
    runSum (k0_pay30 x0) x1 x2 n (ix2 r l) = Softmax.acc (score x0 x1 r) (fun t => x2 (ix4 0 0 t l)) (below n)
  | 0, _, r, l => by
    rw [below_zero, Softmax.acc_empty]
    exact init_acc _
  | n + 1, h, r, l => by
    have hn : n < 8 := by omega
    show k0_pay13 _ _ _ _ _ = _
    rw [acc_apply _ _ _ _ r l _ (runMax_apply x0 x1 n (by omega) r), runSum_apply n (by omega) r l, below_succ n hn,
      Softmax.acc_union _ _ (below_disjoint n hn), ← sup_tile, ← sum_tile]
    simp only [tileScores_apply x0 x1 n hn, valTile_apply x2 n hn]

/-- The score of key `t` for row `r` of query block `n`, minus infinity where the key is after the row. -/
def masked (n : ℕ) (r : Fin 512) (t : Fin 4096) : EReal := if t.val ≤ 512 * n + r.val then score x0 x1 r t else ⊥

theorem flash_acc (n : ℕ) (hn : n < 8) (hm : ∀ r c : Fin 512, x3 (ix3 0 r c) = if c.val ≤ r.val then 0 else ⊥)
    (r : Fin 512) (l : Fin 128) :
    k0_pay13 (k0_pay2 (tileScores (k0_pay30 x0) x1 n) x3) (runMax (k0_pay30 x0) x1 n) (runSum (k0_pay30 x0) x1 x2 n) (valTile x2 n) (ix2 r l)
      = Softmax.acc (masked x0 x1 n r) (fun t => x2 (ix4 0 0 t l)) Finset.univ := by
  have hd : ∀ c : Fin 512, k0_pay2 (tileScores (k0_pay30 x0) x1 n) x3 (ix2 r c) = masked x0 x1 n r (key n hn c) := fun c => by
    rw [masked_apply, tileScores_apply x0 x1 n hn, hm]
    unfold masked
    have hk : (key n hn c).val = 512 * n + c.val := rfl
    by_cases h : c.val ≤ r.val
    · rw [if_pos h, if_pos (by omega), add_zero]
    · rw [if_neg h, if_neg (by omega), EReal.add_bot]
  have hb : ∀ t ∈ below n, score x0 x1 r t = masked x0 x1 n r t := fun t ht => by
    rw [mem_below] at ht
    unfold masked
    rw [if_pos (by omega)]
  have hsup : (below n).sup (score x0 x1 r) = (below n).sup (masked x0 x1 n r) := Finset.sup_congr rfl hb
  rw [acc_apply _ _ _ _ r l _ (runMax_apply x0 x1 n (by omega) r), runSum_apply x0 x1 x2 n (by omega) r l, acc_congr _ hb, hsup]
  simp only [hd, valTile_apply x2 n hn]
  rw [sup_tile n hn (masked x0 x1 n r), sum_tile n hn (fun t => Ideal.exp (masked x0 x1 n r t - _) * x2 (ix4 0 0 t l)),
    ← Softmax.acc_union _ _ (below_disjoint n hn), ← below_succ n hn]
  refine (Softmax.acc_of_bot _ _ (Finset.subset_univ _) fun t _ ht => ?_).symm
  rw [mem_below] at ht
  have := r.isLt
  unfold masked
  rw [if_neg (by omega)]

/-- The result block's entry: the softmax of the masked row applied to the values' column. -/
theorem flashOut_apply (i : grid0.Coords) (hm : ∀ r c : Fin 512, x3 (ix3 0 r c) = if c.val ≤ r.val then 0 else ⊥)
    (h1 : ∀ t : Fin 4096, x2 (ix4 0 0 t 64) = 1) (r : Fin 512) (e : Fin 64)
    (hb : Finset.univ.sup (masked x0 x1 (i 2).val r) ≠ ⊥) (ht : Finset.univ.sup (masked x0 x1 (i 2).val r) ≠ ⊤) :
    flashOut i x0 x1 x2 x3 (ix5 0 0 0 r e)
      = ∑ t : Fin 4096, Ideal.div (Ideal.exp (masked x0 x1 (i 2).val r t - Finset.univ.sup (masked x0 x1 (i 2).val r)))
          (∑ u : Fin 4096, Ideal.exp (masked x0 x1 (i 2).val r u - Finset.univ.sup (masked x0 x1 (i 2).val r)))
        * x2 (ix4 0 0 t ⟨e.val, by omega⟩) := by
  have hn : (i 2).val < 8 := (i 2).isLt
  unfold flashOut
  rw [out_apply, flash_acc x0 x1 x2 x3 _ hn hm, flash_acc x0 x1 x2 x3 _ hn hm]
  simp only [h1]
  rw [← Softmax.sum_normalised _ _ hb ht]
  unfold Softmax.acc
  simp only [mul_one]
end

end Cert.KernelIdeal.Attn

end
-- ==== Proof.Order.lean ====
/-
  A choice on the order of two row numbers kept as 32-bit words is a choice on the order of the numbers.
-/
module

public import Idealize.ShloMosaic.Lib.WordCmp
public import Idealize.ShloMosaic.PureOps.Ideal

@[expose] public section

namespace Cert.Order

open Idealize.ShloMosaic

/-- The bit pattern of f32's negative infinity denotes the least extended real. -/
theorem least : Ideal.ofBits .f32 0xFF800000#32 = ⊥ := by
  simp [Ideal.ofBits, Ideal.ieee]

theorem toInt_small (x : ℕ) (h : x < 4096) : (BitVec.ofNat 32 x).toInt = x := by
  rw [BitVec.toInt_eq_toNat_of_lt] <;> rw [BitVec.toNat_ofNat] <;> omega

theorem select_le {α : Type} (x y : ℕ) (hx : x < 4096) (hy : y < 4096) (a b : α) :
    Scalar.select (IntOp.cmpi .sle (BitVec.ofNat 32 x) (BitVec.ofNat 32 y)) a b = if x ≤ y then a else b := by
  rw [WordCmp.cmpi_sle_eq, toInt_small x hx, toInt_small y hy]
  unfold Scalar.select
  by_cases h : x ≤ y
  · rw [if_pos h, decide_eq_true (by exact_mod_cast h)]; rfl
  · rw [if_neg h, decide_eq_false (by exact_mod_cast h)]; rfl

theorem select_ge {α : Type} (x y : ℕ) (hx : x < 4096) (hy : y < 4096) (a b : α) :
    Scalar.select (IntOp.cmpi .sge (BitVec.ofNat 32 y) (BitVec.ofNat 32 x)) a b = if x ≤ y then a else b :=
  select_le x y hx hy a b

/-- The least upper bound of a finite family, written as a fold of maxima from the least element. -/
theorem fold_sup {ι : Type} (s : Finset ι) (f : ι → EReal) : max ⊥ (Finset.fold max ⊥ f s) = s.sup f :=
  max_eq_right bot_le

end Cert.Order

end
-- ==== Proof.Inputs.lean ====
/-
  What the attention kernel's launch finds in the arrays the host code prepared, element by element over the extended
  reals: the scaled queries, the keys, the values with a column of ones appended, and the diagonal tile's mask.
-/
module

public import proofs.«01_k».proof.Proof.Gen.KernelIdeal.Frame.Runs
public import Idealize.ShloMosaic.Lib.Pointwise
public import Idealize.ShloMosaic.Lib.StableHlo.Run
public import proofs.«01_k».proof.Proof.Order

@[expose] public section

set_option maxRecDepth 16384

noncomputable section

namespace Cert.KernelIdeal.Attn

open Idealize.ShloMosaic Idealize.ShloMosaic.TcCoe Cert.KernelIdeal Cert.KernelIdeal.Gen Idealize.ShloMosaic.StableHlo

variable (m : (ℓ : Loc nD τ sig) → Buf (Elt Ideal) ℓ) (c : Dev nD)

abbrev argQ : FVec Ideal S16x8x4096x96 .f32 := m ((c : Thread nD τ).loc main_arg0)
abbrev argK : FVec Ideal S16x8x4096x96 .f32 := m ((c : Thread nD τ).loc main_arg1)
abbrev argV : FVec Ideal S16x8x4096x64 .f32 := m ((c : Thread nD τ).loc main_arg2)

/-- The queries' scale. -/
abbrev scale : EReal := Ideal.ofBits .f32 0x3DD105EC#32

theorem queries_eq : V m c main_v11 = broadcastInDim S16x8x1x4096x96 ![0, 1, 3, 4] bcast_S16x8x4096x96_S16x8x1x4096x96_0_1_3_4
    (truncf .bf16 (mulf (argQ m c) (broadcastInDim S16x8x4096x96 ![] bcast_S_S16x8x4096x96 (constant S_ .f32 0x3DD105EC#32))) bitsLt_bf16_f32) := by
  unfold V
  simp only [hostOps0, hostOps0_1, hostOps0_2, hostOps0_3, List.flatten_cons, List.flatten_nil, List.append_nil, List.cons_append,
      List.nil_append, TRef.ternary, TRef.unary, TRef.toBuf, TRef.ofBuf, cast_eq]
  after_results_simp

theorem queries_apply (b : Fin 16) (h : Fin 8) (s : Fin 4096) (d : Fin 96) :
    V m c main_v11 (ix5 b h 0 s d) = argQ m c (ix4 b h s d) * scale := by
  rw [queries_eq]
  pointwise

theorem keys_eq : V m c main_v12 = truncf .bf16 (argK m c) bitsLt_bf16_f32 := by
  unfold V
  simp only [hostOps0, hostOps0_1, hostOps0_2, hostOps0_3, List.flatten_cons, List.flatten_nil, List.append_nil, List.cons_append,
      List.nil_append, TRef.ternary, TRef.unary, TRef.toBuf, TRef.ofBuf, cast_eq]
  after_results_simp

theorem keys_apply (b : Fin 16) (h : Fin 8) (s : Fin 4096) (d : Fin 96) :
    V m c main_v12 (ix4 b h s d) = argK m c (ix4 b h s d) := by
  rw [keys_eq]
  pointwise

theorem values_eq : V m c main_v7 = truncf .bf16 (concatenate S16x8x4096x128 3 [⟨S16x8x4096x64, argV m c⟩,
    ⟨S16x8x4096x64, broadcastInDim S16x8x4096x64 ![2, 3] bcast_S4096x64_S16x8x4096x64_2_3
      (select (cmpi .eq (iotaInDim S4096x64 32 1) (broadcastInDim S4096x64 ![] bcast_S_S4096x64 (constantI S_ 32 0#32)))
        (broadcastInDim S4096x64 ![] bcast_S_S4096x64 (constant S_ .f32 0x3F800000#32))
        (broadcastInDim S4096x64 ![] bcast_S_S4096x64 (constant S_ .f32 0x00000000#32)))⟩]
    concatenates_S16x8x4096x64_S16x8x4096x64_S16x8x4096x128_d3) bitsLt_bf16_f32 := by
  unfold V
  simp only [hostOps0, hostOps0_1, hostOps0_2, hostOps0_3, List.flatten_cons, List.flatten_nil, List.append_nil, List.cons_append,
      List.nil_append, TRef.ternary, TRef.unary, TRef.toBuf, TRef.ofBuf, cast_eq]
  after_results_simp
  rfl

theorem values_apply (b : Fin 16) (h : Fin 8) (s : Fin 4096) (e : Fin 64) :
    V m c main_v7 (ix4 b h s ⟨e.val, by omega⟩) = argV m c (ix4 b h s e) := by
  rw [values_eq]
  pointwise

theorem ones_apply (b : Fin 16) (h : Fin 8) (s : Fin 4096) : @Eq EReal (V m c main_v7 (ix4 b h s 64)) 1 := by
  rw [values_eq]
  pointwise

theorem mask_eq : V m c main_v30 = select
      (cmpi CmpIPredicate.sle
        (broadcastInDim S1x512x512 ![0, 1, 2] bcast_S1x1x512_S1x512x512_0_1_2
          (broadcastInDim S1x1x512 ![2] bcast_S512_S1x1x512_2 (iotaInDim S512 32 0)))
        (broadcastInDim S1x512x512 ![0, 1, 2] bcast_S1x512x1_S1x512x512_0_1_2
          (addi
            (broadcastInDim S1x512x1 ![0, 1, 2] bcast_S1x1x1_S1x512x1_0_1_2
              (broadcastInDim S1x1x1 ![0] bcast_S1_S1x1x1_0
                (muli (negi (iotaInDim S1 32 0)) (broadcastInDim S1 ![] bcast_S_S1 (constantI S_ 32 512#32)))))
            (broadcastInDim S1x512x1 ![1] bcast_S512_S1x512x1_1
              (shapeCast S512 (broadcastInDim S1x512 ![0, 1] bcast_S1x512_S1x512_0_1
                (shapeCast S1x512 (iotaInDim S512 32 0) shapeCasts_S512_S1x512)) shapeCasts_S1x512_S512)))))
      (broadcastInDim S1x512x512 ![] bcast_S_S1x512x512 (constant (F := Ideal) S_ FTy.f32 0#32))
      (broadcastInDim S1x512x512 ![] bcast_S_S1x512x512 (constant (F := Ideal) S_ FTy.f32 0xFF800000#32)) := by
  unfold V
  simp only [hostOps0, hostOps0_1, hostOps0_2, hostOps0_3, List.flatten_cons, List.flatten_nil, List.append_nil, List.cons_append,
      List.nil_append, TRef.ternary, TRef.unary, TRef.toBuf, TRef.ofBuf, cast_eq]
  after_results_simp
  rfl

theorem mask_apply (r k : Fin 512) : @Eq EReal (V m c main_v30 (ix3 0 r k)) (if k.val ≤ r.val then 0 else ⊥) := by
  rw [mask_eq]
  pointwise [Order.least]
  have hw : IntOp.addi (IntOp.muli (-0#32) 512#32) (BitVec.ofNat 32 r.val) = BitVec.ofNat 32 r.val := by
    rw [show IntOp.muli (-0#32) 512#32 = 0#32 from by decide]
    exact BitVec.zero_add _
  rw [hw]
  exact Order.select_le k.val r.val (by omega) (by omega) _ _

end Cert.KernelIdeal.Attn

end
-- ==== Proof.Value.lean ====
/-
  The array the attention kernel leaves, element by element: every block the pipeline fetches is a piece of the arrays
  the host part prepares, so every block it writes back is a piece of one array, the causal attention of the arguments;
  the blocks cover that array.
-/
module

public import proofs.«01_k».proof.Proof.Launched
public import proofs.«01_k».proof.Proof.Rows
public import proofs.«01_k».proof.Proof.Inputs

@[expose] public section

set_option maxRecDepth 16384

noncomputable section

namespace Cert.KernelIdeal.Attn

open Idealize.ShloMosaic Idealize.ShloMosaic.TcCoe Cert.KernelIdeal Cert.KernelIdeal.Gen
open Idealize.ShloMosaic.Pipeline (Dat Cfg Window)

variable (m : (ℓ : Loc nD τ sig) → Buf (Elt Ideal) ℓ) (c : Dev nD)

/-! ## The index maps -/

theorem word (n : ℕ) (h : n < 16) : (BitVec.ofNat 32 n).toNat = n := by
  rw [BitVec.toNat_ofNat]; omega

section Indices
variable (t : Fin cfg0.N)

abbrev tb : Fin 16 := grid0.coords t 0
abbrev th : Fin 8 := grid0.coords t 1
abbrev ti : Fin 8 := grid0.coords t 2

theorem index_q : win0_0.index t = ![(tb t).val, (th t).val, 0, (ti t).val, 0] := by
  show ![(BitVec.ofNat 32 (tb t).val).toNat, (BitVec.ofNat 32 (th t).val).toNat, 0, (BitVec.ofNat 32 (ti t).val).toNat, 0] = _
  rw [word _ (tb t).isLt, word _ (by omega), word _ (by omega)]

theorem index_k : win0_1.index t = ![(tb t).val, (th t).val, 0, 0] := by
  show ![(BitVec.ofNat 32 (tb t).val).toNat, (BitVec.ofNat 32 (th t).val).toNat, 0, 0] = _
  rw [word _ (tb t).isLt, word _ (by omega)]

theorem index_v : win0_2.index t = ![(tb t).val, (th t).val, 0, 0] := by
  show ![(BitVec.ofNat 32 (tb t).val).toNat, (BitVec.ofNat 32 (th t).val).toNat, 0, 0] = _
  rw [word _ (tb t).isLt, word _ (by omega)]

theorem index_m : win0_3.index t = ![0, 0, 0] := rfl

theorem index_o : win0_4.index t = ![(tb t).val, (th t).val, 0, (ti t).val, 0] := by
  show ![(BitVec.ofNat 32 (tb t).val).toNat, (BitVec.ofNat 32 (th t).val).toNat, 0, (BitVec.ofNat 32 (ti t).val).toNat, 0] = _
  rw [word _ (tb t).isLt, word _ (by omega), word _ (by omega)]

/-- Row `r` of the block at point `t`, in the array. -/
abbrev row (r : Fin 512) : Fin 4096 := ⟨512 * (ti t).val + r.val, by have := (ti t).isLt; omega⟩

theorem block_q (r : Fin 512) (d : Fin 96) :
    @Eq EReal (iblk m c 0 t (ix5 0 0 0 r d)) (argQ m c (ix4 (tb t) (th t) (row t r) d) * scale) := by
  rw [← queries_apply]
  show V m c main_v11 _ = V m c main_v11 _
  congr 1
  funext a
  apply Fin.ext
  have e := index_q t
  match a with
  | ⟨0, _⟩ => show win0_0.index t 0 * 1 + 1 * 0 = (tb t).val; rw [e]; show (tb t).val * 1 + 1 * 0 = _; omega
  | ⟨1, _⟩ => show win0_0.index t 1 * 1 + 1 * 0 = (th t).val; rw [e]; show (th t).val * 1 + 1 * 0 = _; omega
  | ⟨2, _⟩ => show win0_0.index t 2 * 1 + 1 * 0 = 0; rw [e]; rfl
  | ⟨3, _⟩ => show win0_0.index t 3 * 512 + 1 * r.val = 512 * (ti t).val + r.val; rw [e]; show (ti t).val * 512 + 1 * r.val = _; omega
  | ⟨4, _⟩ => show win0_0.index t 4 * 96 + 1 * d.val = d.val; rw [e]; show 0 * 96 + 1 * d.val = _; omega

theorem block_k (s : Fin 4096) (d : Fin 96) :
    @Eq EReal (iblk m c 1 t (ix4 0 0 s d)) (argK m c (ix4 (tb t) (th t) s d)) := by
  rw [← keys_apply]
  show V m c main_v12 _ = V m c main_v12 _
  congr 1
  funext a
  apply Fin.ext
  have e := index_k t
  match a with
  | ⟨0, _⟩ => show win0_1.index t 0 * 1 + 1 * 0 = (tb t).val; rw [e]; show (tb t).val * 1 + 1 * 0 = _; omega
  | ⟨1, _⟩ => show win0_1.index t 1 * 1 + 1 * 0 = (th t).val; rw [e]; show (th t).val * 1 + 1 * 0 = _; omega
  | ⟨2, _⟩ => show win0_1.index t 2 * 4096 + 1 * s.val = s.val; rw [e]; show 0 * 4096 + 1 * s.val = _; omega
  | ⟨3, _⟩ => show win0_1.index t 3 * 96 + 1 * d.val = d.val; rw [e]; show 0 * 96 + 1 * d.val = _; omega

theorem block_v (s : Fin 4096) (l : Fin 128) :
    iblk m c 2 t (ix4 0 0 s l) = V m c main_v7 (ix4 (tb t) (th t) s l) := by
  show V m c main_v7 _ = V m c main_v7 _
  congr 1
  funext a
  apply Fin.ext
  have e := index_v t
  match a with
  | ⟨0, _⟩ => show win0_2.index t 0 * 1 + 1 * 0 = (tb t).val; rw [e]; show (tb t).val * 1 + 1 * 0 = _; omega
  | ⟨1, _⟩ => show win0_2.index t 1 * 1 + 1 * 0 = (th t).val; rw [e]; show (th t).val * 1 + 1 * 0 = _; omega
  | ⟨2, _⟩ => show win0_2.index t 2 * 4096 + 1 * s.val = s.val; rw [e]; show 0 * 4096 + 1 * s.val = _; omega
  | ⟨3, _⟩ => show win0_2.index t 3 * 128 + 1 * l.val = l.val; rw [e]; show 0 * 128 + 1 * l.val = _; omega

theorem block_m (r k : Fin 512) : @Eq EReal (iblk m c 3 t (ix3 0 r k)) (if k.val ≤ r.val then 0 else ⊥) := by
  rw [← mask_apply m c]
  show V m c main_v30 _ = V m c main_v30 _
  congr 1
  funext a
  apply Fin.ext
  have e := index_m t
  match a with
  | ⟨0, _⟩ => show win0_3.index t 0 * 1 + 1 * 0 = 0; rw [e]; rfl
  | ⟨1, _⟩ => show win0_3.index t 1 * 512 + 1 * r.val = r.val; rw [e]; show 0 * 512 + 1 * r.val = _; omega
  | ⟨2, _⟩ => show win0_3.index t 2 * 512 + 1 * k.val = k.val; rw [e]; show 0 * 512 + 1 * k.val = _; omega

end Indices

/-! ## The scores -/

/-- The score of key `t` for row `s`, minus infinity where the key is after the row. -/
def causal (b : Fin 16) (h : Fin 8) (s t : Fin 4096) : EReal :=
  if t.val ≤ s.val then (∑ d : Fin 96, argQ m c (ix4 b h s d) * argK m c (ix4 b h t d)) * scale else ⊥

/-- Every query and key is a real number. -/
def Finite : Prop := ∃ (q k : S16x8x4096x96.Idx → ℝ), (∀ i, argQ m c i = (q i : EReal)) ∧ (∀ i, argK m c i = (k i : EReal))

theorem scale_real : ∃ z : ℝ, scale = (z : EReal) := by
  show ∃ z : ℝ, Ideal.ieee 8 23 0x3DD105EC#32 = (z : EReal)
  unfold Ideal.ieee
  simp only []
  rw [if_neg (by decide), if_neg (by decide)]
  exact ⟨_, rfl⟩

theorem coe_sum {n : ℕ} (f : Fin n → ℝ) : (∑ d, (f d : EReal)) = ((∑ d, f d : ℝ) : EReal) := by
  induction (Finset.univ : Finset (Fin n)) using Finset.induction_on with
  | empty => simp
  | insert a s ha ih => rw [Finset.sum_insert ha, Finset.sum_insert ha, ih, EReal.coe_add]

theorem dot_real (hf : Finite m c) (b : Fin 16) (h : Fin 8) (s t : Fin 4096) :
    ∃ z : ℝ, (∑ d : Fin 96, argQ m c (ix4 b h s d) * argK m c (ix4 b h t d)) * scale = (z : EReal)
      ∧ (∑ d : Fin 96, (argQ m c (ix4 b h s d) * scale) * argK m c (ix4 b h t d)) = (z : EReal) := by
  obtain ⟨q, k, hq, hk⟩ := hf
  obtain ⟨z, hz⟩ := scale_real
  refine ⟨(∑ d : Fin 96, q (ix4 b h s d) * k (ix4 b h t d)) * z, ?_, ?_⟩
  · simp only [hq, hk, hz, ← EReal.coe_mul, coe_sum]
  · simp only [hq, hk, hz, ← EReal.coe_mul, coe_sum]
    congr 1
    rw [Finset.sum_mul]
    exact Finset.sum_congr rfl fun d _ => by ring

theorem masked_eq (hf : Finite m c) (t : Fin cfg0.N) (r : Fin 512) :
    masked (iblk m c 0 t) (iblk m c 1 t) (ti t).val r = causal m c (tb t) (th t) (row t r) := by
  funext k
  have e : score (iblk m c 0 t) (iblk m c 1 t) r k
      = ∑ d : Fin 96, (argQ m c (ix4 (tb t) (th t) (row t r) d) * scale) * argK m c (ix4 (tb t) (th t) k d) := by
    unfold score
    exact Finset.sum_congr rfl fun d _ => by
      have a := block_q m c t r d
      have b := block_k m c t k d
      exact congrArg₂ (fun x y : EReal => x * y) a b
  obtain ⟨z, h1, h2⟩ := dot_real m c hf (tb t) (th t) (row t r) k
  unfold masked causal
  rw [e, h1, h2]

theorem sup_ne_bot (hf : Finite m c) (b : Fin 16) (h : Fin 8) (s : Fin 4096) : Finset.univ.sup (causal m c b h s) ≠ ⊥ := by
  obtain ⟨z, h1, -⟩ := dot_real m c hf b h s s
  intro hbot
  have hle : causal m c b h s s ≤ Finset.univ.sup (causal m c b h s) := Finset.le_sup (Finset.mem_univ s)
  rw [hbot, le_bot_iff] at hle
  unfold causal at hle
  rw [if_pos le_rfl, h1] at hle
  exact EReal.coe_ne_bot z hle

theorem sup_ne_top (hf : Finite m c) (b : Fin 16) (h : Fin 8) (s : Fin 4096) : Finset.univ.sup (causal m c b h s) ≠ ⊤ := by
  refine ne_of_lt ((Finset.sup_lt_iff (by exact bot_lt_top)).mpr fun t _ => ?_)
  unfold causal
  split
  · obtain ⟨z, h1, -⟩ := dot_real m c hf b h s t
    rw [h1]; exact EReal.coe_lt_top z
  · exact bot_lt_top

/-! ## The array -/

/-- Causal attention at one place. -/
def attention (b : Fin 16) (h : Fin 8) (s : Fin 4096) (e : Fin 64) : EReal :=
  ∑ t : Fin 4096, Ideal.div (Ideal.exp (causal m c b h s t - Finset.univ.sup (causal m c b h s)))
      (∑ u : Fin 4096, Ideal.exp (causal m c b h s u - Finset.univ.sup (causal m c b h s)))
    * argV m c (ix4 b h t e)

/-- The whole array. -/
def result : Buf (Elt Ideal) ((c : Thread nD τ).loc main_v31) := fun i => attention m c (i 0) (i 1) (i 3) (i 4)

theorem block_apply (hf : Finite m c) (t : Fin cfg0.N) (r : Fin 512) (e : Fin 64) :
    @Eq EReal (block m c t (ix5 0 0 0 r e)) (attention m c (tb t) (th t) (row t r) e) := by
  have hm := masked_eq m c hf t r
  have h := flashOut_apply (x0 := iblk m c 0 t) (x1 := iblk m c 1 t) (x2 := iblk m c 2 t) (x3 := iblk m c 3 t) (grid0.coords t)
    (block_m m c t) (fun s => (block_v m c t s 64).trans (ones_apply m c (tb t) (th t) s)) r e
    (by rw [hm]; exact sup_ne_bot m c hf _ _ _) (by rw [hm]; exact sup_ne_top m c hf _ _ _)
  refine Eq.trans h ?_
  rw [hm]
  unfold attention
  refine Finset.sum_congr rfl fun s _ => ?_
  rw [block_v m c t s ⟨e.val, by omega⟩]
  exact congrArg (fun y : EReal => _ * y) (values_apply m c (tb t) (th t) s e)

theorem flushed_eq (hf : Finite m c) (t : Fin cfg0.N) (_ : (cfg0.win 4).flush t = true) :
    (dats m 0 c).flushed 4 t = ((cfg0.win 4).blk t).view.read (Elt Ideal) (result m c) := by
  show (cfg0.win 4).cut (grid0.coords t) ((dats m 0 c).after 4 t) = _
  rw [after_4]
  funext j
  have hj : (j : S1x1x1x512x64.Idx) = ix5 0 0 0 (j 3) (j 4) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl
  show block m c t (j : S1x1x1x512x64.Idx) = result m c (((cfg0.win 4).blk t).view.emb j)
  refine (congrArg (block m c t) hj).trans ((block_apply m c hf t (j 3) (j 4)).trans ?_)
  unfold result
  have e := index_o t
  have h0 : (((cfg0.win 4).blk t).view.emb j) 0 = tb t := Fin.ext (by
    show win0_4.index t 0 * 1 + 1 * (j 0).val = (tb t).val
    have : (j 0).val < 1 := (j 0).isLt
    rw [e]; show (tb t).val * 1 + 1 * (j 0).val = _; omega)
  have h1 : (((cfg0.win 4).blk t).view.emb j) 1 = th t := Fin.ext (by
    show win0_4.index t 1 * 1 + 1 * (j 1).val = (th t).val
    have : (j 1).val < 1 := (j 1).isLt
    rw [e]; show (th t).val * 1 + 1 * (j 1).val = _; omega)
  have h3 : (((cfg0.win 4).blk t).view.emb j) 3 = row t (j 3) := Fin.ext (by
    show win0_4.index t 3 * 512 + 1 * (j 3).val = 512 * (ti t).val + (j 3).val
    rw [e]; show (ti t).val * 512 + 1 * (j 3).val = _; omega)
  have h4 : (((cfg0.win 4).blk t).view.emb j) 4 = j 4 := Fin.ext (by
    show win0_4.index t 4 * 64 + 1 * (j 4).val = (j 4).val
    rw [e]; show 0 * 64 + 1 * (j 4).val = _; omega)
  rw [h0, h1, h3, h4]

/-- The point that writes a batch entry, a head and a block of rows. -/
theorem point (b : Fin 16) (h : Fin 8) (i : Fin 8) : ∃ t : Fin cfg0.N, tb t = b ∧ th t = h ∧ ti t = i := by
  have key : ∀ (b : Fin 16) (h : Fin 8) (i : Fin 8), ∃ hlt : b.val * 64 + h.val * 8 + i.val < grid0.N,
      (grid0.coords ⟨b.val * 64 + h.val * 8 + i.val, hlt⟩ 0).val = b.val ∧ (grid0.coords ⟨b.val * 64 + h.val * 8 + i.val, hlt⟩ 1).val = h.val
        ∧ (grid0.coords ⟨b.val * 64 + h.val * 8 + i.val, hlt⟩ 2).val = i.val := by decide +kernel
  obtain ⟨hlt, h0, h1, h2⟩ := key b h i
  exact ⟨⟨_, hlt⟩, Fin.ext h0, Fin.ext h1, Fin.ext h2⟩

theorem final (hf : Finite m c) : (dats m 0 c).arrAt 4 cfg0.N = result m c :=
  (dats m 0 c).arrAt_eq_of_cover 4 (result m c) (flushed_eq m c hf) fun i => by
    have i0 : (i 0 : Nat) < 16 := (i 0).isLt
    have i1 : (i 1 : Nat) < 8 := (i 1).isLt
    have i2 : (i 2 : Nat) < 1 := (i 2).isLt
    have i3 : (i 3 : Nat) < 4096 := (i 3).isLt
    have i4 : (i 4 : Nat) < 64 := (i 4).isLt
    obtain ⟨t, h0, h1, h2⟩ := point ⟨(i 0 : Nat), i0⟩ ⟨(i 1 : Nat), i1⟩ ⟨(i 3 : Nat) / 512, by omega⟩
    have e := index_o t
    rw [h0, h1, h2] at e
    refine ⟨t, flush0_4 t, ?_⟩
    show i ∈ ((View.whole main_v31).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [e]; show (i 0 : Nat) * 1 ≤ (i 0 : Nat) ∧ (i 0 : Nat) < (i 0 : Nat) * 1 + 1; omega
    | ⟨1, _⟩ => show win0_4.index t 1 * 1 ≤ (i 1 : Nat) ∧ (i 1 : Nat) < win0_4.index t 1 * 1 + 1
                rw [e]; show (i 1 : Nat) * 1 ≤ (i 1 : Nat) ∧ (i 1 : Nat) < (i 1 : Nat) * 1 + 1; omega
    | ⟨2, _⟩ => show win0_4.index t 2 * 1 ≤ (i 2 : Nat) ∧ (i 2 : Nat) < win0_4.index t 2 * 1 + 1
                rw [e]; show 0 * 1 ≤ (i 2 : Nat) ∧ (i 2 : Nat) < 0 * 1 + 1; omega
    | ⟨3, _⟩ => show win0_4.index t 3 * 512 ≤ (i 3 : Nat) ∧ (i 3 : Nat) < win0_4.index t 3 * 512 + 512
                rw [e]; show (i 3 : Nat) / 512 * 512 ≤ (i 3 : Nat) ∧ (i 3 : Nat) < (i 3 : Nat) / 512 * 512 + 512; omega
    | ⟨4, _⟩ => show win0_4.index t 4 * 64 ≤ (i 4 : Nat) ∧ (i 4 : Nat) < win0_4.index t 4 * 64 + 64
                rw [e]; show 0 * 64 ≤ (i 4 : Nat) ∧ (i 4 : Nat) < 0 * 64 + 64; omega

end Cert.KernelIdeal.Attn

end
-- ==== Proof.Reference.lean ====
/-
  The reference's result over the extended reals, element by element: the softmax of the masked scores of a row, applied
  to the values.
-/
module

public import proofs.«01_k».proof.Proof.Gen.ReferenceIdeal.Run
public import Idealize.ShloMosaic.Lib.Pointwise
public import proofs.«01_k».proof.Proof.Order

@[expose] public section

set_option maxRecDepth 16384

noncomputable section

namespace Cert.ReferenceIdeal.Attn

open Idealize.ShloMosaic Idealize.ShloMosaic.TcCoe Cert.ReferenceIdeal Cert.ReferenceIdeal.Gen Cert.ReferenceIdeal.Value

variable (m : (ℓ : Loc nD τ sig) → Buf (Elt Ideal) ℓ) (c : Dev nD)

abbrev argQ : FVec Ideal S16x8x4096x96 .f32 := m ((c : Thread nD τ).loc main_arg0)
abbrev argK : FVec Ideal S16x8x4096x96 .f32 := m ((c : Thread nD τ).loc main_arg1)
abbrev argV : FVec Ideal S16x8x4096x64 .f32 := m ((c : Thread nD τ).loc main_arg2)

/-- The score of key `t` for row `s`, minus infinity where the key is after the row. -/
def masked (b : Fin 16) (h : Fin 8) (s t : Fin 4096) : EReal :=
  if t.val ≤ s.val then (∑ d : Fin 96, argQ m c (ix4 b h s d) * argK m c (ix4 b h t d)) * Ideal.ofBits .f32 0x3DD105EC#32 else ⊥

theorem select_masked (b : Fin 16) (h : Fin 8) (s t : Fin 4096) (z : EReal) (hz : z = ⊥) :
    Scalar.select (IntOp.cmpi .sge (BitVec.ofNat 32 s.val) (BitVec.ofNat 32 t.val))
      ((∑ d : Fin 96, argQ m c (ix4 b h s d) * argK m c (ix4 b h t d)) * Ideal.ofBits .f32 0x3DD105EC#32) z
      = masked m c b h s t := by
  rw [hz]
  exact Order.select_ge t.val s.val t.isLt s.isLt _ _

/-- The masked, scaled scores as the program computes them. -/
def scores : FVec Ideal S16x8x4096x4096 .f32 :=
  select (broadcastInDim S16x8x4096x4096 ![2, 3] bcast_S4096x4096_S16x8x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (mulf (Host.dotGeneral (F := Ideal) (φ₁ := .f32) (φ₂ := .f32) dot_S16x8x4096x96_S16x8x4096x96_S16x8x4096x4096_3_3_2_2_01_01 none (argQ m c) (argK m c)) (broadcastInDim S16x8x4096x4096 ![] bcast_S_S16x8x4096x4096 (constant S_ .f32 0x3DD105EC#32))) (broadcastInDim S16x8x4096x4096 ![] bcast_S_S16x8x4096x4096 (id (constant S_ .f32 0xFF800000#32)))

/-- A row's greatest element, as the program computes it. -/
def rowMax (A : FVec Ideal S16x8x4096x4096 .f32) : FVec Ideal S16x8x4096 .f32 :=
  maximumf (broadcastInDim S16x8x4096 ![] bcast_S_S16x8x4096 (constant S_ .f32 0xFF800000#32)) (Host.reduce FloatOps.maximumf A (constant S_ .f32 0xFF800000#32) reducesTo_S16x8x4096x4096_S16x8x4096_d3 h_S_)

/-- One number for each row, repeated along the row. -/
def along (A : FVec Ideal S16x8x4096 .f32) : FVec Ideal S16x8x4096x4096 .f32 :=
  broadcastInDim S16x8x4096x4096 ![0, 1, 2, 3] bcast_S16x8x4096x1_S16x8x4096x4096_0_1_2_3 (broadcastInDim S16x8x4096x1 ![0, 1, 2] bcast_S16x8x4096_S16x8x4096x1_0_1_2 A)

/-- A row's sum, as the program computes it. -/
def rowSum (A : FVec Ideal S16x8x4096x4096 .f32) : FVec Ideal S16x8x4096 .f32 :=
  Host.reduceAdd A (constant S_ .f32 0x00000000#32) reducesTo_S16x8x4096x4096_S16x8x4096_d3 h_S_

/-- The weights applied to the values. -/
def applied (W : FVec Ideal S16x8x4096x4096 .f32) (B : FVec Ideal S16x8x4096x64 .f32) : FVec Ideal S16x8x1x4096x64 .bf16 :=
  truncf .bf16 (broadcastInDim S16x8x1x4096x64 ![0, 1, 3, 4] bcast_S16x8x4096x64_S16x8x1x4096x64_0_1_3_4 (Host.dotGeneral dot_S16x8x4096x4096_S16x8x4096x64_S16x8x4096x64_3_2_2_3_01_01 none W B)) bitsLt_bf16_f32

theorem scores_apply (b : Fin 16) (h : Fin 8) (s t : Fin 4096) :
    @Eq EReal (scores m c (ix4 b h s t)) (masked m c b h s t) := by
  unfold scores
  pointwise [dot_S16x8x4096x96_S16x8x4096x96_S16x8x4096x4096_3_3_2_2_01_01]
  exact select_masked m c b h s t _ Order.least

/-- The maximum over the last of four axes, at any sizes. -/
theorem reduceMax_apply (n0 n1 n2 n3 : ℕ) (A : FVec Ideal ⟨4, ![n0, n1, n2, n3]⟩ .f32) (z : FVec Ideal S_ .f32)
    (hr : (⟨4, ![n0, n1, n2, n3]⟩ : Shape).ReducesTo [3] ⟨3, ![n0, n1, n2]⟩) (b : Fin n0) (h : Fin n1) (s : Fin n2) :
    @Eq EReal (Host.reduce (α := Ideal .f32) FloatOps.maximumf A z hr h_S_ (ix3 b h s))
      (Finset.univ.fold max (z (Shape.Idx.first h_S_)) fun t : Fin n3 => A (ix4 b h s t)) := by
  simp only [pointwise]

theorem maximum_apply (s : Shape) (A B : FVec Ideal s .f32) (j : s.Idx) : @Eq EReal (maximumf A B j) (max (A j) (B j)) := rfl

theorem least_apply (j : S16x8x4096.Idx) :
    @Eq EReal (broadcastInDim S16x8x4096 ![] bcast_S_S16x8x4096 (constant (F := Ideal) S_ .f32 0xFF800000#32) j) ⊥ := Order.least

theorem rowMax_apply (A : FVec Ideal S16x8x4096x4096 .f32) (b : Fin 16) (h : Fin 8) (s : Fin 4096) :
    @Eq EReal (rowMax A (ix3 b h s)) (Finset.univ.sup fun t : Fin 4096 => A (ix4 b h s t)) := by
  have z : @Eq EReal (constant (F := Ideal) S_ .f32 0xFF800000#32 (Shape.Idx.first h_S_)) ⊥ := Order.least
  unfold rowMax
  rw [maximum_apply, least_apply, reduceMax_apply 16 8 4096 4096, z]
  exact Order.fold_sup _ _

theorem along_apply (A : FVec Ideal S16x8x4096 .f32) (b : Fin 16) (h : Fin 8) (s t : Fin 4096) :
    along A (ix4 b h s t) = A (ix3 b h s) := by
  unfold along
  pointwise

theorem rowSum_apply (A : FVec Ideal S16x8x4096x4096 .f32) (b : Fin 16) (h : Fin 8) (s : Fin 4096) :
    @Eq EReal (rowSum A (ix3 b h s)) (∑ t : Fin 4096, A (ix4 b h s t)) := by
  unfold rowSum
  pointwise

theorem applied_apply (W : FVec Ideal S16x8x4096x4096 .f32) (B : FVec Ideal S16x8x4096x64 .f32) (b : Fin 16) (h : Fin 8) (s : Fin 4096) (e : Fin 64) :
    @Eq EReal (applied W B (ix5 b h 0 s e)) (∑ t : Fin 4096, W (ix4 b h s t) * B (ix4 b h t e)) := by
  unfold applied
  pointwise [dot_S16x8x4096x4096_S16x8x4096x64_S16x8x4096x64_3_2_2_3_01_01]

/-- The weights before they are normalised. -/
def weights : FVec Ideal S16x8x4096x4096 .f32 := Host.exp (subf (scores m c) (along (rowMax (scores m c))))

theorem res_eq : res_main_v23 m c = applied (Host.divf (weights m c) (along (rowSum (weights m c)))) (argV m c) := rfl

theorem weights_apply (b : Fin 16) (h : Fin 8) (s t : Fin 4096) :
    @Eq EReal (weights m c (ix4 b h s t)) (Ideal.exp (masked m c b h s t - Finset.univ.sup (masked m c b h s))) := by
  have e : @Eq EReal (weights m c (ix4 b h s t)) (Ideal.exp (scores m c (ix4 b h s t) - along (rowMax (scores m c)) (ix4 b h s t))) := rfl
  rw [e, along_apply, rowMax_apply, scores_apply]
  exact congrArg (fun z => Ideal.exp (masked m c b h s t - z)) (Finset.sup_congr rfl fun u _ => scores_apply m c b h s u)

theorem res_apply (b : Fin 16) (h : Fin 8) (s : Fin 4096) (e : Fin 64) :
    @Eq EReal (res_main_v23 m c (ix5 b h 0 s e))
      (∑ t : Fin 4096, Ideal.div (Ideal.exp (masked m c b h s t - Finset.univ.sup (masked m c b h s)))
          (∑ u : Fin 4096, Ideal.exp (masked m c b h s u - Finset.univ.sup (masked m c b h s)))
        * argV m c (ix4 b h t e)) := by
  rw [res_eq, applied_apply]
  refine Finset.sum_congr rfl fun t _ => ?_
  have e1 : @Eq EReal (Host.divf (weights m c) (along (rowSum (weights m c))) (ix4 b h s t))
      (Ideal.div (weights m c (ix4 b h s t)) (along (rowSum (weights m c)) (ix4 b h s t))) := rfl
  rw [e1, along_apply, rowSum_apply, weights_apply]
  simp only [weights_apply]

end Cert.ReferenceIdeal.Attn

end
-- ==== Proof.Precondition.lean ====
/-
  What the precondition says of one queries array and one keys array: every element is a real number.
-/
module

public import proofs.«01_k».proof.Pre_finite_queries_keys
public import proofs.«01_k».proof.Proof.Gen.KernelIdeal
public import Idealize.ShloMosaic.PureOps.Ideal

@[expose] public section

noncomputable section

namespace Cert.Precondition

open Idealize.ShloMosaic Cert.Pre_finite_queries_keys

instance facts : Cert.Pre_finite_queries_keys.Facts where
  bcast_S_S16x8x4096x96 := Cert.KernelIdeal.Gen.bcast_S_S16x8x4096x96

/-- The bit pattern of f32's infinity denotes the greatest extended real. -/
theorem greatest : Ideal.ofBits .f32 0x7F800000#32 = ⊤ := by
  simp [Ideal.ofBits, Ideal.ieee]

/-- An extended real of magnitude below infinity is a real. -/
theorem real_of_abs (x : EReal) (h : Ideal.cmp .olt (max x (-x)) (Ideal.ofBits .f32 0x7F800000#32) = 1#1) : ∃ y : ℝ, x = (y : EReal) := by
  rw [greatest] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => simp at hlt
  | top => simp at hlt
  | coe y => exact ⟨y, rfl⟩

theorem and_one (a b : BitVec 1) (h : a &&& b = 1#1) : a = 1#1 ∧ b = 1#1 := by
  revert a b; decide

theorem reals (q k : FVec Ideal S16x8x4096x96 .f32) (v : FVec Ideal S16x8x4096x64 .f32)
    (h : Cert.Pre_finite_queries_keys.fn (F := Ideal) q k v = fun _ => 1#1) :
    ∃ (a b : S16x8x4096x96.Idx → ℝ), (∀ i, q i = (a i : EReal)) ∧ (∀ i, k i = (b i : EReal)) := by
  have hi : ∀ i, (∃ y : ℝ, (q i : EReal) = y) ∧ (∃ y : ℝ, (k i : EReal) = y) := fun i => by
    have e := congrFun h i
    have e' : (Ideal.cmp .olt (max (q i) (-(q i))) (Ideal.ofBits .f32 0x7F800000#32))
        &&& (Ideal.cmp .olt (max (k i) (-(k i))) (Ideal.ofBits .f32 0x7F800000#32)) = 1#1 := e
    obtain ⟨e1, e2⟩ := and_one _ _ e'
    exact ⟨real_of_abs _ e1, real_of_abs _ e2⟩
  choose a ha using fun i => (hi i).1
  choose b hb using fun i => (hi i).2
  exact ⟨a, b, ha, hb⟩

end Cert.Precondition

end
-- ==== Proof.Ffn.lean ====
/-
  The gated feed-forward network at one place over the extended reals, with the norms before and after it, and the sum over
  the hidden units taken in chunks.
-/
module

public import Idealize.ShloMosaic.Lib.Pointwise

@[expose] public section

noncomputable section

namespace Ffn

open Idealize.ShloMosaic

/-- A row over its root mean square, times the gain. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- A gate times its logistic function, times the unit it gates. -/
def gated (g u : EReal) : EReal := g * Ideal.logistic g * u

/-- Hidden unit `j` of a row. -/
def hidden (h : Fin 1024 → EReal) (a b : Fin 1024 → Fin 2816 → EReal) (j : Fin 2816) : EReal :=
  gated (∑ e, h e * a e j) (∑ e, h e * b e j)

/-- The network's result for a row, before its norm. -/
def mixed (h : Fin 1024 → EReal) (a b : Fin 1024 → Fin 2816 → EReal) (w : Fin 2816 → Fin 1024 → EReal) (d : Fin 1024) : EReal :=
  ∑ j, hidden h a b j * w j d

/-- The whole of it for a row. -/
def out (x gpre : Fin 1024 → EReal) (a b : Fin 1024 → Fin 2816 → EReal) (w : Fin 2816 → Fin 1024 → EReal) (gpost : Fin 1024 → EReal)
    (d : Fin 1024) : EReal :=
  x d + normed (mixed (normed x gpre) a b w) gpost d

/-- Unit `k` of chunk `n`. -/
abbrev unit (n : Fin 11) (k : Fin 256) : Fin 2816 := ⟨256 * n.val + k.val, by omega⟩

theorem sum_chunks (f : Fin 2816 → EReal) : (∑ n : Fin 11, ∑ k : Fin 256, f (unit n k)) = ∑ j, f j := by
  have h : (∑ j : Fin (11 * 256), f j) = ∑ p : Fin 11 × Fin 256, f (finProdFinEquiv p) :=
    (Equiv.sum_comp (finProdFinEquiv (m := 11) (n := 256)) (fun j : Fin (11 * 256) => f j)).symm
  refine Eq.trans ?_ h.symm
  rw [Fintype.sum_prod_type]
  refine Finset.sum_congr rfl fun n _ => Finset.sum_congr rfl fun k _ => congrArg f (Fin.ext ?_)
  show 256 * n.val + k.val = k.val + 256 * n.val
  omega

/-- Eleven terms added one after another. -/
theorem sum_eleven (T : Fin 11 → EReal) :
    T 0 + T 1 + T 2 + T 3 + T 4 + T 5 + T 6 + T 7 + T 8 + T 9 + T 10 = ∑ n, T n := by
  simp only [Fin.sum_univ_succ, Finset.univ_unique, Finset.sum_singleton, add_assoc]
  rfl

end Ffn

end
-- ==== Proof.FfnBody.lean ====
/-
  What one grid point of the feed-forward call writes, element by element over the extended reals.
-/
module

public import proofs.«01_k».proof.Proof.Gen.Kernel2Ideal.Frame
public import Idealize.ShloMosaic.Lib.Pointwise
public import proofs.«01_k».proof.Proof.Ffn

@[expose] public section

set_option maxRecDepth 16384

noncomputable section

namespace Cert.Kernel2Ideal.Mixer

open Idealize.ShloMosaic Cert.Kernel2Ideal Cert.Kernel2Ideal.Gen

/-- The norm of a block of rows as the program computes it. -/
def rms (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- A chunk of hidden units before the gate, or the gate. -/
def project (h : FVec Ideal S512x1024 .bf16) (a : FVec Ideal S1024x256 .bf16) : FVec Ideal S512x256 .f32 :=
  matmul dot_S512x1024_S1024x256_S512x256_1_0_0_1_n_n none h (shapeCast S1024x256 a shapeCasts_S1024x256_S1024x256) (constant S512x256 .f32 0x00000000#32)

/-- One chunk's part of the result. -/
def chunk (h : FVec Ideal S512x1024 .bf16) (a b : FVec Ideal S1024x256 .bf16) (w : FVec Ideal S256x1024 .bf16) : FVec Ideal S512x1024 .f32 :=
  matmul dot_S512x256_S256x1024_S512x1024_1_0_0_1_n_n none
    (truncf .bf16 (mulf (mulf (project h a) (logistic (project h a))) (project h b)) bitsLt_bf16_f32)
    (shapeCast S256x1024 w shapeCasts_S256x1024_S256x1024) (constant S512x1024 .f32 0x00000000#32)

theorem rms_apply (x : FVec Ideal S512x1024 .f32) (g : FVec Ideal S1x1024 .f32) (r : Fin 512) (d : Fin 1024) :
    @Eq EReal (rms x g (ix2 r d)) (Ffn.normed (fun e => x (ix2 r e)) (fun e => g (ix2 0 e)) d) := by
  unfold rms Ffn.normed
  pointwise

theorem project_apply (h : FVec Ideal S512x1024 .bf16) (a : FVec Ideal S1024x256 .bf16) (r : Fin 512) (k : Fin 256) :
    @Eq EReal (project h a (ix2 r k)) (∑ e : Fin 1024, h (ix2 r e) * a (ix2 e k)) := by
  unfold project
  pointwise [dot_S512x1024_S1024x256_S512x256_1_0_0_1_n_n]

theorem chunk_apply (h : FVec Ideal S512x1024 .bf16) (a b : FVec Ideal S1024x256 .bf16) (w : FVec Ideal S256x1024 .bf16) (r : Fin 512) (d : Fin 1024) :
    @Eq EReal (chunk h a b w (ix2 r d)) (∑ k : Fin 256, Ffn.gated (∑ e : Fin 1024, h (ix2 r e) * a (ix2 e k)) (∑ e : Fin 1024, h (ix2 r e) * b (ix2 e k)) * w (ix2 k d)) := by
  unfold chunk
  pointwise [dot_S512x256_S256x1024_S512x1024_1_0_0_1_n_n]
  simp only [project_apply]
  rfl

section Body
variable (x0 : Vec Ideal S512x1024 .f32) (x1 : Vec Ideal S1x1024 .f32) (x2 x3 : Vec Ideal S1024x2816 .bf16) (x4 : Vec Ideal S2816x1024 .bf16) (x5 : Vec Ideal S1x1024 .f32)

/-- The normed block. -/
def pre : FVec Ideal S512x1024 .bf16 := truncf .bf16 (rms x0 x1) bitsLt_bf16_f32

/-- The chunks added up. -/
def total (h : FVec Ideal S512x1024 .bf16) : FVec Ideal S512x1024 .f32 :=
  addf (addf (addf (addf (addf (addf (addf (addf (addf (addf
    (chunk h (View.ld x2 r0_2) (View.ld x3 r0_2) (View.ld x4 r0_3))
    (chunk h (View.ld x2 r0_4) (View.ld x3 r0_4) (View.ld x4 r0_5)))
    (chunk h (View.ld x2 r0_6) (View.ld x3 r0_6) (View.ld x4 r0_7)))
    (chunk h (View.ld x2 r0_8) (View.ld x3 r0_8) (View.ld x4 r0_9)))
    (chunk h (View.ld x2 r0_10) (View.ld x3 r0_10) (View.ld x4 r0_11)))
    (chunk h (View.ld x2 r0_12) (View.ld x3 r0_12) (View.ld x4 r0_13)))
    (chunk h (View.ld x2 r0_14) (View.ld x3 r0_14) (View.ld x4 r0_15)))
    (chunk h (View.ld x2 r0_16) (View.ld x3 r0_16) (View.ld x4 r0_17)))
    (chunk h (View.ld x2 r0_18) (View.ld x3 r0_18) (View.ld x4 r0_19)))
    (chunk h (View.ld x2 r0_20) (View.ld x3 r0_20) (View.ld x4 r0_21)))
    (chunk h (View.ld x2 r0_22) (View.ld x3 r0_22) (View.ld x4 r0_23))

theorem out_eq : out0_6 x0 x1 x2 x3 x4 x5 = View.canon [⟨r0_0, addf (View.ld x0 r0_0)
    (rms (total x2 x3 x4 (pre (View.ld x0 r0_0) (View.ld x1 r0_1))) (View.ld x5 r0_1))⟩] := rfl

theorem ld_cols (x : Vec Ideal S1024x2816 .bf16) (n : ℕ) (hb) (e : Fin 1024) (k : Fin 256) (j : Fin 2816) (hj : j.val = n + k.val) :
    View.ld x (Rect.unit (s := S1024x2816) ![0, n] S1024x256.size hb) (ix2 e k) = x (ix2 e j) := by
  show x _ = x _
  congr 1
  funext a
  apply Fin.ext
  match a with
  | ⟨0, _⟩ => show 0 + 1 * e.val = e.val; omega
  | ⟨1, _⟩ => show n + 1 * k.val = j.val; omega

theorem ld_rows (x : Vec Ideal S2816x1024 .bf16) (n : ℕ) (hb) (k : Fin 256) (d : Fin 1024) (j : Fin 2816) (hj : j.val = n + k.val) :
    View.ld x (Rect.unit (s := S2816x1024) ![n, 0] S256x1024.size hb) (ix2 k d) = x (ix2 j d) := by
  show x _ = x _
  congr 1
  funext a
  apply Fin.ext
  match a with
  | ⟨0, _⟩ => show n + 1 * k.val = j.val; omega
  | ⟨1, _⟩ => show 0 + 1 * d.val = d.val; omega

theorem zero_offset : (![0, 0] : Fin 2 → ℕ) = fun _ => 0 := by
  funext a
  match a with
  | ⟨0, _⟩ => rfl
  | ⟨1, _⟩ => rfl

theorem ld_block (x : Vec Ideal S512x1024 .f32) : View.ld x r0_0 = x := View.ld_unit_zero zero_offset _ x

theorem ld_gain (x : Vec Ideal S1x1024 .f32) : View.ld x r0_1 = x := View.ld_unit_zero zero_offset _ x

/-- Chunk `n`'s part of the result at one place. -/
def part (h : FVec Ideal S512x1024 .bf16) (r : Fin 512) (d : Fin 1024) (n : Fin 11) : EReal :=
  ∑ k : Fin 256, Ffn.hidden (fun e => h (ix2 r e)) (fun e j => x2 (ix2 e j)) (fun e j => x3 (ix2 e j)) (Ffn.unit n k) * x4 (ix2 (Ffn.unit n k) d)

theorem chunk_part (h : FVec Ideal S512x1024 .bf16) (n : Fin 11) (s : ℕ) (hs : s = 256 * n.val) (ha hw) (r : Fin 512) (d : Fin 1024) :
    @Eq EReal (chunk h (View.ld x2 (Rect.unit (s := S1024x2816) ![0, s] S1024x256.size ha)) (View.ld x3 (Rect.unit (s := S1024x2816) ![0, s] S1024x256.size ha))
      (View.ld x4 (Rect.unit (s := S2816x1024) ![s, 0] S256x1024.size hw)) (ix2 r d)) (part x2 x3 x4 h r d n) := by
  rw [chunk_apply]
  unfold part Ffn.hidden
  refine Finset.sum_congr rfl fun k _ => ?_
  have ea : ∀ (x : Vec Ideal S1024x2816 .bf16), @Eq EReal (∑ e : Fin 1024, h (ix2 r e) * View.ld x (Rect.unit (s := S1024x2816) ![0, s] S1024x256.size ha) (ix2 e k))
      (∑ e : Fin 1024, h (ix2 r e) * x (ix2 e (Ffn.unit n k))) := fun x =>
    Finset.sum_congr rfl fun e _ => congrArg (fun y : EReal => _ * y) (ld_cols x s ha e k (Ffn.unit n k) (by rw [hs]))
  have ew := ld_rows x4 s hw k d (Ffn.unit n k) (by rw [hs])
  exact congrArg₂ (fun x y : EReal => x * y) (congrArg₂ Ffn.gated (ea x2) (ea x3)) ew

theorem addf_apply' (a b : FVec Ideal S512x1024 .f32) (j : S512x1024.Idx) : @Eq EReal (addf a b j) (a j + b j) := rfl

theorem total_apply (h : FVec Ideal S512x1024 .bf16) (r : Fin 512) (d : Fin 1024) :
    @Eq EReal (total x2 x3 x4 h (ix2 r d))
      (Ffn.mixed (fun e => h (ix2 r e)) (fun e j => x2 (ix2 e j)) (fun e j => x3 (ix2 e j)) (fun j d => x4 (ix2 j d)) d) := by
  unfold total
  simp only [addf_apply']
  rw [chunk_part x2 x3 x4 h 0 0 rfl, chunk_part x2 x3 x4 h 1 256 rfl, chunk_part x2 x3 x4 h 2 512 rfl, chunk_part x2 x3 x4 h 3 768 rfl,
    chunk_part x2 x3 x4 h 4 1024 rfl, chunk_part x2 x3 x4 h 5 1280 rfl, chunk_part x2 x3 x4 h 6 1536 rfl, chunk_part x2 x3 x4 h 7 1792 rfl,
    chunk_part x2 x3 x4 h 8 2048 rfl, chunk_part x2 x3 x4 h 9 2304 rfl, chunk_part x2 x3 x4 h 10 2560 rfl, Ffn.sum_eleven]
  exact Ffn.sum_chunks fun j => Ffn.hidden (fun e => h (ix2 r e)) (fun e j => x2 (ix2 e j)) (fun e j => x3 (ix2 e j)) j * x4 (ix2 j d)

theorem pre_apply (r : Fin 512) (d : Fin 1024) :
    @Eq EReal (pre x0 x1 (ix2 r d)) (Ffn.normed (fun e => x0 (ix2 r e)) (fun e => x1 (ix2 0 e)) d) :=
  rms_apply x0 x1 r d

theorem out_vector : out0_6 x0 x1 x2 x3 x4 x5 = addf x0 (rms (total x2 x3 x4 (pre x0 x1)) x5) := by
  rw [out_eq, ld_block, ld_gain, ld_gain]
  exact View.canon_unit_zero zero_offset _ _

theorem out_apply (r : Fin 512) (d : Fin 1024) :
    @Eq EReal (out0_6 x0 x1 x2 x3 x4 x5 (ix2 r d))
      (Ffn.out (fun e => x0 (ix2 r e)) (fun e => x1 (ix2 0 e)) (fun e j => x2 (ix2 e j)) (fun e j => x3 (ix2 e j)) (fun j d => x4 (ix2 j d)) (fun e => x5 (ix2 0 e)) d) := by
  rw [out_vector, addf_apply', rms_apply]
  unfold Ffn.out
  have e : (fun d => (total x2 x3 x4 (pre x0 x1) (ix2 r d) : EReal))
      = Ffn.mixed (Ffn.normed (fun e => x0 (ix2 r e)) (fun e => x1 (ix2 0 e))) (fun e j => x2 (ix2 e j)) (fun e j => x3 (ix2 e j)) (fun j d => x4 (ix2 j d)) := by
    funext d
    refine (total_apply x2 x3 x4 (pre x0 x1) r d).trans ?_
    exact congrArg (fun h => Ffn.mixed h _ _ _ d) (funext fun e => pre_apply x0 x1 r e)
  exact congrArg (fun y => (x0 (ix2 r d) : EReal) + Ffn.normed y (fun e => x5 (ix2 0 e)) d) e

end Body

end Cert.Kernel2Ideal.Mixer

end
-- ==== Proof.FfnValue.lean ====
/-
  The array the feed-forward call leaves, element by element: every block it writes back is a piece of one array, the
  network applied to every row of the argument, and the blocks cover that array.
-/
module

public import proofs.«01_k».proof.Proof.Gen.Kernel2Ideal.Value
public import Idealize.ShloMosaic.Lib.StableHlo.Run
public import proofs.«01_k».proof.Proof.FfnBody

@[expose] public section

set_option maxRecDepth 16384

noncomputable section

namespace Cert.Kernel2Ideal.Mixer

open Idealize.ShloMosaic Idealize.ShloMosaic.TcCoe Cert.Kernel2Ideal Cert.Kernel2Ideal.Gen Idealize.ShloMosaic.StableHlo
open Idealize.ShloMosaic.Pipeline (Dat Cfg Window)

variable (m : (ℓ : Loc nD τ sig) → Buf (Elt Ideal) ℓ) (c : Dev nD)

abbrev argX : FVec Ideal S65536x1024 .f32 := m ((c : Thread nD τ).loc main_arg0)
abbrev argPre : FVec Ideal S1024 .f32 := m ((c : Thread nD τ).loc main_arg1)
abbrev argIn : FVec Ideal S1024x5632 .f32 := m ((c : Thread nD τ).loc main_arg2)
abbrev argOut : FVec Ideal S2816x1024 .f32 := m ((c : Thread nD τ).loc main_arg3)
abbrev argPost : FVec Ideal S1024 .f32 := m ((c : Thread nD τ).loc main_arg4)

/-! ## What the host code prepares -/

theorem gate_apply (e : Fin 1024) (j : Fin 2816) :
    @Eq EReal (V m c main_v1 (ix2 e j)) (argIn m c (ix2 e ⟨j.val, by omega⟩)) := by
  have h : V m c main_v1 = truncf .bf16 (extractStridedSlice S1024x2816 ![0, 0] (argIn m c) slices_S1024x5632_S1024x2816_0_0) bitsLt_bf16_f32 := by
    unfold V; simp only [hostOps0]; after_results_simp
  rw [h]
  pointwise

theorem unit_apply (e : Fin 1024) (j : Fin 2816) :
    @Eq EReal (V m c main_v3 (ix2 e j)) (argIn m c (ix2 e ⟨2816 + j.val, by omega⟩)) := by
  have h : V m c main_v3 = truncf .bf16 (extractStridedSlice S1024x2816 ![0, 2816] (argIn m c) slices_S1024x5632_S1024x2816_0_2816) bitsLt_bf16_f32 := by
    unfold V; simp only [hostOps0]; after_results_simp
  rw [h]
  pointwise

theorem back_apply (j : Fin 2816) (d : Fin 1024) : @Eq EReal (V m c main_v5 (ix2 j d)) (argOut m c (ix2 j d)) := by
  have h : V m c main_v5 = truncf .bf16 (argOut m c) bitsLt_bf16_f32 := by
    unfold V; simp only [hostOps0]; after_results_simp
  rw [h]
  pointwise

theorem gainPre_apply (d : Fin 1024) : @Eq EReal (V m c main_v4 (ix2 0 d)) (argPre m c (ix1 d)) := by
  have h : V m c main_v4 = broadcastInDim S1x1024 ![1] bcast_S1024_S1x1024_1 (argPre m c) := by
    unfold V; simp only [hostOps0]; after_results_simp
  rw [h]
  pointwise

theorem gainPost_apply (d : Fin 1024) : @Eq EReal (V m c main_v6 (ix2 0 d)) (argPost m c (ix1 d)) := by
  have h : V m c main_v6 = broadcastInDim S1x1024 ![1] bcast_S1024_S1x1024_1 (argPost m c) := by
    unfold V; simp only [hostOps0]; after_results_simp
  rw [h]
  pointwise

/-! ## The blocks -/

section Blocks
variable (t : Fin cfg0.N)

abbrev ti : Fin 128 := grid0.coords t 0

theorem index_x : win0_0.index t = ![(ti t).val, 0] := by
  show ![(BitVec.ofNat 32 (ti t).val).toNat, 0] = _
  rw [BitVec.toNat_ofNat, Nat.mod_eq_of_lt (by omega)]

theorem index_o : win0_6.index t = ![(ti t).val, 0] := by
  show ![(BitVec.ofNat 32 (ti t).val).toNat, 0] = _
  rw [BitVec.toNat_ofNat, Nat.mod_eq_of_lt (by omega)]

/-- Row `r` of the block at point `t`, in the array. -/
abbrev row (r : Fin 512) : Fin 65536 := ⟨512 * (ti t).val + r.val, by have := (ti t).isLt; omega⟩

theorem block_x (r : Fin 512) (d : Fin 1024) : @Eq EReal (iblk m c 0 t (ix2 r d)) (argX m c (ix2 (row t r) d)) := by
  have h : V m c main_arg0 = argX m c := V_main_arg0 m c
  rw [← h]
  show V m c main_arg0 _ = V m c main_arg0 _
  congr 1
  funext a
  apply Fin.ext
  have e := index_x t
  match a with
  | ⟨0, _⟩ => show win0_0.index t 0 * 512 + 1 * r.val = 512 * (ti t).val + r.val; rw [e]; show (ti t).val * 512 + 1 * r.val = _; omega
  | ⟨1, _⟩ => show win0_0.index t 1 * 1024 + 1 * d.val = d.val; rw [e]; show 0 * 1024 + 1 * d.val = _; omega

theorem block_pre (d : Fin 1024) : @Eq EReal (iblk m c 1 t (ix2 0 d)) (argPre m c (ix1 d)) := by
  rw [← gainPre_apply]
  show V m c main_v4 _ = V m c main_v4 _
  congr 1
  funext a
  apply Fin.ext
  match a with
  | ⟨0, _⟩ => rfl
  | ⟨1, _⟩ => show 0 * 1024 + 1 * d.val = d.val; omega

theorem block_gate (e : Fin 1024) (j : Fin 2816) : @Eq EReal (iblk m c 2 t (ix2 e j)) (argIn m c (ix2 e ⟨j.val, by omega⟩)) := by
  rw [← gate_apply]
  show V m c main_v1 _ = V m c main_v1 _
  congr 1
  funext a
  apply Fin.ext
  match a with
  | ⟨0, _⟩ => show 0 * 1024 + 1 * e.val = e.val; omega
  | ⟨1, _⟩ => show 0 * 2816 + 1 * j.val = j.val; omega

theorem block_unit (e : Fin 1024) (j : Fin 2816) : @Eq EReal (iblk m c 3 t (ix2 e j)) (argIn m c (ix2 e ⟨2816 + j.val, by omega⟩)) := by
  rw [← unit_apply]
  show V m c main_v3 _ = V m c main_v3 _
  congr 1
  funext a
  apply Fin.ext
  match a with
  | ⟨0, _⟩ => show 0 * 1024 + 1 * e.val = e.val; omega
  | ⟨1, _⟩ => show 0 * 2816 + 1 * j.val = j.val; omega

theorem block_back (j : Fin 2816) (d : Fin 1024) : @Eq EReal (iblk m c 4 t (ix2 j d)) (argOut m c (ix2 j d)) := by
  rw [← back_apply]
  show V m c main_v5 _ = V m c main_v5 _
  congr 1
  funext a
  apply Fin.ext
  match a with
  | ⟨0, _⟩ => show 0 * 2816 + 1 * j.val = j.val; omega
  | ⟨1, _⟩ => show 0 * 1024 + 1 * d.val = d.val; omega

theorem block_post (d : Fin 1024) : @Eq EReal (iblk m c 5 t (ix2 0 d)) (argPost m c (ix1 d)) := by
  rw [← gainPost_apply]
  show V m c main_v6 _ = V m c main_v6 _
  congr 1
  funext a
  apply Fin.ext
  match a with
  | ⟨0, _⟩ => rfl
  | ⟨1, _⟩ => show 0 * 1024 + 1 * d.val = d.val; omega

end Blocks

/-! ## The array -/

/-- The network at one place. -/
def mixer (r : Fin 65536) (d : Fin 1024) : EReal :=
  Ffn.out (fun e => argX m c (ix2 r e)) (fun e => argPre m c (ix1 e)) (fun e j => argIn m c (ix2 e ⟨j.val, by omega⟩))
    (fun e j => argIn m c (ix2 e ⟨2816 + j.val, by omega⟩)) (fun j d => argOut m c (ix2 j d)) (fun e => argPost m c (ix1 e)) d

/-- The whole array. -/
def result : Buf (Elt Ideal) ((c : Thread nD τ).loc main_v7) := fun i => mixer m c (i 0) (i 1)

theorem out_congr {x x' gpre gpre' gpost gpost' : Fin 1024 → EReal} {a a' b b' : Fin 1024 → Fin 2816 → EReal} {w w' : Fin 2816 → Fin 1024 → EReal}
    (hx : ∀ e, x e = x' e) (h1 : ∀ e, gpre e = gpre' e) (ha : ∀ e j, a e j = a' e j) (hb : ∀ e j, b e j = b' e j) (hw : ∀ j d, w j d = w' j d)
    (h2 : ∀ e, gpost e = gpost' e) (d : Fin 1024) : Ffn.out x gpre a b w gpost d = Ffn.out x' gpre' a' b' w' gpost' d := by
  have hx := funext hx
  have h1 := funext h1
  have ha := funext fun e => funext (ha e)
  have hb := funext fun e => funext (hb e)
  have hw := funext fun j => funext (hw j)
  have h2 := funext h2
  subst hx h1 ha hb hw h2
  rfl

theorem block_apply (t : Fin cfg0.N) (r : Fin 512) (d : Fin 1024) :
    @Eq EReal (out0_6 (iblk m c 0 t) (iblk m c 1 t) (iblk m c 2 t) (iblk m c 3 t) (iblk m c 4 t) (iblk m c 5 t) (ix2 r d)) (mixer m c (row t r) d) :=
  (out_apply _ _ _ _ _ _ r d).trans (out_congr (block_x m c t r) (block_pre m c t) (block_gate m c t) (block_unit m c t) (block_back m c t) (block_post m c t) d)

theorem flushed_eq (t : Fin cfg0.N) (_ : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  funext j
  have hj : (j : S512x1024.Idx) = ix2 (j 0) (j 1) := by
    funext a
    match a with
    | ⟨0, _⟩ => rfl
    | ⟨1, _⟩ => rfl
  show out0_6 (iblk m c 0 t) (iblk m c 1 t) (iblk m c 2 t) (iblk m c 3 t) (iblk m c 4 t) (iblk m c 5 t) (j : S512x1024.Idx)
    = result m c (((cfg0.win 6).blk t).view.emb j)
  refine (congrArg (out0_6 (iblk m c 0 t) (iblk m c 1 t) (iblk m c 2 t) (iblk m c 3 t) (iblk m c 4 t) (iblk m c 5 t)) hj).trans
    ((block_apply m c t (j 0) (j 1)).trans ?_)
  unfold result
  have e := index_o t
  have h0 : (((cfg0.win 6).blk t).view.emb j) 0 = row t (j 0) := Fin.ext (by
    show win0_6.index t 0 * 512 + 1 * (j 0).val = 512 * (ti t).val + (j 0).val
    rw [e]; show (ti t).val * 512 + 1 * (j 0).val = _; omega)
  have h1 : (((cfg0.win 6).blk t).view.emb j) 1 = j 1 := Fin.ext (by
    show win0_6.index t 1 * 1024 + 1 * (j 1).val = (j 1).val
    rw [e]; show 0 * 1024 + 1 * (j 1).val = _; omega)
  rw [h0, h1]

/-- The point that writes a block of rows. -/
theorem point (i : Fin 128) : ∃ t : Fin cfg0.N, ti t = i := by
  have key : ∀ i : Fin 128, ∃ hlt : i.val < grid0.N, (grid0.coords ⟨i.val, hlt⟩ 0).val = i.val := by decide +kernel
  obtain ⟨hlt, h0⟩ := key i
  exact ⟨⟨_, hlt⟩, Fin.ext h0⟩

theorem final : (dats m 0 c).arrAt 6 cfg0.N = result m c :=
  (dats m 0 c).arrAt_eq_of_cover 6 (result m c) (flushed_eq m c) fun i => by
    have i0 : (i 0 : Nat) < 65536 := (i 0).isLt
    have i1 : (i 1 : Nat) < 1024 := (i 1).isLt
    obtain ⟨t, h0⟩ := point ⟨(i 0 : Nat) / 512, by omega⟩
    have e := index_o t
    rw [h0] at e
    refine ⟨t, flush0_6 t, ?_⟩
    show i ∈ ((View.whole main_v7).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [e]; show (i 0 : Nat) / 512 * 512 ≤ (i 0 : Nat) ∧ (i 0 : Nat) < (i 0 : Nat) / 512 * 512 + 512; omega
    | ⟨1, _⟩ => show win0_6.index t 1 * 1024 ≤ (i 1 : Nat) ∧ (i 1 : Nat) < win0_6.index t 1 * 1024 + 1024
                rw [e]; show 0 * 1024 ≤ (i 1 : Nat) ∧ (i 1 : Nat) < 0 * 1024 + 1024; omega

end Cert.Kernel2Ideal.Mixer

end
-- ==== Proof.FfnReference.lean ====
/-
  The feed-forward reference's result over the extended reals, element by element.
-/
module

public import proofs.«01_k».proof.Proof.Gen.Reference2Ideal.Run
public import Idealize.ShloMosaic.Lib.Pointwise
public import proofs.«01_k».proof.Proof.Ffn

@[expose] public section

set_option maxRecDepth 16384

noncomputable section

namespace Cert.Reference2Ideal.Mixer

open Idealize.ShloMosaic Idealize.ShloMosaic.TcCoe Cert.Reference2Ideal Cert.Reference2Ideal.Gen Cert.Reference2Ideal.Value

variable (m : (ℓ : Loc nD τ sig) → Buf (Elt Ideal) ℓ) (c : Dev nD)

abbrev argX : FVec Ideal S65536x1024 .f32 := m ((c : Thread nD τ).loc main_arg0)
abbrev argPre : FVec Ideal S1024 .f32 := m ((c : Thread nD τ).loc main_arg1)
abbrev argIn : FVec Ideal S1024x5632 .f32 := m ((c : Thread nD τ).loc main_arg2)
abbrev argOut : FVec Ideal S2816x1024 .f32 := m ((c : Thread nD τ).loc main_arg3)
abbrev argPost : FVec Ideal S1024 .f32 := m ((c : Thread nD τ).loc main_arg4)

/-- The norm as the program computes it. -/
def rms (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf
    (broadcastInDim S65536x1 ![0] bcast_S65536_S65536x1_0 (Host.reduceAdd (mulf x x) (constant S_ .f32 0x00000000#32) reducesTo_S65536x1024_S65536_d1 h_S_))
    (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The gates and the units, side by side. -/
def projected (h : FVec Ideal S65536x1024 .f32) (w : FVec Ideal S1024x5632 .f32) : FVec Ideal S65536x5632 .f32 :=
  Host.dotGeneral dot_S65536x1024_S1024x5632_S65536x5632_1_0_0_1_n_n none h w

/-- The gates. -/
def gates (p : FVec Ideal S65536x5632 .f32) : FVec Ideal S65536x2816 .f32 :=
  extractStridedSlice S65536x2816 ![0, 0] p slices_S65536x5632_S65536x2816_0_0

/-- The gates times their logistic functions, times the units. -/
def activated (p : FVec Ideal S65536x5632 .f32) : FVec Ideal S65536x2816 .f32 :=
  mulf (mulf (gates p) (Host.divf (broadcastInDim S65536x2816 ![] bcast_S_S65536x2816 (constant S_ .f32 0x3F800000#32))
    (addf (broadcastInDim S65536x2816 ![] bcast_S_S65536x2816 (constant S_ .f32 0x3F800000#32)) (Host.exp (Host.negf (gates p))))))
    (extractStridedSlice S65536x2816 ![0, 2816] p slices_S65536x5632_S65536x2816_0_2816)

/-- The network before its norm. -/
def network (h : FVec Ideal S65536x1024 .f32) (w : FVec Ideal S1024x5632 .f32) (b : FVec Ideal S2816x1024 .f32) : FVec Ideal S65536x1024 .f32 :=
  Host.dotGeneral dot_S65536x2816_S2816x1024_S65536x1024_1_0_0_1_n_n none (activated (projected h w)) b

theorem res_eq : res_main_v32 m c = addf (argX m c) (rms (network (rms (argX m c) (argPre m c)) (argIn m c) (argOut m c)) (argPost m c)) := rfl

theorem rms_apply (x : FVec Ideal S65536x1024 .f32) (g : FVec Ideal S1024 .f32) (r : Fin 65536) (d : Fin 1024) :
    @Eq EReal (rms x g (ix2 r d)) (Ffn.normed (fun e => x (ix2 r e)) (fun e => g (ix1 e)) d) := by
  unfold rms Ffn.normed
  pointwise

theorem projected_apply (h : FVec Ideal S65536x1024 .f32) (w : FVec Ideal S1024x5632 .f32) (r : Fin 65536) (j : Fin 5632) :
    @Eq EReal (projected h w (ix2 r j)) (∑ e : Fin 1024, h (ix2 r e) * w (ix2 e j)) := by
  unfold projected
  pointwise [dot_S65536x1024_S1024x5632_S65536x5632_1_0_0_1_n_n]

theorem gates_apply (p : FVec Ideal S65536x5632 .f32) (r : Fin 65536) (j : Fin 2816) :
    @Eq EReal (gates p (ix2 r j)) (p (ix2 r ⟨j.val, by omega⟩)) := by
  unfold gates
  pointwise

theorem activated_apply (p : FVec Ideal S65536x5632 .f32) (r : Fin 65536) (j : Fin 2816) :
    @Eq EReal (activated p (ix2 r j)) (Ffn.gated (p (ix2 r ⟨j.val, by omega⟩)) (p (ix2 r ⟨2816 + j.val, by omega⟩))) := by
  unfold activated Ffn.gated Ideal.logistic
  rw [← gates_apply p r j]
  pointwise

theorem network_apply (h : FVec Ideal S65536x1024 .f32) (w : FVec Ideal S1024x5632 .f32) (b : FVec Ideal S2816x1024 .f32) (r : Fin 65536) (d : Fin 1024) :
    @Eq EReal (network h w b (ix2 r d)) (Ffn.mixed (fun e => h (ix2 r e)) (fun e j => w (ix2 e ⟨j.val, by omega⟩))
      (fun e j => w (ix2 e ⟨2816 + j.val, by omega⟩)) (fun j d => b (ix2 j d)) d) := by
  unfold network
  pointwise [dot_S65536x2816_S2816x1024_S65536x1024_1_0_0_1_n_n]
  unfold Ffn.mixed Ffn.hidden
  refine Finset.sum_congr rfl fun j _ => congrArg (fun y : EReal => y * _) ?_
  rw [activated_apply, projected_apply, projected_apply]

theorem res_apply (r : Fin 65536) (d : Fin 1024) :
    @Eq EReal (res_main_v32 m c (ix2 r d))
      (Ffn.out (fun e => argX m c (ix2 r e)) (fun e => argPre m c (ix1 e)) (fun e j => argIn m c (ix2 e ⟨j.val, by omega⟩))
        (fun e j => argIn m c (ix2 e ⟨2816 + j.val, by omega⟩)) (fun j d => argOut m c (ix2 j d)) (fun e => argPost m c (ix1 e)) d) := by
  have s : ∀ A B : FVec Ideal S65536x1024 .f32, @Eq EReal (addf A B (ix2 r d)) (A (ix2 r d) + B (ix2 r d)) := fun _ _ => rfl
  rw [res_eq, s, rms_apply]
  unfold Ffn.out
  refine congrArg (fun y => (argX m c (ix2 r d) : EReal) + Ffn.normed y (fun e => argPost m c (ix1 e)) d) (funext fun e => ?_)
  refine (network_apply _ _ _ r e).trans ?_
  exact congrArg (fun h => Ffn.mixed h _ _ _ e) (funext fun e' => rms_apply _ _ r e')

end Cert.Reference2Ideal.Mixer

end
-- ==== Proof.Merge.lean ====
/-
  The merge of the four branches at one place over the extended reals: each branch projected, times the logistic function
  of its gate, the four added up, the sum projected and normed.
-/
module

public import proofs.«01_k».proof.Proof.Ffn

@[expose] public section

noncomputable section

namespace Merge

open Idealize.ShloMosaic

/-- One branch's gated part of the sum. -/
def branch (h : Fin 1024 → EReal) (y : Fin 512 → EReal) (g : Fin 1024 → Fin 1024 → EReal) (w : Fin 512 → Fin 1024 → EReal) (d : Fin 1024) : EReal :=
  Ideal.logistic (∑ e, h e * g e d) * ∑ k, y k * w k d

/-- The four branches added up. -/
def merged (h : Fin 1024 → EReal) (y0 y1 y2 y3 : Fin 512 → EReal) (g : Fin 4 → Fin 1024 → Fin 1024 → EReal) (w : Fin 4 → Fin 512 → Fin 1024 → EReal)
    (d : Fin 1024) : EReal :=
  branch h y0 (g 0) (w 0) d + branch h y1 (g 1) (w 1) d + branch h y2 (g 2) (w 2) d + branch h y3 (g 3) (w 3) d

/-- The sum projected. -/
def projected (s : Fin 1024 → EReal) (o : Fin 1024 → Fin 1024 → EReal) (d : Fin 1024) : EReal := ∑ e, s e * o e d

/-- The whole of it for a row. -/
def out (x gpre : Fin 1024 → EReal) (y0 y1 y2 y3 : Fin 512 → EReal) (g : Fin 4 → Fin 1024 → Fin 1024 → EReal) (w : Fin 4 → Fin 512 → Fin 1024 → EReal)
    (o : Fin 1024 → Fin 1024 → EReal) (gpost : Fin 1024 → EReal) (d : Fin 1024) : EReal :=
  x d + Ffn.normed (projected (merged (Ffn.normed x gpre) y0 y1 y2 y3 g w) o) gpost d

/-- The head a column of the joined heads belongs to. -/
abbrev head (k : Fin 512) : Fin 8 := ⟨k.val / 64, by omega⟩

/-- Its place within the head. -/
abbrev lane (k : Fin 512) : Fin 64 := ⟨k.val % 64, by omega⟩

theorem out_congr {x x' gpre gpre' gpost gpost' : Fin 1024 → EReal} {y0 y0' y1 y1' y2 y2' y3 y3' : Fin 512 → EReal}
    {g g' : Fin 4 → Fin 1024 → Fin 1024 → EReal} {w w' : Fin 4 → Fin 512 → Fin 1024 → EReal} {o o' : Fin 1024 → Fin 1024 → EReal}
    (hx : ∀ e, x e = x' e) (h1 : ∀ e, gpre e = gpre' e) (e0 : ∀ k, y0 k = y0' k) (e1 : ∀ k, y1 k = y1' k) (e2 : ∀ k, y2 k = y2' k) (e3 : ∀ k, y3 k = y3' k)
    (hg : ∀ b e d, g b e d = g' b e d) (hw : ∀ b k d, w b k d = w' b k d) (ho : ∀ e d, o e d = o' e d) (h2 : ∀ e, gpost e = gpost' e) (d : Fin 1024) :
    out x gpre y0 y1 y2 y3 g w o gpost d = out x' gpre' y0' y1' y2' y3' g' w' o' gpost' d := by
  have hx := funext hx
  have h1 := funext h1
  have e0 := funext e0
  have e1 := funext e1
  have e2 := funext e2
  have e3 := funext e3
  have hg := funext fun b => funext fun e => funext (hg b e)
  have hw := funext fun b => funext fun k => funext (hw b k)
  have ho := funext fun e => funext (ho e)
  have h2 := funext h2
  subst hx h1 e0 e1 e2 e3 hg hw ho h2
  rfl

end Merge

end
-- ==== Proof.MergeBody.lean ====
/-
  What one grid point of the merge call writes, element by element over the extended reals.
-/
module

public import proofs.«01_k».proof.Proof.Gen.Kernel3Ideal.Frame
public import Idealize.ShloMosaic.Lib.Pointwise
public import proofs.«01_k».proof.Proof.Merge

@[expose] public section

set_option maxRecDepth 16384

noncomputable section

namespace Cert.Kernel3Ideal.Mixer

open Idealize.ShloMosaic Cert.Kernel3Ideal Cert.Kernel3Ideal.Gen

/-- The norm of a block of rows as the program computes it. -/
def rms (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- A head's block without its unit axes. -/
def flat (p : FVec Ideal S1x1x512x64 .bf16) : FVec Ideal S512x64 .bf16 := shapeCast S512x64 p shapeCasts_S1x1x512x64_S512x64

/-- Eight heads' blocks joined. -/
def joined (p0 p1 p2 p3 p4 p5 p6 p7 : FVec Ideal S1x1x512x64 .bf16) : FVec Ideal S512x512 .bf16 :=
  concatenate S512x512 1 [⟨S512x64, flat p0⟩, ⟨S512x64, flat p1⟩, ⟨S512x64, flat p2⟩, ⟨S512x64, flat p3⟩, ⟨S512x64, flat p4⟩, ⟨S512x64, flat p5⟩,
    ⟨S512x64, flat p6⟩, ⟨S512x64, flat p7⟩] concatenates_S512x64_S512x64_S512x64_S512x64_S512x64_S512x64_S512x64_S512x64_S512x512_d1

/-- One branch's gated part of the sum. -/
def branch (h : FVec Ideal S512x1024 .bf16) (g : FVec Ideal S1x1024x1024 .bf16) (y : FVec Ideal S512x512 .bf16) (w : FVec Ideal S1x512x1024 .bf16) : FVec Ideal S512x1024 .f32 :=
  mulf (logistic (matmul dot_S512x1024_S1024x1024_S512x1024_1_0_0_1_n_n none h (shapeCast S1024x1024 g shapeCasts_S1x1024x1024_S1024x1024) (constant S512x1024 .f32 0x00000000#32)))
    (matmul dot_S512x512_S512x1024_S512x1024_1_0_0_1_n_n none y (shapeCast S512x1024 w shapeCasts_S1x512x1024_S512x1024) (constant S512x1024 .f32 0x00000000#32))

/-- The sum projected. -/
def project (s : FVec Ideal S512x1024 .f32) (o : FVec Ideal S1024x1024 .bf16) : FVec Ideal S512x1024 .f32 :=
  matmul dot_S512x1024_S1024x1024_S512x1024_1_0_0_1_n_n none (truncf .bf16 s bitsLt_bf16_f32) (shapeCast S1024x1024 o shapeCasts_S1024x1024_S1024x1024) (constant S512x1024 .f32 0x00000000#32)

theorem rms_apply (x : FVec Ideal S512x1024 .f32) (g : FVec Ideal S1x1024 .f32) (r : Fin 512) (d : Fin 1024) :
    @Eq EReal (rms x g (ix2 r d)) (Ffn.normed (fun e => x (ix2 r e)) (fun e => g (ix2 0 e)) d) := by
  unfold rms Ffn.normed
  pointwise

theorem flat_apply (p : FVec Ideal S1x1x512x64 .bf16) (r : Fin 512) (l : Fin 64) : @Eq EReal (flat p (ix2 r l)) (p (ix4 0 0 r l)) := by
  unfold flat
  pointwise

theorem joined_apply (p0 p1 p2 p3 p4 p5 p6 p7 : FVec Ideal S1x1x512x64 .bf16) (r : Fin 512) (T : Fin 8 → Fin 64 → EReal)
    (h0 : ∀ l, @Eq EReal (p0 (ix4 0 0 r l)) (T 0 l)) (h1 : ∀ l, @Eq EReal (p1 (ix4 0 0 r l)) (T 1 l)) (h2 : ∀ l, @Eq EReal (p2 (ix4 0 0 r l)) (T 2 l))
    (h3 : ∀ l, @Eq EReal (p3 (ix4 0 0 r l)) (T 3 l)) (h4 : ∀ l, @Eq EReal (p4 (ix4 0 0 r l)) (T 4 l)) (h5 : ∀ l, @Eq EReal (p5 (ix4 0 0 r l)) (T 5 l))
    (h6 : ∀ l, @Eq EReal (p6 (ix4 0 0 r l)) (T 6 l)) (h7 : ∀ l, @Eq EReal (p7 (ix4 0 0 r l)) (T 7 l)) (k : Fin 512) :
    @Eq EReal (joined p0 p1 p2 p3 p4 p5 p6 p7 (ix2 r k)) (T (Merge.head k) (Merge.lane k)) := by
  unfold joined
  pointwise
  simp only [flat_apply, h0, h1, h2, h3, h4, h5, h6, h7]
  have t : ∀ (n : Fin 8) (l : Fin 64), k.val = 64 * n.val + l.val → T n l = T (Merge.head k) (Merge.lane k) := fun n l e =>
    congrArg₂ T (Fin.ext (by show n.val = k.val / 64; omega)) (Fin.ext (by show l.val = k.val % 64; omega))
  split_ifs <;> refine t _ _ ?_ <;> simp <;> omega

theorem branch_apply (h : FVec Ideal S512x1024 .bf16) (g : FVec Ideal S1x1024x1024 .bf16) (y : FVec Ideal S512x512 .bf16) (w : FVec Ideal S1x512x1024 .bf16) (r : Fin 512) (d : Fin 1024) :
    @Eq EReal (branch h g y w (ix2 r d)) (Merge.branch (fun e => h (ix2 r e)) (fun k => y (ix2 r k)) (fun e d => g (ix3 0 e d)) (fun k d => w (ix3 0 k d)) d) := by
  unfold branch Merge.branch
  pointwise [dot_S512x1024_S1024x1024_S512x1024_1_0_0_1_n_n, dot_S512x512_S512x1024_S512x1024_1_0_0_1_n_n]

theorem project_apply (s : FVec Ideal S512x1024 .f32) (o : FVec Ideal S1024x1024 .bf16) (r : Fin 512) (d : Fin 1024) :
    @Eq EReal (project s o (ix2 r d)) (Merge.projected (fun e => s (ix2 r e)) (fun e d => o (ix2 e d)) d) := by
  unfold project Merge.projected
  pointwise [dot_S512x1024_S1024x1024_S512x1024_1_0_0_1_n_n]

section Body
variable (x0 : Vec Ideal S1x512x1024 .f32) (x1 x2 x3 x4 : Vec Ideal S1x8x512x64 .bf16) (x5 : Vec Ideal S1x1024 .f32) (x6 : Vec Ideal S4x1024x1024 .bf16)
  (x7 : Vec Ideal S4x512x1024 .bf16) (x8 : Vec Ideal S1024x1024 .bf16) (x9 : Vec Ideal S1x1024 .f32)

/-- The block of rows without its unit axis. -/
def rows (x : FVec Ideal S1x512x1024 .f32) : FVec Ideal S512x1024 .f32 := shapeCast S512x1024 x shapeCasts_S1x512x1024_S512x1024

/-- The normed block. -/
def pre (x : FVec Ideal S1x512x1024 .f32) (g : FVec Ideal S1x1024 .f32) : FVec Ideal S512x1024 .bf16 := truncf .bf16 (rms (rows x) g) bitsLt_bf16_f32

/-- A branch's heads joined. -/
def heads (y : Vec Ideal S1x8x512x64 .bf16) : FVec Ideal S512x512 .bf16 :=
  joined (View.ld y r0_3) (View.ld y r0_4) (View.ld y r0_5) (View.ld y r0_6) (View.ld y r0_7) (View.ld y r0_8) (View.ld y r0_9) (View.ld y r0_10)

/-- The four branches added up. -/
def total (h : FVec Ideal S512x1024 .bf16) : FVec Ideal S512x1024 .f32 :=
  addf (addf (addf
    (branch h (View.ld x6 r0_2) (heads x1) (View.ld x7 r0_11))
    (branch h (View.ld x6 r0_12) (heads x2) (View.ld x7 r0_13)))
    (branch h (View.ld x6 r0_14) (heads x3) (View.ld x7 r0_15)))
    (branch h (View.ld x6 r0_16) (heads x4) (View.ld x7 r0_17))

/-- What is written, a block of rows with a unit axis before it. -/
def written (y : FVec Ideal S512x1024 .f32) : FVec Ideal S1x512x1024 .f32 := shapeCast S1x512x1024 y shapeCasts_S512x1024_S1x512x1024

theorem out_eq : out0_10 x0 x1 x2 x3 x4 x5 x6 x7 x8 x9 = View.canon [⟨r0_0, written (addf (rows (View.ld x0 r0_0))
    (rms (project (total x1 x2 x3 x4 x6 x7 (pre (View.ld x0 r0_0) (View.ld x5 r0_1))) (View.ld x8 r0_18)) (View.ld x9 r0_1)))⟩] := rfl

theorem rows_apply (x : FVec Ideal S1x512x1024 .f32) (r : Fin 512) (d : Fin 1024) : @Eq EReal (rows x (ix2 r d)) (x (ix3 0 r d)) := by
  unfold rows
  pointwise

theorem written_apply (y : FVec Ideal S512x1024 .f32) (r : Fin 512) (d : Fin 1024) : @Eq EReal (written y (ix3 0 r d)) (y (ix2 r d)) := by
  unfold written
  pointwise

theorem ld_head (x : Vec Ideal S1x8x512x64 .bf16) (n : ℕ) (hb) (r : Fin 512) (l : Fin 64) (j : Fin 8) (hj : j.val = n) :
    @Eq EReal (View.ld x (Rect.unit (s := S1x8x512x64) ![0, n, 0, 0] S1x1x512x64.size hb) (ix4 0 0 r l)) (x (ix4 0 j r l)) := by
  show x _ = x _
  congr 1
  funext a
  apply Fin.ext
  match a with
  | ⟨0, _⟩ => rfl
  | ⟨1, _⟩ => show n + 1 * 0 = j.val; omega
  | ⟨2, _⟩ => show 0 + 1 * r.val = r.val; omega
  | ⟨3, _⟩ => show 0 + 1 * l.val = l.val; omega

theorem ld_gate (x : Vec Ideal S4x1024x1024 .bf16) (n : ℕ) (hb) (e d : Fin 1024) (j : Fin 4) (hj : j.val = n) :
    @Eq EReal (View.ld x (Rect.unit (s := S4x1024x1024) ![n, 0, 0] S1x1024x1024.size hb) (ix3 0 e d)) (x (ix3 j e d)) := by
  show x _ = x _
  congr 1
  funext a
  apply Fin.ext
  match a with
  | ⟨0, _⟩ => show n + 1 * 0 = j.val; omega
  | ⟨1, _⟩ => show 0 + 1 * e.val = e.val; omega
  | ⟨2, _⟩ => show 0 + 1 * d.val = d.val; omega

theorem ld_branch (x : Vec Ideal S4x512x1024 .bf16) (n : ℕ) (hb) (k : Fin 512) (d : Fin 1024) (j : Fin 4) (hj : j.val = n) :
    @Eq EReal (View.ld x (Rect.unit (s := S4x512x1024) ![n, 0, 0] S1x512x1024.size hb) (ix3 0 k d)) (x (ix3 j k d)) := by
  show x _ = x _
  congr 1
  funext a
  apply Fin.ext
  match a with
  | ⟨0, _⟩ => show n + 1 * 0 = j.val; omega
  | ⟨1, _⟩ => show 0 + 1 * k.val = k.val; omega
  | ⟨2, _⟩ => show 0 + 1 * d.val = d.val; omega

theorem zero_offset : (![0, 0] : Fin 2 → ℕ) = fun _ => 0 := by
  funext a
  match a with
  | ⟨0, _⟩ => rfl
  | ⟨1, _⟩ => rfl

theorem zero_offset3 : (![0, 0, 0] : Fin 3 → ℕ) = fun _ => 0 := by
  funext a
  match a with
  | ⟨0, _⟩ => rfl
  | ⟨1, _⟩ => rfl
  | ⟨2, _⟩ => rfl

theorem ld_block (x : Vec Ideal S1x512x1024 .f32) : View.ld x r0_0 = x := View.ld_unit_zero zero_offset3 _ x

theorem ld_gain (x : Vec Ideal S1x1024 .f32) : View.ld x r0_1 = x := View.ld_unit_zero zero_offset _ x

theorem ld_out (x : Vec Ideal S1024x1024 .bf16) : View.ld x r0_18 = x := View.ld_unit_zero zero_offset _ x

theorem heads_apply (y : Vec Ideal S1x8x512x64 .bf16) (r : Fin 512) (k : Fin 512) :
    @Eq EReal (heads y (ix2 r k)) (y (ix4 0 (Merge.head k) r (Merge.lane k))) :=
  joined_apply _ _ _ _ _ _ _ _ r (fun n l => y (ix4 0 n r l)) (fun l => ld_head y 0 _ r l 0 rfl) (fun l => ld_head y 1 _ r l 1 rfl)
    (fun l => ld_head y 2 _ r l 2 rfl) (fun l => ld_head y 3 _ r l 3 rfl) (fun l => ld_head y 4 _ r l 4 rfl) (fun l => ld_head y 5 _ r l 5 rfl)
    (fun l => ld_head y 6 _ r l 6 rfl) (fun l => ld_head y 7 _ r l 7 rfl) k

theorem branch_part (h : FVec Ideal S512x1024 .bf16) (y : Vec Ideal S1x8x512x64 .bf16) (n : Fin 4) (s : ℕ) (hs : n.val = s) (hg hw) (r : Fin 512) (d : Fin 1024) :
    @Eq EReal (branch h (View.ld x6 (Rect.unit (s := S4x1024x1024) ![s, 0, 0] S1x1024x1024.size hg)) (heads y)
      (View.ld x7 (Rect.unit (s := S4x512x1024) ![s, 0, 0] S1x512x1024.size hw)) (ix2 r d))
      (Merge.branch (fun e => h (ix2 r e)) (fun k => y (ix4 0 (Merge.head k) r (Merge.lane k))) (fun e d => x6 (ix3 n e d)) (fun k d => x7 (ix3 n k d)) d) := by
  rw [branch_apply]
  unfold Merge.branch
  refine congrArg₂ (fun a b : EReal => Ideal.logistic a * b) ?_ ?_
  · exact Finset.sum_congr rfl fun e _ => congrArg (fun y : EReal => _ * y) (ld_gate x6 s hg e d n hs)
  · exact Finset.sum_congr rfl fun k _ => congrArg₂ (fun a b : EReal => a * b) (heads_apply y r k) (ld_branch x7 s hw k d n hs)

theorem addf_apply' (a b : FVec Ideal S512x1024 .f32) (j : S512x1024.Idx) : @Eq EReal (addf a b j) (a j + b j) := rfl

theorem total_apply (h : FVec Ideal S512x1024 .bf16) (r : Fin 512) (d : Fin 1024) :
    @Eq EReal (total x1 x2 x3 x4 x6 x7 h (ix2 r d))
      (Merge.merged (fun e => h (ix2 r e)) (fun k => x1 (ix4 0 (Merge.head k) r (Merge.lane k))) (fun k => x2 (ix4 0 (Merge.head k) r (Merge.lane k)))
        (fun k => x3 (ix4 0 (Merge.head k) r (Merge.lane k))) (fun k => x4 (ix4 0 (Merge.head k) r (Merge.lane k)))
        (fun b e d => x6 (ix3 b e d)) (fun b k d => x7 (ix3 b k d)) d) := by
  unfold total
  simp only [addf_apply']
  rw [branch_part x6 x7 h x1 0 0 rfl, branch_part x6 x7 h x2 1 1 rfl, branch_part x6 x7 h x3 2 2 rfl, branch_part x6 x7 h x4 3 3 rfl]
  rfl

theorem pre_apply (r : Fin 512) (d : Fin 1024) :
    @Eq EReal (pre x0 x5 (ix2 r d)) (Ffn.normed (fun e => x0 (ix3 0 r e)) (fun e => x5 (ix2 0 e)) d) :=
  (rms_apply (rows x0) x5 r d).trans (congrArg (fun x => Ffn.normed x _ d) (funext fun e => rows_apply x0 r e))

theorem out_vector : out0_10 x0 x1 x2 x3 x4 x5 x6 x7 x8 x9
    = written (addf (rows x0) (rms (project (total x1 x2 x3 x4 x6 x7 (pre x0 x5)) x8) x9)) := by
  rw [out_eq, ld_block, ld_gain, ld_gain, ld_out]
  exact View.canon_unit_zero zero_offset3 _ _

theorem out_apply (r : Fin 512) (d : Fin 1024) :
    @Eq EReal (out0_10 x0 x1 x2 x3 x4 x5 x6 x7 x8 x9 (ix3 0 r d))
      (Merge.out (fun e => x0 (ix3 0 r e)) (fun e => x5 (ix2 0 e)) (fun k => x1 (ix4 0 (Merge.head k) r (Merge.lane k))) (fun k => x2 (ix4 0 (Merge.head k) r (Merge.lane k)))
        (fun k => x3 (ix4 0 (Merge.head k) r (Merge.lane k))) (fun k => x4 (ix4 0 (Merge.head k) r (Merge.lane k)))
        (fun b e d => x6 (ix3 b e d)) (fun b k d => x7 (ix3 b k d)) (fun e d => x8 (ix2 e d)) (fun e => x9 (ix2 0 e)) d) := by
  rw [out_vector, written_apply, addf_apply', rms_apply, rows_apply]
  unfold Merge.out
  refine congrArg (fun y => (x0 (ix3 0 r d) : EReal) + Ffn.normed y (fun e => x9 (ix2 0 e)) d) (funext fun e => ?_)
  refine (project_apply _ _ r e).trans ?_
  refine congrArg (fun s => Merge.projected s _ e) (funext fun e' => ?_)
  refine (total_apply x1 x2 x3 x4 x6 x7 _ r e').trans ?_
  exact congrArg (fun h => Merge.merged h _ _ _ _ _ _ e') (funext fun e'' => pre_apply x0 x5 r e'')

end Body

end Cert.Kernel3Ideal.Mixer

end
-- ==== Proof.MergeValue.lean ====
/-
  The array the merge call leaves, element by element: every block it writes back is a piece of one array, the merge
  applied to every row of the arguments, and the blocks cover that array.
-/
module

public import proofs.«01_k».proof.Proof.Gen.Kernel3Ideal.Value
public import Idealize.ShloMosaic.Lib.StableHlo.Run
public import proofs.«01_k».proof.Proof.MergeBody

@[expose] public section

set_option maxRecDepth 16384

noncomputable section

namespace Cert.Kernel3Ideal.Mixer

open Idealize.ShloMosaic Idealize.ShloMosaic.TcCoe Cert.Kernel3Ideal Cert.Kernel3Ideal.Gen Idealize.ShloMosaic.StableHlo
open Idealize.ShloMosaic.Pipeline (Dat Cfg Window)

variable (m : (ℓ : Loc nD τ sig) → Buf (Elt Ideal) ℓ) (c : Dev nD)

abbrev argX : FVec Ideal S16x4096x1024 .f32 := m ((c : Thread nD τ).loc main_arg0)
abbrev argNsa : FVec Ideal S16x8x4096x64 .bf16 := m ((c : Thread nD τ).loc main_arg1)
abbrev argSwa : FVec Ideal S16x8x4096x64 .bf16 := m ((c : Thread nD τ).loc main_arg2)
abbrev argMla : FVec Ideal S16x8x4096x64 .bf16 := m ((c : Thread nD τ).loc main_arg3)
abbrev argFox : FVec Ideal S16x8x4096x64 .bf16 := m ((c : Thread nD τ).loc main_arg4)
abbrev argPre : FVec Ideal S1024 .f32 := m ((c : Thread nD τ).loc main_arg5)
abbrev argGate : FVec Ideal S4x1024x1024 .f32 := m ((c : Thread nD τ).loc main_arg6)
abbrev argBranch : FVec Ideal S4x512x1024 .f32 := m ((c : Thread nD τ).loc main_arg7)
abbrev argOut : FVec Ideal S1024x1024 .f32 := m ((c : Thread nD τ).loc main_arg8)
abbrev argPost : FVec Ideal S1024 .f32 := m ((c : Thread nD τ).loc main_arg9)

/-! ## What the host code prepares -/

theorem gainPre_apply (d : Fin 1024) : @Eq EReal (V m c main_v0 (ix2 0 d)) (argPre m c (ix1 d)) := by
  have h : V m c main_v0 = broadcastInDim S1x1024 ![1] bcast_S1024_S1x1024_1 (argPre m c) := by
    unfold V; simp only [hostOps0]; after_results_simp
  rw [h]
  pointwise

theorem gainPost_apply (d : Fin 1024) : @Eq EReal (V m c main_v4 (ix2 0 d)) (argPost m c (ix1 d)) := by
  have h : V m c main_v4 = broadcastInDim S1x1024 ![1] bcast_S1024_S1x1024_1 (argPost m c) := by
    unfold V; simp only [hostOps0]; after_results_simp
  rw [h]
  pointwise

theorem gate_eq : V m c main_v1 = truncf .bf16 (argGate m c) bitsLt_bf16_f32 := by
  unfold V; simp only [hostOps0]; after_results_simp

theorem branch_eq : V m c main_v2 = truncf .bf16 (argBranch m c) bitsLt_bf16_f32 := by
  unfold V; simp only [hostOps0]; after_results_simp

theorem proj_eq : V m c main_v3 = truncf .bf16 (argOut m c) bitsLt_bf16_f32 := by
  unfold V; simp only [hostOps0]; after_results_simp

/-! ## The blocks -/

section Blocks
variable (t : Fin cfg0.N)

abbrev tb : Fin 16 := grid0.coords t 0
abbrev ti : Fin 8 := grid0.coords t 1

theorem index_x : win0_0.index t = ![(tb t).val, (ti t).val, 0] := by
  show ![(BitVec.ofNat 32 (tb t).val).toNat, (BitVec.ofNat 32 (ti t).val).toNat, 0] = _
  rw [BitVec.toNat_ofNat, BitVec.toNat_ofNat, Nat.mod_eq_of_lt (by omega), Nat.mod_eq_of_lt (by omega)]

theorem index_o : win0_10.index t = ![(tb t).val, (ti t).val, 0] := by
  show ![(BitVec.ofNat 32 (tb t).val).toNat, (BitVec.ofNat 32 (ti t).val).toNat, 0] = _
  rw [BitVec.toNat_ofNat, BitVec.toNat_ofNat, Nat.mod_eq_of_lt (by omega), Nat.mod_eq_of_lt (by omega)]

theorem index_1 : win0_1.index t = ![(tb t).val, 0, (ti t).val, 0] := by
  show ![(BitVec.ofNat 32 (tb t).val).toNat, 0, (BitVec.ofNat 32 (ti t).val).toNat, 0] = _
  rw [BitVec.toNat_ofNat, BitVec.toNat_ofNat, Nat.mod_eq_of_lt (by omega), Nat.mod_eq_of_lt (by omega)]

theorem index_2 : win0_2.index t = ![(tb t).val, 0, (ti t).val, 0] := by
  show ![(BitVec.ofNat 32 (tb t).val).toNat, 0, (BitVec.ofNat 32 (ti t).val).toNat, 0] = _
  rw [BitVec.toNat_ofNat, BitVec.toNat_ofNat, Nat.mod_eq_of_lt (by omega), Nat.mod_eq_of_lt (by omega)]

theorem index_3 : win0_3.index t = ![(tb t).val, 0, (ti t).val, 0] := by
  show ![(BitVec.ofNat 32 (tb t).val).toNat, 0, (BitVec.ofNat 32 (ti t).val).toNat, 0] = _
  rw [BitVec.toNat_ofNat, BitVec.toNat_ofNat, Nat.mod_eq_of_lt (by omega), Nat.mod_eq_of_lt (by omega)]

theorem index_4 : win0_4.index t = ![(tb t).val, 0, (ti t).val, 0] := by
  show ![(BitVec.ofNat 32 (tb t).val).toNat, 0, (BitVec.ofNat 32 (ti t).val).toNat, 0] = _
  rw [BitVec.toNat_ofNat, BitVec.toNat_ofNat, Nat.mod_eq_of_lt (by omega), Nat.mod_eq_of_lt (by omega)]

/-- Row `r` of the block at point `t`, in the array. -/
abbrev row (r : Fin 512) : Fin 4096 := ⟨512 * (ti t).val + r.val, by have := (ti t).isLt; omega⟩

theorem block_x (r : Fin 512) (d : Fin 1024) : @Eq EReal (iblk m c 0 t (ix3 0 r d)) (argX m c (ix3 (tb t) (row t r) d)) := by
  have h : V m c main_arg0 = argX m c := V_main_arg0 m c
  rw [← h]
  show V m c main_arg0 _ = V m c main_arg0 _
  congr 1
  funext a
  apply Fin.ext
  have e := index_x t
  match a with
  | ⟨0, _⟩ => show win0_0.index t 0 * 1 + 1 * 0 = (tb t).val; rw [e]; show (tb t).val * 1 + 1 * 0 = _; omega
  | ⟨1, _⟩ => show win0_0.index t 1 * 512 + 1 * r.val = 512 * (ti t).val + r.val; rw [e]; show (ti t).val * 512 + 1 * r.val = _; omega
  | ⟨2, _⟩ => show win0_0.index t 2 * 1024 + 1 * d.val = d.val; rw [e]; show 0 * 1024 + 1 * d.val = _; omega

theorem block_Nsa (n : Fin 8) (r : Fin 512) (l : Fin 64) : @Eq EReal (iblk m c 1 t (ix4 0 n r l)) (argNsa m c (ix4 (tb t) n (row t r) l)) := by
  have h : V m c main_arg1 = argNsa m c := V_main_arg1 m c
  rw [← h]
  show V m c main_arg1 _ = V m c main_arg1 _
  congr 1
  funext a
  apply Fin.ext
  have e := index_1 t
  match a with
  | ⟨0, _⟩ => show win0_1.index t 0 * 1 + 1 * 0 = (tb t).val; rw [e]; show (tb t).val * 1 + 1 * 0 = _; omega
  | ⟨1, _⟩ => show win0_1.index t 1 * 8 + 1 * n.val = n.val; rw [e]; show 0 * 8 + 1 * n.val = _; omega
  | ⟨2, _⟩ => show win0_1.index t 2 * 512 + 1 * r.val = 512 * (ti t).val + r.val; rw [e]; show (ti t).val * 512 + 1 * r.val = _; omega
  | ⟨3, _⟩ => show win0_1.index t 3 * 64 + 1 * l.val = l.val; rw [e]; show 0 * 64 + 1 * l.val = _; omega

theorem block_Swa (n : Fin 8) (r : Fin 512) (l : Fin 64) : @Eq EReal (iblk m c 2 t (ix4 0 n r l)) (argSwa m c (ix4 (tb t) n (row t r) l)) := by
  have h : V m c main_arg2 = argSwa m c := V_main_arg2 m c
  rw [← h]
  show V m c main_arg2 _ = V m c main_arg2 _
  congr 1
  funext a
  apply Fin.ext
  have e := index_2 t
  match a with
  | ⟨0, _⟩ => show win0_2.index t 0 * 1 + 1 * 0 = (tb t).val; rw [e]; show (tb t).val * 1 + 1 * 0 = _; omega
  | ⟨1, _⟩ => show win0_2.index t 1 * 8 + 1 * n.val = n.val; rw [e]; show 0 * 8 + 1 * n.val = _; omega
  | ⟨2, _⟩ => show win0_2.index t 2 * 512 + 1 * r.val = 512 * (ti t).val + r.val; rw [e]; show (ti t).val * 512 + 1 * r.val = _; omega
  | ⟨3, _⟩ => show win0_2.index t 3 * 64 + 1 * l.val = l.val; rw [e]; show 0 * 64 + 1 * l.val = _; omega

theorem block_Mla (n : Fin 8) (r : Fin 512) (l : Fin 64) : @Eq EReal (iblk m c 3 t (ix4 0 n r l)) (argMla m c (ix4 (tb t) n (row t r) l)) := by
  have h : V m c main_arg3 = argMla m c := V_main_arg3 m c
  rw [← h]
  show V m c main_arg3 _ = V m c main_arg3 _
  congr 1
  funext a
  apply Fin.ext
  have e := index_3 t
  match a with
  | ⟨0, _⟩ => show win0_3.index t 0 * 1 + 1 * 0 = (tb t).val; rw [e]; show (tb t).val * 1 + 1 * 0 = _; omega
  | ⟨1, _⟩ => show win0_3.index t 1 * 8 + 1 * n.val = n.val; rw [e]; show 0 * 8 + 1 * n.val = _; omega
  | ⟨2, _⟩ => show win0_3.index t 2 * 512 + 1 * r.val = 512 * (ti t).val + r.val; rw [e]; show (ti t).val * 512 + 1 * r.val = _; omega
  | ⟨3, _⟩ => show win0_3.index t 3 * 64 + 1 * l.val = l.val; rw [e]; show 0 * 64 + 1 * l.val = _; omega

theorem block_Fox (n : Fin 8) (r : Fin 512) (l : Fin 64) : @Eq EReal (iblk m c 4 t (ix4 0 n r l)) (argFox m c (ix4 (tb t) n (row t r) l)) := by
  have h : V m c main_arg4 = argFox m c := V_main_arg4 m c
  rw [← h]
  show V m c main_arg4 _ = V m c main_arg4 _
  congr 1
  funext a
  apply Fin.ext
  have e := index_4 t
  match a with
  | ⟨0, _⟩ => show win0_4.index t 0 * 1 + 1 * 0 = (tb t).val; rw [e]; show (tb t).val * 1 + 1 * 0 = _; omega
  | ⟨1, _⟩ => show win0_4.index t 1 * 8 + 1 * n.val = n.val; rw [e]; show 0 * 8 + 1 * n.val = _; omega
  | ⟨2, _⟩ => show win0_4.index t 2 * 512 + 1 * r.val = 512 * (ti t).val + r.val; rw [e]; show (ti t).val * 512 + 1 * r.val = _; omega
  | ⟨3, _⟩ => show win0_4.index t 3 * 64 + 1 * l.val = l.val; rw [e]; show 0 * 64 + 1 * l.val = _; omega

theorem block_pre (d : Fin 1024) : @Eq EReal (iblk m c 5 t (ix2 0 d)) (argPre m c (ix1 d)) := by
  rw [← gainPre_apply]
  show V m c main_v0 _ = V m c main_v0 _
  congr 1
  funext a
  apply Fin.ext
  match a with
  | ⟨0, _⟩ => rfl
  | ⟨1, _⟩ => show 0 * 1024 + 1 * d.val = d.val; omega

theorem block_post (d : Fin 1024) : @Eq EReal (iblk m c 9 t (ix2 0 d)) (argPost m c (ix1 d)) := by
  rw [← gainPost_apply]
  show V m c main_v4 _ = V m c main_v4 _
  congr 1
  funext a
  apply Fin.ext
  match a with
  | ⟨0, _⟩ => rfl
  | ⟨1, _⟩ => show 0 * 1024 + 1 * d.val = d.val; omega

theorem block_gate (b : Fin 4) (e : Fin 1024) (d : Fin 1024) : @Eq EReal (iblk m c 6 t (ix3 b e d)) (argGate m c (ix3 b e d)) := by
  have h : @Eq EReal (argGate m c (ix3 b e d)) (V m c main_v1 (ix3 b e d)) := by
    rw [gate_eq]
    rfl
  rw [h]
  show V m c main_v1 _ = V m c main_v1 _
  congr 1
  funext a
  apply Fin.ext
  match a with
  | ⟨0, _⟩ => show 0 * 4 + 1 * b.val = b.val; omega
  | ⟨1, _⟩ => show 0 * 1024 + 1 * e.val = e.val; omega
  | ⟨2, _⟩ => show 0 * 1024 + 1 * d.val = d.val; omega

theorem block_branch (b : Fin 4) (e : Fin 512) (d : Fin 1024) : @Eq EReal (iblk m c 7 t (ix3 b e d)) (argBranch m c (ix3 b e d)) := by
  have h : @Eq EReal (argBranch m c (ix3 b e d)) (V m c main_v2 (ix3 b e d)) := by
    rw [branch_eq]
    rfl
  rw [h]
  show V m c main_v2 _ = V m c main_v2 _
  congr 1
  funext a
  apply Fin.ext
  match a with
  | ⟨0, _⟩ => show 0 * 4 + 1 * b.val = b.val; omega
  | ⟨1, _⟩ => show 0 * 512 + 1 * e.val = e.val; omega
  | ⟨2, _⟩ => show 0 * 1024 + 1 * d.val = d.val; omega

theorem block_proj (e d : Fin 1024) : @Eq EReal (iblk m c 8 t (ix2 e d)) (argOut m c (ix2 e d)) := by
  have h : @Eq EReal (argOut m c (ix2 e d)) (V m c main_v3 (ix2 e d)) := by
    rw [proj_eq]
    rfl
  rw [h]
  show V m c main_v3 _ = V m c main_v3 _
  congr 1
  funext a
  apply Fin.ext
  match a with
  | ⟨0, _⟩ => show 0 * 1024 + 1 * e.val = e.val; omega
  | ⟨1, _⟩ => show 0 * 1024 + 1 * d.val = d.val; omega

end Blocks

/-! ## The array -/

/-- The merge at one place. -/
def mixer (b : Fin 16) (s : Fin 4096) (d : Fin 1024) : EReal :=
  Merge.out (fun e => argX m c (ix3 b s e)) (fun e => argPre m c (ix1 e))
    (fun k => argNsa m c (ix4 b (Merge.head k) s (Merge.lane k))) (fun k => argSwa m c (ix4 b (Merge.head k) s (Merge.lane k)))
    (fun k => argMla m c (ix4 b (Merge.head k) s (Merge.lane k))) (fun k => argFox m c (ix4 b (Merge.head k) s (Merge.lane k)))
    (fun n e d => argGate m c (ix3 n e d)) (fun n k d => argBranch m c (ix3 n k d)) (fun e d => argOut m c (ix2 e d)) (fun e => argPost m c (ix1 e)) d

/-- The whole array. -/
def result : Buf (Elt Ideal) ((c : Thread nD τ).loc main_v5) := fun i => mixer m c (i 0) (i 1) (i 2)

/-- What the body leaves in its block at point `t`. -/
def left (t : Fin cfg0.N) : Vec Ideal S1x512x1024 .f32 :=
  out0_10 (iblk m c 0 t) (iblk m c 1 t) (iblk m c 2 t) (iblk m c 3 t) (iblk m c 4 t) (iblk m c 5 t) (iblk m c 6 t) (iblk m c 7 t) (iblk m c 8 t) (iblk m c 9 t)

theorem left_apply (t : Fin cfg0.N) (r : Fin 512) (d : Fin 1024) : @Eq EReal (left m c t (ix3 0 r d)) (mixer m c (tb t) (row t r) d) :=
  (out_apply _ _ _ _ _ _ _ _ _ _ r d).trans (Merge.out_congr (block_x m c t r) (block_pre m c t) (fun k => block_Nsa m c t _ r _) (fun k => block_Swa m c t _ r _)
    (fun k => block_Mla m c t _ r _) (fun k => block_Fox m c t _ r _) (block_gate m c t) (block_branch m c t) (block_proj m c t) (block_post m c t) d)

theorem flushed_eq (t : Fin cfg0.N) (_ : (cfg0.win 10).flush t = true) :
    (dats m 0 c).flushed 10 t = ((cfg0.win 10).blk t).view.read (Elt Ideal) (result m c) := by
  show (cfg0.win 10).cut (grid0.coords t) ((dats m 0 c).after 10 t) = _
  rw [after0_10]
  funext j
  have hj : (j : S1x512x1024.Idx) = ix3 0 (j 1) (j 2) := by
    funext a
    match a with
    | ⟨0, _⟩ => exact Subsingleton.elim (α := Fin 1) _ _
    | ⟨1, _⟩ => rfl
    | ⟨2, _⟩ => rfl
  show left m c t (j : S1x512x1024.Idx) = result m c (((cfg0.win 10).blk t).view.emb j)
  refine (congrArg (left m c t) hj).trans ((left_apply m c t (j 1) (j 2)).trans ?_)
  unfold result
  have e := index_o t
  have j0 : (j 0 : Nat) < 1 := (j 0).isLt
  have h0 : (((cfg0.win 10).blk t).view.emb j) 0 = tb t := Fin.ext (by
    show win0_10.index t 0 * 1 + 1 * (j 0).val = (tb t).val
    rw [e]; show (tb t).val * 1 + 1 * (j 0).val = _; omega)
  have h1 : (((cfg0.win 10).blk t).view.emb j) 1 = row t (j 1) := Fin.ext (by
    show win0_10.index t 1 * 512 + 1 * (j 1).val = 512 * (ti t).val + (j 1).val
    rw [e]; show (ti t).val * 512 + 1 * (j 1).val = _; omega)
  have h2 : (((cfg0.win 10).blk t).view.emb j) 2 = j 2 := Fin.ext (by
    show win0_10.index t 2 * 1024 + 1 * (j 2).val = (j 2).val
    rw [e]; show 0 * 1024 + 1 * (j 2).val = _; omega)
  rw [h0, h1, h2]

/-- The point that writes a block of rows. -/
theorem point (b : Fin 16) (i : Fin 8) : ∃ t : Fin cfg0.N, tb t = b ∧ ti t = i := by
  have key : ∀ (b : Fin 16) (i : Fin 8), ∃ hlt : b.val * 8 + i.val < grid0.N,
      (grid0.coords ⟨b.val * 8 + i.val, hlt⟩ 0).val = b.val ∧ (grid0.coords ⟨b.val * 8 + i.val, hlt⟩ 1).val = i.val := by decide +kernel
  obtain ⟨hlt, h0, h1⟩ := key b i
  exact ⟨⟨_, hlt⟩, Fin.ext h0, Fin.ext h1⟩

theorem final : (dats m 0 c).arrAt 10 cfg0.N = result m c :=
  (dats m 0 c).arrAt_eq_of_cover 10 (result m c) (flushed_eq m c) fun i => by
    have i0 : (i 0 : Nat) < 16 := (i 0).isLt
    have i1 : (i 1 : Nat) < 4096 := (i 1).isLt
    have i2 : (i 2 : Nat) < 1024 := (i 2).isLt
    obtain ⟨t, h0, h1⟩ := point ⟨(i 0 : Nat), i0⟩ ⟨(i 1 : Nat) / 512, by omega⟩
    have e := index_o t
    rw [h0, h1] at e
    refine ⟨t, flush0_10 t, ?_⟩
    show i ∈ ((View.whole main_v5).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1
                rw [e]; show (i 0 : Nat) * 1 ≤ (i 0 : Nat) ∧ (i 0 : Nat) < (i 0 : Nat) * 1 + 1; omega
    | ⟨1, _⟩ => show win0_10.index t 1 * 512 ≤ (i 1 : Nat) ∧ (i 1 : Nat) < win0_10.index t 1 * 512 + 512
                rw [e]; show (i 1 : Nat) / 512 * 512 ≤ (i 1 : Nat) ∧ (i 1 : Nat) < (i 1 : Nat) / 512 * 512 + 512; omega
    | ⟨2, _⟩ => show win0_10.index t 2 * 1024 ≤ (i 2 : Nat) ∧ (i 2 : Nat) < win0_10.index t 2 * 1024 + 1024
                rw [e]; show 0 * 1024 ≤ (i 2 : Nat) ∧ (i 2 : Nat) < 0 * 1024 + 1024; omega

end Cert.Kernel3Ideal.Mixer

end
-- ==== Proof.MergeReference.lean ====
/-
  The merge reference's result over the extended reals, element by element.
-/
module

public import proofs.«01_k».proof.Proof.Gen.Reference3Ideal.Run
public import Idealize.ShloMosaic.Lib.Pointwise
public import proofs.«01_k».proof.Proof.Merge

@[expose] public section

set_option maxRecDepth 16384

noncomputable section

namespace Cert.Reference3Ideal.Mixer

open Idealize.ShloMosaic Idealize.ShloMosaic.TcCoe Cert.Reference3Ideal Cert.Reference3Ideal.Gen Cert.Reference3Ideal.Value

variable (m : (ℓ : Loc nD τ sig) → Buf (Elt Ideal) ℓ) (c : Dev nD)

abbrev argX : FVec Ideal S16x4096x1024 .f32 := m ((c : Thread nD τ).loc main_arg0)
abbrev argNsa : FVec Ideal S16x8x4096x64 .bf16 := m ((c : Thread nD τ).loc main_arg1)
abbrev argSwa : FVec Ideal S16x8x4096x64 .bf16 := m ((c : Thread nD τ).loc main_arg2)
abbrev argMla : FVec Ideal S16x8x4096x64 .bf16 := m ((c : Thread nD τ).loc main_arg3)
abbrev argFox : FVec Ideal S16x8x4096x64 .bf16 := m ((c : Thread nD τ).loc main_arg4)
abbrev argPre : FVec Ideal S1024 .f32 := m ((c : Thread nD τ).loc main_arg5)
abbrev argGate : FVec Ideal S4x1024x1024 .f32 := m ((c : Thread nD τ).loc main_arg6)
abbrev argBranch : FVec Ideal S4x512x1024 .f32 := m ((c : Thread nD τ).loc main_arg7)
abbrev argOut : FVec Ideal S1024x1024 .f32 := m ((c : Thread nD τ).loc main_arg8)
abbrev argPost : FVec Ideal S1024 .f32 := m ((c : Thread nD τ).loc main_arg9)

/-- The norm as the program computes it. -/
def rms (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2 (Host.rsqrt (addf (Host.divf
    (broadcastInDim S16x4096x1 ![0, 1] bcast_S16x4096_S16x4096x1_0_1 (Host.reduceAdd (mulf x x) (constant S_ .f32 0x00000000#32) reducesTo_S16x4096x1024_S16x4096_d2 h_S_))
    (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g))

/-- The logistic function of the gate projection. -/
def gate (h : FVec Ideal S16x4096x1024 .f32) (w : FVec Ideal S1024x1024 .f32) : FVec Ideal S16x4096x1024 .f32 :=
  Host.divf (broadcastInDim S16x4096x1024 ![] bcast_S_S16x4096x1024 (constant S_ .f32 0x3F800000#32))
    (addf (broadcastInDim S16x4096x1024 ![] bcast_S_S16x4096x1024 (constant S_ .f32 0x3F800000#32))
      (Host.exp (Host.negf (Host.dotGeneral dot_S16x4096x1024_S1024x1024_S16x4096x1024_2_0_01_1_n_n none h w))))

/-- A branch with its heads side by side. -/
def joined (y : FVec Ideal S16x8x4096x64 .bf16) : FVec Ideal S16x4096x512 .f32 :=
  extf .f32 (shapeCast S16x4096x512 (transpose S16x4096x8x64 [0, 2, 1, 3] y transposes_S16x8x4096x64_S16x4096x8x64_0_2_1_3) shapeCasts_S16x4096x8x64_S16x4096x512) bitsLt_bf16_f32

/-- A branch projected. -/
def lifted (y : FVec Ideal S16x4096x512 .f32) (w : FVec Ideal S512x1024 .f32) : FVec Ideal S16x4096x1024 .f32 :=
  Host.dotGeneral dot_S16x4096x512_S512x1024_S16x4096x1024_2_0_01_1_n_n none y w

/-- One branch's gate weights. -/
def gate0 (g : FVec Ideal S4x1024x1024 .f32) : FVec Ideal S1024x1024 .f32 :=
  shapeCast S1024x1024 (extractStridedSlice S1x1024x1024 ![0, 0, 0] g slices_S4x1024x1024_S1x1024x1024_0_0_0) shapeCasts_S1x1024x1024_S1024x1024
def gate1 (g : FVec Ideal S4x1024x1024 .f32) : FVec Ideal S1024x1024 .f32 :=
  shapeCast S1024x1024 (extractStridedSlice S1x1024x1024 ![1, 0, 0] g slices_S4x1024x1024_S1x1024x1024_1_0_0) shapeCasts_S1x1024x1024_S1024x1024
def gate2 (g : FVec Ideal S4x1024x1024 .f32) : FVec Ideal S1024x1024 .f32 :=
  shapeCast S1024x1024 (extractStridedSlice S1x1024x1024 ![2, 0, 0] g slices_S4x1024x1024_S1x1024x1024_2_0_0) shapeCasts_S1x1024x1024_S1024x1024
def gate3 (g : FVec Ideal S4x1024x1024 .f32) : FVec Ideal S1024x1024 .f32 :=
  shapeCast S1024x1024 (extractStridedSlice S1x1024x1024 ![3, 0, 0] g slices_S4x1024x1024_S1x1024x1024_3_0_0) shapeCasts_S1x1024x1024_S1024x1024

/-- One branch's projection weights. -/
def lift0 (w : FVec Ideal S4x512x1024 .f32) : FVec Ideal S512x1024 .f32 :=
  shapeCast S512x1024 (extractStridedSlice S1x512x1024 ![0, 0, 0] w slices_S4x512x1024_S1x512x1024_0_0_0) shapeCasts_S1x512x1024_S512x1024
def lift1 (w : FVec Ideal S4x512x1024 .f32) : FVec Ideal S512x1024 .f32 :=
  shapeCast S512x1024 (extractStridedSlice S1x512x1024 ![1, 0, 0] w slices_S4x512x1024_S1x512x1024_1_0_0) shapeCasts_S1x512x1024_S512x1024
def lift2 (w : FVec Ideal S4x512x1024 .f32) : FVec Ideal S512x1024 .f32 :=
  shapeCast S512x1024 (extractStridedSlice S1x512x1024 ![2, 0, 0] w slices_S4x512x1024_S1x512x1024_2_0_0) shapeCasts_S1x512x1024_S512x1024
def lift3 (w : FVec Ideal S4x512x1024 .f32) : FVec Ideal S512x1024 .f32 :=
  shapeCast S512x1024 (extractStridedSlice S1x512x1024 ![3, 0, 0] w slices_S4x512x1024_S1x512x1024_3_0_0) shapeCasts_S1x512x1024_S512x1024

/-- One branch's gated part of the sum. -/
def branch (h : FVec Ideal S16x4096x1024 .f32) (g : FVec Ideal S1024x1024 .f32) (y : FVec Ideal S16x8x4096x64 .bf16) (w : FVec Ideal S512x1024 .f32) : FVec Ideal S16x4096x1024 .f32 :=
  mulf (gate h g) (lifted (joined y) w)

/-- The four branches added up. -/
def total (h : FVec Ideal S16x4096x1024 .f32) (y0 y1 y2 y3 : FVec Ideal S16x8x4096x64 .bf16) (g : FVec Ideal S4x1024x1024 .f32) (w : FVec Ideal S4x512x1024 .f32) :
    FVec Ideal S16x4096x1024 .f32 :=
  addf (addf (addf (addf (broadcastInDim S16x4096x1024 ![] bcast_S_S16x4096x1024 (constant S_ .f32 0x00000000#32))
    (branch h (gate0 g) y0 (lift0 w))) (branch h (gate1 g) y1 (lift1 w))) (branch h (gate2 g) y2 (lift2 w))) (branch h (gate3 g) y3 (lift3 w))

/-- The sum projected. -/
def project (s : FVec Ideal S16x4096x1024 .f32) (o : FVec Ideal S1024x1024 .f32) : FVec Ideal S16x4096x1024 .f32 :=
  Host.dotGeneral dot_S16x4096x1024_S1024x1024_S16x4096x1024_2_0_01_1_n_n none s o

theorem res_eq : res_main_v96 m c = addf (argX m c) (rms (project (total (rms (argX m c) (argPre m c)) (argNsa m c) (argSwa m c) (argMla m c) (argFox m c)
    (argGate m c) (argBranch m c)) (argOut m c)) (argPost m c)) := rfl

theorem rms_apply (x : FVec Ideal S16x4096x1024 .f32) (g : FVec Ideal S1024 .f32) (b : Fin 16) (s : Fin 4096) (d : Fin 1024) :
    @Eq EReal (rms x g (ix3 b s d)) (Ffn.normed (fun e => x (ix3 b s e)) (fun e => g (ix1 e)) d) := by
  unfold rms Ffn.normed
  pointwise

theorem gate_apply (h : FVec Ideal S16x4096x1024 .f32) (w : FVec Ideal S1024x1024 .f32) (b : Fin 16) (s : Fin 4096) (d : Fin 1024) :
    @Eq EReal (gate h w (ix3 b s d)) (Ideal.logistic (∑ e : Fin 1024, h (ix3 b s e) * w (ix2 e d))) := by
  unfold gate Ideal.logistic
  pointwise [dot_S16x4096x1024_S1024x1024_S16x4096x1024_2_0_01_1_n_n]

theorem joined_apply (y : FVec Ideal S16x8x4096x64 .bf16) (b : Fin 16) (s : Fin 4096) (k : Fin 512) :
    @Eq EReal (joined y (ix3 b s k)) (y (ix4 b (Merge.head k) s (Merge.lane k))) := by
  unfold joined
  pointwise

theorem lifted_apply (y : FVec Ideal S16x4096x512 .f32) (w : FVec Ideal S512x1024 .f32) (b : Fin 16) (s : Fin 4096) (d : Fin 1024) :
    @Eq EReal (lifted y w (ix3 b s d)) (∑ k : Fin 512, y (ix3 b s k) * w (ix2 k d)) := by
  unfold lifted
  pointwise [dot_S16x4096x512_S512x1024_S16x4096x1024_2_0_01_1_n_n]

theorem gate0_apply (g : FVec Ideal S4x1024x1024 .f32) (e d : Fin 1024) : @Eq EReal (gate0 g (ix2 e d)) (g (ix3 0 e d)) := by
  unfold gate0
  pointwise
theorem gate1_apply (g : FVec Ideal S4x1024x1024 .f32) (e d : Fin 1024) : @Eq EReal (gate1 g (ix2 e d)) (g (ix3 1 e d)) := by
  unfold gate1
  pointwise
theorem gate2_apply (g : FVec Ideal S4x1024x1024 .f32) (e d : Fin 1024) : @Eq EReal (gate2 g (ix2 e d)) (g (ix3 2 e d)) := by
  unfold gate2
  pointwise
theorem gate3_apply (g : FVec Ideal S4x1024x1024 .f32) (e d : Fin 1024) : @Eq EReal (gate3 g (ix2 e d)) (g (ix3 3 e d)) := by
  unfold gate3
  pointwise
theorem lift0_apply (w : FVec Ideal S4x512x1024 .f32) (k : Fin 512) (d : Fin 1024) : @Eq EReal (lift0 w (ix2 k d)) (w (ix3 0 k d)) := by
  unfold lift0
  pointwise
theorem lift1_apply (w : FVec Ideal S4x512x1024 .f32) (k : Fin 512) (d : Fin 1024) : @Eq EReal (lift1 w (ix2 k d)) (w (ix3 1 k d)) := by
  unfold lift1
  pointwise
theorem lift2_apply (w : FVec Ideal S4x512x1024 .f32) (k : Fin 512) (d : Fin 1024) : @Eq EReal (lift2 w (ix2 k d)) (w (ix3 2 k d)) := by
  unfold lift2
  pointwise
theorem lift3_apply (w : FVec Ideal S4x512x1024 .f32) (k : Fin 512) (d : Fin 1024) : @Eq EReal (lift3 w (ix2 k d)) (w (ix3 3 k d)) := by
  unfold lift3
  pointwise

theorem branch_apply (h : FVec Ideal S16x4096x1024 .f32) (g : FVec Ideal S1024x1024 .f32) (y : FVec Ideal S16x8x4096x64 .bf16) (w : FVec Ideal S512x1024 .f32)
    (g' : Fin 1024 → Fin 1024 → EReal) (w' : Fin 512 → Fin 1024 → EReal) (hg : ∀ e d, @Eq EReal (g (ix2 e d)) (g' e d)) (hw : ∀ k d, @Eq EReal (w (ix2 k d)) (w' k d))
    (b : Fin 16) (s : Fin 4096) (d : Fin 1024) :
    @Eq EReal (branch h g y w (ix3 b s d)) (Merge.branch (fun e => h (ix3 b s e)) (fun k => y (ix4 b (Merge.head k) s (Merge.lane k))) g' w' d) := by
  have e : @Eq EReal (branch h g y w (ix3 b s d)) (gate h g (ix3 b s d) * lifted (joined y) w (ix3 b s d)) := rfl
  rw [e, gate_apply, lifted_apply]
  unfold Merge.branch
  refine congrArg₂ (fun a b : EReal => Ideal.logistic a * b) ?_ ?_
  · exact Finset.sum_congr rfl fun e _ => congrArg (fun y : EReal => _ * y) (hg e d)
  · exact Finset.sum_congr rfl fun k _ => congrArg₂ (fun a b : EReal => a * b) (joined_apply y b s k) (hw k d)

theorem zero_apply (b : Fin 16) (s : Fin 4096) (d : Fin 1024) :
    @Eq EReal ((broadcastInDim S16x4096x1024 ![] bcast_S_S16x4096x1024 (constant S_ .f32 0x00000000#32) : FVec Ideal S16x4096x1024 .f32) (ix3 b s d)) 0 := by
  pointwise

theorem addf_apply' (a b : FVec Ideal S16x4096x1024 .f32) (j : S16x4096x1024.Idx) : @Eq EReal (addf a b j) (a j + b j) := rfl

theorem total_apply (h : FVec Ideal S16x4096x1024 .f32) (y0 y1 y2 y3 : FVec Ideal S16x8x4096x64 .bf16) (g : FVec Ideal S4x1024x1024 .f32) (w : FVec Ideal S4x512x1024 .f32)
    (b : Fin 16) (s : Fin 4096) (d : Fin 1024) :
    @Eq EReal (total h y0 y1 y2 y3 g w (ix3 b s d))
      (Merge.merged (fun e => h (ix3 b s e)) (fun k => y0 (ix4 b (Merge.head k) s (Merge.lane k))) (fun k => y1 (ix4 b (Merge.head k) s (Merge.lane k)))
        (fun k => y2 (ix4 b (Merge.head k) s (Merge.lane k))) (fun k => y3 (ix4 b (Merge.head k) s (Merge.lane k)))
        (fun n e d => g (ix3 n e d)) (fun n k d => w (ix3 n k d)) d) := by
  unfold total
  simp only [addf_apply']
  rw [zero_apply, zero_add,
    branch_apply h _ y0 _ (fun e d => g (ix3 0 e d)) (fun k d => w (ix3 0 k d)) (gate0_apply g) (lift0_apply w),
    branch_apply h _ y1 _ (fun e d => g (ix3 1 e d)) (fun k d => w (ix3 1 k d)) (gate1_apply g) (lift1_apply w),
    branch_apply h _ y2 _ (fun e d => g (ix3 2 e d)) (fun k d => w (ix3 2 k d)) (gate2_apply g) (lift2_apply w),
    branch_apply h _ y3 _ (fun e d => g (ix3 3 e d)) (fun k d => w (ix3 3 k d)) (gate3_apply g) (lift3_apply w)]
  rfl

theorem project_apply (t : FVec Ideal S16x4096x1024 .f32) (o : FVec Ideal S1024x1024 .f32) (b : Fin 16) (s : Fin 4096) (d : Fin 1024) :
    @Eq EReal (project t o (ix3 b s d)) (Merge.projected (fun e => t (ix3 b s e)) (fun e d => o (ix2 e d)) d) := by
  unfold project Merge.projected
  pointwise [dot_S16x4096x1024_S1024x1024_S16x4096x1024_2_0_01_1_n_n]

theorem res_apply (b : Fin 16) (s : Fin 4096) (d : Fin 1024) :
    @Eq EReal (res_main_v96 m c (ix3 b s d))
      (Merge.out (fun e => argX m c (ix3 b s e)) (fun e => argPre m c (ix1 e))
        (fun k => argNsa m c (ix4 b (Merge.head k) s (Merge.lane k))) (fun k => argSwa m c (ix4 b (Merge.head k) s (Merge.lane k)))
        (fun k => argMla m c (ix4 b (Merge.head k) s (Merge.lane k))) (fun k => argFox m c (ix4 b (Merge.head k) s (Merge.lane k)))
        (fun n e d => argGate m c (ix3 n e d)) (fun n k d => argBranch m c (ix3 n k d)) (fun e d => argOut m c (ix2 e d)) (fun e => argPost m c (ix1 e)) d) := by
  rw [res_eq, addf_apply', rms_apply]
  unfold Merge.out
  refine congrArg (fun y => (argX m c (ix3 b s d) : EReal) + Ffn.normed y (fun e => argPost m c (ix1 e)) d) (funext fun e => ?_)
  refine (project_apply _ _ b s e).trans ?_
  refine congrArg (fun t => Merge.projected t _ e) (funext fun e' => ?_)
  refine (total_apply _ _ _ _ _ _ _ b s e').trans ?_
  exact congrArg (fun h => Merge.merged h _ _ _ _ _ _ e') (funext fun e'' => rms_apply _ _ b s e'')

end Cert.Reference3Ideal.Mixer

end
-- ==== Proof.Proj.lean ====
/-
  The combined input projection at one place over the extended reals: the row's norm, the column it is projected to, and the
  order of the columns in heads of 64.
-/
module

public import proofs.«01_k».proof.Proof.Ffn

@[expose] public section

noncomputable section

namespace Proj

open Idealize.ShloMosaic

/-- A row projected to column `j`. -/
def z (h : Fin 1024 → EReal) (w : Fin 1024 → Fin 4096 → EReal) (j : Fin 4096) : EReal := ∑ e, h e * w e j

/-- Column `l` of head `k` of those after column 384. -/
abbrev cmp (k : Fin 4) (l : Fin 64) : Fin 4096 := ⟨384 + 64 * k.val + l.val, by omega⟩

/-- Column `l` of head `k` of those after column 768. -/
abbrev col (k : Fin 52) (l : Fin 64) : Fin 4096 := ⟨768 + 64 * k.val + l.val, by omega⟩

/-- Head `n` of the array whose heads begin at head `q`. -/
abbrev from' (q : ℕ) {N : ℕ} (h : q + N ≤ 52) (n : Fin N) : Fin 52 := ⟨q + n.val, by omega⟩

/-- Sixty-four columns beside sixty-four others. -/
def beside (f a : Fin 64 → EReal) (l : Fin 128) : EReal := if h : l.val < 64 then f ⟨l.val, h⟩ else a ⟨l.val - 64, by omega⟩

/-- One where two numbers agree, zero elsewhere. -/
def same (a b : ℕ) : EReal := if a = b then 1 else 0

theorem z_congr {h h' : Fin 1024 → EReal} {w w' : Fin 1024 → Fin 4096 → EReal} (eh : ∀ e, h e = h' e) (ew : ∀ e j, w e j = w' e j) (j : Fin 4096) :
    z h w j = z h' w' j := Finset.sum_congr rfl fun e _ => congrArg₂ (fun a b : EReal => a * b) (eh e) (ew e j)

theorem beside_congr {f f' a a' : Fin 64 → EReal} (ef : ∀ l, f l = f' l) (ea : ∀ l, a l = a' l) (l : Fin 128) : beside f a l = beside f' a' l :=
  congrArg₂ (fun f a => beside f a l) (funext ef) (funext ea)

end Proj

end
-- ==== Proof.ProjBody.lean ====
/-
  What one grid point of the input projection writes to each of its fourteen arrays, element by element over the extended reals.
-/
module

public import proofs.«01_k».proof.Proof.Gen.Kernel4Ideal.Frame
public import Idealize.ShloMosaic.Lib.Pointwise
public import Idealize.ShloMosaic.Lib.Tactic.WordOmega
public import proofs.«01_k».proof.Proof.MergeBody
public import proofs.«01_k».proof.Proof.Proj

@[expose] public section

set_option maxRecDepth 16384

noncomputable section

namespace Cert.Kernel4Ideal.Proj

open Idealize.ShloMosaic Cert.Kernel4Ideal Cert.Kernel4Ideal.Gen

/-- A block of heads. -/
abbrev Heads (N D : ℕ) : Shape := ⟨4, ![1, N, 512, D]⟩

/-! ## Heads stored one at a time -/

section Stored
variable {N D : ℕ} {e : EltTy}

theorem inb_head (n : Fin N) : ∀ a, (![0, n.val, 0, 0] : Fin 4 → ℕ) a + (Heads 1 D).size a ≤ (Heads N D).size a := fun a => by
  have := n.isLt
  match a with
  | ⟨0, _⟩ => show 0 + 1 ≤ 1; omega
  | ⟨1, _⟩ => show n.val + 1 ≤ N; omega
  | ⟨2, _⟩ => show 0 + 512 ≤ 512; omega
  | ⟨3, _⟩ => show 0 + D ≤ D; omega

/-- Head `n` of a block of heads, as it is stored. -/
abbrev stored (w : Fin N → (Heads 1 D).Idx → Elt Ideal e) (n : Fin N) : View.Piece (Elt Ideal) (Heads N D) e :=
  ⟨Rect.unit (s := Heads N D) ![0, n.val, 0, 0] (Heads 1 D).size (inb_head n), w n⟩

theorem emb_stored (n : Fin N) (x : (Heads 1 D).Idx) :
    (Rect.unit (s := Heads N D) ![0, n.val, 0, 0] (Heads 1 D).size (inb_head n)).emb x = (ix4 0 n (x 2) (x 3) : (Heads N D).Idx) := by
  funext a
  apply Fin.ext
  have x0 : (x 0 : Nat) < 1 := (x 0).isLt
  have x1 : (x 1 : Nat) < 1 := (x 1).isLt
  match a with
  | ⟨0, _⟩ => show 0 + 1 * (x 0 : Nat) = 0; omega
  | ⟨1, _⟩ => show n.val + 1 * (x 1 : Nat) = n.val; omega
  | ⟨2, _⟩ => show 0 + 1 * (x 2 : Nat) = (x 2 : Nat); omega
  | ⟨3, _⟩ => show 0 + 1 * (x 3 : Nat) = (x 3 : Nat); omega

theorem one_head (x : (Heads 1 D).Idx) : x = (ix4 0 0 (x 2) (x 3) : (Heads 1 D).Idx) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- Storing every head leaves each where it was stored. -/
theorem canon_heads (w : Fin N → (Heads 1 D).Idx → Elt Ideal e) (L : List (View.Piece (Elt Ideal) (Heads N D) e))
    (hp : ∀ p ∈ L, ∃ n, p = stored w n) (hc : ∀ n, stored w n ∈ L) (n : Fin N) (r : Fin 512) (l : Fin D) :
    View.canon L (ix4 0 n r l : (Heads N D).Idx) = w n (ix4 0 0 r l : (Heads 1 D).Idx) := by
  refine View.canon_apply_of_pieces (Val := Elt Ideal) (fun y : (Heads N D).Idx => w (y 1) (ix4 0 0 (y 2) (y 3) : (Heads 1 D).Idx)) L ?_ _ ?_
  · intro p h
    obtain ⟨n, rfl⟩ := hp p h
    intro x
    show w n x = _
    rw [emb_stored n x]
    exact congrArg (w n) (one_head x)
  · refine ⟨_, hc n, ?_⟩
    show _ ∈ (Rect.unit (s := Heads N D) ![0, n.val, 0, 0] (Heads 1 D).size (inb_head n)).set
    rw [Rect.mem_set_unit]
    intro a
    have := r.isLt
    have := l.isLt
    match a with
    | ⟨0, _⟩ => show 0 ≤ 0 ∧ 0 < 0 + 1; omega
    | ⟨1, _⟩ => show n.val ≤ n.val ∧ n.val < n.val + 1; omega
    | ⟨2, _⟩ => show 0 ≤ r.val ∧ r.val < 0 + 512; omega
    | ⟨3, _⟩ => show 0 ≤ l.val ∧ l.val < 0 + D; omega

/-- Two, four and eight heads, the last stored first in the list. -/
abbrev two (w : Fin 2 → (Heads 1 D).Idx → Elt Ideal e) : List (View.Piece (Elt Ideal) (Heads 2 D) e) := [stored w 1, stored w 0]
abbrev four (w : Fin 4 → (Heads 1 D).Idx → Elt Ideal e) : List (View.Piece (Elt Ideal) (Heads 4 D) e) := [stored w 3, stored w 2, stored w 1, stored w 0]
abbrev eight (w : Fin 8 → (Heads 1 D).Idx → Elt Ideal e) : List (View.Piece (Elt Ideal) (Heads 8 D) e) :=
  [stored w 7, stored w 6, stored w 5, stored w 4, stored w 3, stored w 2, stored w 1, stored w 0]

theorem canon_two (w : Fin 2 → (Heads 1 D).Idx → Elt Ideal e) (n : Fin 2) (r : Fin 512) (l : Fin D) :
    View.canon (two w) (ix4 0 n r l : (Heads 2 D).Idx) = w n (ix4 0 0 r l : (Heads 1 D).Idx) :=
  canon_heads w (two w) (by simp only [List.forall_mem_cons]; exact ⟨⟨_, rfl⟩, ⟨_, rfl⟩, by simp⟩) (fun n => by fin_cases n <;> simp) n r l

theorem canon_four (w : Fin 4 → (Heads 1 D).Idx → Elt Ideal e) (n : Fin 4) (r : Fin 512) (l : Fin D) :
    View.canon (four w) (ix4 0 n r l : (Heads 4 D).Idx) = w n (ix4 0 0 r l : (Heads 1 D).Idx) :=
  canon_heads w (four w) (by simp only [List.forall_mem_cons]; exact ⟨⟨_, rfl⟩, ⟨_, rfl⟩, ⟨_, rfl⟩, ⟨_, rfl⟩, by simp⟩) (fun n => by fin_cases n <;> simp) n r l

theorem canon_eight (w : Fin 8 → (Heads 1 D).Idx → Elt Ideal e) (n : Fin 8) (r : Fin 512) (l : Fin D) :
    View.canon (eight w) (ix4 0 n r l : (Heads 8 D).Idx) = w n (ix4 0 0 r l : (Heads 1 D).Idx) :=
  canon_heads w (eight w) (by
    simp only [List.forall_mem_cons]
    exact ⟨⟨_, rfl⟩, ⟨_, rfl⟩, ⟨_, rfl⟩, ⟨_, rfl⟩, ⟨_, rfl⟩, ⟨_, rfl⟩, ⟨_, rfl⟩, ⟨_, rfl⟩, by simp⟩) (fun n => by fin_cases n <;> simp) n r l

end Stored

/-! ## The columns of the weights -/

theorem inb_cols {n : ℕ} (c : ℕ) (h : c + n ≤ 4096) : ∀ a, (![0, c] : Fin 2 → ℕ) a + (⟨2, ![1024, n]⟩ : Shape).size a ≤ S1024x4096.size a := fun a => by
  match a with
  | ⟨0, _⟩ => show 0 + 1024 ≤ 1024; omega
  | ⟨1, _⟩ => exact h

/-- The `n` columns from column `c` on. -/
abbrev cols (n c : ℕ) (h : c + n ≤ 4096) (x : Vec Ideal S1024x4096 .bf16) : Vec Ideal ⟨2, ![1024, n]⟩ .bf16 :=
  View.ld x (Rect.unit (s := S1024x4096) ![0, c] (⟨2, ![1024, n]⟩ : Shape).size (inb_cols c h))

theorem cols_apply {n : ℕ} (c : ℕ) (h : c + n ≤ 4096) (x : Vec Ideal S1024x4096 .bf16) (e : Fin 1024) (k : Fin n) (j : Fin 4096) (hj : j.val = c + k.val) :
    @Eq EReal (cols n c h x (ix2 e k)) (x (ix2 e j)) := by
  show x _ = x _
  congr 1
  funext a
  apply Fin.ext
  match a with
  | ⟨0, _⟩ => show 0 + 1 * e.val = e.val; omega
  | ⟨1, _⟩ => show c + 1 * k.val = j.val; omega

/-- A normed block projected to column `j`. -/
abbrev at' (h : FVec Ideal S512x1024 .bf16) (x : Vec Ideal S1024x4096 .bf16) (r : Fin 512) (j : Fin 4096) : EReal :=
  _root_.Proj.z (fun e => h (ix2 r e)) (fun e j => x (ix2 e j)) j

/-- The block projected to some of the columns. -/
def chunk512 (h : FVec Ideal S512x1024 .bf16) (w : FVec Ideal S1024x512 .bf16) : FVec Ideal S512x512 .f32 :=
  matmul dot_S512x1024_S1024x512_S512x512_1_0_0_1_n_n none h (shapeCast S1024x512 w shapeCasts_S1024x512_S1024x512) (constant S512x512 .f32 0x00000000#32)
def chunk384 (h : FVec Ideal S512x1024 .bf16) (w : FVec Ideal S1024x384 .bf16) : FVec Ideal S512x384 .f32 :=
  matmul dot_S512x1024_S1024x384_S512x384_1_0_0_1_n_n none h (shapeCast S1024x384 w shapeCasts_S1024x384_S1024x384) (constant S512x384 .f32 0x00000000#32)
def chunk256 (h : FVec Ideal S512x1024 .bf16) (w : FVec Ideal S1024x256 .bf16) : FVec Ideal S512x256 .f32 :=
  matmul dot_S512x1024_S1024x256_S512x256_1_0_0_1_n_n none h (shapeCast S1024x256 w shapeCasts_S1024x256_S1024x256) (constant S512x256 .f32 0x00000000#32)

theorem sum_cols {n : ℕ} (h : FVec Ideal S512x1024 .bf16) (x : Vec Ideal S1024x4096 .bf16) (c : ℕ) (hc : c + n ≤ 4096) (r : Fin 512) (k : Fin n) (j : Fin 4096)
    (hj : j.val = c + k.val) : @Eq EReal (∑ e : Fin 1024, (h (ix2 r e) : EReal) * cols n c hc x (ix2 e k)) (at' h x r j) :=
  Finset.sum_congr rfl fun e _ => congrArg (fun y : EReal => _ * y) (cols_apply c hc x e k j hj)

theorem chunk512_apply (h : FVec Ideal S512x1024 .bf16) (x : Vec Ideal S1024x4096 .bf16) (c : ℕ) (hc : c + 512 ≤ 4096) (r : Fin 512) (k : Fin 512) (j : Fin 4096)
    (hj : j.val = c + k.val) : @Eq EReal (chunk512 h (cols 512 c hc x) (ix2 r k)) (at' h x r j) := by
  have e : ∀ w : FVec Ideal S1024x512 .bf16, @Eq EReal (chunk512 h w (ix2 r k)) (∑ e : Fin 1024, (h (ix2 r e) : EReal) * w (ix2 e k)) := fun w => by
    unfold chunk512
    pointwise [dot_S512x1024_S1024x512_S512x512_1_0_0_1_n_n]
  exact (e _).trans (sum_cols h x c hc r k j hj)

theorem chunk384_apply (h : FVec Ideal S512x1024 .bf16) (x : Vec Ideal S1024x4096 .bf16) (c : ℕ) (hc : c + 384 ≤ 4096) (r : Fin 512) (k : Fin 384) (j : Fin 4096)
    (hj : j.val = c + k.val) : @Eq EReal (chunk384 h (cols 384 c hc x) (ix2 r k)) (at' h x r j) := by
  have e : ∀ w : FVec Ideal S1024x384 .bf16, @Eq EReal (chunk384 h w (ix2 r k)) (∑ e : Fin 1024, (h (ix2 r e) : EReal) * w (ix2 e k)) := fun w => by
    unfold chunk384
    pointwise [dot_S512x1024_S1024x384_S512x384_1_0_0_1_n_n]
  exact (e _).trans (sum_cols h x c hc r k j hj)

theorem chunk256_apply (h : FVec Ideal S512x1024 .bf16) (x : Vec Ideal S1024x4096 .bf16) (c : ℕ) (hc : c + 256 ≤ 4096) (r : Fin 512) (k : Fin 256) (j : Fin 4096)
    (hj : j.val = c + k.val) : @Eq EReal (chunk256 h (cols 256 c hc x) (ix2 r k)) (at' h x r j) := by
  have e : ∀ w : FVec Ideal S1024x256 .bf16, @Eq EReal (chunk256 h w (ix2 r k)) (∑ e : Fin 1024, (h (ix2 r e) : EReal) * w (ix2 e k)) := fun w => by
    unfold chunk256
    pointwise [dot_S512x1024_S1024x256_S512x256_1_0_0_1_n_n]
  exact (e _).trans (sum_cols h x c hc r k j hj)

/-! ## One head of a chunk -/

theorem slices {w : ℕ} (off : ℕ) (h : off + 64 ≤ w) : (⟨2, ![512, w]⟩ : Shape).Slices ![0, off] S512x64 :=
  ⟨rfl, fun a => by
    match a with
    | ⟨0, _⟩ => show 0 + 512 ≤ 512; omega
    | ⟨1, _⟩ => exact h⟩

/-- The 64 columns of a chunk from column `off` on. -/
abbrev slice {w : ℕ} (off : ℕ) (h : off + 64 ≤ w) (v : FVec Ideal ⟨2, ![512, w]⟩ .f32) : FVec Ideal S512x64 .f32 :=
  extractStridedSlice S512x64 ![0, off] v (slices off h)

theorem slice_apply {w : ℕ} (off : ℕ) (h : off + 64 ≤ w) (v : FVec Ideal ⟨2, ![512, w]⟩ .f32) (r : Fin 512) (l : Fin 64) (j : Fin w) (hj : j.val = off + l.val) :
    @Eq EReal (slice off h v (ix2 r l)) (v (ix2 r j)) :=
  extractStridedSlice_apply (![0, off] : Fin 2 → ℕ) v (slices off h) (ix2 r l) (ix2 r j) fun a => by
    match a with
    | ⟨0, _⟩ => show r.val = 0 + r.val; omega
    | ⟨1, _⟩ => exact hj

/-- A head as it is stored. -/
def plain (v : FVec Ideal S512x64 .f32) : FVec Ideal S1x1x512x64 .f32 := shapeCast S1x1x512x64 v shapeCasts_S512x64_S1x1x512x64
def rounded (v : FVec Ideal S512x64 .f32) : FVec Ideal S1x1x512x64 .bf16 := shapeCast S1x1x512x64 (truncf .bf16 v bitsLt_bf16_f32) shapeCasts_S512x64_S1x1x512x64
def widened (v a : FVec Ideal S512x64 .f32) : FVec Ideal S1x1x512x128 .bf16 :=
  shapeCast S1x1x512x128 (truncf .bf16 (concatenate S512x128 1 [⟨S512x64, v⟩, ⟨S512x64, a⟩] concatenates_S512x64_S512x64_S512x128_d1) bitsLt_bf16_f32) shapeCasts_S512x128_S1x1x512x128

theorem plain_apply (v : FVec Ideal S512x64 .f32) (r : Fin 512) (l : Fin 64) : @Eq EReal (plain v (ix4 0 0 r l)) (v (ix2 r l)) := by
  unfold plain
  pointwise

theorem rounded_apply (v : FVec Ideal S512x64 .f32) (r : Fin 512) (l : Fin 64) : @Eq EReal (rounded v (ix4 0 0 r l)) (v (ix2 r l)) := by
  unfold rounded
  pointwise

theorem widened_apply (v a : FVec Ideal S512x64 .f32) (r : Fin 512) (l : Fin 128) :
    @Eq EReal (widened v a (ix4 0 0 r l)) (_root_.Proj.beside (fun l => v (ix2 r l)) (fun l => a (ix2 r l)) l) := by
  unfold widened _root_.Proj.beside
  pointwise

/-- Head `k` of those in chunks of 512 columns, and of those in the last 256. -/
def head (h : FVec Ideal S512x1024 .bf16) (x : Vec Ideal S1024x4096 .bf16) (k : ℕ) (hk : k < 48) : FVec Ideal S512x64 .f32 :=
  slice (64 * (k % 8)) (by omega) (chunk512 h (cols 512 (768 + 512 * (k / 8)) (by omega) x))
def late (h : FVec Ideal S512x1024 .bf16) (x : Vec Ideal S1024x4096 .bf16) (k : ℕ) (hk : k < 4) : FVec Ideal S512x64 .f32 :=
  slice (64 * k) (by omega) (chunk256 h (cols 256 3840 (by omega) x))
def early (h : FVec Ideal S512x1024 .bf16) (x : Vec Ideal S1024x4096 .bf16) (k : ℕ) (hk : k < 4) : FVec Ideal S512x64 .f32 :=
  slice (64 * k) (by omega) (chunk384 h (cols 384 384 (by omega) x))

theorem head_apply (h : FVec Ideal S512x1024 .bf16) (x : Vec Ideal S1024x4096 .bf16) (k : ℕ) (hk : k < 48) (r : Fin 512) (l : Fin 64) :
    @Eq EReal (head h x k hk (ix2 r l)) (at' h x r (_root_.Proj.col ⟨k, by omega⟩ l)) :=
  (slice_apply _ (by omega) _ r l ⟨64 * (k % 8) + l.val, by omega⟩ rfl).trans
    (chunk512_apply h x _ _ r _ _ (by show 768 + 64 * k + l.val = 768 + 512 * (k / 8) + (64 * (k % 8) + l.val); omega))

theorem late_apply (h : FVec Ideal S512x1024 .bf16) (x : Vec Ideal S1024x4096 .bf16) (k : ℕ) (hk : k < 4) (r : Fin 512) (l : Fin 64) :
    @Eq EReal (late h x k hk (ix2 r l)) (at' h x r (_root_.Proj.col ⟨48 + k, by omega⟩ l)) :=
  (slice_apply _ (by omega) _ r l ⟨64 * k + l.val, by omega⟩ rfl).trans
    (chunk256_apply h x _ _ r _ _ (by show 768 + 64 * (48 + k) + l.val = 3840 + (64 * k + l.val); omega))

theorem early_apply (h : FVec Ideal S512x1024 .bf16) (x : Vec Ideal S1024x4096 .bf16) (k : Fin 4) (r : Fin 512) (l : Fin 64) :
    @Eq EReal (early h x k.val k.isLt (ix2 r l)) (at' h x r (_root_.Proj.cmp k l)) :=
  (slice_apply _ (by omega) _ r l ⟨64 * k.val + l.val, by omega⟩ rfl).trans
    (chunk384_apply h x _ _ r _ _ (by show 384 + 64 * k.val + l.val = 384 + (64 * k.val + l.val); omega))

/-- The columns appended to the selected keys: which block of 64 rows a row belongs to. -/
def blockColumns (n : BitVec 32) : FVec Ideal S512x64 .f32 := k0_pay13 (F := Ideal) n

/-- The columns appended to the values: a one before zeros. -/
def firstColumn : FVec Ideal S512x64 .f32 := k0_pay14 (F := Ideal)

/-! ## The fourteen blocks -/

section Blocks
variable (i : grid0.Coords) (x0 : Vec Ideal S1x512x1024 .f32) (x1 : Vec Ideal S1x1024 .f32) (x2 : Vec Ideal S1024x4096 .bf16)

/-- The normed block. -/
abbrev pre : FVec Ideal S512x1024 .bf16 := Cert.Kernel3Ideal.Mixer.pre x0 x1

/-- The block as it is read. -/
abbrev read : FVec Ideal S512x1024 .bf16 := Cert.Kernel3Ideal.Mixer.pre (View.ld x0 r0_0) (View.ld x1 r0_1)

theorem read_eq : read x0 x1 = pre x0 x1 := by
  unfold read
  rw [show View.ld x0 r0_0 = x0 from Cert.Kernel3Ideal.Mixer.ld_block x0, show View.ld x1 r0_1 = x1 from Cert.Kernel3Ideal.Mixer.ld_gain x1]

/-- The heads of an array that begin at head `q`, as they are stored. -/
abbrev run (q : ℕ) {N : ℕ} (hq : q + N ≤ 48) (h : FVec Ideal S512x1024 .bf16) (n : Fin N) : FVec Ideal S1x1x512x64 .bf16 :=
  rounded (head h x2 (q + n.val) (by omega))
abbrev runWith (q : ℕ) {N : ℕ} (hq : q + N ≤ 48) (a : FVec Ideal S512x64 .f32) (h : FVec Ideal S512x1024 .bf16) (n : Fin N) : FVec Ideal S1x1x512x128 .bf16 :=
  widened (head h x2 (q + n.val) (by omega)) a
abbrev lastRun (h : FVec Ideal S512x1024 .bf16) (n : Fin 8) : FVec Ideal S1x1x512x128 .bf16 :=
  widened (if c : n.val < 4 then head h x2 (44 + n.val) (by omega) else late h x2 (n.val - 4) (by omega)) firstColumn

theorem eq_3 : out0_3 i x0 x1 x2 = View.canon [⟨r0_3, shapeCast S1x512x384 (chunk384 (read x0 x1) (cols 384 0 (by omega) x2)) shapeCasts_S512x384_S1x512x384⟩] := rfl
theorem eq_4 : out0_4 i x0 x1 x2 = View.canon [⟨r0_9, shapeCast S1x512x128 (extractStridedSlice S512x128 ![0, 256] (chunk384 (read x0 x1) (cols 384 384 (by omega) x2))
    slices_S512x384_o0_256_S512x128) shapeCasts_S512x128_S1x512x128⟩] := rfl
theorem eq_5 : out0_5 i x0 x1 x2 = View.canon (e := .f32) (four fun n => plain (early (read x0 x1) x2 n.val n.isLt)) := rfl
theorem eq_6 : out0_6 i x0 x1 x2 = View.canon (e := .bf16) (eight (run x2 0 (by omega) (read x0 x1))) := rfl
theorem eq_7 : out0_7 i x0 x1 x2 = View.canon (e := .bf16) (two (runWith x2 8 (by omega) (blockColumns (BitVec.ofNat 32 (i 1).val)) (read x0 x1))) := rfl
theorem eq_8 : out0_8 i x0 x1 x2 = View.canon (e := .bf16) (two (runWith x2 10 (by omega) firstColumn (read x0 x1))) := rfl
theorem eq_9 : out0_9 i x0 x1 x2 = View.canon (e := .bf16) (two (run x2 12 (by omega) (read x0 x1))) := rfl
theorem eq_10 : out0_10 i x0 x1 x2 = View.canon (e := .bf16) (two (run x2 14 (by omega) (read x0 x1))) := rfl
theorem eq_11 : out0_11 i x0 x1 x2 = View.canon (e := .bf16) (eight (run x2 16 (by omega) (read x0 x1))) := rfl
theorem eq_12 : out0_12 i x0 x1 x2 = View.canon (e := .bf16) (two (run x2 24 (by omega) (read x0 x1))) := rfl
theorem eq_13 : out0_13 i x0 x1 x2 = View.canon (e := .bf16) (two (run x2 26 (by omega) (read x0 x1))) := rfl
theorem eq_14 : out0_14 i x0 x1 x2 = View.canon (e := .bf16) (eight (run x2 28 (by omega) (read x0 x1))) := rfl
theorem eq_15 : out0_15 i x0 x1 x2 = View.canon (e := .bf16) (eight (run x2 36 (by omega) (read x0 x1))) := rfl
theorem eq_16 : out0_16 i x0 x1 x2 = View.canon (e := .bf16) (eight (lastRun x2 (read x0 x1))) := rfl

theorem run_apply (q : ℕ) {N : ℕ} (hq : q + N ≤ 48) (h : FVec Ideal S512x1024 .bf16) (n : Fin N) (r : Fin 512) (l : Fin 64) :
    @Eq EReal (run x2 q hq h n (ix4 0 0 r l)) (at' h x2 r (_root_.Proj.col (_root_.Proj.from' q (by omega) n) l)) :=
  (rounded_apply _ r l).trans (head_apply h x2 _ _ r l)

theorem runWith_apply (q : ℕ) {N : ℕ} (hq : q + N ≤ 48) (a : FVec Ideal S512x64 .f32) (h : FVec Ideal S512x1024 .bf16) (n : Fin N) (r : Fin 512) (l : Fin 128) :
    @Eq EReal (runWith x2 q hq a h n (ix4 0 0 r l))
      (_root_.Proj.beside (fun l => at' h x2 r (_root_.Proj.col (_root_.Proj.from' q (by omega) n) l)) (fun l => a (ix2 r l)) l) :=
  (widened_apply _ _ r l).trans (_root_.Proj.beside_congr (fun l => head_apply h x2 _ _ r l) (fun _ => rfl) l)

theorem lastRun_apply (h : FVec Ideal S512x1024 .bf16) (n : Fin 8) (r : Fin 512) (l : Fin 128) :
    @Eq EReal (lastRun x2 h n (ix4 0 0 r l))
      (_root_.Proj.beside (fun l => at' h x2 r (_root_.Proj.col (_root_.Proj.from' 44 (by omega) n) l)) (fun l => firstColumn (ix2 r l)) l) := by
  refine (widened_apply _ _ r l).trans (_root_.Proj.beside_congr (fun l => ?_) (fun _ => rfl) l)
  split
  · exact head_apply h x2 _ _ r l
  · exact (late_apply h x2 _ _ r l).trans (congrArg (fun k => at' h x2 r (_root_.Proj.col k l)) (Fin.ext (by show 48 + (n.val - 4) = 44 + n.val; omega)))

/-- One where two words agree, zero elsewhere. -/
theorem select_same (a b : BitVec 32) : @Eq EReal (Scalar.select (IntOp.cmpi .eq a b) (1 : EReal) 0) (_root_.Proj.same a.toNat b.toNat) := by
  rw [WordCmp.cmpi_eq_eq_toNat]
  unfold _root_.Proj.same
  by_cases h : a.toNat = b.toNat
  · rw [if_pos h, decide_eq_true h]
    rfl
  · rw [if_neg h, decide_eq_false h]
    rfl

theorem same_comm (a b : ℕ) : _root_.Proj.same a b = _root_.Proj.same b a := by
  unfold _root_.Proj.same
  simp only [eq_comm]

theorem firstColumn_apply (r : Fin 512) (l : Fin 64) : @Eq EReal (firstColumn (ix2 r l)) (_root_.Proj.same 0 l.val) := by
  rw [same_comm]
  unfold firstColumn k0_pay14
  pointwise
  rw [select_same]
  exact congrArg (fun k => _root_.Proj.same k 0) (by word_omega)

theorem shift_six (u : ArithUnit) (x : BitVec 32) : (IntOp.shrui u x 6#32).toNat = x.toNat / 64 := by
  have h : IntOp.shrui u x 6#32 = x >>> (6 : Nat) := rfl
  rw [h, BitVec.toNat_ushiftRight, Nat.shiftRight_eq_div_pow]

theorem blockColumns_apply (b : Fin 8) (r : Fin 512) (l : Fin 64) :
    @Eq EReal (blockColumns (BitVec.ofNat 32 b.val) (ix2 r l)) (_root_.Proj.same ((512 * b.val + r.val) / 64) l.val) := by
  unfold blockColumns k0_pay13
  pointwise
  rw [select_same]
  refine congrArg₂ _root_.Proj.same ((shift_six _ _).trans (congrArg (fun k => k / 64) ?_)) ?_
  · have e : Scalar.muli (BitVec.ofNat 32 b.val) 512#32 = BitVec.ofNat 32 b.val * 512#32 := rfl
    have e' : IntOp.addi (BitVec.ofNat 32 b.val * 512#32) (BitVec.ofNat 32 r.val) = BitVec.ofNat 32 b.val * 512#32 + BitVec.ofNat 32 r.val := rfl
    rw [e, e', BitVec.toNat_add, BitVec.toNat_mul, BitVec.toNat_ofNat, BitVec.toNat_ofNat, BitVec.toNat_ofNat]
    omega
  · word_omega

/-- The projection of a row of the block to column `j`. -/
def inBlock (r : Fin 512) (j : Fin 4096) : EReal :=
  _root_.Proj.z (Ffn.normed (fun e => x0 (ix3 0 r e)) (fun e => x1 (ix2 0 e))) (fun e j => x2 (ix2 e j)) j

theorem at_read (r : Fin 512) (j : Fin 4096) : at' (read x0 x1) x2 r j = inBlock x0 x1 x2 r j := by
  rw [read_eq]
  exact _root_.Proj.z_congr (fun e => Cert.Kernel3Ideal.Mixer.pre_apply x0 x1 r e) (fun _ _ => rfl) j

theorem zero_offset3 : (![0, 0, 0] : Fin 3 → ℕ) = fun _ => 0 := Cert.Kernel3Ideal.Mixer.zero_offset3

theorem out_3 (r : Fin 512) (l : Fin 384) : @Eq EReal (out0_3 i x0 x1 x2 (ix3 0 r l)) (inBlock x0 x1 x2 r ⟨l.val, by omega⟩) := by
  rw [eq_3, show View.canon (Val := Elt Ideal) (e := .f32) [⟨r0_3, _⟩] = _ from View.canon_unit_zero zero_offset3 _ _, ← at_read,
    ← chunk384_apply (read x0 x1) x2 0 (by omega) r l ⟨l.val, by omega⟩ (by show l.val = 0 + l.val; omega)]
  pointwise

theorem out_4 (r : Fin 512) (l : Fin 128) : @Eq EReal (out0_4 i x0 x1 x2 (ix3 0 r l)) (inBlock x0 x1 x2 r ⟨640 + l.val, by omega⟩) := by
  rw [eq_4, show View.canon (Val := Elt Ideal) (e := .f32) [⟨r0_9, _⟩] = _ from View.canon_unit_zero zero_offset3 _ _, ← at_read,
    ← chunk384_apply (read x0 x1) x2 384 (by omega) r ⟨256 + l.val, by omega⟩ ⟨640 + l.val, by omega⟩ (by show 640 + l.val = 384 + (256 + l.val); omega)]
  pointwise

theorem out_5 (n : Fin 4) (r : Fin 512) (l : Fin 64) : @Eq EReal (out0_5 i x0 x1 x2 (ix4 0 n r l)) (inBlock x0 x1 x2 r (_root_.Proj.cmp n l)) := by
  rw [eq_5, ← at_read]
  exact (canon_four (e := .f32) _ n r l).trans ((plain_apply _ r l).trans (early_apply _ x2 n r l))

theorem eight_apply (q : ℕ) (hq : q + 8 ≤ 48) (n : Fin 8) (r : Fin 512) (l : Fin 64) :
    @Eq EReal (View.canon (Val := Elt Ideal) (e := .bf16) (eight (run x2 q hq (read x0 x1))) (ix4 0 n r l : (Heads 8 64).Idx))
      (inBlock x0 x1 x2 r (_root_.Proj.col (_root_.Proj.from' q (by omega) n) l)) :=
  (canon_eight (e := .bf16) _ n r l).trans ((run_apply x2 q hq _ n r l).trans (at_read x0 x1 x2 r _))

theorem two_apply (q : ℕ) (hq : q + 2 ≤ 48) (n : Fin 2) (r : Fin 512) (l : Fin 64) :
    @Eq EReal (View.canon (Val := Elt Ideal) (e := .bf16) (two (run x2 q hq (read x0 x1))) (ix4 0 n r l : (Heads 2 64).Idx))
      (inBlock x0 x1 x2 r (_root_.Proj.col (_root_.Proj.from' q (by omega) n) l)) :=
  (canon_two (e := .bf16) _ n r l).trans ((run_apply x2 q hq _ n r l).trans (at_read x0 x1 x2 r _))

theorem out_6 (n : Fin 8) (r : Fin 512) (l : Fin 64) : @Eq EReal (out0_6 i x0 x1 x2 (ix4 0 n r l)) (inBlock x0 x1 x2 r (_root_.Proj.col (_root_.Proj.from' 0 (by omega) n) l)) :=
  eight_apply x0 x1 x2 0 (by omega) n r l
theorem out_7 (n : Fin 2) (r : Fin 512) (l : Fin 128) : @Eq EReal (out0_7 i x0 x1 x2 (ix4 0 n r l))
    (_root_.Proj.beside (fun l => inBlock x0 x1 x2 r (_root_.Proj.col (_root_.Proj.from' 8 (by omega) n) l)) (fun l => _root_.Proj.same ((512 * (i 1).val + r.val) / 64) l.val) l) :=
  (congrFun (eq_7 i x0 x1 x2) _).trans ((canon_two (e := .bf16) _ n r l).trans ((runWith_apply x2 8 (by omega) _ _ n r l).trans
    (_root_.Proj.beside_congr (fun _ => at_read x0 x1 x2 r _) (fun l => blockColumns_apply (i 1) r l) l)))
theorem out_8 (n : Fin 2) (r : Fin 512) (l : Fin 128) : @Eq EReal (out0_8 i x0 x1 x2 (ix4 0 n r l))
    (_root_.Proj.beside (fun l => inBlock x0 x1 x2 r (_root_.Proj.col (_root_.Proj.from' 10 (by omega) n) l)) (fun l => _root_.Proj.same 0 l.val) l) :=
  (congrFun (eq_8 i x0 x1 x2) _).trans ((canon_two (e := .bf16) _ n r l).trans ((runWith_apply x2 10 (by omega) _ _ n r l).trans
    (_root_.Proj.beside_congr (fun _ => at_read x0 x1 x2 r _) (fun l => firstColumn_apply r l) l)))
theorem out_9 (n : Fin 2) (r : Fin 512) (l : Fin 64) : @Eq EReal (out0_9 i x0 x1 x2 (ix4 0 n r l)) (inBlock x0 x1 x2 r (_root_.Proj.col (_root_.Proj.from' 12 (by omega) n) l)) :=
  two_apply x0 x1 x2 12 (by omega) n r l
theorem out_10 (n : Fin 2) (r : Fin 512) (l : Fin 64) : @Eq EReal (out0_10 i x0 x1 x2 (ix4 0 n r l)) (inBlock x0 x1 x2 r (_root_.Proj.col (_root_.Proj.from' 14 (by omega) n) l)) :=
  two_apply x0 x1 x2 14 (by omega) n r l
theorem out_11 (n : Fin 8) (r : Fin 512) (l : Fin 64) : @Eq EReal (out0_11 i x0 x1 x2 (ix4 0 n r l)) (inBlock x0 x1 x2 r (_root_.Proj.col (_root_.Proj.from' 16 (by omega) n) l)) :=
  eight_apply x0 x1 x2 16 (by omega) n r l
theorem out_12 (n : Fin 2) (r : Fin 512) (l : Fin 64) : @Eq EReal (out0_12 i x0 x1 x2 (ix4 0 n r l)) (inBlock x0 x1 x2 r (_root_.Proj.col (_root_.Proj.from' 24 (by omega) n) l)) :=
  two_apply x0 x1 x2 24 (by omega) n r l
theorem out_13 (n : Fin 2) (r : Fin 512) (l : Fin 64) : @Eq EReal (out0_13 i x0 x1 x2 (ix4 0 n r l)) (inBlock x0 x1 x2 r (_root_.Proj.col (_root_.Proj.from' 26 (by omega) n) l)) :=
  two_apply x0 x1 x2 26 (by omega) n r l
theorem out_14 (n : Fin 8) (r : Fin 512) (l : Fin 64) : @Eq EReal (out0_14 i x0 x1 x2 (ix4 0 n r l)) (inBlock x0 x1 x2 r (_root_.Proj.col (_root_.Proj.from' 28 (by omega) n) l)) :=
  eight_apply x0 x1 x2 28 (by omega) n r l
theorem out_15 (n : Fin 8) (r : Fin 512) (l : Fin 64) : @Eq EReal (out0_15 i x0 x1 x2 (ix4 0 n r l)) (inBlock x0 x1 x2 r (_root_.Proj.col (_root_.Proj.from' 36 (by omega) n) l)) :=
  eight_apply x0 x1 x2 36 (by omega) n r l
theorem out_16 (n : Fin 8) (r : Fin 512) (l : Fin 128) : @Eq EReal (out0_16 i x0 x1 x2 (ix4 0 n r l))
    (_root_.Proj.beside (fun l => inBlock x0 x1 x2 r (_root_.Proj.col (_root_.Proj.from' 44 (by omega) n) l)) (fun l => _root_.Proj.same 0 l.val) l) :=
  (congrFun (eq_16 i x0 x1 x2) _).trans ((canon_eight (e := .bf16) _ n r l).trans ((lastRun_apply x2 _ n r l).trans
    (_root_.Proj.beside_congr (fun _ => at_read x0 x1 x2 r _) (fun l => firstColumn_apply r l) l)))

end Blocks

end Cert.Kernel4Ideal.Proj

end
-- ==== Proof.ProjValue.lean ====
/-
  The fourteen arrays the input projection leaves, element by element: every block it writes back is a piece of one array, the
  projection of every row of the argument, and the blocks cover that array.
-/
module

public import proofs.«01_k».proof.Proof.Gen.Kernel4Ideal.Value
public import Idealize.ShloMosaic.Lib.StableHlo.Run
public import proofs.«01_k».proof.Proof.ProjBody

@[expose] public section

set_option maxRecDepth 16384

noncomputable section

namespace Cert.Kernel4Ideal.Proj

open Idealize.ShloMosaic Idealize.ShloMosaic.TcCoe Cert.Kernel4Ideal Cert.Kernel4Ideal.Gen Idealize.ShloMosaic.StableHlo
open Idealize.ShloMosaic.Pipeline (Dat Cfg Window)

variable (m : (ℓ : Loc nD τ sig) → Buf (Elt Ideal) ℓ) (c : Dev nD)

abbrev argX : FVec Ideal S16x4096x1024 .f32 := m ((c : Thread nD τ).loc main_arg0)
abbrev argPre : FVec Ideal S1024 .f32 := m ((c : Thread nD τ).loc main_arg1)
abbrev argW : FVec Ideal S1024x4096 .f32 := m ((c : Thread nD τ).loc main_arg2)

/-! ## What the host code prepares -/

theorem gain_apply (d : Fin 1024) : @Eq EReal (V m c main_v0 (ix2 0 d)) (argPre m c (ix1 d)) := by
  have h : V m c main_v0 = broadcastInDim S1x1024 ![1] bcast_S1024_S1x1024_1 (argPre m c) := by
    unfold V; simp only [hostOps0]; after_results_simp
  rw [h]
  pointwise

theorem weights_eq : V m c main_v1 = truncf .bf16 (argW m c) bitsLt_bf16_f32 := by
  unfold V; simp only [hostOps0]; after_results_simp

/-! ## The blocks -/

section Blocks
variable (t : Fin cfg0.N)

abbrev tb : Fin 16 := grid0.coords t 0
abbrev ti : Fin 8 := grid0.coords t 1

/-- Row `r` of the block at point `t`, in the array. -/
abbrev row (r : Fin 512) : Fin 4096 := ⟨512 * (ti t).val + r.val, by have := (ti t).isLt; omega⟩

theorem words3 : (![(BitVec.ofNat 32 (tb t).val).toNat, (BitVec.ofNat 32 (ti t).val).toNat, 0] : Fin 3 → ℕ) = ![(tb t).val, (ti t).val, 0] := by
  rw [BitVec.toNat_ofNat, BitVec.toNat_ofNat, Nat.mod_eq_of_lt (by omega), Nat.mod_eq_of_lt (by omega)]

theorem words4 : (![(BitVec.ofNat 32 (tb t).val).toNat, 0, (BitVec.ofNat 32 (ti t).val).toNat, 0] : Fin 4 → ℕ) = ![(tb t).val, 0, (ti t).val, 0] := by
  rw [BitVec.toNat_ofNat, BitVec.toNat_ofNat, Nat.mod_eq_of_lt (by omega), Nat.mod_eq_of_lt (by omega)]

theorem index_0 : win0_0.index t = ![(tb t).val, (ti t).val, 0] := words3 t

theorem block_x (r : Fin 512) (d : Fin 1024) : @Eq EReal (iblk m c 0 t (ix3 0 r d)) (argX m c (ix3 (tb t) (row t r) d)) := by
  have h : V m c main_arg0 = argX m c := V_main_arg0 m c
  rw [← h]
  show V m c main_arg0 _ = V m c main_arg0 _
  congr 1
  funext a
  apply Fin.ext
  have e := index_0 t
  match a with
  | ⟨0, _⟩ => show win0_0.index t 0 * 1 + 1 * 0 = (tb t).val; rw [e]; show (tb t).val * 1 + 1 * 0 = _; omega
  | ⟨1, _⟩ => show win0_0.index t 1 * 512 + 1 * r.val = 512 * (ti t).val + r.val; rw [e]; show (ti t).val * 512 + 1 * r.val = _; omega
  | ⟨2, _⟩ => show win0_0.index t 2 * 1024 + 1 * d.val = d.val; rw [e]; show 0 * 1024 + 1 * d.val = _; omega

theorem block_pre (d : Fin 1024) : @Eq EReal (iblk m c 1 t (ix2 0 d)) (argPre m c (ix1 d)) := by
  rw [← gain_apply]
  show V m c main_v0 _ = V m c main_v0 _
  congr 1
  funext a
  apply Fin.ext
  match a with
  | ⟨0, _⟩ => rfl
  | ⟨1, _⟩ => show 0 * 1024 + 1 * d.val = d.val; omega

theorem block_w (e : Fin 1024) (d : Fin 4096) : @Eq EReal (iblk m c 2 t (ix2 e d)) (argW m c (ix2 e d)) := by
  have h : @Eq EReal (argW m c (ix2 e d)) (V m c main_v1 (ix2 e d)) := by
    rw [weights_eq]
    rfl
  rw [h]
  show V m c main_v1 _ = V m c main_v1 _
  congr 1
  funext a
  apply Fin.ext
  match a with
  | ⟨0, _⟩ => show 0 * 1024 + 1 * e.val = e.val; omega
  | ⟨1, _⟩ => show 0 * 4096 + 1 * d.val = d.val; omega

/-- The projection of row `s` of batch `b` to column `j`. -/
def z (b : Fin 16) (s : Fin 4096) (j : Fin 4096) : EReal :=
  _root_.Proj.z (Ffn.normed (fun e => argX m c (ix3 b s e)) (fun e => argPre m c (ix1 e))) (fun e j => argW m c (ix2 e j)) j

theorem inBlock_eq (r : Fin 512) (j : Fin 4096) : inBlock (iblk m c 0 t) (iblk m c 1 t) (iblk m c 2 t) r j = z m c (tb t) (row t r) j := by
  unfold inBlock z
  rw [show (fun e => iblk m c 0 t (ix3 0 r e)) = fun e => argX m c (ix3 (tb t) (row t r) e) from funext (block_x m c t r),
    show (fun e => iblk m c 1 t (ix2 0 e)) = fun e => argPre m c (ix1 e) from funext (block_pre m c t)]
  exact _root_.Proj.z_congr (fun _ => rfl) (block_w m c t) j

end Blocks

/-! ## The arrays -/

/-- The point that writes a block of rows. -/
theorem point (b : Fin 16) (i : Fin 8) : ∃ t : Fin cfg0.N, tb t = b ∧ ti t = i := by
  have key : ∀ (b : Fin 16) (i : Fin 8), ∃ hlt : b.val * 8 + i.val < grid0.N,
      (grid0.coords ⟨b.val * 8 + i.val, hlt⟩ 0).val = b.val ∧ (grid0.coords ⟨b.val * 8 + i.val, hlt⟩ 1).val = i.val := by decide +kernel
  obtain ⟨hlt, h0, h1⟩ := key b i
  exact ⟨⟨_, hlt⟩, Fin.ext h0, Fin.ext h1⟩

/-- An array of rows, and an array of rows in heads. -/
abbrev rows {D : ℕ} (f : Fin 16 → Fin 4096 → Fin D → EReal) : (⟨3, ![16, 4096, D]⟩ : Shape).Idx → EReal := fun i => f (i 0) (i 1) (i 2)
abbrev heads {N D : ℕ} (f : Fin 16 → Fin N → Fin 4096 → Fin D → EReal) : (⟨4, ![16, N, 4096, D]⟩ : Shape).Idx → EReal := fun i => f (i 0) (i 1) (i 2) (i 3)

/-- A block is the piece of the array it is written to. -/
theorem block_of_rows {D : ℕ} (t : Fin cfg0.N) (o : (⟨3, ![1, 512, D]⟩ : Shape).Idx → EReal) (f : Fin 16 → Fin 4096 → Fin D → EReal)
    (ho : ∀ r l, o (ix3 0 r l) = f (tb t) (row t r) l) (x : Fin 3 → ℕ) (hx : x = ![(tb t).val, (ti t).val, 0])
    (j : (⟨3, ![1, 512, D]⟩ : Shape).Idx) (k : (⟨3, ![16, 4096, D]⟩ : Shape).Idx)
    (hk : ∀ a, (k a).val = x a * (⟨3, ![1, 512, D]⟩ : Shape).size a + 1 * (j a).val) : o j = rows f k := by
  subst hx
  have j0 : (j 0 : Nat) < 1 := (j 0).isLt
  have hj : j = ix3 0 (j 1) (j 2) := by
    funext a
    match a with
    | ⟨0, _⟩ => exact Subsingleton.elim (α := Fin 1) _ _
    | ⟨1, _⟩ => rfl
    | ⟨2, _⟩ => rfl
  have h0 : k 0 = tb t := Fin.ext ((hk 0).trans (by show (tb t).val * 1 + 1 * (j 0).val = (tb t).val; omega))
  have h1 : k 1 = row t (j 1) := Fin.ext ((hk 1).trans (by show (ti t).val * 512 + 1 * (j 1).val = 512 * (ti t).val + (j 1).val; omega))
  have h2 : k 2 = j 2 := Fin.ext ((hk 2).trans (by show 0 * D + 1 * (j 2).val = (j 2).val; omega))
  refine (congrArg o hj).trans ((ho _ _).trans ?_)
  show _ = f (k 0) (k 1) (k 2)
  rw [h0, h1, h2]

theorem block_of_heads {N D : ℕ} (t : Fin cfg0.N) (o : (Heads N D).Idx → EReal) (f : Fin 16 → Fin N → Fin 4096 → Fin D → EReal)
    (ho : ∀ n r l, o (ix4 0 n r l) = f (tb t) n (row t r) l) (x : Fin 4 → ℕ) (hx : x = ![(tb t).val, 0, (ti t).val, 0])
    (j : (Heads N D).Idx) (k : (⟨4, ![16, N, 4096, D]⟩ : Shape).Idx)
    (hk : ∀ a, (k a).val = x a * (Heads N D).size a + 1 * (j a).val) : o j = heads f k := by
  subst hx
  have j0 : (j 0 : Nat) < 1 := (j 0).isLt
  have hj : j = ix4 0 (j 1) (j 2) (j 3) := by
    funext a
    match a with
    | ⟨0, _⟩ => exact Subsingleton.elim (α := Fin 1) _ _
    | ⟨1, _⟩ => rfl
    | ⟨2, _⟩ => rfl
    | ⟨3, _⟩ => rfl
  have h0 : k 0 = tb t := Fin.ext ((hk 0).trans (by show (tb t).val * 1 + 1 * (j 0).val = (tb t).val; omega))
  have h1 : k 1 = j 1 := Fin.ext ((hk 1).trans (by show 0 * N + 1 * (j 1).val = (j 1).val; omega))
  have h2 : k 2 = row t (j 2) := Fin.ext ((hk 2).trans (by show (ti t).val * 512 + 1 * (j 2).val = 512 * (ti t).val + (j 2).val; omega))
  have h3 : k 3 = j 3 := Fin.ext ((hk 3).trans (by show 0 * D + 1 * (j 3).val = (j 3).val; omega))
  refine (congrArg o hj).trans ((ho _ _ _).trans ?_)
  show _ = f (k 0) (k 1) (k 2) (k 3)
  rw [h0, h1, h2, h3]

/-- Every place of the array is in some block. -/
theorem rows_covered {D : ℕ} (i : (⟨3, ![16, 4096, D]⟩ : Shape).Idx) : ∃ t : Fin cfg0.N, ∀ x : Fin 3 → ℕ, x = ![(tb t).val, (ti t).val, 0] →
    ∀ a, x a * (⟨3, ![1, 512, D]⟩ : Shape).size a ≤ (i a).val ∧ (i a).val < x a * (⟨3, ![1, 512, D]⟩ : Shape).size a + (⟨3, ![1, 512, D]⟩ : Shape).size a := by
  have i0 : (i 0 : Nat) < 16 := (i 0).isLt
  have i1 : (i 1 : Nat) < 4096 := (i 1).isLt
  have i2 : (i 2 : Nat) < D := (i 2).isLt
  obtain ⟨t, h0, h1⟩ := point ⟨(i 0 : Nat), i0⟩ ⟨(i 1 : Nat) / 512, by omega⟩
  refine ⟨t, fun x hx a => ?_⟩
  rw [h0, h1] at hx
  subst hx
  match a with
  | ⟨0, _⟩ => show (i 0 : Nat) * 1 ≤ (i 0 : Nat) ∧ (i 0 : Nat) < (i 0 : Nat) * 1 + 1; omega
  | ⟨1, _⟩ => show (i 1 : Nat) / 512 * 512 ≤ (i 1 : Nat) ∧ (i 1 : Nat) < (i 1 : Nat) / 512 * 512 + 512; omega
  | ⟨2, _⟩ => show 0 * D ≤ (i 2 : Nat) ∧ (i 2 : Nat) < 0 * D + D; omega

theorem heads_covered {N D : ℕ} (i : (⟨4, ![16, N, 4096, D]⟩ : Shape).Idx) : ∃ t : Fin cfg0.N, ∀ x : Fin 4 → ℕ, x = ![(tb t).val, 0, (ti t).val, 0] →
    ∀ a, x a * (Heads N D).size a ≤ (i a).val ∧ (i a).val < x a * (Heads N D).size a + (Heads N D).size a := by
  have i0 : (i 0 : Nat) < 16 := (i 0).isLt
  have i1 : (i 1 : Nat) < N := (i 1).isLt
  have i2 : (i 2 : Nat) < 4096 := (i 2).isLt
  have i3 : (i 3 : Nat) < D := (i 3).isLt
  obtain ⟨t, h0, h1⟩ := point ⟨(i 0 : Nat), i0⟩ ⟨(i 2 : Nat) / 512, by omega⟩
  refine ⟨t, fun x hx a => ?_⟩
  rw [h0, h1] at hx
  subst hx
  match a with
  | ⟨0, _⟩ => show (i 0 : Nat) * 1 ≤ (i 0 : Nat) ∧ (i 0 : Nat) < (i 0 : Nat) * 1 + 1; omega
  | ⟨1, _⟩ => show 0 * N ≤ (i 1 : Nat) ∧ (i 1 : Nat) < 0 * N + N; omega
  | ⟨2, _⟩ => show (i 2 : Nat) / 512 * 512 ≤ (i 2 : Nat) ∧ (i 2 : Nat) < (i 2 : Nat) / 512 * 512 + 512; omega
  | ⟨3, _⟩ => show 0 * D ≤ (i 3 : Nat) ∧ (i 3 : Nat) < 0 * D + D; omega

/-- The heads from head `q` on, bare and with other columns beside them. -/
abbrev bare (q : ℕ) {N : ℕ} (hq : q + N ≤ 52) : Fin 16 → Fin N → Fin 4096 → Fin 64 → EReal := fun b n s l =>
  z m c b s (_root_.Proj.col (_root_.Proj.from' q hq n) l)
abbrev wide (q : ℕ) {N : ℕ} (hq : q + N ≤ 52) (a : Fin 4096 → Fin 64 → EReal) : Fin 16 → Fin N → Fin 4096 → Fin 128 → EReal := fun b n s l =>
  _root_.Proj.beside (fun l => z m c b s (_root_.Proj.col (_root_.Proj.from' q hq n) l)) (a s) l

/-- The columns beside the selected keys and beside the values. -/
abbrev byBlock (s : Fin 4096) (l : Fin 64) : EReal := _root_.Proj.same (s.val / 64) l.val
abbrev first (_ : Fin 4096) (l : Fin 64) : EReal := _root_.Proj.same 0 l.val

/-- Array 0. -/
def result_0 : Buf (Elt Ideal) ((c : Thread nD τ).loc main_v2_0) := rows (fun b s (l : Fin 384) => z m c b s ⟨l.val, by omega⟩)

theorem final_0 : (dats m 0 c).arrAt 3 cfg0.N = result_0 m c :=
  (dats m 0 c).arrAt_eq_of_cover 3 (result_0 m c) (fun t _ => by
    show (cfg0.win 3).cut (grid0.coords t) ((dats m 0 c).after 3 t) = _
    rw [after0_3]
    funext j
    exact block_of_rows t (out0_3 (grid0.coords t) (iblk m c 0 t) (iblk m c 1 t) (iblk m c 2 t)) (fun b s (l : Fin 384) => z m c b s ⟨l.val, by omega⟩) (fun r l => (out_3 _ _ _ _ r l).trans (inBlock_eq m c t r _)) (win0_3.index t) (words3 t)
      j (((cfg0.win 3).blk t).view.emb j) fun _ => rfl) fun i => by
    obtain ⟨t, h⟩ := rows_covered i
    refine ⟨t, flush0_3 t, ?_⟩
    show i ∈ ((View.whole main_v2_0).slice (win0_3.rect t)).set
    rw [View.set_slice_whole, Rect.mem_set_unit]
    exact h _ (words3 t)

/-- Array 1. -/
def result_1 : Buf (Elt Ideal) ((c : Thread nD τ).loc main_v2_1) := rows (fun b s (l : Fin 128) => z m c b s ⟨640 + l.val, by omega⟩)

theorem final_1 : (dats m 0 c).arrAt 4 cfg0.N = result_1 m c :=
  (dats m 0 c).arrAt_eq_of_cover 4 (result_1 m c) (fun t _ => by
    show (cfg0.win 4).cut (grid0.coords t) ((dats m 0 c).after 4 t) = _
    rw [after0_4]
    funext j
    exact block_of_rows t (out0_4 (grid0.coords t) (iblk m c 0 t) (iblk m c 1 t) (iblk m c 2 t)) (fun b s (l : Fin 128) => z m c b s ⟨640 + l.val, by omega⟩) (fun r l => (out_4 _ _ _ _ r l).trans (inBlock_eq m c t r _)) (win0_4.index t) (words3 t)
      j (((cfg0.win 4).blk t).view.emb j) fun _ => rfl) fun i => by
    obtain ⟨t, h⟩ := rows_covered i
    refine ⟨t, flush0_4 t, ?_⟩
    show i ∈ ((View.whole main_v2_1).slice (win0_4.rect t)).set
    rw [View.set_slice_whole, Rect.mem_set_unit]
    exact h _ (words3 t)

/-- Array 2. -/
def result_2 : Buf (Elt Ideal) ((c : Thread nD τ).loc main_v2_2) := heads (fun b (n : Fin 4) s (l : Fin 64) => z m c b s (_root_.Proj.cmp n l))

theorem final_2 : (dats m 0 c).arrAt 5 cfg0.N = result_2 m c :=
  (dats m 0 c).arrAt_eq_of_cover 5 (result_2 m c) (fun t _ => by
    show (cfg0.win 5).cut (grid0.coords t) ((dats m 0 c).after 5 t) = _
    rw [after0_5]
    funext j
    exact block_of_heads t (out0_5 (grid0.coords t) (iblk m c 0 t) (iblk m c 1 t) (iblk m c 2 t)) (fun b (n : Fin 4) s (l : Fin 64) => z m c b s (_root_.Proj.cmp n l)) (fun n r l => (out_5 _ _ _ _ n r l).trans (inBlock_eq m c t r _)) (win0_5.index t) (words4 t)
      j (((cfg0.win 5).blk t).view.emb j) fun _ => rfl) fun i => by
    obtain ⟨t, h⟩ := heads_covered i
    refine ⟨t, flush0_5 t, ?_⟩
    show i ∈ ((View.whole main_v2_2).slice (win0_5.rect t)).set
    rw [View.set_slice_whole, Rect.mem_set_unit]
    exact h _ (words4 t)

/-- Array 3. -/
def result_3 : Buf (Elt Ideal) ((c : Thread nD τ).loc main_v2_3) := heads (bare m c 0 (N := 8) (by omega))

theorem final_3 : (dats m 0 c).arrAt 6 cfg0.N = result_3 m c :=
  (dats m 0 c).arrAt_eq_of_cover 6 (result_3 m c) (fun t _ => by
    show (cfg0.win 6).cut (grid0.coords t) ((dats m 0 c).after 6 t) = _
    rw [after0_6]
    funext j
    exact block_of_heads t (out0_6 (grid0.coords t) (iblk m c 0 t) (iblk m c 1 t) (iblk m c 2 t)) (bare m c 0 (N := 8) (by omega)) (fun n r l => (out_6 _ _ _ _ n r l).trans (inBlock_eq m c t r _)) (win0_6.index t) (words4 t)
      j (((cfg0.win 6).blk t).view.emb j) fun _ => rfl) fun i => by
    obtain ⟨t, h⟩ := heads_covered i
    refine ⟨t, flush0_6 t, ?_⟩
    show i ∈ ((View.whole main_v2_3).slice (win0_6.rect t)).set
    rw [View.set_slice_whole, Rect.mem_set_unit]
    exact h _ (words4 t)

/-- Array 4. -/
def result_4 : Buf (Elt Ideal) ((c : Thread nD τ).loc main_v2_4) := heads (wide m c 8 (N := 2) (by omega) byBlock)

theorem final_4 : (dats m 0 c).arrAt 7 cfg0.N = result_4 m c :=
  (dats m 0 c).arrAt_eq_of_cover 7 (result_4 m c) (fun t _ => by
    show (cfg0.win 7).cut (grid0.coords t) ((dats m 0 c).after 7 t) = _
    rw [after0_7]
    funext j
    exact block_of_heads t (out0_7 (grid0.coords t) (iblk m c 0 t) (iblk m c 1 t) (iblk m c 2 t)) (wide m c 8 (N := 2) (by omega) byBlock) (fun n r l => (out_7 _ _ _ _ n r l).trans (_root_.Proj.beside_congr (fun _ => inBlock_eq m c t r _) (fun _ => rfl) l)) (win0_7.index t) (words4 t)
      j (((cfg0.win 7).blk t).view.emb j) fun _ => rfl) fun i => by
    obtain ⟨t, h⟩ := heads_covered i
    refine ⟨t, flush0_7 t, ?_⟩
    show i ∈ ((View.whole main_v2_4).slice (win0_7.rect t)).set
    rw [View.set_slice_whole, Rect.mem_set_unit]
    exact h _ (words4 t)

/-- Array 5. -/
def result_5 : Buf (Elt Ideal) ((c : Thread nD τ).loc main_v2_5) := heads (wide m c 10 (N := 2) (by omega) first)

theorem final_5 : (dats m 0 c).arrAt 8 cfg0.N = result_5 m c :=
  (dats m 0 c).arrAt_eq_of_cover 8 (result_5 m c) (fun t _ => by
    show (cfg0.win 8).cut (grid0.coords t) ((dats m 0 c).after 8 t) = _
    rw [after0_8]
    funext j
    exact block_of_heads t (out0_8 (grid0.coords t) (iblk m c 0 t) (iblk m c 1 t) (iblk m c 2 t)) (wide m c 10 (N := 2) (by omega) first) (fun n r l => (out_8 _ _ _ _ n r l).trans (_root_.Proj.beside_congr (fun _ => inBlock_eq m c t r _) (fun _ => rfl) l)) (win0_8.index t) (words4 t)
      j (((cfg0.win 8).blk t).view.emb j) fun _ => rfl) fun i => by
    obtain ⟨t, h⟩ := heads_covered i
    refine ⟨t, flush0_8 t, ?_⟩
    show i ∈ ((View.whole main_v2_5).slice (win0_8.rect t)).set
    rw [View.set_slice_whole, Rect.mem_set_unit]
    exact h _ (words4 t)

/-- Array 6. -/
def result_6 : Buf (Elt Ideal) ((c : Thread nD τ).loc main_v2_6) := heads (bare m c 12 (N := 2) (by omega))

theorem final_6 : (dats m 0 c).arrAt 9 cfg0.N = result_6 m c :=
  (dats m 0 c).arrAt_eq_of_cover 9 (result_6 m c) (fun t _ => by
    show (cfg0.win 9).cut (grid0.coords t) ((dats m 0 c).after 9 t) = _
    rw [after0_9]
    funext j
    exact block_of_heads t (out0_9 (grid0.coords t) (iblk m c 0 t) (iblk m c 1 t) (iblk m c 2 t)) (bare m c 12 (N := 2) (by omega)) (fun n r l => (out_9 _ _ _ _ n r l).trans (inBlock_eq m c t r _)) (win0_9.index t) (words4 t)
      j (((cfg0.win 9).blk t).view.emb j) fun _ => rfl) fun i => by
    obtain ⟨t, h⟩ := heads_covered i
    refine ⟨t, flush0_9 t, ?_⟩
    show i ∈ ((View.whole main_v2_6).slice (win0_9.rect t)).set
    rw [View.set_slice_whole, Rect.mem_set_unit]
    exact h _ (words4 t)

/-- Array 7. -/
def result_7 : Buf (Elt Ideal) ((c : Thread nD τ).loc main_v2_7) := heads (bare m c 14 (N := 2) (by omega))

theorem final_7 : (dats m 0 c).arrAt 10 cfg0.N = result_7 m c :=
  (dats m 0 c).arrAt_eq_of_cover 10 (result_7 m c) (fun t _ => by
    show (cfg0.win 10).cut (grid0.coords t) ((dats m 0 c).after 10 t) = _
    rw [after0_10]
    funext j
    exact block_of_heads t (out0_10 (grid0.coords t) (iblk m c 0 t) (iblk m c 1 t) (iblk m c 2 t)) (bare m c 14 (N := 2) (by omega)) (fun n r l => (out_10 _ _ _ _ n r l).trans (inBlock_eq m c t r _)) (win0_10.index t) (words4 t)
      j (((cfg0.win 10).blk t).view.emb j) fun _ => rfl) fun i => by
    obtain ⟨t, h⟩ := heads_covered i
    refine ⟨t, flush0_10 t, ?_⟩
    show i ∈ ((View.whole main_v2_7).slice (win0_10.rect t)).set
    rw [View.set_slice_whole, Rect.mem_set_unit]
    exact h _ (words4 t)

/-- Array 8. -/
def result_8 : Buf (Elt Ideal) ((c : Thread nD τ).loc main_v2_8) := heads (bare m c 16 (N := 8) (by omega))

theorem final_8 : (dats m 0 c).arrAt 11 cfg0.N = result_8 m c :=
  (dats m 0 c).arrAt_eq_of_cover 11 (result_8 m c) (fun t _ => by
    show (cfg0.win 11).cut (grid0.coords t) ((dats m 0 c).after 11 t) = _
    rw [after0_11]
    funext j
    exact block_of_heads t (out0_11 (grid0.coords t) (iblk m c 0 t) (iblk m c 1 t) (iblk m c 2 t)) (bare m c 16 (N := 8) (by omega)) (fun n r l => (out_11 _ _ _ _ n r l).trans (inBlock_eq m c t r _)) (win0_11.index t) (words4 t)
      j (((cfg0.win 11).blk t).view.emb j) fun _ => rfl) fun i => by
    obtain ⟨t, h⟩ := heads_covered i
    refine ⟨t, flush0_11 t, ?_⟩
    show i ∈ ((View.whole main_v2_8).slice (win0_11.rect t)).set
    rw [View.set_slice_whole, Rect.mem_set_unit]
    exact h _ (words4 t)

/-- Array 9. -/
def result_9 : Buf (Elt Ideal) ((c : Thread nD τ).loc main_v2_9) := heads (bare m c 24 (N := 2) (by omega))

theorem final_9 : (dats m 0 c).arrAt 12 cfg0.N = result_9 m c :=
  (dats m 0 c).arrAt_eq_of_cover 12 (result_9 m c) (fun t _ => by
    show (cfg0.win 12).cut (grid0.coords t) ((dats m 0 c).after 12 t) = _
    rw [after0_12]
    funext j
    exact block_of_heads t (out0_12 (grid0.coords t) (iblk m c 0 t) (iblk m c 1 t) (iblk m c 2 t)) (bare m c 24 (N := 2) (by omega)) (fun n r l => (out_12 _ _ _ _ n r l).trans (inBlock_eq m c t r _)) (win0_12.index t) (words4 t)
      j (((cfg0.win 12).blk t).view.emb j) fun _ => rfl) fun i => by
    obtain ⟨t, h⟩ := heads_covered i
    refine ⟨t, flush0_12 t, ?_⟩
    show i ∈ ((View.whole main_v2_9).slice (win0_12.rect t)).set
    rw [View.set_slice_whole, Rect.mem_set_unit]
    exact h _ (words4 t)

/-- Array 10. -/
def result_10 : Buf (Elt Ideal) ((c : Thread nD τ).loc main_v2_10) := heads (bare m c 26 (N := 2) (by omega))

theorem final_10 : (dats m 0 c).arrAt 13 cfg0.N = result_10 m c :=
  (dats m 0 c).arrAt_eq_of_cover 13 (result_10 m c) (fun t _ => by
    show (cfg0.win 13).cut (grid0.coords t) ((dats m 0 c).after 13 t) = _
    rw [after0_13]
    funext j
    exact block_of_heads t (out0_13 (grid0.coords t) (iblk m c 0 t) (iblk m c 1 t) (iblk m c 2 t)) (bare m c 26 (N := 2) (by omega)) (fun n r l => (out_13 _ _ _ _ n r l).trans (inBlock_eq m c t r _)) (win0_13.index t) (words4 t)
      j (((cfg0.win 13).blk t).view.emb j) fun _ => rfl) fun i => by
    obtain ⟨t, h⟩ := heads_covered i
    refine ⟨t, flush0_13 t, ?_⟩
    show i ∈ ((View.whole main_v2_10).slice (win0_13.rect t)).set
    rw [View.set_slice_whole, Rect.mem_set_unit]
    exact h _ (words4 t)

/-- Array 11. -/
def result_11 : Buf (Elt Ideal) ((c : Thread nD τ).loc main_v2_11) := heads (bare m c 28 (N := 8) (by omega))

theorem final_11 : (dats m 0 c).arrAt 14 cfg0.N = result_11 m c :=
  (dats m 0 c).arrAt_eq_of_cover 14 (result_11 m c) (fun t _ => by
    show (cfg0.win 14).cut (grid0.coords t) ((dats m 0 c).after 14 t) = _
    rw [after0_14]
    funext j
    exact block_of_heads t (out0_14 (grid0.coords t) (iblk m c 0 t) (iblk m c 1 t) (iblk m c 2 t)) (bare m c 28 (N := 8) (by omega)) (fun n r l => (out_14 _ _ _ _ n r l).trans (inBlock_eq m c t r _)) (win0_14.index t) (words4 t)
      j (((cfg0.win 14).blk t).view.emb j) fun _ => rfl) fun i => by
    obtain ⟨t, h⟩ := heads_covered i
    refine ⟨t, flush0_14 t, ?_⟩
    show i ∈ ((View.whole main_v2_11).slice (win0_14.rect t)).set
    rw [View.set_slice_whole, Rect.mem_set_unit]
    exact h _ (words4 t)

/-- Array 12. -/
def result_12 : Buf (Elt Ideal) ((c : Thread nD τ).loc main_v2_12) := heads (bare m c 36 (N := 8) (by omega))

theorem final_12 : (dats m 0 c).arrAt 15 cfg0.N = result_12 m c :=
  (dats m 0 c).arrAt_eq_of_cover 15 (result_12 m c) (fun t _ => by
    show (cfg0.win 15).cut (grid0.coords t) ((dats m 0 c).after 15 t) = _
    rw [after0_15]
    funext j
    exact block_of_heads t (out0_15 (grid0.coords t) (iblk m c 0 t) (iblk m c 1 t) (iblk m c 2 t)) (bare m c 36 (N := 8) (by omega)) (fun n r l => (out_15 _ _ _ _ n r l).trans (inBlock_eq m c t r _)) (win0_15.index t) (words4 t)
      j (((cfg0.win 15).blk t).view.emb j) fun _ => rfl) fun i => by
    obtain ⟨t, h⟩ := heads_covered i
    refine ⟨t, flush0_15 t, ?_⟩
    show i ∈ ((View.whole main_v2_12).slice (win0_15.rect t)).set
    rw [View.set_slice_whole, Rect.mem_set_unit]
    exact h _ (words4 t)

/-- Array 13. -/
def result_13 : Buf (Elt Ideal) ((c : Thread nD τ).loc main_v2_13) := heads (wide m c 44 (N := 8) (by omega) first)

theorem final_13 : (dats m 0 c).arrAt 16 cfg0.N = result_13 m c :=
  (dats m 0 c).arrAt_eq_of_cover 16 (result_13 m c) (fun t _ => by
    show (cfg0.win 16).cut (grid0.coords t) ((dats m 0 c).after 16 t) = _
    rw [after0_16]
    funext j
    exact block_of_heads t (out0_16 (grid0.coords t) (iblk m c 0 t) (iblk m c 1 t) (iblk m c 2 t)) (wide m c 44 (N := 8) (by omega) first) (fun n r l => (out_16 _ _ _ _ n r l).trans (_root_.Proj.beside_congr (fun _ => inBlock_eq m c t r _) (fun _ => rfl) l)) (win0_16.index t) (words4 t)
      j (((cfg0.win 16).blk t).view.emb j) fun _ => rfl) fun i => by
    obtain ⟨t, h⟩ := heads_covered i
    refine ⟨t, flush0_16 t, ?_⟩
    show i ∈ ((View.whole main_v2_13).slice (win0_16.rect t)).set
    rw [View.set_slice_whole, Rect.mem_set_unit]
    exact h _ (words4 t)

end Cert.Kernel4Ideal.Proj

end
-- ==== Proof.ProjReference.lean ====
/-
  The fourteen results of the input projection's reference over the extended reals, element by element.
-/
module

public import proofs.«01_k».proof.Proof.Gen.Reference4Ideal.Run
public import Idealize.ShloMosaic.Lib.Pointwise
public import Idealize.ShloMosaic.Lib.Tactic.WordOmega
public import proofs.«01_k».proof.Proof.MergeReference
public import proofs.«01_k».proof.Proof.Proj

@[expose] public section

set_option maxRecDepth 16384

noncomputable section

namespace Cert.Reference4Ideal.Proj

open Idealize.ShloMosaic Idealize.ShloMosaic.TcCoe Cert.Reference4Ideal Cert.Reference4Ideal.Gen Cert.Reference4Ideal.Value

/-! ## The columns of the projection -/

/-- The projection of every row. -/
def projected (x : FVec Ideal S16x4096x1024 .f32) (g : FVec Ideal S1024 .f32) (w : FVec Ideal S1024x4096 .f32) : FVec Ideal S16x4096x4096 .f32 :=
  Host.dotGeneral dot_S16x4096x1024_S1024x4096_S16x4096x4096_2_0_01_1_n_n none (Cert.Reference3Ideal.Mixer.rms x g) w

theorem projected_apply (x : FVec Ideal S16x4096x1024 .f32) (g : FVec Ideal S1024 .f32) (w : FVec Ideal S1024x4096 .f32) (b : Fin 16) (s j : Fin 4096) :
    @Eq EReal (projected x g w (ix3 b s j)) (_root_.Proj.z (Ffn.normed (fun e => x (ix3 b s e)) (fun e => g (ix1 e))) (fun e j => w (ix2 e j)) j) := by
  have e : ∀ h : FVec Ideal S16x4096x1024 .f32, @Eq EReal (Host.dotGeneral dot_S16x4096x1024_S1024x4096_S16x4096x4096_2_0_01_1_n_n none h w (ix3 b s j))
      (_root_.Proj.z (fun e => h (ix3 b s e)) (fun e j => w (ix2 e j)) j) := fun h => by
    unfold _root_.Proj.z
    pointwise [dot_S16x4096x1024_S1024x4096_S16x4096x4096_2_0_01_1_n_n]
  exact (e _).trans (_root_.Proj.z_congr (fun e => Cert.Reference3Ideal.Mixer.rms_apply x g b s e) (fun _ _ => rfl) j)

/-- Rows of some of the columns. -/
abbrev Cols (n : ℕ) : Shape := ⟨3, ![16, 4096, n]⟩

theorem slices {n : ℕ} (off : ℕ) (h : off + n ≤ 4096) : S16x4096x4096.Slices ![0, 0, off] (Cols n) :=
  ⟨rfl, fun a => by
    match a with
    | ⟨0, _⟩ => show 0 + 16 ≤ 16; omega
    | ⟨1, _⟩ => show 0 + 4096 ≤ 4096; omega
    | ⟨2, _⟩ => exact h⟩

/-- The `n` columns from column `off` on. -/
abbrev cols (n off : ℕ) (h : off + n ≤ 4096) (z : FVec Ideal S16x4096x4096 .f32) : FVec Ideal (Cols n) .f32 :=
  extractStridedSlice (Cols n) ![0, 0, off] z (slices off h)

theorem cols_apply {n : ℕ} (off : ℕ) (h : off + n ≤ 4096) (z : FVec Ideal S16x4096x4096 .f32) (b : Fin 16) (s : Fin 4096) (k : Fin n) (j : Fin 4096) (hj : j.val = off + k.val) :
    @Eq EReal (cols n off h z (ix3 b s k)) (z (ix3 b s j)) :=
  extractStridedSlice_apply (![0, 0, off] : Fin 3 → ℕ) z (slices off h) (ix3 b s k) (ix3 b s j) fun a => by
    match a with
    | ⟨0, _⟩ => show b.val = 0 + b.val; omega
    | ⟨1, _⟩ => show s.val = 0 + s.val; omega
    | ⟨2, _⟩ => exact hj

/-! ## Columns in heads -/

def two (v : FVec Ideal S16x4096x128 .f32) : FVec Ideal S16x2x4096x64 .f32 :=
  transpose S16x2x4096x64 [0, 2, 1, 3] (shapeCast S16x4096x2x64 v shapeCasts_S16x4096x128_S16x4096x2x64) transposes_S16x4096x2x64_S16x2x4096x64_0_2_1_3
def four (v : FVec Ideal S16x4096x256 .f32) : FVec Ideal S16x4x4096x64 .f32 :=
  transpose S16x4x4096x64 [0, 2, 1, 3] (shapeCast S16x4096x4x64 v shapeCasts_S16x4096x256_S16x4096x4x64) transposes_S16x4096x4x64_S16x4x4096x64_0_2_1_3
def eight (v : FVec Ideal S16x4096x512 .f32) : FVec Ideal S16x8x4096x64 .f32 :=
  transpose S16x8x4096x64 [0, 2, 1, 3] (shapeCast S16x4096x8x64 v shapeCasts_S16x4096x512_S16x4096x8x64) transposes_S16x4096x8x64_S16x8x4096x64_0_2_1_3

theorem two_apply (v : FVec Ideal S16x4096x128 .f32) (b : Fin 16) (n : Fin 2) (s : Fin 4096) (l : Fin 64) :
    @Eq EReal (two v (ix4 b n s l)) (v (ix3 b s ⟨n.val * 64 + l.val, by omega⟩)) := by
  unfold two
  pointwise
theorem four_apply (v : FVec Ideal S16x4096x256 .f32) (b : Fin 16) (n : Fin 4) (s : Fin 4096) (l : Fin 64) :
    @Eq EReal (four v (ix4 b n s l)) (v (ix3 b s ⟨n.val * 64 + l.val, by omega⟩)) := by
  unfold four
  pointwise
theorem eight_apply (v : FVec Ideal S16x4096x512 .f32) (b : Fin 16) (n : Fin 8) (s : Fin 4096) (l : Fin 64) :
    @Eq EReal (eight v (ix4 b n s l)) (v (ix3 b s ⟨n.val * 64 + l.val, by omega⟩)) := by
  unfold eight
  pointwise

/-- Other columns beside a head's. -/
def twoBeside (v a : FVec Ideal S16x2x4096x64 .f32) : FVec Ideal S16x2x4096x128 .f32 :=
  concatenate S16x2x4096x128 3 [⟨S16x2x4096x64, v⟩, ⟨S16x2x4096x64, a⟩] concatenates_S16x2x4096x64_S16x2x4096x64_S16x2x4096x128_d3
def eightBeside (v a : FVec Ideal S16x8x4096x64 .f32) : FVec Ideal S16x8x4096x128 .f32 :=
  concatenate S16x8x4096x128 3 [⟨S16x8x4096x64, v⟩, ⟨S16x8x4096x64, a⟩] concatenates_S16x8x4096x64_S16x8x4096x64_S16x8x4096x128_d3

theorem twoBeside_apply (v a : FVec Ideal S16x2x4096x64 .f32) (b : Fin 16) (n : Fin 2) (s : Fin 4096) (l : Fin 128) :
    @Eq EReal (twoBeside v a (ix4 b n s l)) (_root_.Proj.beside (fun l => v (ix4 b n s l)) (fun l => a (ix4 b n s l)) l) := by
  unfold twoBeside _root_.Proj.beside
  pointwise
theorem eightBeside_apply (v a : FVec Ideal S16x8x4096x64 .f32) (b : Fin 16) (n : Fin 8) (s : Fin 4096) (l : Fin 128) :
    @Eq EReal (eightBeside v a (ix4 b n s l)) (_root_.Proj.beside (fun l => v (ix4 b n s l)) (fun l => a (ix4 b n s l)) l) := by
  unfold eightBeside _root_.Proj.beside
  pointwise

/-! ## The appended columns -/

/-- The identity matrix. -/
def eye : FVec Ideal S64x64 .f32 :=
  uitofp .f32 (cmpi .eq (addi (iotaInDim S64x64 32 0) (broadcastInDim S64x64 ![] bcast_S_S64x64 (constantI S_ 32 0#32))) (iotaInDim S64x64 32 1))

/-- Each of its rows for a block of 64 rows, and its first row. -/
def byBlock : FVec Ideal S4096x64 .f32 := shapeCast S4096x64 (broadcastInDim S64x64x64 ![0, 2] bcast_S64x64_S64x64x64_0_2 eye) shapeCasts_S64x64x64_S4096x64
def first : FVec Ideal S64 .f32 := shapeCast S64 (extractStridedSlice S1x64 ![0, 0] eye slices_S64x64_S1x64_0_0) shapeCasts_S1x64_S64

theorem eye_apply (k l : Fin 64) : @Eq EReal (eye (ix2 k l)) (_root_.Proj.same k.val l.val) := by
  unfold eye
  pointwise
  rw [WordCmp.cmpi_eq_eq_toNat, show (IntOp.addi (BitVec.ofNat 32 k.val) 0#32).toNat = k.val by word_omega, show (BitVec.ofNat 32 l.val).toNat = l.val by word_omega]
  unfold _root_.Proj.same
  by_cases h : k.val = l.val
  · rw [if_pos h, decide_eq_true h]
    show ((1 : ℕ) : EReal) = 1
    simp
  · rw [if_neg h, decide_eq_false h]
    show ((0 : ℕ) : EReal) = 0
    simp

theorem byBlock_apply (s : Fin 4096) (l : Fin 64) : @Eq EReal (byBlock (ix2 s l)) (_root_.Proj.same (s.val / 64) l.val) := by
  have e : @Eq EReal (byBlock (ix2 s l)) (eye (ix2 ⟨s.val / 64, by omega⟩ l)) := by
    unfold byBlock
    generalize eye = v
    pointwise
  exact e.trans (eye_apply _ _)

theorem first_apply (l : Fin 64) : @Eq EReal (first (ix1 l)) (_root_.Proj.same 0 l.val) := by
  have e : @Eq EReal (first (ix1 l)) (eye (ix2 0 l)) := by
    unfold first
    generalize eye = v
    pointwise
  exact e.trans (eye_apply _ _)

/-! ## The results as whole arrays -/

section Results

theorem rows_ext {n : ℕ} (v : (Cols n).Idx → EReal) (f : Fin 16 → Fin 4096 → Fin n → EReal) (h : ∀ b s l, v (ix3 b s l) = f b s l) :
    v = fun i => f (i 0) (i 1) (i 2) := by
  funext i
  have e : i = ix3 (i 0) (i 1) (i 2) := by
    funext a
    match a with
    | ⟨0, _⟩ => rfl
    | ⟨1, _⟩ => rfl
    | ⟨2, _⟩ => rfl
  exact (congrArg v e).trans (h _ _ _)

theorem heads_ext {N D : ℕ} (v : (⟨4, ![16, N, 4096, D]⟩ : Shape).Idx → EReal) (f : Fin 16 → Fin N → Fin 4096 → Fin D → EReal)
    (h : ∀ b n s l, v (ix4 b n s l) = f b n s l) : v = fun i => f (i 0) (i 1) (i 2) (i 3) := by
  funext i
  have e : i = ix4 (i 0) (i 1) (i 2) (i 3) := by
    funext a
    match a with
    | ⟨0, _⟩ => rfl
    | ⟨1, _⟩ => rfl
    | ⟨2, _⟩ => rfl
    | ⟨3, _⟩ => rfl
  exact (congrArg v e).trans (h _ _ _ _)

variable (v : FVec Ideal S16x4096x4096 .f32) (Z : Fin 16 → Fin 4096 → Fin 4096 → EReal) (hz : ∀ b s j, @Eq EReal (v (ix3 b s j)) (Z b s j))
include hz

theorem rows_eq (n off : ℕ) (h : off + n ≤ 4096) (p : Fin n → Fin 4096) (hp : ∀ l, (p l).val = off + l.val) :
    @Eq ((Cols n).Idx → EReal) (cols n off h v) (fun i => Z (i 0) (i 1) (p (i 2))) :=
  rows_ext _ (fun b s l => Z b s (p l)) fun b s l => (cols_apply off h v b s l _ (hp l)).trans (hz b s _)

theorem four_eq : @Eq (S16x4x4096x64.Idx → EReal) (four (cols 256 384 (by omega) v)) (fun i => Z (i 0) (i 2) (_root_.Proj.cmp (i 1) (i 3))) :=
  heads_ext _ (fun b n s l => Z b s (_root_.Proj.cmp n l)) fun b n s l => (four_apply _ b n s l).trans
    ((cols_apply 384 _ v b s _ _ (by show 384 + 64 * n.val + l.val = 384 + (n.val * 64 + l.val); omega)).trans (hz b s _))

theorem two_at (q : ℕ) (hq : q + 2 ≤ 52) (b : Fin 16) (n : Fin 2) (s : Fin 4096) (l : Fin 64) :
    @Eq EReal (two (cols 128 (768 + 64 * q) (by omega) v) (ix4 b n s l)) (Z b s (_root_.Proj.col (_root_.Proj.from' q hq n) l)) :=
  (two_apply _ b n s l).trans
    ((cols_apply (768 + 64 * q) _ v b s _ _ (by show 768 + 64 * (q + n.val) + l.val = 768 + 64 * q + (n.val * 64 + l.val); omega)).trans (hz b s _))

theorem eight_at (q : ℕ) (hq : q + 8 ≤ 52) (b : Fin 16) (n : Fin 8) (s : Fin 4096) (l : Fin 64) :
    @Eq EReal (eight (cols 512 (768 + 64 * q) (by omega) v) (ix4 b n s l)) (Z b s (_root_.Proj.col (_root_.Proj.from' q hq n) l)) :=
  (eight_apply _ b n s l).trans
    ((cols_apply (768 + 64 * q) _ v b s _ _ (by show 768 + 64 * (q + n.val) + l.val = 768 + 64 * q + (n.val * 64 + l.val); omega)).trans (hz b s _))

theorem two_eq (q : ℕ) (hq : q + 2 ≤ 52) : @Eq (S16x2x4096x64.Idx → EReal) (truncf .bf16 (two (cols 128 (768 + 64 * q) (by omega) v)) bitsLt_bf16_f32)
    (fun i => Z (i 0) (i 2) (_root_.Proj.col (_root_.Proj.from' q hq (i 1)) (i 3))) :=
  heads_ext _ (fun b n s l => Z b s (_root_.Proj.col (_root_.Proj.from' q hq n) l)) (two_at v Z hz q hq)

theorem eight_eq (q : ℕ) (hq : q + 8 ≤ 52) : @Eq (S16x8x4096x64.Idx → EReal) (truncf .bf16 (eight (cols 512 (768 + 64 * q) (by omega) v)) bitsLt_bf16_f32)
    (fun i => Z (i 0) (i 2) (_root_.Proj.col (_root_.Proj.from' q hq (i 1)) (i 3))) :=
  heads_ext _ (fun b n s l => Z b s (_root_.Proj.col (_root_.Proj.from' q hq n) l)) (eight_at v Z hz q hq)

theorem byBlock_eq (q : ℕ) (hq : q + 2 ≤ 52) : @Eq (S16x2x4096x128.Idx → EReal)
    (truncf .bf16 (twoBeside (two (cols 128 (768 + 64 * q) (by omega) v)) (broadcastInDim S16x2x4096x64 ![2, 3] bcast_S4096x64_S16x2x4096x64_2_3 byBlock)) bitsLt_bf16_f32)
    (fun i => _root_.Proj.beside (fun l => Z (i 0) (i 2) (_root_.Proj.col (_root_.Proj.from' q hq (i 1)) l)) (fun l => _root_.Proj.same ((i 2).val / 64) l.val) (i 3)) :=
  heads_ext _ (fun b n s l => _root_.Proj.beside (fun l => Z b s (_root_.Proj.col (_root_.Proj.from' q hq n) l)) (fun l => _root_.Proj.same (s.val / 64) l.val) l)
    fun b n s l => (twoBeside_apply _ _ b n s l).trans (_root_.Proj.beside_congr (two_at v Z hz q hq b n s) (fun l => by
      have e : @Eq EReal (broadcastInDim S16x2x4096x64 ![2, 3] bcast_S4096x64_S16x2x4096x64_2_3 byBlock (ix4 b n s l)) (byBlock (ix2 s l)) := by
        generalize byBlock = a
        pointwise
      exact e.trans (byBlock_apply s l)) l)

theorem firstTwo_eq (q : ℕ) (hq : q + 2 ≤ 52) : @Eq (S16x2x4096x128.Idx → EReal)
    (truncf .bf16 (twoBeside (two (cols 128 (768 + 64 * q) (by omega) v)) (broadcastInDim S16x2x4096x64 ![3] bcast_S64_S16x2x4096x64_3 first)) bitsLt_bf16_f32)
    (fun i => _root_.Proj.beside (fun l => Z (i 0) (i 2) (_root_.Proj.col (_root_.Proj.from' q hq (i 1)) l)) (fun l => _root_.Proj.same 0 l.val) (i 3)) :=
  heads_ext _ (fun b n s l => _root_.Proj.beside (fun l => Z b s (_root_.Proj.col (_root_.Proj.from' q hq n) l)) (fun l => _root_.Proj.same 0 l.val) l)
    fun b n s l => (twoBeside_apply _ _ b n s l).trans (_root_.Proj.beside_congr (two_at v Z hz q hq b n s) (fun l => by
      have e : @Eq EReal (broadcastInDim S16x2x4096x64 ![3] bcast_S64_S16x2x4096x64_3 first (ix4 b n s l)) (first (ix1 l)) := by
        generalize first = a
        pointwise
      exact e.trans (first_apply l)) l)

theorem firstEight_eq (q : ℕ) (hq : q + 8 ≤ 52) : @Eq (S16x8x4096x128.Idx → EReal)
    (truncf .bf16 (eightBeside (eight (cols 512 (768 + 64 * q) (by omega) v)) (broadcastInDim S16x8x4096x64 ![3] bcast_S64_S16x8x4096x64_3 first)) bitsLt_bf16_f32)
    (fun i => _root_.Proj.beside (fun l => Z (i 0) (i 2) (_root_.Proj.col (_root_.Proj.from' q hq (i 1)) l)) (fun l => _root_.Proj.same 0 l.val) (i 3)) :=
  heads_ext _ (fun b n s l => _root_.Proj.beside (fun l => Z b s (_root_.Proj.col (_root_.Proj.from' q hq n) l)) (fun l => _root_.Proj.same 0 l.val) l)
    fun b n s l => (eightBeside_apply _ _ b n s l).trans (_root_.Proj.beside_congr (eight_at v Z hz q hq b n s) (fun l => by
      have e : @Eq EReal (broadcastInDim S16x8x4096x64 ![3] bcast_S64_S16x8x4096x64_3 first (ix4 b n s l)) (first (ix1 l)) := by
        generalize first = a
        pointwise
      exact e.trans (first_apply l)) l)

end Results

end Cert.Reference4Ideal.Proj

end
-- ==== Proof.Cross.lean ====
/-
  The cross-attention into the memory at one place over the extended reals: the scores of a row's query against the
  memory's keys, their softmax applied to the values, the heads side by side projected and normed.
-/
module

public import proofs.«01_k».proof.Proof.Ffn
public import proofs.«01_k».proof.Proof.Softmax

@[expose] public section

noncomputable section

namespace Cross

open Idealize.ShloMosaic

/-- The head a column belongs to. -/
abbrev head (k : Fin 256) : Fin 4 := ⟨k.val / 64, by omega⟩

/-- Its place within the head. -/
abbrev lane (k : Fin 256) : Fin 64 := ⟨k.val % 64, by omega⟩

/-- A head's column. -/
abbrev column (n : Fin 4) (l : Fin 64) : Fin 256 := ⟨64 * n.val + l.val, by omega⟩

/-- The columns of the memory's array: the heads' keys, then the heads' values. -/
abbrev keyColumn (n : Fin 4) (l : Fin 64) : Fin 512 := ⟨64 * n.val + l.val, by omega⟩
abbrev valueColumn (n : Fin 4) (l : Fin 64) : Fin 512 := ⟨256 + 64 * n.val + l.val, by omega⟩

/-- The query's column `k` of a normed row. -/
def query (h : Fin 1024 → EReal) (w : Fin 1024 → Fin 256 → EReal) (k : Fin 256) : EReal := ∑ e, h e * w e k

/-- The scores of a row's query in one head. -/
def score (q : Fin 256 → EReal) (x : Fin 256 → Fin 64 → EReal) (n : Fin 4) (t : Fin 256) : EReal := ∑ d, q (column n d) * x t d

/-- The softmax of the scores applied to the values. -/
def attended (s : Fin 256 → EReal) (v : Fin 256 → Fin 64 → EReal) (l : Fin 64) : EReal :=
  ∑ t, Ideal.div (Ideal.exp (s t - Finset.univ.sup s)) (∑ u, Ideal.exp (s u - Finset.univ.sup s)) * v t l

/-- The heads side by side, projected. -/
def projected (a : Fin 4 → Fin 64 → EReal) (o : Fin 256 → Fin 1024 → EReal) (d : Fin 1024) : EReal := ∑ k, a (head k) (lane k) * o k d

/-- The whole of it for a row, from its scores. -/
def out (x : Fin 1024 → EReal) (s : Fin 4 → Fin 256 → EReal) (v : Fin 4 → Fin 256 → Fin 64 → EReal) (o : Fin 256 → Fin 1024 → EReal)
    (gpost : Fin 1024 → EReal) (d : Fin 1024) : EReal :=
  x d + Ffn.normed (projected (fun n => attended (s n) (v n)) o) gpost d

theorem query_congr {h h' : Fin 1024 → EReal} {w w' : Fin 1024 → Fin 256 → EReal} (eh : ∀ e, h e = h' e) (ew : ∀ e k, w e k = w' e k) (k : Fin 256) :
    query h w k = query h' w' k :=
  congrArg₂ (fun a b => query a b k) (funext eh) (funext fun e => funext (ew e))

theorem score_congr {q q' : Fin 256 → EReal} {x x' : Fin 256 → Fin 64 → EReal} (eq : ∀ k, q k = q' k) (ex : ∀ t d, x t d = x' t d) (n : Fin 4) (t : Fin 256) :
    score q x n t = score q' x' n t :=
  congrArg₂ (fun a b => score a b n t) (funext eq) (funext fun t => funext (ex t))

theorem attended_congr {s s' : Fin 256 → EReal} {v v' : Fin 256 → Fin 64 → EReal} (es : ∀ t, s t = s' t) (ev : ∀ t l, v t l = v' t l) (l : Fin 64) :
    attended s v l = attended s' v' l :=
  congrArg₂ (fun a b => attended a b l) (funext es) (funext fun t => funext (ev t))

theorem projected_congr {a a' : Fin 4 → Fin 64 → EReal} {o o' : Fin 256 → Fin 1024 → EReal} (ea : ∀ n l, a n l = a' n l) (eo : ∀ k d, o k d = o' k d) (d : Fin 1024) :
    projected a o d = projected a' o' d :=
  congrArg₂ (fun a b => projected a b d) (funext fun n => funext (ea n)) (funext fun k => funext (eo k))

theorem out_congr {x x' gpost gpost' : Fin 1024 → EReal} {s s' : Fin 4 → Fin 256 → EReal} {v v' : Fin 4 → Fin 256 → Fin 64 → EReal}
    {o o' : Fin 256 → Fin 1024 → EReal} (ex : ∀ e, x e = x' e) (es : ∀ n t, s n t = s' n t) (ev : ∀ n t l, v n t l = v' n t l)
    (eo : ∀ k d, o k d = o' k d) (eg : ∀ e, gpost e = gpost' e) (d : Fin 1024) : out x s v o gpost d = out x' s' v' o' gpost' d := by
  obtain rfl := funext ex
  obtain rfl := funext fun n => funext (es n)
  obtain rfl := funext fun n => funext fun t => funext (ev n t)
  obtain rfl := funext fun k => funext (eo k)
  obtain rfl := funext eg
  rfl

/-- The scale of the scores, one eighth. -/
abbrev scale : EReal := Ideal.ofBits .f32 0x3E000000#32

theorem scale_eq : scale = ((1 / 8 : ℝ) : EReal) := by
  show Ideal.ieee 8 23 0x3E000000#32 = _
  unfold Ideal.ieee
  simp only []
  rw [if_neg (by decide), if_neg (by decide), if_neg (by decide)]
  refine congrArg (fun r : ℝ => (r : EReal)) ?_
  norm_num [Nat.shiftRight_eq_div_pow]

theorem scale_nonneg : 0 ≤ scale := by
  rw [scale_eq]
  exact_mod_cast (by norm_num : (0 : ℝ) ≤ 1 / 8)

theorem scale_ne_top : scale ≠ ⊤ := by
  rw [scale_eq]
  exact EReal.coe_ne_top _

/-- Scaling the query's weights scales the scores. -/
theorem score_scaled (h : Fin 1024 → EReal) (w : Fin 1024 → Fin 256 → EReal) (x : Fin 256 → Fin 64 → EReal) (n : Fin 4) (t : Fin 256) :
    score (query h fun e k => w e k * scale) x n t = score (query h w) x n t * scale := by
  have q : ∀ k, query h (fun e k => w e k * scale) k = scale * query h w k := fun k => by
    unfold query
    rw [Cert.Softmax.mul_sum scale_nonneg scale_ne_top]
    exact Finset.sum_congr rfl fun e _ => by rw [← mul_assoc, mul_comm]
  unfold score
  rw [mul_comm _ scale, Cert.Softmax.mul_sum scale_nonneg scale_ne_top]
  exact Finset.sum_congr rfl fun d _ => by rw [q, mul_assoc]

end Cross

end
-- ==== Proof.CrossBody.lean ====
/-
  What one grid point of the cross-attention call writes, element by element over the extended reals.
-/
module

public import proofs.«01_k».proof.Proof.Gen.Kernel5Ideal.Frame
public import Idealize.ShloMosaic.Lib.Pointwise
public import proofs.«01_k».proof.Proof.Cross
public import proofs.«01_k».proof.Proof.Order

@[expose] public section

set_option maxRecDepth 16384

noncomputable section

namespace Cert.Kernel5Ideal.Cross

open Idealize.ShloMosaic Cert.Kernel5Ideal Cert.Kernel5Ideal.Gen

/-- The norm of a block of rows as the program computes it. -/
def rms (x : FVec Ideal S1024x1024 .f32) (g : FVec Ideal S1x1024 .f32) : FVec Ideal S1024x1024 .f32 :=
  mulf (mulf x (broadcastTo S1024x1024 (rsqrt (addf (divf (shapeCast S1024x1 (multiReduction .add [1] S1024 (mulf x x) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024))
    (broadcastTo S1024x1024 (shapeCast S1x1024 g shapeCasts_S1x1024_S1x1024) broadcasts_S1x1024_S1024x1024)

/-- The block of rows without its unit axis. -/
def rows (x : FVec Ideal S1x1024x1024 .f32) : FVec Ideal S1024x1024 .f32 := shapeCast S1024x1024 x shapeCasts_S1x1024x1024_S1024x1024

/-- What is written, a block of rows with a unit axis before it. -/
def written (y : FVec Ideal S1024x1024 .f32) : FVec Ideal S1x1024x1024 .f32 := shapeCast S1x1024x1024 y shapeCasts_S1024x1024_S1x1024x1024

/-- The queries of all heads. -/
def queries (h : FVec Ideal S1024x1024 .bf16) (w : FVec Ideal S1024x256 .bf16) : FVec Ideal S1024x256 .f32 :=
  matmul dot_S1024x1024_S1024x256_S1024x256_1_0_0_1_n_n none h (shapeCast S1024x256 w shapeCasts_S1024x256_S1024x256) (constant S1024x256 .f32 0x00000000#32)

theorem slices (off : ℕ) (h : off + 64 ≤ 256) : S1024x256.Slices ![0, off] S1024x64 :=
  ⟨rfl, fun a => by
    match a with
    | ⟨0, _⟩ => show 0 + 1024 ≤ 1024; omega
    | ⟨1, _⟩ => exact h⟩

/-- One head's queries. -/
def slice (off : ℕ) (h : off + 64 ≤ 256) (v : FVec Ideal S1024x256 .f32) : FVec Ideal S1024x64 .f32 := extractStridedSlice S1024x64 ![0, off] v (slices off h)

/-- One head's keys or values without the unit axes. -/
def flat (p : FVec Ideal S1x1x256x64 .bf16) : FVec Ideal S256x64 .bf16 := shapeCast S256x64 p shapeCasts_S1x1x256x64_S256x64

/-- One head's scores. -/
def scores (q : FVec Ideal S1024x64 .f32) (k : FVec Ideal S256x64 .bf16) : FVec Ideal S1024x256 .f32 :=
  matmul dot_S1024x64_S256x64_S1024x256_1_1_0_0_n_n none (truncf .bf16 q bitsLt_bf16_f32) k (constant S1024x256 .f32 0x00000000#32)

/-- One number for each row, repeated along the row. -/
def along (a : FVec Ideal S1024 .f32) : FVec Ideal S1024x256 .f32 := broadcastTo S1024x256 (shapeCast S1024x1 a shapeCasts_S1024_S1024x1) broadcasts_S1024x1_S1024x256

/-- A row's greatest score. -/
def rowMax (s : FVec Ideal S1024x256 .f32) : FVec Ideal S1024 .f32 := multiReduction .maximumf [1] S1024 s 0xFF800000#32 reduces_S1024x256_S1024 (.inl rfl) rfl

/-- A row's sum. -/
def rowSum (s : FVec Ideal S1024x256 .f32) : FVec Ideal S1024 .f32 := multiReduction .add [1] S1024 s 0x00000000#32 reduces_S1024x256_S1024 (.inl rfl) rfl

/-- The weights before they are normalised. -/
def weights (s : FVec Ideal S1024x256 .f32) : FVec Ideal S1024x256 .f32 := exp (subf s (along (rowMax s)))

/-- One head's result. -/
def attended (s : FVec Ideal S1024x256 .f32) (v : FVec Ideal S256x64 .bf16) : FVec Ideal S1024x64 .f32 :=
  matmul dot_S1024x256_S256x64_S1024x64_1_0_0_1_n_n none (truncf .bf16 (divf (weights s) (along (rowSum (weights s)))) bitsLt_bf16_f32) v (constant S1024x64 .f32 0x00000000#32)

/-- The heads side by side. -/
def joined (a : Fin 4 → FVec Ideal S1024x64 .f32) : FVec Ideal S1024x256 .f32 :=
  concatenate S1024x256 1 [⟨S1024x64, a 0⟩, ⟨S1024x64, a 1⟩, ⟨S1024x64, a 2⟩, ⟨S1024x64, a 3⟩] concatenates_S1024x64_S1024x64_S1024x64_S1024x64_S1024x256_d1

/-- The heads projected. -/
def project (a : FVec Ideal S1024x256 .f32) (o : FVec Ideal S256x1024 .bf16) : FVec Ideal S1024x1024 .f32 :=
  matmul dot_S1024x256_S256x1024_S1024x1024_1_0_0_1_n_n none (truncf .bf16 a bitsLt_bf16_f32) (shapeCast S256x1024 o shapeCasts_S256x1024_S256x1024) (constant S1024x1024 .f32 0x00000000#32)

theorem rms_apply (x : FVec Ideal S1024x1024 .f32) (g : FVec Ideal S1x1024 .f32) (r d : Fin 1024) :
    @Eq EReal (rms x g (ix2 r d)) (Ffn.normed (fun e => x (ix2 r e)) (fun e => g (ix2 0 e)) d) := by
  unfold rms Ffn.normed
  pointwise

theorem rows_apply (x : FVec Ideal S1x1024x1024 .f32) (r d : Fin 1024) : @Eq EReal (rows x (ix2 r d)) (x (ix3 0 r d)) := by
  unfold rows
  pointwise

theorem written_apply (y : FVec Ideal S1024x1024 .f32) (r d : Fin 1024) : @Eq EReal (written y (ix3 0 r d)) (y (ix2 r d)) := by
  unfold written
  pointwise

theorem queries_apply (h : FVec Ideal S1024x1024 .bf16) (w : FVec Ideal S1024x256 .bf16) (r : Fin 1024) (k : Fin 256) :
    @Eq EReal (queries h w (ix2 r k)) (_root_.Cross.query (fun e => h (ix2 r e)) (fun e k => w (ix2 e k)) k) := by
  unfold queries _root_.Cross.query
  pointwise [dot_S1024x1024_S1024x256_S1024x256_1_0_0_1_n_n]

theorem slice_apply (off : ℕ) (h : off + 64 ≤ 256) (v : FVec Ideal S1024x256 .f32) (r : Fin 1024) (l : Fin 64) (j : Fin 256) (hj : j.val = off + l.val) :
    @Eq EReal (slice off h v (ix2 r l)) (v (ix2 r j)) :=
  extractStridedSlice_apply (s := S1024x256) (t := S1024x64) (![0, off] : Fin 2 → ℕ) v (slices off h) (ix2 r l) (ix2 r j) fun a => by
    match a with
    | ⟨0, _⟩ => show r.val = 0 + r.val; omega
    | ⟨1, _⟩ => exact hj

theorem flat_apply (p : FVec Ideal S1x1x256x64 .bf16) (t : Fin 256) (l : Fin 64) : @Eq EReal (flat p (ix2 t l)) (p (ix4 0 0 t l)) := by
  unfold flat
  pointwise

theorem scores_apply (q : FVec Ideal S1024x64 .f32) (k : FVec Ideal S256x64 .bf16) (r : Fin 1024) (t : Fin 256) :
    @Eq EReal (scores q k (ix2 r t)) (∑ d : Fin 64, q (ix2 r d) * k (ix2 t d)) := by
  unfold scores
  pointwise [dot_S1024x64_S256x64_S1024x256_1_1_0_0_n_n]

theorem along_apply (a : FVec Ideal S1024 .f32) (r : Fin 1024) (t : Fin 256) : @Eq EReal (along a (ix2 r t)) (a (ix1 r)) := by
  unfold along
  pointwise

theorem rowMax_apply (s : FVec Ideal S1024x256 .f32) (r : Fin 1024) : @Eq EReal (rowMax s (ix1 r)) (Finset.univ.sup fun t : Fin 256 => s (ix2 r t)) := by
  unfold rowMax
  pointwise [Order.least]
  rfl

theorem rowSum_apply (s : FVec Ideal S1024x256 .f32) (r : Fin 1024) : @Eq EReal (rowSum s (ix1 r)) (∑ t : Fin 256, s (ix2 r t)) := by
  unfold rowSum
  pointwise

theorem weights_apply (s : FVec Ideal S1024x256 .f32) (r : Fin 1024) (t : Fin 256) :
    @Eq EReal (weights s (ix2 r t)) (Ideal.exp (s (ix2 r t) - Finset.univ.sup fun t : Fin 256 => s (ix2 r t))) := by
  have e : @Eq EReal (weights s (ix2 r t)) (Ideal.exp (s (ix2 r t) - along (rowMax s) (ix2 r t))) := rfl
  rw [e, along_apply, rowMax_apply]

theorem applied_apply (w : FVec Ideal S1024x256 .f32) (v : FVec Ideal S256x64 .bf16) (r : Fin 1024) (l : Fin 64) :
    @Eq EReal (matmul dot_S1024x256_S256x64_S1024x64_1_0_0_1_n_n none (truncf .bf16 w bitsLt_bf16_f32) v (constant S1024x64 .f32 0x00000000#32) (ix2 r l))
      (∑ t : Fin 256, w (ix2 r t) * v (ix2 t l)) := by
  pointwise [dot_S1024x256_S256x64_S1024x64_1_0_0_1_n_n]

theorem attended_apply (s : FVec Ideal S1024x256 .f32) (v : FVec Ideal S256x64 .bf16) (r : Fin 1024) (l : Fin 64) :
    @Eq EReal (attended s v (ix2 r l)) (_root_.Cross.attended (fun t => s (ix2 r t)) (fun t l => v (ix2 t l)) l) := by
  unfold attended _root_.Cross.attended
  rw [applied_apply]
  refine Finset.sum_congr rfl fun t _ => ?_
  have e : @Eq EReal (divf (weights s) (along (rowSum (weights s))) (ix2 r t)) (Ideal.div (weights s (ix2 r t)) (along (rowSum (weights s)) (ix2 r t))) := rfl
  rw [e, along_apply, rowSum_apply, weights_apply]
  simp only [weights_apply]

theorem joined_apply (a : Fin 4 → FVec Ideal S1024x64 .f32) (r : Fin 1024) (k : Fin 256) :
    @Eq EReal (joined a (ix2 r k)) (a (_root_.Cross.head k) (ix2 r (_root_.Cross.lane k))) := by
  unfold joined
  pointwise
  have t : ∀ (n : Fin 4) (l : Fin 64), k.val = 64 * n.val + l.val → @Eq EReal (a n (ix2 r l)) (a (_root_.Cross.head k) (ix2 r (_root_.Cross.lane k))) := fun n l e =>
    congrArg₂ (fun n l => (a n (ix2 r l) : EReal)) (Fin.ext (by show n.val = k.val / 64; omega)) (Fin.ext (by show l.val = k.val % 64; omega))
  split_ifs <;> refine t _ _ ?_ <;> simp <;> omega

theorem project_apply (a : FVec Ideal S1024x256 .f32) (o : FVec Ideal S256x1024 .bf16) (r d : Fin 1024) :
    @Eq EReal (project a o (ix2 r d)) (∑ k : Fin 256, a (ix2 r k) * o (ix2 k d)) := by
  unfold project
  pointwise [dot_S1024x256_S256x1024_S1024x1024_1_0_0_1_n_n]

section Body
variable (x0 : Vec Ideal S1x1024x1024 .f32) (x1 : Vec Ideal S1x8x256x64 .bf16) (x2 : Vec Ideal S1x1024 .f32) (x3 : Vec Ideal S1024x256 .bf16)
  (x4 : Vec Ideal S256x1024 .bf16) (x5 : Vec Ideal S1x1024 .f32)

/-- The normed block. -/
def pre (x : FVec Ideal S1x1024x1024 .f32) (g : FVec Ideal S1x1024 .f32) : FVec Ideal S1024x1024 .bf16 := truncf .bf16 (rms (rows x) g) bitsLt_bf16_f32

theorem inb (n : ℕ) (h : n < 8) (a : Fin 4) : (![0, n, 0, 0] : Fin 4 → ℕ) a + S1x1x256x64.size a ≤ S1x8x256x64.size a := by
  match a with
  | ⟨0, _⟩ => show 0 + 1 ≤ 1; omega
  | ⟨1, _⟩ => show n + 1 ≤ 8; omega
  | ⟨2, _⟩ => show 0 + 256 ≤ 256; omega
  | ⟨3, _⟩ => show 0 + 64 ≤ 64; omega

/-- One of the eight arrays of keys and values. -/
def part (n : ℕ) (h : n < 8) : FVec Ideal S256x64 .bf16 := flat (View.ld x1 (Rect.unit (s := S1x8x256x64) ![0, n, 0, 0] S1x1x256x64.size (inb n h)))

/-- One head from all heads' queries. -/
def one (q : FVec Ideal S1024x256 .f32) (n : Fin 4) : FVec Ideal S1024x64 .f32 :=
  attended (scores (slice (64 * n.val) (by omega) q) (part x1 n.val (by omega))) (part x1 (4 + n.val) (by omega))

theorem out_eq : out0_6 x0 x1 x2 x3 x4 x5 = View.canon [⟨r0_0, written (addf (rows (View.ld x0 r0_0))
    (rms (project (joined (one x1 (queries (pre (View.ld x0 r0_0) (View.ld x2 r0_1)) (View.ld x3 r0_2)))) (View.ld x4 r0_11)) (View.ld x5 r0_1)))⟩] := rfl

theorem part_apply (n : ℕ) (h : n < 8) (t : Fin 256) (l : Fin 64) : @Eq EReal (part x1 n h (ix2 t l)) (x1 (ix4 0 ⟨n, h⟩ t l)) := by
  unfold part
  rw [flat_apply]
  show x1 _ = x1 _
  congr 1
  funext a
  apply Fin.ext
  match a with
  | ⟨0, _⟩ => rfl
  | ⟨1, _⟩ => show n + 1 * 0 = n; omega
  | ⟨2, _⟩ => show 0 + 1 * t.val = t.val; omega
  | ⟨3, _⟩ => show 0 + 1 * l.val = l.val; omega

theorem zero_offset : (![0, 0] : Fin 2 → ℕ) = fun _ => 0 := by
  funext a
  match a with
  | ⟨0, _⟩ => rfl
  | ⟨1, _⟩ => rfl

theorem zero_offset3 : (![0, 0, 0] : Fin 3 → ℕ) = fun _ => 0 := by
  funext a
  match a with
  | ⟨0, _⟩ => rfl
  | ⟨1, _⟩ => rfl
  | ⟨2, _⟩ => rfl

theorem ld_block (x : Vec Ideal S1x1024x1024 .f32) : View.ld x r0_0 = x := View.ld_unit_zero zero_offset3 _ x
theorem ld_gain (x : Vec Ideal S1x1024 .f32) : View.ld x r0_1 = x := View.ld_unit_zero zero_offset _ x
theorem ld_query (x : Vec Ideal S1024x256 .bf16) : View.ld x r0_2 = x := View.ld_unit_zero zero_offset _ x
theorem ld_out (x : Vec Ideal S256x1024 .bf16) : View.ld x r0_11 = x := View.ld_unit_zero zero_offset _ x

theorem pre_apply (r d : Fin 1024) : @Eq EReal (pre x0 x2 (ix2 r d)) (Ffn.normed (fun e => x0 (ix3 0 r e)) (fun e => x2 (ix2 0 e)) d) :=
  (rms_apply (rows x0) x2 r d).trans (congrArg (fun x => Ffn.normed x _ d) (funext fun e => rows_apply x0 r e))

theorem one_apply (q : FVec Ideal S1024x256 .f32) (Q : Fin 256 → EReal) (r : Fin 1024) (hq : ∀ k, @Eq EReal (q (ix2 r k)) (Q k)) (n : Fin 4) (l : Fin 64) :
    @Eq EReal (one x1 q n (ix2 r l))
      (_root_.Cross.attended (_root_.Cross.score Q (fun t d => x1 (ix4 0 ⟨n.val, by omega⟩ t d)) n) (fun t l => x1 (ix4 0 ⟨4 + n.val, by omega⟩ t l)) l) := by
  unfold one
  refine (attended_apply _ _ r l).trans (_root_.Cross.attended_congr (fun t => ?_) (fun t l => part_apply x1 _ _ t l) l)
  rw [scores_apply]
  exact Finset.sum_congr rfl fun d _ => congrArg₂ (fun a b : EReal => a * b)
    ((slice_apply _ _ q r d (_root_.Cross.column n d) rfl).trans (hq _)) (part_apply x1 _ _ t d)

theorem out_vector : out0_6 x0 x1 x2 x3 x4 x5 = written (addf (rows x0) (rms (project (joined (one x1 (queries (pre x0 x2) x3))) x4) x5)) := by
  rw [out_eq, ld_block, ld_gain, ld_gain, ld_query, ld_out]
  exact View.canon_unit_zero zero_offset3 _ _

theorem addf_apply' (a b : FVec Ideal S1024x1024 .f32) (j : S1024x1024.Idx) : @Eq EReal (addf a b j) (a j + b j) := rfl

theorem out_apply (r d : Fin 1024) :
    @Eq EReal (out0_6 x0 x1 x2 x3 x4 x5 (ix3 0 r d))
      (_root_.Cross.out (fun e => x0 (ix3 0 r e))
        (fun n => _root_.Cross.score (_root_.Cross.query (Ffn.normed (fun e => x0 (ix3 0 r e)) (fun e => x2 (ix2 0 e))) (fun e k => x3 (ix2 e k))) (fun t d => x1 (ix4 0 ⟨n.val, by omega⟩ t d)) n)
        (fun n t l => x1 (ix4 0 ⟨4 + n.val, by omega⟩ t l)) (fun k d => x4 (ix2 k d)) (fun e => x5 (ix2 0 e)) d) := by
  rw [out_vector, written_apply, addf_apply', rms_apply, rows_apply]
  unfold _root_.Cross.out
  refine congrArg (fun y => (x0 (ix3 0 r d) : EReal) + Ffn.normed y (fun e => x5 (ix2 0 e)) d) (funext fun e => ?_)
  refine (project_apply _ _ r e).trans ?_
  unfold _root_.Cross.projected
  refine Finset.sum_congr rfl fun k _ => congrArg (fun a : EReal => a * _) ?_
  refine (joined_apply _ r k).trans (one_apply x1 _ _ r (fun k => ?_) _ _)
  exact (queries_apply _ _ r k).trans (_root_.Cross.query_congr (fun e => pre_apply x0 x2 r e) (fun _ _ => rfl) k)

end Body

end Cert.Kernel5Ideal.Cross

end
-- ==== Proof.CrossValue.lean ====
/-
  The array the cross-attention call leaves, element by element: every block it writes back is a piece of one array, the
  attention of every row of the arguments, and the blocks cover that array.
-/
module

public import proofs.«01_k».proof.Proof.Gen.Kernel5Ideal.Value
public import Idealize.ShloMosaic.Lib.StableHlo.Run
public import proofs.«01_k».proof.Proof.CrossBody

@[expose] public section

set_option maxRecDepth 16384

noncomputable section

namespace Cert.Kernel5Ideal.Cross

open Idealize.ShloMosaic Idealize.ShloMosaic.TcCoe Cert.Kernel5Ideal Cert.Kernel5Ideal.Gen Idealize.ShloMosaic.StableHlo
open Idealize.ShloMosaic.Pipeline (Dat Cfg Window)

variable (m : (ℓ : Loc nD τ sig) → Buf (Elt Ideal) ℓ) (c : Dev nD)

abbrev argX : FVec Ideal S16x4096x1024 .f32 := m ((c : Thread nD τ).loc main_arg0)
abbrev argKv : FVec Ideal S16x256x512 .bf16 := m ((c : Thread nD τ).loc main_arg1)
abbrev argPre : FVec Ideal S1024 .f32 := m ((c : Thread nD τ).loc main_arg2)
abbrev argQ : FVec Ideal S1024x256 .f32 := m ((c : Thread nD τ).loc main_arg3)
abbrev argOut : FVec Ideal S256x1024 .f32 := m ((c : Thread nD τ).loc main_arg4)
abbrev argPost : FVec Ideal S1024 .f32 := m ((c : Thread nD τ).loc main_arg5)

/-! ## What the host code prepares -/

theorem gainPre_apply (d : Fin 1024) : @Eq EReal (V m c main_v2 (ix2 0 d)) (argPre m c (ix1 d)) := by
  have h : V m c main_v2 = broadcastInDim S1x1024 ![1] bcast_S1024_S1x1024_1 (argPre m c) := by
    unfold V; simp only [hostOps0]; after_results_simp
  rw [h]
  pointwise

theorem gainPost_apply (d : Fin 1024) : @Eq EReal (V m c main_v7 (ix2 0 d)) (argPost m c (ix1 d)) := by
  have h : V m c main_v7 = broadcastInDim S1x1024 ![1] bcast_S1024_S1x1024_1 (argPost m c) := by
    unfold V; simp only [hostOps0]; after_results_simp
  rw [h]
  pointwise

theorem memory_apply (b : Fin 16) (n : Fin 8) (t : Fin 256) (l : Fin 64) (j : Fin 512) (hj : j.val = 64 * n.val + l.val) :
    @Eq EReal (V m c main_v1 (ix4 b n t l)) (argKv m c (ix3 b t j)) := by
  have h : V m c main_v1 = transpose S16x8x256x64 [0, 2, 1, 3] (shapeCast S16x256x8x64 (argKv m c) shapeCasts_S16x256x512_S16x256x8x64) transposes_S16x256x8x64_S16x8x256x64_0_2_1_3 := by
    unfold V; simp only [hostOps0]; after_results_simp
    rfl
  rw [h]
  pointwise
  refine congrArg (fun j => (argKv m c (ix3 b t j) : EReal)) (Fin.ext ?_)
  simp only [hj]
  omega

theorem query_apply (e : Fin 1024) (k : Fin 256) : @Eq EReal (V m c main_v5 (ix2 e k)) (argQ m c (ix2 e k) * _root_.Cross.scale) := by
  have h : V m c main_v5 = truncf .bf16 (mulf (argQ m c) (broadcastInDim S1024x256 ![] bcast_S_S1024x256 (constant S_ .f32 0x3E000000#32))) bitsLt_bf16_f32 := by
    unfold V; simp only [hostOps0]; after_results_simp
  rw [h]
  pointwise

theorem proj_eq : V m c main_v6 = truncf .bf16 (argOut m c) bitsLt_bf16_f32 := by
  unfold V; simp only [hostOps0]; after_results_simp

/-! ## The blocks -/

section Blocks
variable (t : Fin cfg0.N)

abbrev tb : Fin 16 := grid0.coords t 0
abbrev ti : Fin 4 := grid0.coords t 1

theorem words3 : (![(BitVec.ofNat 32 (tb t).val).toNat, (BitVec.ofNat 32 (ti t).val).toNat, 0] : Fin 3 → ℕ) = ![(tb t).val, (ti t).val, 0] := by
  rw [BitVec.toNat_ofNat, BitVec.toNat_ofNat, Nat.mod_eq_of_lt (by omega), Nat.mod_eq_of_lt (by omega)]

theorem index_x : win0_0.index t = ![(tb t).val, (ti t).val, 0] := words3 t
theorem index_o : win0_6.index t = ![(tb t).val, (ti t).val, 0] := words3 t

theorem index_m : win0_1.index t = ![(tb t).val, 0, 0, 0] := by
  show ![(BitVec.ofNat 32 (tb t).val).toNat, 0, 0, 0] = _
  rw [BitVec.toNat_ofNat, Nat.mod_eq_of_lt (by omega)]

/-- Row `r` of the block at point `t`, in the array. -/
abbrev row (r : Fin 1024) : Fin 4096 := ⟨1024 * (ti t).val + r.val, by have := (ti t).isLt; omega⟩

theorem block_x (r : Fin 1024) (d : Fin 1024) : @Eq EReal (iblk m c 0 t (ix3 0 r d)) (argX m c (ix3 (tb t) (row t r) d)) := by
  have h : V m c main_arg0 = argX m c := V_main_arg0 m c
  rw [← h]
  show V m c main_arg0 _ = V m c main_arg0 _
  congr 1
  funext a
  apply Fin.ext
  have e := index_x t
  match a with
  | ⟨0, _⟩ => show win0_0.index t 0 * 1 + 1 * 0 = (tb t).val; rw [e]; show (tb t).val * 1 + 1 * 0 = _; omega
  | ⟨1, _⟩ => show win0_0.index t 1 * 1024 + 1 * r.val = 1024 * (ti t).val + r.val; rw [e]; show (ti t).val * 1024 + 1 * r.val = _; omega
  | ⟨2, _⟩ => show win0_0.index t 2 * 1024 + 1 * d.val = d.val; rw [e]; show 0 * 1024 + 1 * d.val = _; omega

theorem block_memory (n : Fin 8) (u : Fin 256) (l : Fin 64) (j : Fin 512) (hj : j.val = 64 * n.val + l.val) :
    @Eq EReal (iblk m c 1 t (ix4 0 n u l)) (argKv m c (ix3 (tb t) u j)) := by
  rw [← memory_apply m c (tb t) n u l j hj]
  show V m c main_v1 _ = V m c main_v1 _
  congr 1
  funext a
  apply Fin.ext
  have e := index_m t
  match a with
  | ⟨0, _⟩ => show win0_1.index t 0 * 1 + 1 * 0 = (tb t).val; rw [e]; show (tb t).val * 1 + 1 * 0 = _; omega
  | ⟨1, _⟩ => show win0_1.index t 1 * 8 + 1 * n.val = n.val; rw [e]; show 0 * 8 + 1 * n.val = _; omega
  | ⟨2, _⟩ => show win0_1.index t 2 * 256 + 1 * u.val = u.val; rw [e]; show 0 * 256 + 1 * u.val = _; omega
  | ⟨3, _⟩ => show win0_1.index t 3 * 64 + 1 * l.val = l.val; rw [e]; show 0 * 64 + 1 * l.val = _; omega

theorem block_pre (d : Fin 1024) : @Eq EReal (iblk m c 2 t (ix2 0 d)) (argPre m c (ix1 d)) := by
  rw [← gainPre_apply]
  show V m c main_v2 _ = V m c main_v2 _
  congr 1
  funext a
  apply Fin.ext
  match a with
  | ⟨0, _⟩ => rfl
  | ⟨1, _⟩ => show 0 * 1024 + 1 * d.val = d.val; omega

theorem block_post (d : Fin 1024) : @Eq EReal (iblk m c 5 t (ix2 0 d)) (argPost m c (ix1 d)) := by
  rw [← gainPost_apply]
  show V m c main_v7 _ = V m c main_v7 _
  congr 1
  funext a
  apply Fin.ext
  match a with
  | ⟨0, _⟩ => rfl
  | ⟨1, _⟩ => show 0 * 1024 + 1 * d.val = d.val; omega

theorem block_query (e : Fin 1024) (k : Fin 256) : @Eq EReal (iblk m c 3 t (ix2 e k)) (argQ m c (ix2 e k) * _root_.Cross.scale) := by
  rw [← query_apply]
  show V m c main_v5 _ = V m c main_v5 _
  congr 1
  funext a
  apply Fin.ext
  match a with
  | ⟨0, _⟩ => show 0 * 1024 + 1 * e.val = e.val; omega
  | ⟨1, _⟩ => show 0 * 256 + 1 * k.val = k.val; omega

theorem block_proj (k : Fin 256) (d : Fin 1024) : @Eq EReal (iblk m c 4 t (ix2 k d)) (argOut m c (ix2 k d)) := by
  have h : @Eq EReal (argOut m c (ix2 k d)) (V m c main_v6 (ix2 k d)) := by
    rw [proj_eq]
    rfl
  rw [h]
  show V m c main_v6 _ = V m c main_v6 _
  congr 1
  funext a
  apply Fin.ext
  match a with
  | ⟨0, _⟩ => show 0 * 256 + 1 * k.val = k.val; omega
  | ⟨1, _⟩ => show 0 * 1024 + 1 * d.val = d.val; omega

end Blocks

/-! ## The array -/

/-- The cross-attention at one place. -/
def cross (b : Fin 16) (s : Fin 4096) (d : Fin 1024) : EReal :=
  _root_.Cross.out (fun e => argX m c (ix3 b s e))
    (fun n u => _root_.Cross.score (_root_.Cross.query (Ffn.normed (fun e => argX m c (ix3 b s e)) (fun e => argPre m c (ix1 e))) (fun e k => argQ m c (ix2 e k)))
      (fun u l => argKv m c (ix3 b u (_root_.Cross.keyColumn n l))) n u * _root_.Cross.scale)
    (fun n u l => argKv m c (ix3 b u (_root_.Cross.valueColumn n l))) (fun k d => argOut m c (ix2 k d)) (fun e => argPost m c (ix1 e)) d

/-- The whole array. -/
def result : Buf (Elt Ideal) ((c : Thread nD τ).loc main_v8) := fun i => cross m c (i 0) (i 1) (i 2)

/-- What the body leaves in its block at point `t`. -/
def left (t : Fin cfg0.N) : Vec Ideal S1x1024x1024 .f32 :=
  out0_6 (iblk m c 0 t) (iblk m c 1 t) (iblk m c 2 t) (iblk m c 3 t) (iblk m c 4 t) (iblk m c 5 t)

theorem left_apply (t : Fin cfg0.N) (r : Fin 1024) (d : Fin 1024) : @Eq EReal (left m c t (ix3 0 r d)) (cross m c (tb t) (row t r) d) := by
  refine (out_apply _ _ _ _ _ _ r d).trans (_root_.Cross.out_congr (block_x m c t r) (fun n u => ?_) (fun n u l => ?_) (block_proj m c t) (block_post m c t) d)
  · rw [← _root_.Cross.score_scaled]
    refine _root_.Cross.score_congr (fun k => _root_.Cross.query_congr (fun e => ?_) (block_query m c t) k) (fun u l => block_memory m c t _ u l _ rfl) n u
    rw [show (fun e => iblk m c 0 t (ix3 0 r e)) = fun e => argX m c (ix3 (tb t) (row t r) e) from funext (block_x m c t r),
      show (fun e => iblk m c 2 t (ix2 0 e)) = fun e => argPre m c (ix1 e) from funext (block_pre m c t)]
  · exact block_memory m c t _ u l _ (by show 256 + 64 * n.val + l.val = 64 * (4 + n.val) + l.val; omega)

theorem flushed_eq (t : Fin cfg0.N) (_ : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  funext j
  have hj : (j : S1x1024x1024.Idx) = ix3 0 (j 1) (j 2) := by
    funext a
    match a with
    | ⟨0, _⟩ => exact Subsingleton.elim (α := Fin 1) _ _
    | ⟨1, _⟩ => rfl
    | ⟨2, _⟩ => rfl
  show left m c t (j : S1x1024x1024.Idx) = result m c (((cfg0.win 6).blk t).view.emb j)
  refine (congrArg (left m c t) hj).trans ((left_apply m c t (j 1) (j 2)).trans ?_)
  unfold result
  have e := index_o t
  have j0 : (j 0 : Nat) < 1 := (j 0).isLt
  have h0 : (((cfg0.win 6).blk t).view.emb j) 0 = tb t := Fin.ext (by
    show win0_6.index t 0 * 1 + 1 * (j 0).val = (tb t).val
    rw [e]; show (tb t).val * 1 + 1 * (j 0).val = _; omega)
  have h1 : (((cfg0.win 6).blk t).view.emb j) 1 = row t (j 1) := Fin.ext (by
    show win0_6.index t 1 * 1024 + 1 * (j 1).val = 1024 * (ti t).val + (j 1).val
    rw [e]; show (ti t).val * 1024 + 1 * (j 1).val = _; omega)
  have h2 : (((cfg0.win 6).blk t).view.emb j) 2 = j 2 := Fin.ext (by
    show win0_6.index t 2 * 1024 + 1 * (j 2).val = (j 2).val
    rw [e]; show 0 * 1024 + 1 * (j 2).val = _; omega)
  rw [h0, h1, h2]

/-- The point that writes a block of rows. -/
theorem point (b : Fin 16) (i : Fin 4) : ∃ t : Fin cfg0.N, tb t = b ∧ ti t = i := by
  have key : ∀ (b : Fin 16) (i : Fin 4), ∃ hlt : b.val * 4 + i.val < grid0.N,
      (grid0.coords ⟨b.val * 4 + i.val, hlt⟩ 0).val = b.val ∧ (grid0.coords ⟨b.val * 4 + i.val, hlt⟩ 1).val = i.val := by decide +kernel
  obtain ⟨hlt, h0, h1⟩ := key b i
  exact ⟨⟨_, hlt⟩, Fin.ext h0, Fin.ext h1⟩

theorem final : (dats m 0 c).arrAt 6 cfg0.N = result m c :=
  (dats m 0 c).arrAt_eq_of_cover 6 (result m c) (flushed_eq m c) fun i => by
    have i0 : (i 0 : Nat) < 16 := (i 0).isLt
    have i1 : (i 1 : Nat) < 4096 := (i 1).isLt
    have i2 : (i 2 : Nat) < 1024 := (i 2).isLt
    obtain ⟨t, h0, h1⟩ := point ⟨(i 0 : Nat), i0⟩ ⟨(i 1 : Nat) / 1024, by omega⟩
    have e := index_o t
    rw [h0, h1] at e
    refine ⟨t, flush0_6 t, ?_⟩
    show i ∈ ((View.whole main_v8).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [e]; show (i 0 : Nat) * 1 ≤ (i 0 : Nat) ∧ (i 0 : Nat) < (i 0 : Nat) * 1 + 1; omega
    | ⟨1, _⟩ => show win0_6.index t 1 * 1024 ≤ (i 1 : Nat) ∧ (i 1 : Nat) < win0_6.index t 1 * 1024 + 1024
                rw [e]; show (i 1 : Nat) / 1024 * 1024 ≤ (i 1 : Nat) ∧ (i 1 : Nat) < (i 1 : Nat) / 1024 * 1024 + 1024; omega
    | ⟨2, _⟩ => show win0_6.index t 2 * 1024 ≤ (i 2 : Nat) ∧ (i 2 : Nat) < win0_6.index t 2 * 1024 + 1024
                rw [e]; show 0 * 1024 ≤ (i 2 : Nat) ∧ (i 2 : Nat) < 0 * 1024 + 1024; omega

end Cert.Kernel5Ideal.Cross

end
-- ==== Proof.CrossReference.lean ====
/-
  The cross-attention reference's result over the extended reals, element by element.
-/
module

public import proofs.«01_k».proof.Proof.Gen.Reference5Ideal.Run
public import Idealize.ShloMosaic.Lib.Pointwise
public import proofs.«01_k».proof.Proof.MergeReference
public import proofs.«01_k».proof.Proof.Reference
public import proofs.«01_k».proof.Proof.Cross

@[expose] public section

set_option maxRecDepth 16384

noncomputable section

namespace Cert.Reference5Ideal.Cross

open Idealize.ShloMosaic Idealize.ShloMosaic.TcCoe Cert.Reference5Ideal Cert.Reference5Ideal.Gen Cert.Reference5Ideal.Value

variable (m : (ℓ : Loc nD τ sig) → Buf (Elt Ideal) ℓ) (c : Dev nD)

abbrev argX : FVec Ideal S16x4096x1024 .f32 := m ((c : Thread nD τ).loc main_arg0)
abbrev argKv : FVec Ideal S16x256x512 .bf16 := m ((c : Thread nD τ).loc main_arg1)
abbrev argPre : FVec Ideal S1024 .f32 := m ((c : Thread nD τ).loc main_arg2)
abbrev argQ : FVec Ideal S1024x256 .f32 := m ((c : Thread nD τ).loc main_arg3)
abbrev argOut : FVec Ideal S256x1024 .f32 := m ((c : Thread nD τ).loc main_arg4)
abbrev argPost : FVec Ideal S1024 .f32 := m ((c : Thread nD τ).loc main_arg5)

/-- The queries in heads. -/
def queries (h : FVec Ideal S16x4096x1024 .f32) (w : FVec Ideal S1024x256 .f32) : FVec Ideal S16x4096x4x64 .f32 :=
  shapeCast S16x4096x4x64 (Host.dotGeneral dot_S16x4096x1024_S1024x256_S16x4096x256_2_0_01_1_n_n none h w : FVec Ideal S16x4096x256 .f32) shapeCasts_S16x4096x256_S16x4096x4x64

/-- The memory's keys and its values, in heads. -/
def halves (kv : FVec Ideal S16x256x512 .bf16) : FVec Ideal S16x256x2x4x64 .f32 :=
  shapeCast S16x256x2x4x64 (extf .f32 kv bitsLt_bf16_f32) shapeCasts_S16x256x512_S16x256x2x4x64
def keys (kv : FVec Ideal S16x256x512 .bf16) : FVec Ideal S16x256x4x64 .f32 :=
  shapeCast S16x256x4x64 (extractStridedSlice S16x256x1x4x64 ![0, 0, 0, 0, 0] (halves kv) slices_S16x256x2x4x64_S16x256x1x4x64_0_0_0_0_0) shapeCasts_S16x256x1x4x64_S16x256x4x64
def values (kv : FVec Ideal S16x256x512 .bf16) : FVec Ideal S16x256x4x64 .f32 :=
  shapeCast S16x256x4x64 (extractStridedSlice S16x256x1x4x64 ![0, 0, 1, 0, 0] (halves kv) slices_S16x256x2x4x64_S16x256x1x4x64_0_0_1_0_0) shapeCasts_S16x256x1x4x64_S16x256x4x64

/-- The scaled scores. -/
def scores (q : FVec Ideal S16x4096x4x64 .f32) (k : FVec Ideal S16x256x4x64 .f32) : FVec Ideal S16x4x4096x256 .f32 :=
  mulf (Host.dotGeneral dot_S16x4096x4x64_S16x256x4x64_S16x4x4096x256_3_3_1_1_02_02 none q k) (broadcastInDim S16x4x4096x256 ![] bcast_S_S16x4x4096x256 (constant S_ .f32 0x3E000000#32))

/-- A row's greatest element, as the program computes it. -/
def rowMax (A : FVec Ideal S16x4x4096x256 .f32) : FVec Ideal S16x4x4096 .f32 :=
  maximumf (broadcastInDim S16x4x4096 ![] bcast_S_S16x4x4096 (constant S_ .f32 0xFF800000#32)) (Host.reduce FloatOps.maximumf A (constant S_ .f32 0xFF800000#32) reducesTo_S16x4x4096x256_S16x4x4096_d3 h_S_)

/-- One number for each row, repeated along the row. -/
def along (A : FVec Ideal S16x4x4096 .f32) : FVec Ideal S16x4x4096x256 .f32 :=
  broadcastInDim S16x4x4096x256 ![0, 1, 2, 3] bcast_S16x4x4096x1_S16x4x4096x256_0_1_2_3 (broadcastInDim S16x4x4096x1 ![0, 1, 2] bcast_S16x4x4096_S16x4x4096x1_0_1_2 A)

/-- A row's sum, as the program computes it. -/
def rowSum (A : FVec Ideal S16x4x4096x256 .f32) : FVec Ideal S16x4x4096 .f32 :=
  Host.reduceAdd A (constant S_ .f32 0x00000000#32) reducesTo_S16x4x4096x256_S16x4x4096_d3 h_S_

/-- The weights before they are normalised. -/
def weights (s : FVec Ideal S16x4x4096x256 .f32) : FVec Ideal S16x4x4096x256 .f32 := Host.exp (subf s (along (rowMax s)))

/-- The weights applied to the values. -/
def applied (v : FVec Ideal S16x256x4x64 .f32) (w : FVec Ideal S16x4x4096x256 .f32) : FVec Ideal S16x4x64x4096 .f32 :=
  Host.dotGeneral dot_S16x256x4x64_S16x4x4096x256_S16x4x64x4096_1_3_3_2_02_01 none v w

/-- The heads side by side. -/
def joined (o : FVec Ideal S16x4x64x4096 .f32) : FVec Ideal S16x4096x256 .f32 :=
  shapeCast S16x4096x256 (transpose S16x4096x4x64 [0, 3, 1, 2] o transposes_S16x4x64x4096_S16x4096x4x64_0_3_1_2) shapeCasts_S16x4096x4x64_S16x4096x256

/-- The heads projected. -/
def project (a : FVec Ideal S16x4096x256 .f32) (o : FVec Ideal S256x1024 .f32) : FVec Ideal S16x4096x1024 .f32 :=
  Host.dotGeneral dot_S16x4096x256_S256x1024_S16x4096x1024_2_0_01_1_n_n none a o

/-- The heads' results from the scores. -/
def attended (s : FVec Ideal S16x4x4096x256 .f32) (v : FVec Ideal S16x256x4x64 .f32) : FVec Ideal S16x4x64x4096 .f32 :=
  applied v (Host.divf (weights s) (along (rowSum (weights s))))

theorem res_eq : res_main_v52 m c = addf (argX m c) (Cert.Reference3Ideal.Mixer.rms (project (joined (attended
    (scores (queries (Cert.Reference3Ideal.Mixer.rms (argX m c) (argPre m c)) (argQ m c)) (keys (argKv m c))) (values (argKv m c)))) (argOut m c)) (argPost m c)) := rfl

theorem queries_apply (h : FVec Ideal S16x4096x1024 .f32) (w : FVec Ideal S1024x256 .f32) (b : Fin 16) (s : Fin 4096) (n : Fin 4) (l : Fin 64) :
    @Eq EReal (queries h w (ix4 b s n l)) (_root_.Cross.query (fun e => h (ix3 b s e)) (fun e k => w (ix2 e k)) (_root_.Cross.column n l)) := by
  unfold queries _root_.Cross.query
  pointwise [dot_S16x4096x1024_S1024x256_S16x4096x256_2_0_01_1_n_n]
  refine Finset.sum_congr rfl fun e _ => congrArg (fun k => (h (ix3 b s e) : EReal) * w (ix2 e k)) (Fin.ext ?_)
  simp only []
  omega

theorem halves_apply (kv : FVec Ideal S16x256x512 .bf16) (b : Fin 16) (t : Fin 256) (p : Fin 2) (n : Fin 4) (l : Fin 64) (j : Fin 512) (hj : j.val = 256 * p.val + 64 * n.val + l.val) :
    @Eq EReal (halves kv (ix5 b t p n l)) (kv (ix3 b t j)) := by
  unfold halves
  pointwise
  refine congrArg (fun j => (kv (ix3 b t j) : EReal)) (Fin.ext ?_)
  simp only [hj]
  omega

theorem keys_apply (kv : FVec Ideal S16x256x512 .bf16) (b : Fin 16) (t : Fin 256) (n : Fin 4) (l : Fin 64) :
    @Eq EReal (keys kv (ix4 b t n l)) (kv (ix3 b t (_root_.Cross.keyColumn n l))) := by
  have e : @Eq EReal (keys kv (ix4 b t n l)) (halves kv (ix5 b t 0 n l)) := by
    unfold keys
    generalize halves kv = z
    pointwise
  exact e.trans (halves_apply kv b t 0 n l _ (by show 64 * n.val + l.val = 256 * 0 + 64 * n.val + l.val; omega))

theorem values_apply (kv : FVec Ideal S16x256x512 .bf16) (b : Fin 16) (t : Fin 256) (n : Fin 4) (l : Fin 64) :
    @Eq EReal (values kv (ix4 b t n l)) (kv (ix3 b t (_root_.Cross.valueColumn n l))) := by
  have e : @Eq EReal (values kv (ix4 b t n l)) (halves kv (ix5 b t 1 n l)) := by
    unfold values
    generalize halves kv = z
    pointwise
  exact e.trans (halves_apply kv b t 1 n l _ (by show 256 + 64 * n.val + l.val = 256 * 1 + 64 * n.val + l.val; omega))

theorem scores_apply (q : FVec Ideal S16x4096x4x64 .f32) (k : FVec Ideal S16x256x4x64 .f32) (b : Fin 16) (n : Fin 4) (s : Fin 4096) (t : Fin 256) :
    @Eq EReal (scores q k (ix4 b n s t)) ((∑ d : Fin 64, q (ix4 b s n d) * k (ix4 b t n d)) * _root_.Cross.scale) := by
  unfold scores
  pointwise [dot_S16x4096x4x64_S16x256x4x64_S16x4x4096x256_3_3_1_1_02_02]

theorem least_apply (j : S16x4x4096.Idx) :
    @Eq EReal (broadcastInDim S16x4x4096 ![] bcast_S_S16x4x4096 (constant (F := Ideal) S_ .f32 0xFF800000#32) j) ⊥ := Order.least

theorem rowMax_apply (A : FVec Ideal S16x4x4096x256 .f32) (b : Fin 16) (n : Fin 4) (s : Fin 4096) :
    @Eq EReal (rowMax A (ix3 b n s)) (Finset.univ.sup fun t : Fin 256 => A (ix4 b n s t)) := by
  have z : @Eq EReal (constant (F := Ideal) S_ .f32 0xFF800000#32 (Shape.Idx.first h_S_)) ⊥ := Order.least
  unfold rowMax
  rw [Cert.ReferenceIdeal.Attn.maximum_apply, least_apply]
  refine (congrArg (fun y : EReal => max ⊥ y) (Cert.ReferenceIdeal.Attn.reduceMax_apply 16 4 4096 256 A _ _ b n s)).trans ?_
  rw [z]
  exact Order.fold_sup _ _

theorem along_apply (A : FVec Ideal S16x4x4096 .f32) (b : Fin 16) (n : Fin 4) (s : Fin 4096) (t : Fin 256) : along A (ix4 b n s t) = A (ix3 b n s) := by
  unfold along
  pointwise

theorem rowSum_apply (A : FVec Ideal S16x4x4096x256 .f32) (b : Fin 16) (n : Fin 4) (s : Fin 4096) :
    @Eq EReal (rowSum A (ix3 b n s)) (∑ t : Fin 256, A (ix4 b n s t)) := by
  unfold rowSum
  pointwise

theorem weights_apply (z : FVec Ideal S16x4x4096x256 .f32) (b : Fin 16) (n : Fin 4) (s : Fin 4096) (t : Fin 256) :
    @Eq EReal (weights z (ix4 b n s t)) (Ideal.exp (z (ix4 b n s t) - Finset.univ.sup fun t : Fin 256 => z (ix4 b n s t))) := by
  have e : @Eq EReal (weights z (ix4 b n s t)) (Ideal.exp (z (ix4 b n s t) - along (rowMax z) (ix4 b n s t))) := rfl
  rw [e, along_apply, rowMax_apply]

theorem applied_apply (v : FVec Ideal S16x256x4x64 .f32) (w : FVec Ideal S16x4x4096x256 .f32) (b : Fin 16) (n : Fin 4) (l : Fin 64) (s : Fin 4096) :
    @Eq EReal (applied v w (ix4 b n l s)) (∑ t : Fin 256, v (ix4 b t n l) * w (ix4 b n s t)) := by
  unfold applied
  pointwise [dot_S16x256x4x64_S16x4x4096x256_S16x4x64x4096_1_3_3_2_02_01]

theorem attended_apply (z : FVec Ideal S16x4x4096x256 .f32) (v : FVec Ideal S16x256x4x64 .f32) (b : Fin 16) (n : Fin 4) (l : Fin 64) (s : Fin 4096) :
    @Eq EReal (attended z v (ix4 b n l s)) (_root_.Cross.attended (fun t => z (ix4 b n s t)) (fun t l => v (ix4 b t n l)) l) := by
  unfold attended _root_.Cross.attended
  rw [applied_apply]
  refine Finset.sum_congr rfl fun t _ => (mul_comm _ _).trans ?_
  have e : @Eq EReal (Host.divf (weights z) (along (rowSum (weights z))) (ix4 b n s t)) (Ideal.div (weights z (ix4 b n s t)) (along (rowSum (weights z)) (ix4 b n s t))) := rfl
  rw [e, along_apply, rowSum_apply, weights_apply]
  simp only [weights_apply]

theorem joined_apply (o : FVec Ideal S16x4x64x4096 .f32) (b : Fin 16) (s : Fin 4096) (k : Fin 256) :
    @Eq EReal (joined o (ix3 b s k)) (o (ix4 b (_root_.Cross.head k) (_root_.Cross.lane k) s)) := by
  unfold joined
  pointwise

theorem project_apply (a : FVec Ideal S16x4096x256 .f32) (o : FVec Ideal S256x1024 .f32) (b : Fin 16) (s : Fin 4096) (d : Fin 1024) :
    @Eq EReal (project a o (ix3 b s d)) (∑ k : Fin 256, a (ix3 b s k) * o (ix2 k d)) := by
  unfold project
  pointwise [dot_S16x4096x256_S256x1024_S16x4096x1024_2_0_01_1_n_n]

theorem res_apply (b : Fin 16) (s : Fin 4096) (d : Fin 1024) :
    @Eq EReal (res_main_v52 m c (ix3 b s d))
      (_root_.Cross.out (fun e => argX m c (ix3 b s e))
        (fun n u => _root_.Cross.score (_root_.Cross.query (Ffn.normed (fun e => argX m c (ix3 b s e)) (fun e => argPre m c (ix1 e))) (fun e k => argQ m c (ix2 e k)))
          (fun u l => argKv m c (ix3 b u (_root_.Cross.keyColumn n l))) n u * _root_.Cross.scale)
        (fun n u l => argKv m c (ix3 b u (_root_.Cross.valueColumn n l))) (fun k d => argOut m c (ix2 k d)) (fun e => argPost m c (ix1 e)) d) := by
  rw [res_eq, Cert.Reference3Ideal.Mixer.addf_apply', Cert.Reference3Ideal.Mixer.rms_apply]
  unfold _root_.Cross.out
  refine congrArg (fun y => (argX m c (ix3 b s d) : EReal) + Ffn.normed y (fun e => argPost m c (ix1 e)) d) (funext fun e => ?_)
  refine (project_apply _ _ b s e).trans ?_
  unfold _root_.Cross.projected
  refine Finset.sum_congr rfl fun k _ => congrArg (fun a : EReal => a * _) ?_
  refine (joined_apply _ b s k).trans ((attended_apply _ _ b _ _ s).trans (_root_.Cross.attended_congr (fun t => ?_) (fun t l => values_apply _ b t _ l) _))
  refine (scores_apply _ _ b _ s t).trans (congrArg (fun y : EReal => y * _root_.Cross.scale) ?_)
  unfold _root_.Cross.score
  refine Finset.sum_congr rfl fun d _ => congrArg₂ (fun a b : EReal => a * b) ?_ (keys_apply _ b t _ d)
  exact (queries_apply _ _ b s _ d).trans (_root_.Cross.query_congr (fun e => Cert.Reference3Ideal.Mixer.rms_apply _ _ b s e) (fun _ _ => rfl) _)

end Cert.Reference5Ideal.Cross

end
-- ==== Proof.Memory.lean ====
/-
  The keys and values of the memory over the extended reals, element by element: what a grid point of the call writes, the
  array the call leaves and the reference's result, each the product of a normed row with the weights.
-/
module

public import proofs.«01_k».proof.Proof.Gen.Kernel6Ideal.Value
public import proofs.«01_k».proof.Proof.Gen.Reference6Ideal.Run
public import Idealize.ShloMosaic.Lib.Pointwise
public import Idealize.ShloMosaic.Lib.StableHlo.Run
public import proofs.«01_k».proof.Proof.Ffn

@[expose] public section

set_option maxRecDepth 16384

noncomputable section

namespace Memory

/-- Column `k` of a normed row's product with the weights. -/
def column (x g : Fin 1024 → EReal) (w : Fin 1024 → Fin 512 → EReal) (k : Fin 512) : EReal := ∑ e, Ffn.normed x g e * w e k

theorem column_congr {x x' g g' : Fin 1024 → EReal} {w w' : Fin 1024 → Fin 512 → EReal} (ex : ∀ e, x e = x' e) (eg : ∀ e, g e = g' e)
    (ew : ∀ e k, w e k = w' e k) (k : Fin 512) : column x g w k = column x' g' w' k := by
  obtain rfl := funext ex
  obtain rfl := funext eg
  obtain rfl := funext fun e => funext (ew e)
  rfl

end Memory

namespace Cert.Kernel6Ideal.Memory

open Idealize.ShloMosaic Idealize.ShloMosaic.TcCoe Cert.Kernel6Ideal Cert.Kernel6Ideal.Gen Idealize.ShloMosaic.StableHlo
open Idealize.ShloMosaic.Pipeline (Dat Cfg Window)

/-! ## A block -/

/-- The norm of a block of rows as the program computes it. -/
def rms (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)

/-- The block of rows without its unit axis. -/
def rows (x : FVec Ideal S1x256x1024 .f32) : FVec Ideal S256x1024 .f32 := shapeCast S256x1024 x shapeCasts_S1x256x1024_S256x1024

/-- The product with the weights, as it is written. -/
def written (h : FVec Ideal S256x1024 .bf16) (w : FVec Ideal S1024x512 .bf16) : FVec Ideal S1x256x512 .bf16 :=
  shapeCast S1x256x512 (truncf .bf16 (matmul dot_S256x1024_S1024x512_S256x512_1_0_0_1_n_n none h (shapeCast S1024x512 w shapeCasts_S1024x512_S1024x512) (constant S256x512 .f32 0x00000000#32)) bitsLt_bf16_f32)
    shapeCasts_S256x512_S1x256x512

theorem rms_apply (x : FVec Ideal S256x1024 .f32) (g : FVec Ideal S1x1024 .f32) (r : Fin 256) (d : Fin 1024) :
    @Eq EReal (rms x g (ix2 r d)) (Ffn.normed (fun e => x (ix2 r e)) (fun e => g (ix2 0 e)) d) := by
  unfold rms Ffn.normed
  pointwise

theorem rows_apply (x : FVec Ideal S1x256x1024 .f32) (r : Fin 256) (d : Fin 1024) : @Eq EReal (rows x (ix2 r d)) (x (ix3 0 r d)) := by
  unfold rows
  pointwise

theorem written_apply (h : FVec Ideal S256x1024 .bf16) (w : FVec Ideal S1024x512 .bf16) (r : Fin 256) (k : Fin 512) :
    @Eq EReal (written h w (ix3 0 r k)) (∑ e : Fin 1024, h (ix2 r e) * w (ix2 e k)) := by
  unfold written
  pointwise [dot_S256x1024_S1024x512_S256x512_1_0_0_1_n_n]

theorem zero_offset : (![0, 0] : Fin 2 → ℕ) = fun _ => 0 := by
  funext a
  match a with
  | ⟨0, _⟩ => rfl
  | ⟨1, _⟩ => rfl

theorem zero_offset3 : (![0, 0, 0] : Fin 3 → ℕ) = fun _ => 0 := by
  funext a
  match a with
  | ⟨0, _⟩ => rfl
  | ⟨1, _⟩ => rfl
  | ⟨2, _⟩ => rfl

section Body
variable (x0 : Vec Ideal S1x256x1024 .f32) (x1 : Vec Ideal S1x1024 .f32) (x2 : Vec Ideal S1024x512 .bf16)

theorem out_eq : out0_3 x0 x1 x2 = View.canon [⟨r0_3, written (truncf .bf16 (rms (rows (View.ld x0 r0_0)) (View.ld x1 r0_1)) bitsLt_bf16_f32) (View.ld x2 r0_2)⟩] := rfl

theorem out_vector : out0_3 x0 x1 x2 = written (truncf .bf16 (rms (rows x0) x1) bitsLt_bf16_f32) x2 := by
  rw [out_eq, show View.ld x0 r0_0 = x0 from View.ld_unit_zero zero_offset3 _ x0, show View.ld x1 r0_1 = x1 from View.ld_unit_zero zero_offset _ x1,
    show View.ld x2 r0_2 = x2 from View.ld_unit_zero zero_offset _ x2]
  exact View.canon_unit_zero zero_offset3 _ _

theorem out_apply (r : Fin 256) (k : Fin 512) :
    @Eq EReal (out0_3 x0 x1 x2 (ix3 0 r k)) (_root_.Memory.column (fun e => x0 (ix3 0 r e)) (fun e => x1 (ix2 0 e)) (fun e k => x2 (ix2 e k)) k) := by
  rw [out_vector, written_apply]
  refine Finset.sum_congr rfl fun e _ => congrArg (fun a : EReal => a * _) ((rms_apply (rows x0) x1 r e).trans ?_)
  exact congrArg (fun x => Ffn.normed x _ e) (funext fun e => rows_apply x0 r e)

end Body

/-! ## The array -/

variable (m : (ℓ : Loc nD τ sig) → Buf (Elt Ideal) ℓ) (c : Dev nD)

abbrev argMem : FVec Ideal S16x256x1024 .f32 := m ((c : Thread nD τ).loc main_arg0)
abbrev argGain : FVec Ideal S1024 .f32 := m ((c : Thread nD τ).loc main_arg1)
abbrev argW : FVec Ideal S1024x512 .f32 := m ((c : Thread nD τ).loc main_arg2)

theorem gain_apply (d : Fin 1024) : @Eq EReal (V m c main_v0 (ix2 0 d)) (argGain m c (ix1 d)) := by
  have h : V m c main_v0 = broadcastInDim S1x1024 ![1] bcast_S1024_S1x1024_1 (argGain m c) := by
    unfold V; simp only [hostOps0]; after_results_simp
  rw [h]
  pointwise

theorem weights_eq : V m c main_v1 = truncf .bf16 (argW m c) bitsLt_bf16_f32 := by
  unfold V; simp only [hostOps0]; after_results_simp

section Blocks
variable (t : Fin cfg0.N)

abbrev tb : Fin 16 := grid0.coords t 0

theorem index_x : win0_0.index t = ![(tb t).val, 0, 0] := by
  show ![(BitVec.ofNat 32 (tb t).val).toNat, 0, 0] = _
  rw [BitVec.toNat_ofNat, Nat.mod_eq_of_lt (by omega)]

theorem index_o : win0_3.index t = ![(tb t).val, 0, 0] := index_x t

theorem block_x (r : Fin 256) (d : Fin 1024) : @Eq EReal (iblk m c 0 t (ix3 0 r d)) (argMem m c (ix3 (tb t) r d)) := by
  have h : V m c main_arg0 = argMem m c := V_main_arg0 m c
  rw [← h]
  show V m c main_arg0 _ = V m c main_arg0 _
  congr 1
  funext a
  apply Fin.ext
  have e := index_x t
  match a with
  | ⟨0, _⟩ => show win0_0.index t 0 * 1 + 1 * 0 = (tb t).val; rw [e]; show (tb t).val * 1 + 1 * 0 = _; omega
  | ⟨1, _⟩ => show win0_0.index t 1 * 256 + 1 * r.val = r.val; rw [e]; show 0 * 256 + 1 * r.val = _; omega
  | ⟨2, _⟩ => show win0_0.index t 2 * 1024 + 1 * d.val = d.val; rw [e]; show 0 * 1024 + 1 * d.val = _; omega

theorem block_gain (d : Fin 1024) : @Eq EReal (iblk m c 1 t (ix2 0 d)) (argGain m c (ix1 d)) := by
  rw [← gain_apply]
  show V m c main_v0 _ = V m c main_v0 _
  congr 1
  funext a
  apply Fin.ext
  match a with
  | ⟨0, _⟩ => rfl
  | ⟨1, _⟩ => show 0 * 1024 + 1 * d.val = d.val; omega

theorem block_w (e : Fin 1024) (k : Fin 512) : @Eq EReal (iblk m c 2 t (ix2 e k)) (argW m c (ix2 e k)) := by
  have h : @Eq EReal (argW m c (ix2 e k)) (V m c main_v1 (ix2 e k)) := by
    rw [weights_eq]
    rfl
  rw [h]
  show V m c main_v1 _ = V m c main_v1 _
  congr 1
  funext a
  apply Fin.ext
  match a with
  | ⟨0, _⟩ => show 0 * 1024 + 1 * e.val = e.val; omega
  | ⟨1, _⟩ => show 0 * 512 + 1 * k.val = k.val; omega

end Blocks

/-- The keys and values at one place. -/
def memory (b : Fin 16) (r : Fin 256) (k : Fin 512) : EReal :=
  _root_.Memory.column (fun e => argMem m c (ix3 b r e)) (fun e => argGain m c (ix1 e)) (fun e k => argW m c (ix2 e k)) k

/-- The whole array. -/
def result : Buf (Elt Ideal) ((c : Thread nD τ).loc main_v2) := fun i => memory m c (i 0) (i 1) (i 2)

/-- What the body leaves in its block at point `t`. -/
def left (t : Fin cfg0.N) : Vec Ideal S1x256x512 .bf16 := out0_3 (iblk m c 0 t) (iblk m c 1 t) (iblk m c 2 t)

theorem left_apply (t : Fin cfg0.N) (r : Fin 256) (k : Fin 512) : @Eq EReal (left m c t (ix3 0 r k)) (memory m c (tb t) r k) :=
  (out_apply _ _ _ r k).trans (_root_.Memory.column_congr (block_x m c t r) (block_gain m c t) (block_w m c t) k)

theorem flushed_eq (t : Fin cfg0.N) (_ : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  funext j
  have hj : (j : S1x256x512.Idx) = ix3 0 (j 1) (j 2) := by
    funext a
    match a with
    | ⟨0, _⟩ => exact Subsingleton.elim (α := Fin 1) _ _
    | ⟨1, _⟩ => rfl
    | ⟨2, _⟩ => rfl
  show left m c t (j : S1x256x512.Idx) = result m c (((cfg0.win 3).blk t).view.emb j)
  refine (congrArg (left m c t) hj).trans ((left_apply m c t (j 1) (j 2)).trans ?_)
  unfold result
  have e := index_o t
  have j0 : (j 0 : Nat) < 1 := (j 0).isLt
  have h0 : (((cfg0.win 3).blk t).view.emb j) 0 = tb t := Fin.ext (by
    show win0_3.index t 0 * 1 + 1 * (j 0).val = (tb t).val
    rw [e]; show (tb t).val * 1 + 1 * (j 0).val = _; omega)
  have h1 : (((cfg0.win 3).blk t).view.emb j) 1 = j 1 := Fin.ext (by
    show win0_3.index t 1 * 256 + 1 * (j 1).val = (j 1).val
    rw [e]; show 0 * 256 + 1 * (j 1).val = _; omega)
  have h2 : (((cfg0.win 3).blk t).view.emb j) 2 = j 2 := Fin.ext (by
    show win0_3.index t 2 * 512 + 1 * (j 2).val = (j 2).val
    rw [e]; show 0 * 512 + 1 * (j 2).val = _; omega)
  rw [h0, h1, h2]

/-- The point that writes a batch. -/
theorem point (b : Fin 16) : ∃ t : Fin cfg0.N, tb t = b := by
  have key : ∀ b : Fin 16, ∃ hlt : b.val < grid0.N, (grid0.coords ⟨b.val, hlt⟩ 0).val = b.val := by decide +kernel
  obtain ⟨hlt, h0⟩ := key b
  exact ⟨⟨_, hlt⟩, Fin.ext h0⟩

theorem final : (dats m 0 c).arrAt 3 cfg0.N = result m c :=
  (dats m 0 c).arrAt_eq_of_cover 3 (result m c) (flushed_eq m c) fun i => by
    have i0 : (i 0 : Nat) < 16 := (i 0).isLt
    have i1 : (i 1 : Nat) < 256 := (i 1).isLt
    have i2 : (i 2 : Nat) < 512 := (i 2).isLt
    obtain ⟨t, h0⟩ := point ⟨(i 0 : Nat), i0⟩
    have e := index_o t
    rw [h0] at e
    refine ⟨t, flush0_3 t, ?_⟩
    show i ∈ ((View.whole main_v2).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [e]; show (i 0 : Nat) * 1 ≤ (i 0 : Nat) ∧ (i 0 : Nat) < (i 0 : Nat) * 1 + 1; omega
    | ⟨1, _⟩ => show win0_3.index t 1 * 256 ≤ (i 1 : Nat) ∧ (i 1 : Nat) < win0_3.index t 1 * 256 + 256
                rw [e]; show 0 * 256 ≤ (i 1 : Nat) ∧ (i 1 : Nat) < 0 * 256 + 256; omega
    | ⟨2, _⟩ => show win0_3.index t 2 * 512 ≤ (i 2 : Nat) ∧ (i 2 : Nat) < win0_3.index t 2 * 512 + 512
                rw [e]; show 0 * 512 ≤ (i 2 : Nat) ∧ (i 2 : Nat) < 0 * 512 + 512; omega

end Cert.Kernel6Ideal.Memory

namespace Cert.Reference6Ideal.Memory

open Idealize.ShloMosaic Idealize.ShloMosaic.TcCoe Cert.Reference6Ideal Cert.Reference6Ideal.Gen Cert.Reference6Ideal.Value

variable (m : (ℓ : Loc nD τ sig) → Buf (Elt Ideal) ℓ) (c : Dev nD)

abbrev argMem : FVec Ideal S16x256x1024 .f32 := m ((c : Thread nD τ).loc main_arg0)
abbrev argGain : FVec Ideal S1024 .f32 := m ((c : Thread nD τ).loc main_arg1)
abbrev argW : FVec Ideal S1024x512 .f32 := m ((c : Thread nD τ).loc main_arg2)

/-- The norm as the program computes it. -/
def rms (x : FVec Ideal S16x256x1024 .f32) (g : FVec Ideal S1024 .f32) : FVec Ideal S16x256x1024 .f32 :=
  mulf (mulf x (broadcastInDim S16x256x1024 ![0, 1, 2] bcast_S16x256x1_S16x256x1024_0_1_2 (Host.rsqrt (addf (Host.divf
    (broadcastInDim S16x256x1 ![0, 1] bcast_S16x256_S16x256x1_0_1 (Host.reduceAdd (mulf x x) (constant S_ .f32 0x00000000#32) reducesTo_S16x256x1024_S16x256_d2 h_S_))
    (broadcastInDim S16x256x1 ![] bcast_S_S16x256x1 (constant S_ .f32 0x44800000#32))) (broadcastInDim S16x256x1 ![] bcast_S_S16x256x1 (constant S_ .f32 0x358637BD#32))))))
    (broadcastInDim S16x256x1024 ![0, 1, 2] bcast_S1x1x1024_S16x256x1024_0_1_2 (broadcastInDim S1x1x1024 ![2] bcast_S1024_S1x1x1024_2 g))

/-- The product with the weights. -/
def product (h : FVec Ideal S16x256x1024 .f32) (w : FVec Ideal S1024x512 .f32) : FVec Ideal S16x256x512 .bf16 :=
  truncf .bf16 (Host.dotGeneral dot_S16x256x1024_S1024x512_S16x256x512_2_0_01_1_n_n none h w : FVec Ideal S16x256x512 .f32) bitsLt_bf16_f32

/-- The result. -/
def res : FVec Ideal S16x256x512 .bf16 := product (rms (argMem m c) (argGain m c)) (argW m c)

theorem rms_apply (x : FVec Ideal S16x256x1024 .f32) (g : FVec Ideal S1024 .f32) (b : Fin 16) (s : Fin 256) (d : Fin 1024) :
    @Eq EReal (rms x g (ix3 b s d)) (Ffn.normed (fun e => x (ix3 b s e)) (fun e => g (ix1 e)) d) := by
  unfold rms Ffn.normed
  pointwise

theorem product_apply (h : FVec Ideal S16x256x1024 .f32) (w : FVec Ideal S1024x512 .f32) (b : Fin 16) (s : Fin 256) (k : Fin 512) :
    @Eq EReal (product h w (ix3 b s k)) (∑ e : Fin 1024, h (ix3 b s e) * w (ix2 e k)) := by
  unfold product
  pointwise [dot_S16x256x1024_S1024x512_S16x256x512_2_0_01_1_n_n]

theorem res_apply (b : Fin 16) (s : Fin 256) (k : Fin 512) :
    @Eq EReal (res m c (ix3 b s k))
      (_root_.Memory.column (fun e => argMem m c (ix3 b s e)) (fun e => argGain m c (ix1 e)) (fun e k => argW m c (ix2 e k)) k) := by
  unfold res
  rw [product_apply]
  exact Finset.sum_congr rfl fun e _ => congrArg (fun a : EReal => a * _) (rms_apply _ _ b s e)

end Cert.Reference6Ideal.Memory

end
-- ==== Proof.Prep.lean ====
/-
  The latent attention's queries, keys and values at one row over the extended reals: the two norms of the compressed row, the
  products with the weights, the rotary part and how the parts lie in a head.
-/
module

public import proofs.«01_k».proof.Proof.Proj

@[expose] public section

noncomputable section

namespace Prep

open Idealize.ShloMosaic

/-- What the call reads for one row: the compressed row, the row with the rotary key, the row's cosines and sines, the gains, the weights. -/
structure Row where
  z : Fin 384 → EReal
  s : Fin 128 → EReal
  co : Fin 256 → EReal
  si : Fin 256 → EReal
  gq : Fin 256 → EReal
  gk : Fin 128 → EReal
  wq : Fin 256 → Fin 1024 → EReal
  wk : Fin 128 → Fin 1024 → EReal

/-- A row over its root mean square, times the gain; `N` is the width as a float. -/
def normed {n : ℕ} (N : BitVec 32) (x g : Fin n → EReal) (d : Fin n) : EReal :=
  x d * Ideal.rsqrt (Ideal.div (∑ e, x e * x e) (Ideal.ofBits .f32 N) + Ideal.ofBits .f32 0x358637BD#32) * g d

/-- Column `j` of a row's product with weights. -/
def product {n : ℕ} (h : Fin n → EReal) (w : Fin n → Fin 1024 → EReal) (j : Fin 1024) : EReal := ∑ e, h e * w e j

theorem product_congr {n : ℕ} {h h' : Fin n → EReal} {w w' : Fin n → Fin 1024 → EReal} (eh : ∀ e, h e = h' e) (ew : ∀ e j, w e j = w' e j) (j : Fin 1024) :
    product h w j = product h' w' j := Finset.sum_congr rfl fun e _ => congrArg₂ (fun a b : EReal => a * b) (eh e) (ew e j)

/-- Sixty-four columns beside thirty-two others. -/
def beside (f : Fin 64 → EReal) (a : Fin 32 → EReal) (l : Fin 96) : EReal := if h : l.val < 64 then f ⟨l.val, h⟩ else a ⟨l.val - 64, by omega⟩

theorem beside_congr {f f' : Fin 64 → EReal} {a a' : Fin 32 → EReal} (ef : ∀ l, f l = f' l) (ea : ∀ l, a l = a' l) (l : Fin 96) :
    beside f a l = beside f' a' l := congrArg₂ (fun f a => beside f a l) (funext ef) (funext ea)

theorem beside_mul (f : Fin 64 → EReal) (a : Fin 32 → EReal) (c : EReal) (l : Fin 96) :
    beside f a l * c = beside (fun l => f l * c) (fun l => a l * c) l := by
  unfold beside
  split <;> rfl

/-- The scale of the scores. -/
def scale : EReal := Ideal.ofBits .f32 0x3DD105EC#32

/-- Column `l` of head `n` of those with 64 columns, and of those with 32. -/
abbrev wide (n : Fin 8) (l : Fin 64) : Fin 512 := ⟨n.val * 64 + l.val, by omega⟩
abbrev narrow (n : Fin 8) (l : Fin 32) : Fin 256 := ⟨n.val * 32 + l.val, by omega⟩

/-- The columns of the weights that make the first 512 columns, the second, and the two quarters of the second. -/
abbrev lower (k : Fin 512) : Fin 1024 := ⟨k.val, by omega⟩
abbrev upper (k : Fin 512) : Fin 1024 := ⟨512 + k.val, by omega⟩
abbrev third (k : Fin 256) : Fin 1024 := ⟨512 + k.val, by omega⟩
abbrev fourth (k : Fin 256) : Fin 1024 := ⟨768 + k.val, by omega⟩

variable (R : Row)

/-- The normed parts of the compressed row. -/
def cq : Fin 256 → EReal := normed 0x43800000#32 (fun e => R.z ⟨e.val, by omega⟩) R.gq
def ck : Fin 128 → EReal := normed 0x43000000#32 (fun e => R.z ⟨256 + e.val, by omega⟩) R.gk

/-- The rotary parts. -/
def turned (k : Fin 256) : EReal := product (cq R) R.wq (third k) * R.co k + product (cq R) R.wq (fourth k) * R.si k
def turnedKey (l : Fin 32) : EReal := R.s ⟨l.val, by omega⟩ * R.co ⟨l.val, by omega⟩ + R.s ⟨32 + l.val, by omega⟩ * R.si ⟨l.val, by omega⟩

/-- The three heads. -/
def query (n : Fin 8) : Fin 96 → EReal := beside (fun l => product (cq R) R.wq (lower (wide n l)) * scale) (fun l => turned R (narrow n l) * scale)
def key (n : Fin 8) : Fin 96 → EReal := beside (fun l => product (ck R) R.wk (lower (wide n l))) (turnedKey R)
def value (n : Fin 8) : Fin 128 → EReal := _root_.Proj.beside (fun l => product (ck R) R.wk (upper (wide n l))) (fun l => _root_.Proj.same 0 l.val)

end Prep

end
-- ==== Proof.PrepBody.lean ====
/-
  What one grid point of the call that makes the latent attention's queries, keys and values writes, element by element over the
  extended reals.
-/
module

public import proofs.«01_k».proof.Proof.Gen.Kernel7Ideal.Frame
public import proofs.«01_k».proof.Proof.ProjBody
public import proofs.«01_k».proof.Proof.Prep

@[expose] public section

set_option maxRecDepth 16384

noncomputable section

namespace Cert.Kernel7Ideal.Prep

open Idealize.ShloMosaic Cert.Kernel7Ideal Cert.Kernel7Ideal.Gen
open Cert.Kernel4Ideal.Proj (Heads eight canon_eight slice slice_apply widened widened_apply firstColumn firstColumn_apply)

/-! ## The norms and the products -/

theorem low_apply (x : FVec Ideal S1x512x384 .f32) (g : FVec Ideal S1x256 .f32) (r : Fin 512) (d : Fin 256) :
    @Eq EReal (k0_pay5 (F := Ideal) x g (ix2 r d)) (_root_.Prep.normed 0x43800000#32 (fun e => x (ix3 0 r ⟨e.val, by omega⟩)) (fun e => g (ix2 0 e)) d) := by
  unfold k0_pay5 k0_pay4 _root_.Prep.normed
  pointwise

theorem lowKv_apply (x : FVec Ideal S1x512x384 .f32) (g : FVec Ideal S1x128 .f32) (r : Fin 512) (d : Fin 128) :
    @Eq EReal (k0_pay6 (F := Ideal) x g (ix2 r d)) (_root_.Prep.normed 0x43000000#32 (fun e => x (ix3 0 r ⟨256 + e.val, by omega⟩)) (fun e => g (ix2 0 e)) d) := by
  unfold k0_pay6 k0_pay4 _root_.Prep.normed
  pointwise

theorem scaled_apply (h : FVec Ideal S512x256 .bf16) (w : FVec Ideal S256x512 .bf16) (r k : Fin 512) :
    @Eq EReal (k0_pay9 (F := Ideal) h w (ix2 r k)) ((∑ e : Fin 256, (h (ix2 r e) : EReal) * w (ix2 e k)) * _root_.Prep.scale) := by
  unfold k0_pay9 _root_.Prep.scale
  pointwise [dot_S512x256_S256x512_S512x512_1_0_0_1_n_n]

theorem turned_apply (h : FVec Ideal S512x256 .bf16) (co si : FVec Ideal S512x256 .f32) (w w' : FVec Ideal S256x256 .bf16) (r : Fin 512) (k : Fin 256) :
    @Eq EReal (k0_pay10 (F := Ideal) h co si w w' (ix2 r k))
      (((∑ e : Fin 256, (h (ix2 r e) : EReal) * w (ix2 e k)) * co (ix2 r k) + (∑ e : Fin 256, (h (ix2 r e) : EReal) * w' (ix2 e k)) * si (ix2 r k)) * _root_.Prep.scale) := by
  unfold k0_pay10 _root_.Prep.scale
  pointwise [dot_S512x256_S256x256_S512x256_1_0_0_1_n_n]

theorem first_apply (h : FVec Ideal S512x128 .bf16) (w : FVec Ideal S128x512 .bf16) (r k : Fin 512) :
    @Eq EReal (k0_pay11 (F := Ideal) h w (ix2 r k)) (∑ e : Fin 128, (h (ix2 r e) : EReal) * w (ix2 e k)) := by
  unfold k0_pay11
  pointwise [dot_S512x128_S128x512_S512x512_1_0_0_1_n_n]

theorem second_apply (h : FVec Ideal S512x128 .bf16) (w : FVec Ideal S128x512 .bf16) (r k : Fin 512) :
    @Eq EReal (k0_pay12 (F := Ideal) h w (ix2 r k)) (∑ e : Fin 128, (h (ix2 r e) : EReal) * w (ix2 e k)) := first_apply h w r k

theorem table_apply (x : FVec Ideal S1x512x256 .f32) (r : Fin 512) (k : Fin 256) : @Eq EReal (k0_pay7 (F := Ideal) x (ix2 r k)) (x (ix3 0 r k)) := by
  unfold k0_pay7
  pointwise

theorem turnedKey_apply (co si : FVec Ideal S512x256 .f32) (s : FVec Ideal S1x512x128 .f32) (r : Fin 512) (l : Fin 32) :
    @Eq EReal (k0_pay13 (F := Ideal) co si s (ix2 r l))
      ((s (ix3 0 r ⟨l.val, by omega⟩) : EReal) * co (ix2 r ⟨l.val, by omega⟩) + (s (ix3 0 r ⟨32 + l.val, by omega⟩) : EReal) * si (ix2 r ⟨l.val, by omega⟩)) := by
  unfold k0_pay13
  pointwise

/-- Some of the columns of the weights, as they are read. -/
theorem ld_cols {K n : ℕ} (c : ℕ) (h : ∀ a, (![0, c] : Fin 2 → ℕ) a + (⟨2, ![K, n]⟩ : Shape).size a ≤ (⟨2, ![K, 1024]⟩ : Shape).size a)
    (x : Vec Ideal ⟨2, ![K, 1024]⟩ .bf16) (e : Fin K) (k : Fin n) (j : Fin 1024) (hj : j.val = c + k.val) :
    @Eq EReal (View.ld x (Rect.unit (s := ⟨2, ![K, 1024]⟩) ![0, c] (⟨2, ![K, n]⟩ : Shape).size h) (ix2 e k)) (x (ix2 e j)) := by
  show x _ = x _
  congr 1
  funext a
  apply Fin.ext
  match a with
  | ⟨0, _⟩ => show 0 + 1 * e.val = e.val; omega
  | ⟨1, _⟩ => show c + 1 * k.val = j.val; omega

/-! ## The heads as they are stored -/

theorem slices (off : ℕ) (h : off + 32 ≤ 256) : S512x256.Slices ![0, off] S512x32 :=
  ⟨rfl, fun a => by
    match a with
    | ⟨0, _⟩ => show 0 + 512 ≤ 512; omega
    | ⟨1, _⟩ => exact h⟩

/-- The 32 columns from column `off` on. -/
abbrev strip (off : ℕ) (h : off + 32 ≤ 256) (v : FVec Ideal S512x256 .f32) : FVec Ideal S512x32 .f32 :=
  extractStridedSlice S512x32 ![0, off] v (slices off h)

theorem strip_apply (off : ℕ) (h : off + 32 ≤ 256) (v : FVec Ideal S512x256 .f32) (r : Fin 512) (l : Fin 32) (j : Fin 256) (hj : j.val = off + l.val) :
    @Eq EReal (strip off h v (ix2 r l)) (v (ix2 r j)) :=
  extractStridedSlice_apply (s := S512x256) (t := S512x32) (![0, off] : Fin 2 → ℕ) v (slices off h) (ix2 r l) (ix2 r j) fun a => by
    match a with
    | ⟨0, _⟩ => show r.val = 0 + r.val; omega
    | ⟨1, _⟩ => exact hj

def joined (v : FVec Ideal S512x64 .f32) (a : FVec Ideal S512x32 .f32) : FVec Ideal S1x1x512x96 .bf16 :=
  shapeCast S1x1x512x96 (truncf .bf16 (concatenate S512x96 1 [⟨S512x64, v⟩, ⟨S512x32, a⟩] concatenates_S512x64_S512x32_S512x96_d1) bitsLt_bf16_f32) shapeCasts_S512x96_S1x1x512x96

theorem joined_apply (v : FVec Ideal S512x64 .f32) (a : FVec Ideal S512x32 .f32) (r : Fin 512) (l : Fin 96) :
    @Eq EReal (joined v a (ix4 0 0 r l)) (_root_.Prep.beside (fun l => v (ix2 r l)) (fun l => a (ix2 r l)) l) := by
  unfold joined _root_.Prep.beside
  pointwise

/-- The heads of the queries, of the keys and of the values. -/
abbrev queries (A : FVec Ideal S512x512 .f32) (B : FVec Ideal S512x256 .f32) (n : Fin 8) : FVec Ideal S1x1x512x96 .bf16 :=
  joined (slice (64 * n.val) (by omega) A) (strip (32 * n.val) (by omega) B)
abbrev keys (A : FVec Ideal S512x512 .f32) (B : FVec Ideal S512x32 .f32) (n : Fin 8) : FVec Ideal S1x1x512x96 .bf16 :=
  joined (slice (64 * n.val) (by omega) A) B
abbrev values (A : FVec Ideal S512x512 .f32) (n : Fin 8) : FVec Ideal S1x1x512x128 .bf16 :=
  widened (slice (64 * n.val) (by omega) A) firstColumn

/-! ## The three blocks -/

section Blocks
variable (x0 : Vec Ideal S1x512x384 .f32) (x1 : Vec Ideal S1x512x128 .f32) (x2 x3 : Vec Ideal S1x512x256 .f32) (x4 : Vec Ideal S1x256 .f32) (x5 : Vec Ideal S1x128 .f32)
  (x6 : Vec Ideal S256x1024 .bf16) (x7 : Vec Ideal S128x1024 .bf16)

/-- What the body reads for row `r` of the block. -/
def blockRow (r : Fin 512) : _root_.Prep.Row :=
  ⟨fun e => x0 (ix3 0 r e), fun e => x1 (ix3 0 r e), fun e => x2 (ix3 0 r e), fun e => x3 (ix3 0 r e), fun e => x4 (ix2 0 e), fun e => x5 (ix2 0 e),
    fun e j => x6 (ix2 e j), fun e j => x7 (ix2 e j)⟩

theorem zero_offset : (![0, 0] : Fin 2 → ℕ) = fun _ => 0 := by
  funext a
  match a with
  | ⟨0, _⟩ => rfl
  | ⟨1, _⟩ => rfl

theorem zero_offset3 : (![0, 0, 0] : Fin 3 → ℕ) = fun _ => 0 := Cert.Kernel3Ideal.Mixer.zero_offset3

theorem eq_8 : out0_8 x0 x1 x2 x3 x4 x5 x6 x7 = View.canon (e := .bf16) (eight (queries (k0_pay44 x0 x1 x2 x3 x4 x5 x6 x7) (k0_pay45 x0 x1 x2 x3 x4 x5 x6 x7))) := rfl
theorem eq_9 : out0_9 x0 x1 x2 x3 x4 x5 x6 x7 = View.canon (e := .bf16) (eight (keys (k0_pay46 x0 x1 x2 x3 x4 x5 x6 x7) (k0_pay48 x0 x1 x2 x3 x4 x5 x6 x7))) := rfl
theorem eq_10 : out0_10 x0 x1 x2 x3 x4 x5 x6 x7 = View.canon (e := .bf16) (eight (values (k0_pay47 x0 x1 x2 x3 x4 x5 x6 x7))) := rfl

theorem cq_eq (r : Fin 512) (e : Fin 256) : @Eq EReal (k0_pay40 x0 x1 x2 x3 x4 x5 x6 x7 (ix2 r e)) (_root_.Prep.cq (blockRow x0 x1 x2 x3 x4 x5 x6 x7 r) e) := by
  unfold k0_pay40
  rw [show View.ld x0 r0_0 = x0 from View.ld_unit_zero zero_offset3 _ x0, show View.ld x4 r0_1 = x4 from View.ld_unit_zero zero_offset _ x4]
  exact low_apply x0 x4 r e

theorem ck_eq (r : Fin 512) (e : Fin 128) : @Eq EReal (k0_pay41 x0 x1 x2 x3 x4 x5 x6 x7 (ix2 r e)) (_root_.Prep.ck (blockRow x0 x1 x2 x3 x4 x5 x6 x7 r) e) := by
  unfold k0_pay41
  rw [show View.ld x0 r0_0 = x0 from View.ld_unit_zero zero_offset3 _ x0, show View.ld x5 r0_2 = x5 from View.ld_unit_zero zero_offset _ x5]
  exact lowKv_apply x0 x5 r e

theorem co_eq (r : Fin 512) (k : Fin 256) : @Eq EReal (k0_pay42 x0 x1 x2 x3 x4 x5 x6 x7 (ix2 r k)) (x2 (ix3 0 r k)) := by
  unfold k0_pay42
  rw [show View.ld x2 r0_3 = x2 from View.ld_unit_zero zero_offset3 _ x2]
  exact table_apply x2 r k

theorem si_eq (r : Fin 512) (k : Fin 256) : @Eq EReal (k0_pay43 x0 x1 x2 x3 x4 x5 x6 x7 (ix2 r k)) (x3 (ix3 0 r k)) := co_eq x0 x1 x3 x3 x4 x5 x6 x7 r k

theorem sum_q {n : ℕ} (c : ℕ) (h : ∀ a, (![0, c] : Fin 2 → ℕ) a + (⟨2, ![256, n]⟩ : Shape).size a ≤ (⟨2, ![256, 1024]⟩ : Shape).size a)
    (r : Fin 512) (k : Fin n) (j : Fin 1024) (hj : j.val = c + k.val) :
    @Eq EReal (∑ e : Fin 256, (k0_pay40 x0 x1 x2 x3 x4 x5 x6 x7 (ix2 r e) : EReal) * View.ld x6 (Rect.unit (s := ⟨2, ![256, 1024]⟩) ![0, c] (⟨2, ![256, n]⟩ : Shape).size h) (ix2 e k))
      (_root_.Prep.product (_root_.Prep.cq (blockRow x0 x1 x2 x3 x4 x5 x6 x7 r)) (fun e j => x6 (ix2 e j)) j) :=
  Finset.sum_congr rfl fun e _ => congrArg₂ (fun a b : EReal => a * b) (cq_eq x0 x1 x2 x3 x4 x5 x6 x7 r e) (ld_cols c h x6 e k j hj)

theorem sum_k (c : ℕ) (h : ∀ a, (![0, c] : Fin 2 → ℕ) a + (⟨2, ![128, 512]⟩ : Shape).size a ≤ (⟨2, ![128, 1024]⟩ : Shape).size a)
    (r : Fin 512) (k : Fin 512) (j : Fin 1024) (hj : j.val = c + k.val) :
    @Eq EReal (∑ e : Fin 128, (k0_pay41 x0 x1 x2 x3 x4 x5 x6 x7 (ix2 r e) : EReal) * View.ld x7 (Rect.unit (s := ⟨2, ![128, 1024]⟩) ![0, c] (⟨2, ![128, 512]⟩ : Shape).size h) (ix2 e k))
      (_root_.Prep.product (_root_.Prep.ck (blockRow x0 x1 x2 x3 x4 x5 x6 x7 r)) (fun e j => x7 (ix2 e j)) j) :=
  Finset.sum_congr rfl fun e _ => congrArg₂ (fun a b : EReal => a * b) (ck_eq x0 x1 x2 x3 x4 x5 x6 x7 r e) (ld_cols c h x7 e k j hj)

theorem pay44_apply (r k : Fin 512) : @Eq EReal (k0_pay44 x0 x1 x2 x3 x4 x5 x6 x7 (ix2 r k))
    (_root_.Prep.product (_root_.Prep.cq (blockRow x0 x1 x2 x3 x4 x5 x6 x7 r)) (fun e j => x6 (ix2 e j)) (_root_.Prep.lower k) * _root_.Prep.scale) :=
  (scaled_apply _ _ r k).trans (congrArg (fun a : EReal => a * _root_.Prep.scale) (sum_q x0 x1 x2 x3 x4 x5 x6 x7 0 _ r k _ (Nat.zero_add _).symm))

theorem pay45_apply (r : Fin 512) (k : Fin 256) : @Eq EReal (k0_pay45 x0 x1 x2 x3 x4 x5 x6 x7 (ix2 r k))
    (_root_.Prep.turned (blockRow x0 x1 x2 x3 x4 x5 x6 x7 r) k * _root_.Prep.scale) :=
  (turned_apply _ _ _ _ _ r k).trans (congrArg (fun a : EReal => a * _root_.Prep.scale) (congrArg₂ (fun a b : EReal => a + b)
    (congrArg₂ (fun a b : EReal => a * b) (sum_q x0 x1 x2 x3 x4 x5 x6 x7 512 _ r k _ rfl) (co_eq x0 x1 x2 x3 x4 x5 x6 x7 r k))
    (congrArg₂ (fun a b : EReal => a * b) (sum_q x0 x1 x2 x3 x4 x5 x6 x7 768 _ r k _ rfl) (si_eq x0 x1 x2 x3 x4 x5 x6 x7 r k))))

theorem pay46_apply (r k : Fin 512) : @Eq EReal (k0_pay46 x0 x1 x2 x3 x4 x5 x6 x7 (ix2 r k))
    (_root_.Prep.product (_root_.Prep.ck (blockRow x0 x1 x2 x3 x4 x5 x6 x7 r)) (fun e j => x7 (ix2 e j)) (_root_.Prep.lower k)) :=
  (first_apply _ _ r k).trans (sum_k x0 x1 x2 x3 x4 x5 x6 x7 0 _ r k _ (Nat.zero_add _).symm)

theorem pay47_apply (r k : Fin 512) : @Eq EReal (k0_pay47 x0 x1 x2 x3 x4 x5 x6 x7 (ix2 r k))
    (_root_.Prep.product (_root_.Prep.ck (blockRow x0 x1 x2 x3 x4 x5 x6 x7 r)) (fun e j => x7 (ix2 e j)) (_root_.Prep.upper k)) :=
  (second_apply _ _ r k).trans (sum_k x0 x1 x2 x3 x4 x5 x6 x7 512 _ r k _ rfl)

theorem pay48_apply (r : Fin 512) (l : Fin 32) : @Eq EReal (k0_pay48 x0 x1 x2 x3 x4 x5 x6 x7 (ix2 r l)) (_root_.Prep.turnedKey (blockRow x0 x1 x2 x3 x4 x5 x6 x7 r) l) := by
  unfold k0_pay48
  rw [show View.ld x1 r0_9 = x1 from View.ld_unit_zero zero_offset3 _ x1]
  exact (turnedKey_apply _ _ x1 r l).trans (congrArg₂ (fun a b : EReal => a + b)
    (congrArg (fun b : EReal => _ * b) (co_eq x0 x1 x2 x3 x4 x5 x6 x7 r _)) (congrArg (fun b : EReal => _ * b) (si_eq x0 x1 x2 x3 x4 x5 x6 x7 r _)))

theorem out_8 (n : Fin 8) (r : Fin 512) (l : Fin 96) :
    @Eq EReal (out0_8 x0 x1 x2 x3 x4 x5 x6 x7 (ix4 0 n r l)) (_root_.Prep.query (blockRow x0 x1 x2 x3 x4 x5 x6 x7 r) n l) :=
  (congrFun (eq_8 x0 x1 x2 x3 x4 x5 x6 x7) _).trans ((canon_eight (e := .bf16) _ n r l).trans ((joined_apply _ _ r l).trans (_root_.Prep.beside_congr
    (fun l => (slice_apply _ (by omega) _ r l (_root_.Prep.wide n l) (by show n.val * 64 + l.val = 64 * n.val + l.val; omega)).trans (pay44_apply x0 x1 x2 x3 x4 x5 x6 x7 r _))
    (fun l => (strip_apply _ (by omega) _ r l (_root_.Prep.narrow n l) (by show n.val * 32 + l.val = 32 * n.val + l.val; omega)).trans (pay45_apply x0 x1 x2 x3 x4 x5 x6 x7 r _)) l)))

theorem out_9 (n : Fin 8) (r : Fin 512) (l : Fin 96) :
    @Eq EReal (out0_9 x0 x1 x2 x3 x4 x5 x6 x7 (ix4 0 n r l)) (_root_.Prep.key (blockRow x0 x1 x2 x3 x4 x5 x6 x7 r) n l) :=
  (congrFun (eq_9 x0 x1 x2 x3 x4 x5 x6 x7) _).trans ((canon_eight (e := .bf16) _ n r l).trans ((joined_apply _ _ r l).trans (_root_.Prep.beside_congr
    (fun l => (slice_apply _ (by omega) _ r l (_root_.Prep.wide n l) (by show n.val * 64 + l.val = 64 * n.val + l.val; omega)).trans (pay46_apply x0 x1 x2 x3 x4 x5 x6 x7 r _))
    (fun l => pay48_apply x0 x1 x2 x3 x4 x5 x6 x7 r l) l)))

theorem out_10 (n : Fin 8) (r : Fin 512) (l : Fin 128) :
    @Eq EReal (out0_10 x0 x1 x2 x3 x4 x5 x6 x7 (ix4 0 n r l)) (_root_.Prep.value (blockRow x0 x1 x2 x3 x4 x5 x6 x7 r) n l) :=
  (congrFun (eq_10 x0 x1 x2 x3 x4 x5 x6 x7) _).trans ((canon_eight (e := .bf16) _ n r l).trans ((widened_apply _ _ r l).trans (_root_.Proj.beside_congr
    (fun l => (slice_apply _ (by omega) _ r l (_root_.Prep.wide n l) (by show n.val * 64 + l.val = 64 * n.val + l.val; omega)).trans (pay47_apply x0 x1 x2 x3 x4 x5 x6 x7 r _))
    (fun l => firstColumn_apply r l) l)))

end Blocks

end Cert.Kernel7Ideal.Prep

end
-- ==== Proof.PrepValue.lean ====
/-
  The queries, keys and values that the call leaves, element by element: every block it writes back is a piece of one array, and
  the blocks cover that array.
-/
module

public import proofs.«01_k».proof.Proof.Gen.Kernel7Ideal.Value
public import Idealize.ShloMosaic.Lib.StableHlo.Run
public import proofs.«01_k».proof.Proof.ProjValue
public import proofs.«01_k».proof.Proof.PrepBody

@[expose] public section

set_option maxRecDepth 16384

noncomputable section

namespace Cert.Kernel7Ideal.Prep

open Idealize.ShloMosaic Idealize.ShloMosaic.TcCoe Cert.Kernel7Ideal Cert.Kernel7Ideal.Gen Idealize.ShloMosaic.StableHlo
open Idealize.ShloMosaic.Pipeline (Dat Cfg Window)
open Cert.Kernel4Ideal.Proj (heads block_of_heads heads_covered words3 words4)

variable (m : (ℓ : Loc nD τ sig) → Buf (Elt Ideal) ℓ) (c : Dev nD)

abbrev argZ : FVec Ideal S16x4096x384 .f32 := m ((c : Thread nD τ).loc main_arg0)
abbrev argS : FVec Ideal S16x4096x128 .f32 := m ((c : Thread nD τ).loc main_arg1)
abbrev argCos : FVec Ideal S16x4096x256 .f32 := m ((c : Thread nD τ).loc main_arg2)
abbrev argSin : FVec Ideal S16x4096x256 .f32 := m ((c : Thread nD τ).loc main_arg3)
abbrev argGq : FVec Ideal S256 .f32 := m ((c : Thread nD τ).loc main_arg4)
abbrev argGk : FVec Ideal S128 .f32 := m ((c : Thread nD τ).loc main_arg5)
abbrev argWq : FVec Ideal S256x1024 .f32 := m ((c : Thread nD τ).loc main_arg6)
abbrev argWk : FVec Ideal S128x1024 .f32 := m ((c : Thread nD τ).loc main_arg7)

/-- What the call reads for row `s` of batch `b`. -/
def row (b : Fin 16) (s : Fin 4096) : _root_.Prep.Row :=
  ⟨fun e => argZ m c (ix3 b s e), fun e => argS m c (ix3 b s e), fun e => argCos m c (ix3 b s e), fun e => argSin m c (ix3 b s e), fun e => argGq m c (ix1 e),
    fun e => argGk m c (ix1 e), fun e j => argWq m c (ix2 e j), fun e j => argWk m c (ix2 e j)⟩

/-! ## What the host code prepares -/

theorem gq_apply (d : Fin 256) : @Eq EReal (V m c main_v0 (ix2 0 d)) (argGq m c (ix1 d)) := by
  have h : V m c main_v0 = broadcastInDim S1x256 ![1] bcast_S256_S1x256_1 (argGq m c) := by
    unfold V; simp only [hostOps0]; after_results_simp
  rw [h]
  pointwise

theorem gk_apply (d : Fin 128) : @Eq EReal (V m c main_v1 (ix2 0 d)) (argGk m c (ix1 d)) := by
  have h : V m c main_v1 = broadcastInDim S1x128 ![1] bcast_S128_S1x128_1 (argGk m c) := by
    unfold V; simp only [hostOps0]; after_results_simp
  rw [h]
  pointwise

theorem wq_eq : V m c main_v2 = truncf .bf16 (argWq m c) bitsLt_bf16_f32 := by
  unfold V; simp only [hostOps0]; after_results_simp

theorem wk_eq : V m c main_v3 = truncf .bf16 (argWk m c) bitsLt_bf16_f32 := by
  unfold V; simp only [hostOps0]; after_results_simp

/-! ## The blocks -/

section Blocks
variable (t : Fin cfg0.N)

abbrev tb : Fin 16 := grid0.coords t 0
abbrev ti : Fin 8 := grid0.coords t 1

/-- Row `r` of the block at point `t`, in the array. -/
abbrev place (r : Fin 512) : Fin 4096 := ⟨512 * (ti t).val + r.val, by have := (ti t).isLt; omega⟩

/-- A block of rows read from an array of rows. -/
theorem rows_read {n : ℕ} (x : Fin 3 → ℕ) (hx : x = ![(tb t).val, (ti t).val, 0]) (A : (⟨3, ![16, 4096, n]⟩ : Shape).Idx → EReal) (r : Fin 512) (d : Fin n)
    (k : (⟨3, ![16, 4096, n]⟩ : Shape).Idx)
    (hk : ∀ a, (k a).val = x a * (⟨3, ![1, 512, n]⟩ : Shape).size a + 1 * ((ix3 0 r d : (⟨3, ![1, 512, n]⟩ : Shape).Idx) a).val) : A k = A (ix3 (tb t) (place t r) d) := by
  subst hx
  congr 1
  funext a
  apply Fin.ext
  refine (hk a).trans ?_
  match a with
  | ⟨0, _⟩ => show (tb t).val * 1 + 1 * 0 = (tb t).val; omega
  | ⟨1, _⟩ => show (ti t).val * 512 + 1 * r.val = 512 * (ti t).val + r.val; omega
  | ⟨2, _⟩ => show 0 * n + 1 * d.val = d.val; omega

theorem block_z (r : Fin 512) (d : Fin 384) : @Eq EReal (iblk m c 0 t (ix3 0 r d)) (argZ m c (ix3 (tb t) (place t r) d)) := by
  have h : V m c main_arg0 = argZ m c := V_main_arg0 m c
  rw [← h]
  exact rows_read t (win0_0.index t) (words3 t) (V m c main_arg0) r d (((cfg0.win 0).blk t).view.emb (ix3 0 r d)) fun _ => rfl

theorem block_s (r : Fin 512) (d : Fin 128) : @Eq EReal (iblk m c 1 t (ix3 0 r d)) (argS m c (ix3 (tb t) (place t r) d)) := by
  have h : V m c main_arg1 = argS m c := V_main_arg1 m c
  rw [← h]
  exact rows_read t (win0_1.index t) (words3 t) (V m c main_arg1) r d (((cfg0.win 1).blk t).view.emb (ix3 0 r d)) fun _ => rfl

theorem block_cos (r : Fin 512) (d : Fin 256) : @Eq EReal (iblk m c 2 t (ix3 0 r d)) (argCos m c (ix3 (tb t) (place t r) d)) := by
  have h : V m c main_arg2 = argCos m c := V_main_arg2 m c
  rw [← h]
  exact rows_read t (win0_2.index t) (words3 t) (V m c main_arg2) r d (((cfg0.win 2).blk t).view.emb (ix3 0 r d)) fun _ => rfl

theorem block_sin (r : Fin 512) (d : Fin 256) : @Eq EReal (iblk m c 3 t (ix3 0 r d)) (argSin m c (ix3 (tb t) (place t r) d)) := by
  have h : V m c main_arg3 = argSin m c := V_main_arg3 m c
  rw [← h]
  exact rows_read t (win0_3.index t) (words3 t) (V m c main_arg3) r d (((cfg0.win 3).blk t).view.emb (ix3 0 r d)) fun _ => rfl

/-- A matrix read as a whole. -/
theorem whole_read {K n : ℕ} (A : (⟨2, ![K, n]⟩ : Shape).Idx → EReal) (e : Fin K) (d : Fin n) (k : (⟨2, ![K, n]⟩ : Shape).Idx)
    (hk : ∀ a, (k a).val = (![0, 0] : Fin 2 → ℕ) a * (⟨2, ![K, n]⟩ : Shape).size a + 1 * ((ix2 e d : (⟨2, ![K, n]⟩ : Shape).Idx) a).val) : A k = A (ix2 e d) := by
  congr 1
  funext a
  apply Fin.ext
  refine (hk a).trans ?_
  match a with
  | ⟨0, _⟩ => show 0 * K + 1 * e.val = e.val; omega
  | ⟨1, _⟩ => show 0 * n + 1 * d.val = d.val; omega

theorem block_gq (d : Fin 256) : @Eq EReal (iblk m c 4 t (ix2 0 d)) (argGq m c (ix1 d)) := by
  rw [← gq_apply]
  exact whole_read (V m c main_v0) 0 d (((cfg0.win 4).blk t).view.emb (ix2 0 d)) fun _ => rfl

theorem block_gk (d : Fin 128) : @Eq EReal (iblk m c 5 t (ix2 0 d)) (argGk m c (ix1 d)) := by
  rw [← gk_apply]
  exact whole_read (V m c main_v1) 0 d (((cfg0.win 5).blk t).view.emb (ix2 0 d)) fun _ => rfl

theorem block_wq (e : Fin 256) (j : Fin 1024) : @Eq EReal (iblk m c 6 t (ix2 e j)) (argWq m c (ix2 e j)) :=
  (whole_read (V m c main_v2) e j (((cfg0.win 6).blk t).view.emb (ix2 e j)) fun _ => rfl).trans (congrFun (wq_eq m c) (ix2 e j))

theorem block_wk (e : Fin 128) (j : Fin 1024) : @Eq EReal (iblk m c 7 t (ix2 e j)) (argWk m c (ix2 e j)) :=
  (whole_read (V m c main_v3) e j (((cfg0.win 7).blk t).view.emb (ix2 e j)) fun _ => rfl).trans (congrFun (wk_eq m c) (ix2 e j))

theorem row_eq (r : Fin 512) :
    blockRow (iblk m c 0 t) (iblk m c 1 t) (iblk m c 2 t) (iblk m c 3 t) (iblk m c 4 t) (iblk m c 5 t) (iblk m c 6 t) (iblk m c 7 t) r = row m c (tb t) (place t r) := by
  unfold blockRow row
  rw [_root_.Prep.Row.mk.injEq]
  exact ⟨funext (block_z m c t r), funext (block_s m c t r), funext (block_cos m c t r), funext (block_sin m c t r), funext (block_gq m c t), funext (block_gk m c t),
    funext fun e => funext (block_wq m c t e), funext fun e => funext (block_wk m c t e)⟩

end Blocks

/-! ## The arrays -/

abbrev query : Fin 16 → Fin 8 → Fin 4096 → Fin 96 → EReal := fun b n s l => _root_.Prep.query (row m c b s) n l
abbrev key : Fin 16 → Fin 8 → Fin 4096 → Fin 96 → EReal := fun b n s l => _root_.Prep.key (row m c b s) n l
abbrev value : Fin 16 → Fin 8 → Fin 4096 → Fin 128 → EReal := fun b n s l => _root_.Prep.value (row m c b s) n l

/-- The queries. -/
def result_0 : Buf (Elt Ideal) ((c : Thread nD τ).loc main_v4_0) := heads (query m c)

/-- The keys. -/
def result_1 : Buf (Elt Ideal) ((c : Thread nD τ).loc main_v4_1) := heads (key m c)

/-- The values. -/
def result_2 : Buf (Elt Ideal) ((c : Thread nD τ).loc main_v4_2) := heads (value m c)

theorem final_0 : (dats m 0 c).arrAt 8 cfg0.N = result_0 m c :=
  (dats m 0 c).arrAt_eq_of_cover 8 (result_0 m c) (fun t _ => by
    show (cfg0.win 8).cut (grid0.coords t) ((dats m 0 c).after 8 t) = _
    rw [after0_8]
    funext j
    exact block_of_heads t (out0_8 (iblk m c 0 t) (iblk m c 1 t) (iblk m c 2 t) (iblk m c 3 t) (iblk m c 4 t) (iblk m c 5 t) (iblk m c 6 t) (iblk m c 7 t)) (query m c)
      (fun n r l => (out_8 _ _ _ _ _ _ _ _ n r l).trans (congrArg (fun R => _root_.Prep.query R n l) (row_eq m c t r))) (win0_8.index t) (words4 t)
      j (((cfg0.win 8).blk t).view.emb j) fun _ => rfl) fun i => by
    obtain ⟨t, h⟩ := heads_covered i
    refine ⟨t, flush0_8 t, ?_⟩
    show i ∈ ((View.whole main_v4_0).slice (win0_8.rect t)).set
    rw [View.set_slice_whole, Rect.mem_set_unit]
    exact h _ (words4 t)

theorem final_1 : (dats m 0 c).arrAt 9 cfg0.N = result_1 m c :=
  (dats m 0 c).arrAt_eq_of_cover 9 (result_1 m c) (fun t _ => by
    show (cfg0.win 9).cut (grid0.coords t) ((dats m 0 c).after 9 t) = _
    rw [after0_9]
    funext j
    exact block_of_heads t (out0_9 (iblk m c 0 t) (iblk m c 1 t) (iblk m c 2 t) (iblk m c 3 t) (iblk m c 4 t) (iblk m c 5 t) (iblk m c 6 t) (iblk m c 7 t)) (key m c)
      (fun n r l => (out_9 _ _ _ _ _ _ _ _ n r l).trans (congrArg (fun R => _root_.Prep.key R n l) (row_eq m c t r))) (win0_9.index t) (words4 t)
      j (((cfg0.win 9).blk t).view.emb j) fun _ => rfl) fun i => by
    obtain ⟨t, h⟩ := heads_covered i
    refine ⟨t, flush0_9 t, ?_⟩
    show i ∈ ((View.whole main_v4_1).slice (win0_9.rect t)).set
    rw [View.set_slice_whole, Rect.mem_set_unit]
    exact h _ (words4 t)

theorem final_2 : (dats m 0 c).arrAt 10 cfg0.N = result_2 m c :=
  (dats m 0 c).arrAt_eq_of_cover 10 (result_2 m c) (fun t _ => by
    show (cfg0.win 10).cut (grid0.coords t) ((dats m 0 c).after 10 t) = _
    rw [after0_10]
    funext j
    exact block_of_heads t (out0_10 (iblk m c 0 t) (iblk m c 1 t) (iblk m c 2 t) (iblk m c 3 t) (iblk m c 4 t) (iblk m c 5 t) (iblk m c 6 t) (iblk m c 7 t)) (value m c)
      (fun n r l => (out_10 _ _ _ _ _ _ _ _ n r l).trans (congrArg (fun R => _root_.Prep.value R n l) (row_eq m c t r))) (win0_10.index t) (words4 t)
      j (((cfg0.win 10).blk t).view.emb j) fun _ => rfl) fun i => by
    obtain ⟨t, h⟩ := heads_covered i
    refine ⟨t, flush0_10 t, ?_⟩
    show i ∈ ((View.whole main_v4_2).slice (win0_10.rect t)).set
    rw [View.set_slice_whole, Rect.mem_set_unit]
    exact h _ (words4 t)

end Cert.Kernel7Ideal.Prep

end
-- ==== Proof.PrepReference.lean ====
/-
  The queries, keys and values of the reference over the extended reals, element by element.
-/
module

public import proofs.«01_k».proof.Proof.Gen.Reference7Ideal.Run
public import proofs.«01_k».proof.Proof.ProjReference
public import proofs.«01_k».proof.Proof.Prep

@[expose] public section

set_option maxRecDepth 16384

noncomputable section

namespace Cert.Reference7Ideal.Prep

open Idealize.ShloMosaic Idealize.ShloMosaic.TcCoe Cert.Reference7Ideal Cert.Reference7Ideal.Gen Cert.Reference7Ideal.Value
open Cert.Reference4Ideal.Proj (eight eight_apply eightBeside eightBeside_apply first first_apply heads_ext Cols)

/-! ## The arguments -/

section Arguments
variable (m : (ℓ : Loc nD τ sig) → Buf (Elt Ideal) ℓ) (c : Dev nD)

abbrev arg0 : FVec Ideal S16x4096x384 .f32 := m ((c : Thread nD τ).loc main_arg0)
abbrev arg1 : FVec Ideal S16x4096x128 .f32 := m ((c : Thread nD τ).loc main_arg1)
abbrev arg2 : FVec Ideal S16x4096x256 .f32 := m ((c : Thread nD τ).loc main_arg2)
abbrev arg3 : FVec Ideal S16x4096x256 .f32 := m ((c : Thread nD τ).loc main_arg3)
abbrev arg4 : FVec Ideal S256 .f32 := m ((c : Thread nD τ).loc main_arg4)
abbrev arg5 : FVec Ideal S128 .f32 := m ((c : Thread nD τ).loc main_arg5)
abbrev arg6 : FVec Ideal S256x1024 .f32 := m ((c : Thread nD τ).loc main_arg6)
abbrev arg7 : FVec Ideal S128x1024 .f32 := m ((c : Thread nD τ).loc main_arg7)

end Arguments

/-! ## The norms and the products -/

def rmsQ (x : FVec Ideal S16x4096x256 .f32) (g : FVec Ideal S256 .f32) : FVec Ideal S16x4096x256 .f32 :=
  mulf (mulf x (broadcastInDim S16x4096x256 ![0, 1, 2] bcast_S16x4096x1_S16x4096x256_0_1_2 (Host.rsqrt (addf (Host.divf (broadcastInDim S16x4096x1 ![0, 1] bcast_S16x4096_S16x4096x1_0_1
    (Host.reduceAdd (mulf x x) (constant S_ .f32 0x00000000#32) reducesTo_S16x4096x256_S16x4096_d2 h_S_)) (broadcastInDim S16x4096x1 ![] bcast_S_S16x4096x1 (constant S_ .f32 0x43800000#32)))
    (broadcastInDim S16x4096x1 ![] bcast_S_S16x4096x1 (constant S_ .f32 0x358637BD#32))))))
    (broadcastInDim S16x4096x256 ![0, 1, 2] bcast_S1x1x256_S16x4096x256_0_1_2 (broadcastInDim S1x1x256 ![2] bcast_S256_S1x1x256_2 g))

def rmsK (x : FVec Ideal S16x4096x128 .f32) (g : FVec Ideal S128 .f32) : FVec Ideal S16x4096x128 .f32 :=
  mulf (mulf x (broadcastInDim S16x4096x128 ![0, 1, 2] bcast_S16x4096x1_S16x4096x128_0_1_2 (Host.rsqrt (addf (Host.divf (broadcastInDim S16x4096x1 ![0, 1] bcast_S16x4096_S16x4096x1_0_1
    (Host.reduceAdd (mulf x x) (constant S_ .f32 0x00000000#32) reducesTo_S16x4096x128_S16x4096_d2 h_S_)) (broadcastInDim S16x4096x1 ![] bcast_S_S16x4096x1 (constant S_ .f32 0x43000000#32)))
    (broadcastInDim S16x4096x1 ![] bcast_S_S16x4096x1 (constant S_ .f32 0x358637BD#32))))))
    (broadcastInDim S16x4096x128 ![0, 1, 2] bcast_S1x1x128_S16x4096x128_0_1_2 (broadcastInDim S1x1x128 ![2] bcast_S128_S1x1x128_2 g))

theorem rmsQ_apply (x : FVec Ideal S16x4096x256 .f32) (g : FVec Ideal S256 .f32) (b : Fin 16) (s : Fin 4096) (d : Fin 256) :
    @Eq EReal (rmsQ x g (ix3 b s d)) (_root_.Prep.normed 0x43800000#32 (fun e => x (ix3 b s e)) (fun e => g (ix1 e)) d) := by
  unfold rmsQ _root_.Prep.normed
  pointwise

theorem rmsK_apply (x : FVec Ideal S16x4096x128 .f32) (g : FVec Ideal S128 .f32) (b : Fin 16) (s : Fin 4096) (d : Fin 128) :
    @Eq EReal (rmsK x g (ix3 b s d)) (_root_.Prep.normed 0x43000000#32 (fun e => x (ix3 b s e)) (fun e => g (ix1 e)) d) := by
  unfold rmsK _root_.Prep.normed
  pointwise

def productQ (h : FVec Ideal S16x4096x256 .f32) (w : FVec Ideal S256x1024 .f32) : FVec Ideal S16x4096x1024 .f32 :=
  Host.dotGeneral dot_S16x4096x256_S256x1024_S16x4096x1024_2_0_01_1_n_n none h w
def productK (h : FVec Ideal S16x4096x128 .f32) (w : FVec Ideal S128x1024 .f32) : FVec Ideal S16x4096x1024 .f32 :=
  Host.dotGeneral dot_S16x4096x128_S128x1024_S16x4096x1024_2_0_01_1_n_n none h w

theorem productQ_apply (h : FVec Ideal S16x4096x256 .f32) (w : FVec Ideal S256x1024 .f32) (b : Fin 16) (s : Fin 4096) (j : Fin 1024) :
    @Eq EReal (productQ h w (ix3 b s j)) (_root_.Prep.product (fun e => h (ix3 b s e)) (fun e j => w (ix2 e j)) j) := by
  unfold productQ _root_.Prep.product
  pointwise [dot_S16x4096x256_S256x1024_S16x4096x1024_2_0_01_1_n_n]

theorem productK_apply (h : FVec Ideal S16x4096x128 .f32) (w : FVec Ideal S128x1024 .f32) (b : Fin 16) (s : Fin 4096) (j : Fin 1024) :
    @Eq EReal (productK h w (ix3 b s j)) (_root_.Prep.product (fun e => h (ix3 b s e)) (fun e j => w (ix2 e j)) j) := by
  unfold productK _root_.Prep.product
  pointwise [dot_S16x4096x128_S128x1024_S16x4096x1024_2_0_01_1_n_n]

/-! ## Columns, in heads and beside one another -/

theorem slices {w n : ℕ} (off : ℕ) (h : off + n ≤ w) : (Cols w).Slices ![0, 0, off] (Cols n) :=
  ⟨rfl, fun a => by
    match a with
    | ⟨0, _⟩ => show 0 + 16 ≤ 16; omega
    | ⟨1, _⟩ => show 0 + 4096 ≤ 4096; omega
    | ⟨2, _⟩ => exact h⟩

/-- The `n` columns from column `off` on. -/
abbrev cols {w : ℕ} (n off : ℕ) (h : off + n ≤ w) (z : FVec Ideal (Cols w) .f32) : FVec Ideal (Cols n) .f32 :=
  extractStridedSlice (Cols n) ![0, 0, off] z (slices off h)

theorem cols_apply {w n : ℕ} (off : ℕ) (h : off + n ≤ w) (z : FVec Ideal (Cols w) .f32) (b : Fin 16) (s : Fin 4096) (k : Fin n) (j : Fin w) (hj : j.val = off + k.val) :
    @Eq EReal (cols n off h z (ix3 b s k)) (z (ix3 b s j)) :=
  extractStridedSlice_apply (s := Cols w) (t := Cols n) (![0, 0, off] : Fin 3 → ℕ) z (slices off h) (ix3 b s k) (ix3 b s j) fun a => by
    match a with
    | ⟨0, _⟩ => show b.val = 0 + b.val; omega
    | ⟨1, _⟩ => show s.val = 0 + s.val; omega
    | ⟨2, _⟩ => exact hj

def narrow (v : FVec Ideal S16x4096x256 .f32) : FVec Ideal S16x8x4096x32 .f32 :=
  transpose S16x8x4096x32 [0, 2, 1, 3] (shapeCast S16x4096x8x32 v shapeCasts_S16x4096x256_S16x4096x8x32) transposes_S16x4096x8x32_S16x8x4096x32_0_2_1_3

theorem narrow_apply (v : FVec Ideal S16x4096x256 .f32) (b : Fin 16) (n : Fin 8) (s : Fin 4096) (l : Fin 32) :
    @Eq EReal (narrow v (ix4 b n s l)) (v (ix3 b s (_root_.Prep.narrow n l))) := by
  unfold narrow
  pointwise

def joined (v : FVec Ideal S16x8x4096x64 .f32) (a : FVec Ideal S16x8x4096x32 .f32) : FVec Ideal S16x8x4096x96 .f32 :=
  concatenate S16x8x4096x96 3 [⟨S16x8x4096x64, v⟩, ⟨S16x8x4096x32, a⟩] concatenates_S16x8x4096x64_S16x8x4096x32_S16x8x4096x96_d3

theorem joined_apply (v : FVec Ideal S16x8x4096x64 .f32) (a : FVec Ideal S16x8x4096x32 .f32) (b : Fin 16) (n : Fin 8) (s : Fin 4096) (l : Fin 96) :
    @Eq EReal (joined v a (ix4 b n s l)) (_root_.Prep.beside (fun l => v (ix4 b n s l)) (fun l => a (ix4 b n s l)) l) := by
  unfold joined _root_.Prep.beside
  pointwise

def scaled (v : FVec Ideal S16x8x4096x96 .f32) : FVec Ideal S16x8x4096x96 .f32 :=
  mulf v (broadcastInDim S16x8x4096x96 ![] bcast_S_S16x8x4096x96 (constant S_ .f32 0x3DD105EC#32))

theorem scaled_apply (v : FVec Ideal S16x8x4096x96 .f32) (b : Fin 16) (n : Fin 8) (s : Fin 4096) (l : Fin 96) :
    @Eq EReal (scaled v (ix4 b n s l)) ((v (ix4 b n s l) : EReal) * _root_.Prep.scale) := by
  unfold scaled _root_.Prep.scale
  pointwise

/-- Heads of two parts as they are returned, without and with the scale. -/
theorem only_joined (v : FVec Ideal S16x8x4096x64 .f32) (a : FVec Ideal S16x8x4096x32 .f32) (b : Fin 16) (n : Fin 8) (s : Fin 4096) {f : Fin 64 → EReal} {g : Fin 32 → EReal}
    (hf : ∀ l, @Eq EReal (v (ix4 b n s l)) (f l)) (hg : ∀ l, @Eq EReal (a (ix4 b n s l)) (g l)) (l : Fin 96) :
    @Eq EReal (truncf .bf16 (joined v a) bitsLt_bf16_f32 (ix4 b n s l)) (_root_.Prep.beside f g l) :=
  (joined_apply v a b n s l).trans (_root_.Prep.beside_congr hf hg l)

theorem scaled_joined (v : FVec Ideal S16x8x4096x64 .f32) (a : FVec Ideal S16x8x4096x32 .f32) (b : Fin 16) (n : Fin 8) (s : Fin 4096) {f : Fin 64 → EReal} {g : Fin 32 → EReal}
    (hf : ∀ l, @Eq EReal (v (ix4 b n s l)) (f l)) (hg : ∀ l, @Eq EReal (a (ix4 b n s l)) (g l)) (l : Fin 96) :
    @Eq EReal (truncf .bf16 (scaled (joined v a)) bitsLt_bf16_f32 (ix4 b n s l)) (_root_.Prep.beside (fun l => f l * _root_.Prep.scale) (fun l => g l * _root_.Prep.scale) l) :=
  (scaled_apply _ b n s l).trans
    ((congrArg (fun a : EReal => a * _root_.Prep.scale) (only_joined v a b n s hf hg l)).trans (_root_.Prep.beside_mul f g _ l))

/-- The same rows for every head. -/
def shared (a : FVec Ideal S16x4096x32 .f32) : FVec Ideal S16x8x4096x32 .f32 :=
  broadcastInDim S16x8x4096x32 ![0, 1, 2, 3] bcast_S16x1x4096x32_S16x8x4096x32_0_1_2_3 (broadcastInDim S16x1x4096x32 ![0, 2, 3] bcast_S16x4096x32_S16x1x4096x32_0_2_3 a)

theorem shared_apply (a : FVec Ideal S16x4096x32 .f32) (b : Fin 16) (n : Fin 8) (s : Fin 4096) (l : Fin 32) :
    @Eq EReal (shared a (ix4 b n s l)) (a (ix3 b s l)) := by
  unfold shared
  pointwise

/-- A sum of two products of arrays. -/
theorem sum_apply {s : Shape} (u v x y : FVec Ideal s .f32) (i : s.Idx) :
    @Eq EReal (addf (mulf u x) (mulf v y) i) ((u i : EReal) * x i + (v i : EReal) * y i) := rfl

/-! ## The three results -/

section Results
variable (x0 : FVec Ideal S16x4096x384 .f32) (x1 : FVec Ideal S16x4096x128 .f32) (x2 x3 : FVec Ideal S16x4096x256 .f32) (x4 : FVec Ideal S256 .f32) (x5 : FVec Ideal S128 .f32)
  (x6 : FVec Ideal S256x1024 .f32) (x7 : FVec Ideal S128x1024 .f32)

/-- What the call reads for row `s` of batch `b`. -/
def row (b : Fin 16) (s : Fin 4096) : _root_.Prep.Row :=
  ⟨fun e => x0 (ix3 b s e), fun e => x1 (ix3 b s e), fun e => x2 (ix3 b s e), fun e => x3 (ix3 b s e), fun e => x4 (ix1 e), fun e => x5 (ix1 e),
    fun e j => x6 (ix2 e j), fun e j => x7 (ix2 e j)⟩

/-- The columns of the queries, and those of the keys and values. -/
def colsQ : FVec Ideal S16x4096x1024 .f32 := productQ (rmsQ (cols 256 0 (by omega) x0) x4) x6
def colsK : FVec Ideal S16x4096x1024 .f32 := productK (rmsK (cols 128 256 (by omega) x0) x5) x7

/-- The rotary parts. -/
def turned : FVec Ideal S16x4096x256 .f32 :=
  addf (mulf (cols 256 512 (by omega) (colsQ x0 x4 x6)) x2) (mulf (cols 256 768 (by omega) (colsQ x0 x4 x6)) x3)
def turnedKey : FVec Ideal S16x4096x32 .f32 :=
  addf (mulf (cols 32 0 (by omega) x1) (cols 32 0 (by omega) x2)) (mulf (cols 32 32 (by omega) x1) (cols 32 0 (by omega) x3))

def res_0 : FVec Ideal S16x8x4096x96 .bf16 :=
  truncf .bf16 (scaled (joined (eight (cols 512 0 (by omega) (colsQ x0 x4 x6))) (narrow (turned x0 x2 x3 x4 x6)))) bitsLt_bf16_f32
def res_1 : FVec Ideal S16x8x4096x96 .bf16 :=
  truncf .bf16 (joined (eight (cols 512 0 (by omega) (colsK x0 x5 x7))) (shared (turnedKey x1 x2 x3))) bitsLt_bf16_f32
def res_2 : FVec Ideal S16x8x4096x128 .bf16 :=
  truncf .bf16 (eightBeside (eight (cols 512 512 (by omega) (colsK x0 x5 x7)))
    (broadcastInDim S16x8x4096x64 ![3] bcast_S64_S16x8x4096x64_3 first)) bitsLt_bf16_f32

variable (b : Fin 16) (s : Fin 4096)

theorem colsQ_apply (j : Fin 1024) : @Eq EReal (colsQ x0 x4 x6 (ix3 b s j)) (_root_.Prep.product (_root_.Prep.cq (row x0 x1 x2 x3 x4 x5 x6 x7 b s)) (fun e j => x6 (ix2 e j)) j) :=
  (productQ_apply _ x6 b s j).trans (_root_.Prep.product_congr (fun e => (rmsQ_apply _ x4 b s e).trans
    (congrArg (fun z => _root_.Prep.normed 0x43800000#32 z (fun e => x4 (ix1 e)) e)
      (funext fun k => cols_apply 0 (by omega) x0 b s k ⟨k.val, by omega⟩ (Nat.zero_add _).symm))) (fun _ _ => rfl) j)

theorem colsK_apply (j : Fin 1024) : @Eq EReal (colsK x0 x5 x7 (ix3 b s j)) (_root_.Prep.product (_root_.Prep.ck (row x0 x1 x2 x3 x4 x5 x6 x7 b s)) (fun e j => x7 (ix2 e j)) j) :=
  (productK_apply _ x7 b s j).trans (_root_.Prep.product_congr (fun e => (rmsK_apply _ x5 b s e).trans
    (congrArg (fun z => _root_.Prep.normed 0x43000000#32 z (fun e => x5 (ix1 e)) e)
      (funext fun k => cols_apply 256 (by omega) x0 b s k ⟨256 + k.val, by omega⟩ rfl))) (fun _ _ => rfl) j)

theorem turned_apply (k : Fin 256) : @Eq EReal (turned x0 x2 x3 x4 x6 (ix3 b s k)) (_root_.Prep.turned (row x0 x1 x2 x3 x4 x5 x6 x7 b s) k) := by
  unfold turned
  rw [sum_apply, cols_apply 512 (by omega) _ b s k (_root_.Prep.third k) rfl, cols_apply 768 (by omega) _ b s k (_root_.Prep.fourth k) rfl,
    colsQ_apply x0 x1 x2 x3 x4 x5 x6 x7 b s, colsQ_apply x0 x1 x2 x3 x4 x5 x6 x7 b s]
  rfl

theorem turnedKey_apply (l : Fin 32) : @Eq EReal (turnedKey x1 x2 x3 (ix3 b s l)) (_root_.Prep.turnedKey (row x0 x1 x2 x3 x4 x5 x6 x7 b s) l) := by
  unfold turnedKey
  rw [sum_apply, cols_apply 0 (by omega) x1 b s l ⟨l.val, by omega⟩ (Nat.zero_add _).symm, cols_apply 0 (by omega) x2 b s l ⟨l.val, by omega⟩ (Nat.zero_add _).symm,
    cols_apply 32 (by omega) x1 b s l ⟨32 + l.val, by omega⟩ rfl, cols_apply 0 (by omega) x3 b s l ⟨l.val, by omega⟩ (Nat.zero_add _).symm]
  rfl

theorem headsQ_apply (n : Fin 8) (l : Fin 64) : @Eq EReal (eight (cols 512 0 (by omega) (colsQ x0 x4 x6)) (ix4 b n s l))
    (_root_.Prep.product (_root_.Prep.cq (row x0 x1 x2 x3 x4 x5 x6 x7 b s)) (fun e j => x6 (ix2 e j)) (_root_.Prep.lower (_root_.Prep.wide n l))) :=
  (eight_apply _ b n s l).trans ((cols_apply 0 (by omega) _ b s _ (_root_.Prep.lower (_root_.Prep.wide n l)) (by show n.val * 64 + l.val = 0 + (n.val * 64 + l.val); omega)).trans
    (colsQ_apply x0 x1 x2 x3 x4 x5 x6 x7 b s _))

theorem headsK_apply (n : Fin 8) (l : Fin 64) : @Eq EReal (eight (cols 512 0 (by omega) (colsK x0 x5 x7)) (ix4 b n s l))
    (_root_.Prep.product (_root_.Prep.ck (row x0 x1 x2 x3 x4 x5 x6 x7 b s)) (fun e j => x7 (ix2 e j)) (_root_.Prep.lower (_root_.Prep.wide n l))) :=
  (eight_apply _ b n s l).trans ((cols_apply 0 (by omega) _ b s _ (_root_.Prep.lower (_root_.Prep.wide n l)) (by show n.val * 64 + l.val = 0 + (n.val * 64 + l.val); omega)).trans
    (colsK_apply x0 x1 x2 x3 x4 x5 x6 x7 b s _))

theorem res_0_eq : @Eq (S16x8x4096x96.Idx → EReal) (res_0 x0 x2 x3 x4 x6) (fun i => _root_.Prep.query (row x0 x1 x2 x3 x4 x5 x6 x7 (i 0) (i 2)) (i 1) (i 3)) :=
  heads_ext _ (fun b n s l => _root_.Prep.query (row x0 x1 x2 x3 x4 x5 x6 x7 b s) n l) fun b n s l =>
    scaled_joined _ _ b n s (headsQ_apply x0 x1 x2 x3 x4 x5 x6 x7 b s n)
      (fun l => (narrow_apply _ b n s l).trans (turned_apply x0 x1 x2 x3 x4 x5 x6 x7 b s _)) l

theorem res_1_eq : @Eq (S16x8x4096x96.Idx → EReal) (res_1 x0 x1 x2 x3 x5 x7) (fun i => _root_.Prep.key (row x0 x1 x2 x3 x4 x5 x6 x7 (i 0) (i 2)) (i 1) (i 3)) :=
  heads_ext _ (fun b n s l => _root_.Prep.key (row x0 x1 x2 x3 x4 x5 x6 x7 b s) n l) fun b n s l =>
    only_joined _ _ b n s (headsK_apply x0 x1 x2 x3 x4 x5 x6 x7 b s n)
      (fun l => (shared_apply _ b n s l).trans (turnedKey_apply x0 x1 x2 x3 x4 x5 x6 x7 b s l)) l

theorem res_2_eq : @Eq (S16x8x4096x128.Idx → EReal) (res_2 x0 x5 x7) (fun i => _root_.Prep.value (row x0 x1 x2 x3 x4 x5 x6 x7 (i 0) (i 2)) (i 1) (i 3)) :=
  heads_ext _ (fun b n s l => _root_.Prep.value (row x0 x1 x2 x3 x4 x5 x6 x7 b s) n l) fun b n s l => (eightBeside_apply _ _ b n s l).trans (_root_.Proj.beside_congr
    (fun l => (eight_apply _ b n s l).trans ((cols_apply 512 (by omega) _ b s _ (_root_.Prep.upper (_root_.Prep.wide n l)) rfl).trans
      (colsK_apply x0 x1 x2 x3 x4 x5 x6 x7 b s _)))
    (fun l => by
      have e : @Eq EReal (broadcastInDim S16x8x4096x64 ![3] bcast_S64_S16x8x4096x64_3 first (ix4 b n s l)) (first (ix1 l)) := by
        generalize first = a
        pointwise
      exact e.trans (first_apply l)) l)

end Results

end Cert.Reference7Ideal.Prep

end
-- ==== Proof.lean ====
/-
  The proof of every claim: the frames from the launches, the constant's rule, and for each pair of programs the equality
  of the two results, each read element by element as one function of the arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.FloatLaunched
public import proofs.«01_k».proof.Proof.Launched
public import proofs.«01_k».proof.Proof.Value
public import proofs.«01_k».proof.Proof.Reference
public import proofs.«01_k».proof.Proof.Precondition
public import proofs.«01_k».proof.Proof.FfnValue
public import proofs.«01_k».proof.Proof.FfnReference
public import proofs.«01_k».proof.Proof.MergeValue
public import proofs.«01_k».proof.Proof.MergeReference
public import proofs.«01_k».proof.Proof.ProjValue
public import proofs.«01_k».proof.Proof.ProjReference
public import proofs.«01_k».proof.Proof.CrossValue
public import proofs.«01_k».proof.Proof.CrossReference
public import proofs.«01_k».proof.Proof.Memory
public import proofs.«01_k».proof.Proof.PrepValue
public import proofs.«01_k».proof.Proof.PrepReference

@[expose] public section

noncomputable section

namespace Cert.Proof

open Idealize.ShloMosaic Idealize.ShloMosaic.TcCoe Idealize.SL.Sem

theorem frame_kernel : Cert.quiescent_Kernel := fun m ρ _ => Cert.Kernel.Attn.frame_claim m ρ

theorem frame_ideal : Cert.quiescent_KernelIdeal := fun m ρ _ => Cert.KernelIdeal.Attn.frame_claim m ρ

theorem frame_ideal_pre : Cert.quiescent_KernelIdeal_pre_finite_queries_keys := fun m ρ _ => Cert.KernelIdeal.Attn.frame_claim m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_queries_keys := fun m ρ _ =>
  frame_reference m ρ trivial

theorem preserves : Cert.preserves_Kernel_KernelIdeal :=
  IdealRules.named_const.statement Cert.KernelIdeal.κ "mask" .f32 0xF149F2CA#32 ⊥ rfl

/-- The reference's result is the kernel's, for equal arguments. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hq : Cert.ReferenceIdeal.Attn.argQ m' c = Cert.KernelIdeal.Attn.argQ m c)
    (hk : Cert.ReferenceIdeal.Attn.argK m' c = Cert.KernelIdeal.Attn.argK m c)
    (hv : Cert.ReferenceIdeal.Attn.argV m' c = Cert.KernelIdeal.Attn.argV m c) :
    Cert.ReferenceIdeal.Value.res_main_v23 m' c = Cert.KernelIdeal.Attn.result m c := by
  have hs : ∀ b h s, Cert.ReferenceIdeal.Attn.masked m' c b h s = Cert.KernelIdeal.Attn.causal m c b h s := fun b h s => by
    funext t
    unfold Cert.ReferenceIdeal.Attn.masked Cert.KernelIdeal.Attn.causal
    rw [hq, hk]
  funext i
  have hi : (i : Cert.ReferenceIdeal.S16x8x1x4096x64.Idx) = ix5 (i 0) (i 1) 0 (i 3) (i 4) := by
    funext a
    match a with
    | ⟨0, _⟩ => rfl
    | ⟨1, _⟩ => rfl
    | ⟨2, _⟩ => exact Subsingleton.elim (α := Fin 1) _ _
    | ⟨3, _⟩ => rfl
    | ⟨4, _⟩ => rfl
  have h : ∀ (b : Fin 16) (h : Fin 8) (s : Fin 4096) (e : Fin 64),
      @Eq EReal (Cert.ReferenceIdeal.Value.res_main_v23 m' c (ix5 b h 0 s e)) (Cert.KernelIdeal.Attn.attention m c b h s e) := fun b h s e => by
    rw [Cert.ReferenceIdeal.Attn.res_apply m' c b h s e, hs, hv]
    rfl
  exact (congrArg (Cert.ReferenceIdeal.Value.res_main_v23 m' c) hi).trans (h (i 0) (i 1) (i 3) (i 4))

theorem algebraic : Cert.algebraic_KernelIdeal_ReferenceIdeal_pre_finite_queries_keys := by
  intro m ρ m' ρ' hpre hagree
  have hf : ∀ c, Cert.KernelIdeal.Attn.Finite m c := fun c => Cert.Precondition.reals _ _ _ (hpre c)
  refine ⟨fun c => Cert.KernelIdeal.Attn.result m c, ?_, ?_⟩
  · exact (θ_run Cert.KernelIdeal.defs _ _).mono (fun r h c => ⟨(h c).1.trans (Cert.KernelIdeal.Attn.final m c (hf c)), (h c).2⟩)
      (Cert.KernelIdeal.Attn.result_run m ρ)
  · exact (θ_run Cert.ReferenceIdeal.defs _ _).mono
      (fun r h c => ⟨(h c).1.trans (results_eq m m' c (hagree c).1 (hagree c).2.1 (hagree c).2.2), (h c).2⟩)
      (Cert.ReferenceIdeal.Value.run (F := Ideal) m' ρ')

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward reference's result is the kernel's, for equal arguments. -/
theorem results2_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : Cert.Reference2Ideal.Mixer.argX m' c = Cert.Kernel2Ideal.Mixer.argX m c)
    (h1 : Cert.Reference2Ideal.Mixer.argPre m' c = Cert.Kernel2Ideal.Mixer.argPre m c)
    (h2 : Cert.Reference2Ideal.Mixer.argIn m' c = Cert.Kernel2Ideal.Mixer.argIn m c)
    (h3 : Cert.Reference2Ideal.Mixer.argOut m' c = Cert.Kernel2Ideal.Mixer.argOut m c)
    (h4 : Cert.Reference2Ideal.Mixer.argPost m' c = Cert.Kernel2Ideal.Mixer.argPost m c) :
    Cert.Reference2Ideal.Value.res_main_v32 m' c = Cert.Kernel2Ideal.Mixer.result m c := by
  funext i
  have hi : (i : Cert.Reference2Ideal.S65536x1024.Idx) = ix2 (i 0) (i 1) := by
    funext a
    match a with
    | ⟨0, _⟩ => rfl
    | ⟨1, _⟩ => rfl
  have h : ∀ (r : Fin 65536) (d : Fin 1024),
      @Eq EReal (Cert.Reference2Ideal.Value.res_main_v32 m' c (ix2 r d)) (Cert.Kernel2Ideal.Mixer.mixer m c r d) := fun r d => by
    rw [Cert.Reference2Ideal.Mixer.res_apply m' c r d, h0, h1, h2, h3, h4]
    rfl
  exact (congrArg (Cert.Reference2Ideal.Value.res_main_v32 m' c) hi).trans (h (i 0) (i 1))

theorem algebraic2 : Cert.algebraic_Kernel2Ideal_Reference2Ideal := by
  intro m ρ m' ρ' _ hagree
  refine ⟨fun c => Cert.Kernel2Ideal.Mixer.result m c, ?_, ?_⟩
  · exact (θ_run Cert.Kernel2Ideal.defs _ _).mono (fun r h c => ⟨(h c).1.trans (Cert.Kernel2Ideal.Mixer.final m c), (h c).2⟩)
      (Cert.Kernel2Ideal.Value.run_blocks m ρ)
  · exact (θ_run Cert.Reference2Ideal.defs _ _).mono
      (fun r h c => ⟨(h c).1.trans (results2_eq m m' c (hagree c).1 (hagree c).2.1 (hagree c).2.2.1 (hagree c).2.2.2.1 (hagree c).2.2.2.2), (h c).2⟩)
      (Cert.Reference2Ideal.Value.run (F := Ideal) m' ρ')

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The merge reference's result is the kernel's, for equal arguments. -/
theorem results3_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : Cert.Reference3Ideal.Mixer.argX m' c = Cert.Kernel3Ideal.Mixer.argX m c)
    (h1 : Cert.Reference3Ideal.Mixer.argNsa m' c = Cert.Kernel3Ideal.Mixer.argNsa m c)
    (h2 : Cert.Reference3Ideal.Mixer.argSwa m' c = Cert.Kernel3Ideal.Mixer.argSwa m c)
    (h3 : Cert.Reference3Ideal.Mixer.argMla m' c = Cert.Kernel3Ideal.Mixer.argMla m c)
    (h4 : Cert.Reference3Ideal.Mixer.argFox m' c = Cert.Kernel3Ideal.Mixer.argFox m c)
    (h5 : Cert.Reference3Ideal.Mixer.argPre m' c = Cert.Kernel3Ideal.Mixer.argPre m c)
    (h6 : Cert.Reference3Ideal.Mixer.argGate m' c = Cert.Kernel3Ideal.Mixer.argGate m c)
    (h7 : Cert.Reference3Ideal.Mixer.argBranch m' c = Cert.Kernel3Ideal.Mixer.argBranch m c)
    (h8 : Cert.Reference3Ideal.Mixer.argOut m' c = Cert.Kernel3Ideal.Mixer.argOut m c)
    (h9 : Cert.Reference3Ideal.Mixer.argPost m' c = Cert.Kernel3Ideal.Mixer.argPost m c) :
    Cert.Reference3Ideal.Value.res_main_v96 m' c = Cert.Kernel3Ideal.Mixer.result m c := by
  funext i
  have hi : (i : Cert.Reference3Ideal.S16x4096x1024.Idx) = ix3 (i 0) (i 1) (i 2) := by
    funext a
    match a with
    | ⟨0, _⟩ => rfl
    | ⟨1, _⟩ => rfl
    | ⟨2, _⟩ => rfl
  have h : ∀ (b : Fin 16) (s : Fin 4096) (d : Fin 1024),
      @Eq EReal (Cert.Reference3Ideal.Value.res_main_v96 m' c (ix3 b s d)) (Cert.Kernel3Ideal.Mixer.mixer m c b s d) := fun b s d => by
    rw [Cert.Reference3Ideal.Mixer.res_apply m' c b s d, h0, h1, h2, h3, h4, h5, h6, h7, h8, h9]
    rfl
  exact (congrArg (Cert.Reference3Ideal.Value.res_main_v96 m' c) hi).trans (h (i 0) (i 1) (i 2))

theorem algebraic3 : Cert.algebraic_Kernel3Ideal_Reference3Ideal := by
  intro m ρ m' ρ' _ hagree
  refine ⟨fun c => Cert.Kernel3Ideal.Mixer.result m c, ?_, ?_⟩
  · exact (θ_run Cert.Kernel3Ideal.defs _ _).mono (fun r h c => ⟨(h c).1.trans (Cert.Kernel3Ideal.Mixer.final m c), (h c).2⟩)
      (Cert.Kernel3Ideal.Value.run_blocks m ρ)
  · exact (θ_run Cert.Reference3Ideal.defs _ _).mono
      (fun r h c => ⟨(h c).1.trans (results3_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2), (h c).2⟩)
      (Cert.Reference3Ideal.Value.run (F := Ideal) m' ρ')

theorem frame_reference4 : Cert.quiescent_Reference4Ideal := fun m ρ _ =>
  (θ_run Cert.Reference4Ideal.defs _ _).mono (fun r h => ⟨fun c => (h c).2.2.2.2.2.2.2.2.2.2.2.2.2.2, sem_eq_zero_of_no_sems (by decide) r.2⟩)
    (Cert.Reference4Ideal.Value.run (F := Ideal) m ρ)

/-- The columns of the projection in the reference are those the kernel writes. -/
theorem projected_eq (m : (ℓ : Loc Cert.Kernel4Ideal.nD Cert.Kernel4Ideal.τ Cert.Kernel4Ideal.sig) → Buf (Elt Ideal) ℓ) (c : Dev Cert.Kernel4Ideal.nD)
    (x : FVec Ideal Cert.Reference4Ideal.S16x4096x1024 .f32) (g : FVec Ideal Cert.Reference4Ideal.S1024 .f32) (w : FVec Ideal Cert.Reference4Ideal.S1024x4096 .f32)
    (h0 : x = Cert.Kernel4Ideal.Proj.argX m c) (h1 : g = Cert.Kernel4Ideal.Proj.argPre m c) (h2 : w = Cert.Kernel4Ideal.Proj.argW m c)
    (b : Fin 16) (s j : Fin 4096) : @Eq EReal (Cert.Reference4Ideal.Proj.projected x g w (ix3 b s j)) (Cert.Kernel4Ideal.Proj.z m c b s j) := by
  subst h0 h1 h2
  exact Cert.Reference4Ideal.Proj.projected_apply _ _ _ b s j

theorem algebraic4 : Cert.algebraic_Kernel4Ideal_Reference4Ideal := by
  intro m ρ m' ρ' _ hagree
  refine ⟨fun c => Cert.Kernel4Ideal.Proj.result_0 m c, fun c => Cert.Kernel4Ideal.Proj.result_1 m c, fun c => Cert.Kernel4Ideal.Proj.result_2 m c, fun c => Cert.Kernel4Ideal.Proj.result_3 m c, fun c => Cert.Kernel4Ideal.Proj.result_4 m c, fun c => Cert.Kernel4Ideal.Proj.result_5 m c, fun c => Cert.Kernel4Ideal.Proj.result_6 m c, fun c => Cert.Kernel4Ideal.Proj.result_7 m c, fun c => Cert.Kernel4Ideal.Proj.result_8 m c, fun c => Cert.Kernel4Ideal.Proj.result_9 m c, fun c => Cert.Kernel4Ideal.Proj.result_10 m c, fun c => Cert.Kernel4Ideal.Proj.result_11 m c, fun c => Cert.Kernel4Ideal.Proj.result_12 m c, fun c => Cert.Kernel4Ideal.Proj.result_13 m c, ?_, ?_⟩
  · exact (θ_run Cert.Kernel4Ideal.defs _ _).mono
      (fun r h c => ⟨(h c).1.trans (Cert.Kernel4Ideal.Proj.final_0 m c), (h c).2.1.trans (Cert.Kernel4Ideal.Proj.final_1 m c), (h c).2.2.1.trans (Cert.Kernel4Ideal.Proj.final_2 m c), (h c).2.2.2.1.trans (Cert.Kernel4Ideal.Proj.final_3 m c), (h c).2.2.2.2.1.trans (Cert.Kernel4Ideal.Proj.final_4 m c), (h c).2.2.2.2.2.1.trans (Cert.Kernel4Ideal.Proj.final_5 m c), (h c).2.2.2.2.2.2.1.trans (Cert.Kernel4Ideal.Proj.final_6 m c), (h c).2.2.2.2.2.2.2.1.trans (Cert.Kernel4Ideal.Proj.final_7 m c), (h c).2.2.2.2.2.2.2.2.1.trans (Cert.Kernel4Ideal.Proj.final_8 m c), (h c).2.2.2.2.2.2.2.2.2.1.trans (Cert.Kernel4Ideal.Proj.final_9 m c), (h c).2.2.2.2.2.2.2.2.2.2.1.trans (Cert.Kernel4Ideal.Proj.final_10 m c), (h c).2.2.2.2.2.2.2.2.2.2.2.1.trans (Cert.Kernel4Ideal.Proj.final_11 m c), (h c).2.2.2.2.2.2.2.2.2.2.2.2.1.trans (Cert.Kernel4Ideal.Proj.final_12 m c), (h c).2.2.2.2.2.2.2.2.2.2.2.2.2.1.trans (Cert.Kernel4Ideal.Proj.final_13 m c), (h c).2.2.2.2.2.2.2.2.2.2.2.2.2.2⟩)
      (Cert.Kernel4Ideal.Value.run_blocks m ρ)
  · exact (θ_run Cert.Reference4Ideal.defs _ _).mono
      (fun r h c =>
        have e := projected_eq m c _ _ _ (hagree c).1 (hagree c).2.1 (hagree c).2.2
        ⟨(h c).1.trans (Cert.Reference4Ideal.Proj.rows_eq _ _ e 384 0 (by omega) (fun l => ⟨l.val, by omega⟩) (fun l => (Nat.zero_add _).symm)),
          (h c).2.1.trans (Cert.Reference4Ideal.Proj.rows_eq _ _ e 128 640 (by omega) (fun l => ⟨640 + l.val, by omega⟩) (fun _ => rfl)),
          (h c).2.2.1.trans (Cert.Reference4Ideal.Proj.four_eq _ _ e),
          (h c).2.2.2.1.trans (Cert.Reference4Ideal.Proj.eight_eq _ _ e 0 (by omega)),
          (h c).2.2.2.2.1.trans (Cert.Reference4Ideal.Proj.byBlock_eq _ _ e 8 (by omega)),
          (h c).2.2.2.2.2.1.trans (Cert.Reference4Ideal.Proj.firstTwo_eq _ _ e 10 (by omega)),
          (h c).2.2.2.2.2.2.1.trans (Cert.Reference4Ideal.Proj.two_eq _ _ e 12 (by omega)),
          (h c).2.2.2.2.2.2.2.1.trans (Cert.Reference4Ideal.Proj.two_eq _ _ e 14 (by omega)),
          (h c).2.2.2.2.2.2.2.2.1.trans (Cert.Reference4Ideal.Proj.eight_eq _ _ e 16 (by omega)),
          (h c).2.2.2.2.2.2.2.2.2.1.trans (Cert.Reference4Ideal.Proj.two_eq _ _ e 24 (by omega)),
          (h c).2.2.2.2.2.2.2.2.2.2.1.trans (Cert.Reference4Ideal.Proj.two_eq _ _ e 26 (by omega)),
          (h c).2.2.2.2.2.2.2.2.2.2.2.1.trans (Cert.Reference4Ideal.Proj.eight_eq _ _ e 28 (by omega)),
          (h c).2.2.2.2.2.2.2.2.2.2.2.2.1.trans (Cert.Reference4Ideal.Proj.eight_eq _ _ e 36 (by omega)),
          (h c).2.2.2.2.2.2.2.2.2.2.2.2.2.1.trans (Cert.Reference4Ideal.Proj.firstEight_eq _ _ e 44 (by omega)),
          (h c).2.2.2.2.2.2.2.2.2.2.2.2.2.2⟩)
      (Cert.Reference4Ideal.Value.run (F := Ideal) m' ρ')

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The cross-attention reference's result is the kernel's, for equal arguments. -/
theorem results5_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD)
    (h0 : Cert.Reference5Ideal.Cross.argX m' c = Cert.Kernel5Ideal.Cross.argX m c)
    (h1 : Cert.Reference5Ideal.Cross.argKv m' c = Cert.Kernel5Ideal.Cross.argKv m c)
    (h2 : Cert.Reference5Ideal.Cross.argPre m' c = Cert.Kernel5Ideal.Cross.argPre m c)
    (h3 : Cert.Reference5Ideal.Cross.argQ m' c = Cert.Kernel5Ideal.Cross.argQ m c)
    (h4 : Cert.Reference5Ideal.Cross.argOut m' c = Cert.Kernel5Ideal.Cross.argOut m c)
    (h5 : Cert.Reference5Ideal.Cross.argPost m' c = Cert.Kernel5Ideal.Cross.argPost m c) :
    Cert.Reference5Ideal.Value.res_main_v52 m' c = Cert.Kernel5Ideal.Cross.result m c := by
  funext i
  have hi : (i : Cert.Reference5Ideal.S16x4096x1024.Idx) = ix3 (i 0) (i 1) (i 2) := by
    funext a
    match a with
    | ⟨0, _⟩ => rfl
    | ⟨1, _⟩ => rfl
    | ⟨2, _⟩ => rfl
  have h : ∀ (b : Fin 16) (s : Fin 4096) (d : Fin 1024),
      @Eq EReal (Cert.Reference5Ideal.Value.res_main_v52 m' c (ix3 b s d)) (Cert.Kernel5Ideal.Cross.cross m c b s d) := fun b s d => by
    rw [Cert.Reference5Ideal.Cross.res_apply m' c b s d, h0, h1, h2, h3, h4, h5]
    rfl
  exact (congrArg (Cert.Reference5Ideal.Value.res_main_v52 m' c) hi).trans (h (i 0) (i 1) (i 2))

theorem algebraic5 : Cert.algebraic_Kernel5Ideal_Reference5Ideal := by
  intro m ρ m' ρ' _ hagree
  refine ⟨fun c => Cert.Kernel5Ideal.Cross.result m c, ?_, ?_⟩
  · exact (θ_run Cert.Kernel5Ideal.defs _ _).mono (fun r h c => ⟨(h c).1.trans (Cert.Kernel5Ideal.Cross.final m c), (h c).2⟩)
      (Cert.Kernel5Ideal.Value.run_blocks m ρ)
  · exact (θ_run Cert.Reference5Ideal.defs _ _).mono
      (fun r h c => ⟨(h c).1.trans (results5_eq m m' c (hagree c).1 (hagree c).2.1 (hagree c).2.2.1 (hagree c).2.2.2.1 (hagree c).2.2.2.2.1 (hagree c).2.2.2.2.2), (h c).2⟩)
      (Cert.Reference5Ideal.Value.run (F := Ideal) m' ρ')

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- From equal arguments the reference's keys and values of the memory are the kernel's. -/
theorem results6_eq (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (c : Dev Cert.Kernel6Ideal.nD)
    (h0 : Cert.Reference6Ideal.Memory.argMem m' c = Cert.Kernel6Ideal.Memory.argMem m c)
    (h1 : Cert.Reference6Ideal.Memory.argGain m' c = Cert.Kernel6Ideal.Memory.argGain m c)
    (h2 : Cert.Reference6Ideal.Memory.argW m' c = Cert.Kernel6Ideal.Memory.argW m c) :
    Cert.Reference6Ideal.Memory.res m' c = Cert.Kernel6Ideal.Memory.result m c := by
  funext i
  have hi : (i : Cert.Reference6Ideal.S16x256x512.Idx) = ix3 (i 0) (i 1) (i 2) := by
    funext a
    match a with
    | ⟨0, _⟩ => rfl
    | ⟨1, _⟩ => rfl
    | ⟨2, _⟩ => rfl
  have h : ∀ (b : Fin 16) (s : Fin 256) (k : Fin 512),
      @Eq EReal (Cert.Reference6Ideal.Memory.res m' c (ix3 b s k)) (Cert.Kernel6Ideal.Memory.memory m c b s k) := fun b s k => by
    rw [Cert.Reference6Ideal.Memory.res_apply m' c b s k, h0, h1, h2]
    rfl
  exact (congrArg (Cert.Reference6Ideal.Memory.res m' c) hi).trans (h (i 0) (i 1) (i 2))

theorem algebraic6 : Cert.algebraic_Kernel6Ideal_Reference6Ideal := by
  intro m ρ m' ρ' _ hagree
  refine ⟨fun c => Cert.Kernel6Ideal.Memory.result m c, ?_, ?_⟩
  · exact (θ_run Cert.Kernel6Ideal.defs _ _).mono (fun r h c => ⟨(h c).1.trans (Cert.Kernel6Ideal.Memory.final m c), (h c).2⟩)
      (Cert.Kernel6Ideal.Value.run_blocks m ρ)
  · exact (θ_run Cert.Reference6Ideal.defs _ _).mono
      (fun r h c => ⟨(h c).1.trans (results6_eq m m' c (hagree c).1 (hagree c).2.1 (hagree c).2.2), (h c).2⟩)
      (Cert.Reference6Ideal.Value.run (F := Ideal) m' ρ')

theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

section Seventh
variable (m : (ℓ : Loc Cert.Kernel7Ideal.nD Cert.Kernel7Ideal.τ Cert.Kernel7Ideal.sig) → Buf (Elt Ideal) ℓ) (c : Dev Cert.Kernel7Ideal.nD)
  (x0 : FVec Ideal Cert.Reference7Ideal.S16x4096x384 .f32) (x1 : FVec Ideal Cert.Reference7Ideal.S16x4096x128 .f32) (x2 x3 : FVec Ideal Cert.Reference7Ideal.S16x4096x256 .f32) (x4 : FVec Ideal Cert.Reference7Ideal.S256 .f32) (x5 : FVec Ideal Cert.Reference7Ideal.S128 .f32)
  (x6 : FVec Ideal Cert.Reference7Ideal.S256x1024 .f32) (x7 : FVec Ideal Cert.Reference7Ideal.S128x1024 .f32)

/-- From equal arguments the two programs read the same rows. -/
theorem rows7_eq (h0 : x0 = Cert.Kernel7Ideal.Prep.argZ m c) (h1 : x1 = Cert.Kernel7Ideal.Prep.argS m c) (h2 : x2 = Cert.Kernel7Ideal.Prep.argCos m c)
    (h3 : x3 = Cert.Kernel7Ideal.Prep.argSin m c) (h4 : x4 = Cert.Kernel7Ideal.Prep.argGq m c) (h5 : x5 = Cert.Kernel7Ideal.Prep.argGk m c)
    (h6 : x6 = Cert.Kernel7Ideal.Prep.argWq m c) (h7 : x7 = Cert.Kernel7Ideal.Prep.argWk m c) :
    Cert.Reference7Ideal.Prep.row x0 x1 x2 x3 x4 x5 x6 x7 = Cert.Kernel7Ideal.Prep.row m c := by
  subst h0 h1 h2 h3 h4 h5 h6 h7
  rfl

variable (e : Cert.Reference7Ideal.Prep.row x0 x1 x2 x3 x4 x5 x6 x7 = Cert.Kernel7Ideal.Prep.row m c)
include e

theorem queries7_eq : Cert.Reference7Ideal.Prep.res_0 x0 x2 x3 x4 x6 = Cert.Kernel7Ideal.Prep.result_0 m c := by
  rw [Cert.Reference7Ideal.Prep.res_0_eq x0 x1 x2 x3 x4 x5 x6 x7, e]
  rfl

theorem keys7_eq : Cert.Reference7Ideal.Prep.res_1 x0 x1 x2 x3 x5 x7 = Cert.Kernel7Ideal.Prep.result_1 m c := by
  rw [Cert.Reference7Ideal.Prep.res_1_eq x0 x1 x2 x3 x4 x5 x6 x7, e]
  rfl

theorem values7_eq : Cert.Reference7Ideal.Prep.res_2 x0 x5 x7 = Cert.Kernel7Ideal.Prep.result_2 m c := by
  rw [Cert.Reference7Ideal.Prep.res_2_eq x0 x1 x2 x3 x4 x5 x6 x7, e]
  rfl

end Seventh

theorem algebraic7 : Cert.algebraic_Kernel7Ideal_Reference7Ideal := by
  intro m ρ m' ρ' _ hagree
  refine ⟨fun c => Cert.Kernel7Ideal.Prep.result_0 m c, fun c => Cert.Kernel7Ideal.Prep.result_1 m c, fun c => Cert.Kernel7Ideal.Prep.result_2 m c, ?_, ?_⟩
  · exact (θ_run Cert.Kernel7Ideal.defs _ _).mono
      (fun r h c => ⟨(h c).1.trans (Cert.Kernel7Ideal.Prep.final_0 m c), (h c).2.1.trans (Cert.Kernel7Ideal.Prep.final_1 m c),
        (h c).2.2.1.trans (Cert.Kernel7Ideal.Prep.final_2 m c), (h c).2.2.2⟩)
      (Cert.Kernel7Ideal.Value.run_blocks m ρ)
  · have e (c : Dev Cert.Kernel7Ideal.nD) : Cert.Reference7Ideal.Prep.row (Cert.Reference7Ideal.Prep.arg0 m' c) (Cert.Reference7Ideal.Prep.arg1 m' c) (Cert.Reference7Ideal.Prep.arg2 m' c)
        (Cert.Reference7Ideal.Prep.arg3 m' c) (Cert.Reference7Ideal.Prep.arg4 m' c) (Cert.Reference7Ideal.Prep.arg5 m' c) (Cert.Reference7Ideal.Prep.arg6 m' c)
        (Cert.Reference7Ideal.Prep.arg7 m' c) = Cert.Kernel7Ideal.Prep.row m c :=
      rows7_eq m c _ _ _ _ _ _ _ _ (hagree c).1 (hagree c).2.1 (hagree c).2.2.1 (hagree c).2.2.2.1 (hagree c).2.2.2.2.1 (hagree c).2.2.2.2.2.1
        (hagree c).2.2.2.2.2.2.1 (hagree c).2.2.2.2.2.2.2
    exact (θ_run Cert.Reference7Ideal.defs _ _).mono
      (fun r h c => ⟨(h c).1.trans (queries7_eq m c _ _ _ _ _ _ _ _ (e c)), (h c).2.1.trans (keys7_eq m c _ _ _ _ _ _ _ _ (e c)),
        (h c).2.2.1.trans (values7_eq m c _ _ _ _ _ _ _ _ (e c)), (h c).2.2.2⟩)
      (Cert.Reference7Ideal.Value.run (F := Ideal) m' ρ')

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Precondition.facts,
    frame_kernel, frame_ideal, frame_ideal_pre, frame_reference, frame_reference_pre,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    preserves, algebraic, trivial, algebraic2, trivial, algebraic3, trivial, algebraic4, trivial, algebraic5, trivial, algebraic6, trivial, algebraic7⟩

end Cert.Proof

end
